-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_TailS (m : (ℓ : Loc Cert.TailS.nD Cert.TailS.τ Cert.TailS.sig) → Buf (Elt Bits) ℓ) : Prop :=
  True

def Pre_TailSIdeal (m : (ℓ : Loc Cert.TailSIdeal.nD Cert.TailSIdeal.τ Cert.TailSIdeal.sig) → Buf (Elt Ideal) ℓ) : Prop :=
  True

def Pre_TailSRefIdeal (m : (ℓ : Loc Cert.TailSRefIdeal.nD Cert.TailSRefIdeal.τ Cert.TailSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12))
      ∧ r.2.sem = fun _ => 0)

def quiescent_TailS [hTailS : Cert.TailS.Facts] : Prop :=
  ∀ (m : (ℓ : Loc Cert.TailS.nD Cert.TailS.τ Cert.TailS.sig) → Buf (Elt Bits) ℓ) (g : Dev Cert.TailS.nD → PrngReg), Pre_TailS m →
    θ_run (Cert.TailS.defs (F := Bits)) (onTc (τ := Cert.TailS.τ) (Cert.TailS.main (F := Bits))) ⟨m, fun _ => 0, g⟩ (fun r => (∀ c : Dev Cert.TailS.nD,
      r.2.mem ((c.tc : Thread Cert.TailS.nD Cert.TailS.τ).loc Cert.TailS.main_arg0) = m ((c.tc : Thread Cert.TailS.nD Cert.TailS.τ).loc Cert.TailS.main_arg0)
      ∧ r.2.mem ((c.tc : Thread Cert.TailS.nD Cert.TailS.τ).loc Cert.TailS.main_arg1) = m ((c.tc : Thread Cert.TailS.nD Cert.TailS.τ).loc Cert.TailS.main_arg1)
      ∧ r.2.mem ((c.tc : Thread Cert.TailS.nD Cert.TailS.τ).loc Cert.TailS.main_arg2) = m ((c.tc : Thread Cert.TailS.nD Cert.TailS.τ).loc Cert.TailS.main_arg2)
      ∧ r.2.mem ((c.tc : Thread Cert.TailS.nD Cert.TailS.τ).loc Cert.TailS.main_arg3) = m ((c.tc : Thread Cert.TailS.nD Cert.TailS.τ).loc Cert.TailS.main_arg3)
      ∧ r.2.mem ((c.tc : Thread Cert.TailS.nD Cert.TailS.τ).loc Cert.TailS.main_arg4) = m ((c.tc : Thread Cert.TailS.nD Cert.TailS.τ).loc Cert.TailS.main_arg4)
      ∧ r.2.mem ((c.tc : Thread Cert.TailS.nD Cert.TailS.τ).loc Cert.TailS.main_arg5) = m ((c.tc : Thread Cert.TailS.nD Cert.TailS.τ).loc Cert.TailS.main_arg5)
      ∧ r.2.mem ((c.tc : Thread Cert.TailS.nD Cert.TailS.τ).loc Cert.TailS.main_arg6) = m ((c.tc : Thread Cert.TailS.nD Cert.TailS.τ).loc Cert.TailS.main_arg6)
      ∧ r.2.mem ((c.tc : Thread Cert.TailS.nD Cert.TailS.τ).loc Cert.TailS.main_arg7) = m ((c.tc : Thread Cert.TailS.nD Cert.TailS.τ).loc Cert.TailS.main_arg7)
      ∧ r.2.mem ((c.tc : Thread Cert.TailS.nD Cert.TailS.τ).loc Cert.TailS.main_arg8) = m ((c.tc : Thread Cert.TailS.nD Cert.TailS.τ).loc Cert.TailS.main_arg8)
      ∧ r.2.mem ((c.tc : Thread Cert.TailS.nD Cert.TailS.τ).loc Cert.TailS.main_arg9) = m ((c.tc : Thread Cert.TailS.nD Cert.TailS.τ).loc Cert.TailS.main_arg9)
      ∧ r.2.mem ((c.tc : Thread Cert.TailS.nD Cert.TailS.τ).loc Cert.TailS.main_arg10) = m ((c.tc : Thread Cert.TailS.nD Cert.TailS.τ).loc Cert.TailS.main_arg10)
      ∧ r.2.mem ((c.tc : Thread Cert.TailS.nD Cert.TailS.τ).loc Cert.TailS.main_arg11) = m ((c.tc : Thread Cert.TailS.nD Cert.TailS.τ).loc Cert.TailS.main_arg11)
      ∧ r.2.mem ((c.tc : Thread Cert.TailS.nD Cert.TailS.τ).loc Cert.TailS.main_arg12) = m ((c.tc : Thread Cert.TailS.nD Cert.TailS.τ).loc Cert.TailS.main_arg12))
      ∧ r.2.sem = fun _ => 0)

def quiescent_TailSIdeal [hTailSIdeal : Cert.TailSIdeal.Facts] : Prop :=
  ∀ (m : (ℓ : Loc Cert.TailSIdeal.nD Cert.TailSIdeal.τ Cert.TailSIdeal.sig) → Buf (Elt Ideal) ℓ) (g : Dev Cert.TailSIdeal.nD → PrngReg), Pre_TailSIdeal m →
    θ_run (Cert.TailSIdeal.defs (F := Ideal)) (onTc (τ := Cert.TailSIdeal.τ) (Cert.TailSIdeal.main (F := Ideal))) ⟨m, fun _ => 0, g⟩ (fun r => (∀ c : Dev Cert.TailSIdeal.nD,
      r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
      ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
      ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
      ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
      ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
      ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
      ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
      ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
      ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8)
      ∧ r.2.mem ((c.tc : Thread Cert.TailSIdeal.nD Cert.TailSIdeal.τ).loc Cert.TailSIdeal.main_arg9) = m ((c.tc : Thread Cert.TailSIdeal.nD Cert.TailSIdeal.τ).loc Cert.TailSIdeal.main_arg9)
      ∧ r.2.mem ((c.tc : Thread Cert.TailSIdeal.nD Cert.TailSIdeal.τ).loc Cert.TailSIdeal.main_arg10) = m ((c.tc : Thread Cert.TailSIdeal.nD Cert.TailSIdeal.τ).loc Cert.TailSIdeal.main_arg10)
      ∧ r.2.mem ((c.tc : Thread Cert.TailSIdeal.nD Cert.TailSIdeal.τ).loc Cert.TailSIdeal.main_arg11) = m ((c.tc : Thread Cert.TailSIdeal.nD Cert.TailSIdeal.τ).loc Cert.TailSIdeal.main_arg11)
      ∧ r.2.mem ((c.tc : Thread Cert.TailSIdeal.nD Cert.TailSIdeal.τ).loc Cert.TailSIdeal.main_arg12) = m ((c.tc : Thread Cert.TailSIdeal.nD Cert.TailSIdeal.τ).loc Cert.TailSIdeal.main_arg12))
      ∧ r.2.sem = fun _ => 0)

def quiescent_TailSRefIdeal [hTailSRefIdeal : Cert.TailSRefIdeal.Facts] : Prop :=
  ∀ (m : (ℓ : Loc Cert.TailSRefIdeal.nD Cert.TailSRefIdeal.τ Cert.TailSRefIdeal.sig) → Buf (Elt Ideal) ℓ) (g : Dev Cert.TailSRefIdeal.nD → PrngReg), Pre_TailSRefIdeal m →
    θ_run (Cert.TailSRefIdeal.defs (F := Ideal)) (onTc (τ := Cert.TailSRefIdeal.τ) (Cert.TailSRefIdeal.main (F := Ideal))) ⟨m, fun _ => 0, g⟩ (fun r => (∀ c : Dev Cert.TailSRefIdeal.nD,
      r.2.mem ((c.tc : Thread Cert.TailSRefIdeal.nD Cert.TailSRefIdeal.τ).loc Cert.TailSRefIdeal.main_arg0) = m ((c.tc : Thread Cert.TailSRefIdeal.nD Cert.TailSRefIdeal.τ).loc Cert.TailSRefIdeal.main_arg0)
      ∧ r.2.mem ((c.tc : Thread Cert.TailSRefIdeal.nD Cert.TailSRefIdeal.τ).loc Cert.TailSRefIdeal.main_arg1) = m ((c.tc : Thread Cert.TailSRefIdeal.nD Cert.TailSRefIdeal.τ).loc Cert.TailSRefIdeal.main_arg1)
      ∧ r.2.mem ((c.tc : Thread Cert.TailSRefIdeal.nD Cert.TailSRefIdeal.τ).loc Cert.TailSRefIdeal.main_arg2) = m ((c.tc : Thread Cert.TailSRefIdeal.nD Cert.TailSRefIdeal.τ).loc Cert.TailSRefIdeal.main_arg2)
      ∧ r.2.mem ((c.tc : Thread Cert.TailSRefIdeal.nD Cert.TailSRefIdeal.τ).loc Cert.TailSRefIdeal.main_arg3) = m ((c.tc : Thread Cert.TailSRefIdeal.nD Cert.TailSRefIdeal.τ).loc Cert.TailSRefIdeal.main_arg3)
      ∧ r.2.mem ((c.tc : Thread Cert.TailSRefIdeal.nD Cert.TailSRefIdeal.τ).loc Cert.TailSRefIdeal.main_arg4) = m ((c.tc : Thread Cert.TailSRefIdeal.nD Cert.TailSRefIdeal.τ).loc Cert.TailSRefIdeal.main_arg4)
      ∧ r.2.mem ((c.tc : Thread Cert.TailSRefIdeal.nD Cert.TailSRefIdeal.τ).loc Cert.TailSRefIdeal.main_arg5) = m ((c.tc : Thread Cert.TailSRefIdeal.nD Cert.TailSRefIdeal.τ).loc Cert.TailSRefIdeal.main_arg5)
      ∧ r.2.mem ((c.tc : Thread Cert.TailSRefIdeal.nD Cert.TailSRefIdeal.τ).loc Cert.TailSRefIdeal.main_arg6) = m ((c.tc : Thread Cert.TailSRefIdeal.nD Cert.TailSRefIdeal.τ).loc Cert.TailSRefIdeal.main_arg6)
      ∧ r.2.mem ((c.tc : Thread Cert.TailSRefIdeal.nD Cert.TailSRefIdeal.τ).loc Cert.TailSRefIdeal.main_arg7) = m ((c.tc : Thread Cert.TailSRefIdeal.nD Cert.TailSRefIdeal.τ).loc Cert.TailSRefIdeal.main_arg7)
      ∧ r.2.mem ((c.tc : Thread Cert.TailSRefIdeal.nD Cert.TailSRefIdeal.τ).loc Cert.TailSRefIdeal.main_arg8) = m ((c.tc : Thread Cert.TailSRefIdeal.nD Cert.TailSRefIdeal.τ).loc Cert.TailSRefIdeal.main_arg8)
      ∧ r.2.mem ((c.tc : Thread Cert.TailSRefIdeal.nD Cert.TailSRefIdeal.τ).loc Cert.TailSRefIdeal.main_arg9) = m ((c.tc : Thread Cert.TailSRefIdeal.nD Cert.TailSRefIdeal.τ).loc Cert.TailSRefIdeal.main_arg9)
      ∧ r.2.mem ((c.tc : Thread Cert.TailSRefIdeal.nD Cert.TailSRefIdeal.τ).loc Cert.TailSRefIdeal.main_arg10) = m ((c.tc : Thread Cert.TailSRefIdeal.nD Cert.TailSRefIdeal.τ).loc Cert.TailSRefIdeal.main_arg10)
      ∧ r.2.mem ((c.tc : Thread Cert.TailSRefIdeal.nD Cert.TailSRefIdeal.τ).loc Cert.TailSRefIdeal.main_arg11) = m ((c.tc : Thread Cert.TailSRefIdeal.nD Cert.TailSRefIdeal.τ).loc Cert.TailSRefIdeal.main_arg11)
      ∧ r.2.mem ((c.tc : Thread Cert.TailSRefIdeal.nD Cert.TailSRefIdeal.τ).loc Cert.TailSRefIdeal.main_arg12) = m ((c.tc : Thread Cert.TailSRefIdeal.nD Cert.TailSRefIdeal.τ).loc Cert.TailSRefIdeal.main_arg12))
      ∧ r.2.sem = fun _ => 0)

def preserves_Kernel_KernelIdeal : Prop :=
  True

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v32)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v32) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v32) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v35_4)) (v1 : (c : Dev Cert.ProjIdeal.nD) → Buf (Elt Ideal) ((c.tc : Thread Cert.ProjIdeal.nD Cert.ProjIdeal.τ).loc Cert.ProjIdeal.main_v35_5)) (v2 : (c : Dev Cert.ProjIdeal.nD) → Buf (Elt Ideal) ((c.tc : Thread Cert.ProjIdeal.nD Cert.ProjIdeal.τ).loc Cert.ProjIdeal.main_v35_7)) (v3 : (c : Dev Cert.ProjIdeal.nD) → Buf (Elt Ideal) ((c.tc : Thread Cert.ProjIdeal.nD Cert.ProjIdeal.τ).loc Cert.ProjIdeal.main_v35_9)) (v4 : (c : Dev Cert.ProjIdeal.nD) → Buf (Elt Ideal) ((c.tc : Thread Cert.ProjIdeal.nD Cert.ProjIdeal.τ).loc Cert.ProjIdeal.main_v35_6)) (v5 : (c : Dev Cert.ProjIdeal.nD) → Buf (Elt Ideal) ((c.tc : Thread Cert.ProjIdeal.nD Cert.ProjIdeal.τ).loc Cert.ProjIdeal.main_v35_0)) (v6 : (c : Dev Cert.ProjIdeal.nD) → Buf (Elt Ideal) ((c.tc : Thread Cert.ProjIdeal.nD Cert.ProjIdeal.τ).loc Cert.ProjIdeal.main_v35_1)) (v7 : (c : Dev Cert.ProjIdeal.nD) → Buf (Elt Ideal) ((c.tc : Thread Cert.ProjIdeal.nD Cert.ProjIdeal.τ).loc Cert.ProjIdeal.main_v35_2)) (v8 : (c : Dev Cert.ProjIdeal.nD) → Buf (Elt Ideal) ((c.tc : Thread Cert.ProjIdeal.nD Cert.ProjIdeal.τ).loc Cert.ProjIdeal.main_v35_3)) (v9 : (c : Dev Cert.ProjIdeal.nD) → Buf (Elt Ideal) ((c.tc : Thread Cert.ProjIdeal.nD Cert.ProjIdeal.τ).loc Cert.ProjIdeal.main_v35_8)) (v10 : (c : Dev Cert.ProjIdeal.nD) → Buf (Elt Ideal) ((c.tc : Thread Cert.ProjIdeal.nD Cert.ProjIdeal.τ).loc Cert.ProjIdeal.main_v35_10)) (v11 : (c : Dev Cert.ProjIdeal.nD) → Buf (Elt Ideal) ((c.tc : Thread Cert.ProjIdeal.nD Cert.ProjIdeal.τ).loc Cert.ProjIdeal.main_v35_11)) (v12 : (c : Dev Cert.ProjIdeal.nD) → Buf (Elt Ideal) ((c.tc : Thread Cert.ProjIdeal.nD Cert.ProjIdeal.τ).loc Cert.ProjIdeal.main_v35_12)) (v13 : (c : Dev Cert.ProjIdeal.nD) → Buf (Elt Ideal) ((c.tc : Thread Cert.ProjIdeal.nD Cert.ProjIdeal.τ).loc Cert.ProjIdeal.main_v37)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v35_4) = v0 c
          ∧ r.2.mem ((c.tc : Thread Cert.ProjIdeal.nD Cert.ProjIdeal.τ).loc Cert.ProjIdeal.main_v35_5) = v1 c
          ∧ r.2.mem ((c.tc : Thread Cert.ProjIdeal.nD Cert.ProjIdeal.τ).loc Cert.ProjIdeal.main_v35_7) = v2 c
          ∧ r.2.mem ((c.tc : Thread Cert.ProjIdeal.nD Cert.ProjIdeal.τ).loc Cert.ProjIdeal.main_v35_9) = v3 c
          ∧ r.2.mem ((c.tc : Thread Cert.ProjIdeal.nD Cert.ProjIdeal.τ).loc Cert.ProjIdeal.main_v35_6) = v4 c
          ∧ r.2.mem ((c.tc : Thread Cert.ProjIdeal.nD Cert.ProjIdeal.τ).loc Cert.ProjIdeal.main_v35_0) = v5 c
          ∧ r.2.mem ((c.tc : Thread Cert.ProjIdeal.nD Cert.ProjIdeal.τ).loc Cert.ProjIdeal.main_v35_1) = v6 c
          ∧ r.2.mem ((c.tc : Thread Cert.ProjIdeal.nD Cert.ProjIdeal.τ).loc Cert.ProjIdeal.main_v35_2) = v7 c
          ∧ r.2.mem ((c.tc : Thread Cert.ProjIdeal.nD Cert.ProjIdeal.τ).loc Cert.ProjIdeal.main_v35_3) = v8 c
          ∧ r.2.mem ((c.tc : Thread Cert.ProjIdeal.nD Cert.ProjIdeal.τ).loc Cert.ProjIdeal.main_v35_8) = v9 c
          ∧ r.2.mem ((c.tc : Thread Cert.ProjIdeal.nD Cert.ProjIdeal.τ).loc Cert.ProjIdeal.main_v35_10) = v10 c
          ∧ r.2.mem ((c.tc : Thread Cert.ProjIdeal.nD Cert.ProjIdeal.τ).loc Cert.ProjIdeal.main_v35_11) = v11 c
          ∧ r.2.mem ((c.tc : Thread Cert.ProjIdeal.nD Cert.ProjIdeal.τ).loc Cert.ProjIdeal.main_v35_12) = v12 c
          ∧ r.2.mem ((c.tc : Thread Cert.ProjIdeal.nD Cert.ProjIdeal.τ).loc Cert.ProjIdeal.main_v37) = v13 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v15) = v0 c
          ∧ r.2.mem ((c.tc : Thread Cert.ProjRefIdeal.nD Cert.ProjRefIdeal.τ).loc Cert.ProjRefIdeal.main_v16) = v1 c
          ∧ r.2.mem ((c.tc : Thread Cert.ProjRefIdeal.nD Cert.ProjRefIdeal.τ).loc Cert.ProjRefIdeal.main_v20) = v2 c
          ∧ r.2.mem ((c.tc : Thread Cert.ProjRefIdeal.nD Cert.ProjRefIdeal.τ).loc Cert.ProjRefIdeal.main_v22) = v3 c
          ∧ r.2.mem ((c.tc : Thread Cert.ProjRefIdeal.nD Cert.ProjRefIdeal.τ).loc Cert.ProjRefIdeal.main_v17) = v4 c
          ∧ r.2.mem ((c.tc : Thread Cert.ProjRefIdeal.nD Cert.ProjRefIdeal.τ).loc Cert.ProjRefIdeal.main_v39) = v5 c
          ∧ r.2.mem ((c.tc : Thread Cert.ProjRefIdeal.nD Cert.ProjRefIdeal.τ).loc Cert.ProjRefIdeal.main_v54) = v6 c
          ∧ r.2.mem ((c.tc : Thread Cert.ProjRefIdeal.nD Cert.ProjRefIdeal.τ).loc Cert.ProjRefIdeal.main_v58) = v7 c
          ∧ r.2.mem ((c.tc : Thread Cert.ProjRefIdeal.nD Cert.ProjRefIdeal.τ).loc Cert.ProjRefIdeal.main_v62) = v8 c
          ∧ r.2.mem ((c.tc : Thread Cert.ProjRefIdeal.nD Cert.ProjRefIdeal.τ).loc Cert.ProjRefIdeal.main_v64) = v9 c
          ∧ r.2.mem ((c.tc : Thread Cert.ProjRefIdeal.nD Cert.ProjRefIdeal.τ).loc Cert.ProjRefIdeal.main_v65) = v10 c
          ∧ r.2.mem ((c.tc : Thread Cert.ProjRefIdeal.nD Cert.ProjRefIdeal.τ).loc Cert.ProjRefIdeal.main_v66) = v11 c
          ∧ r.2.mem ((c.tc : Thread Cert.ProjRefIdeal.nD Cert.ProjRefIdeal.τ).loc Cert.ProjRefIdeal.main_v67) = v12 c
          ∧ r.2.mem ((c.tc : Thread Cert.ProjRefIdeal.nD Cert.ProjRefIdeal.τ).loc Cert.ProjRefIdeal.main_v69) = v13 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v5)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v5) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v31) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)) →
    ∃ (v0 : (c : Dev Cert.MergeSIdeal.nD) → Buf (Elt Ideal) ((c.tc : Thread Cert.MergeSIdeal.nD Cert.MergeSIdeal.τ).loc Cert.MergeSIdeal.main_v32)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v32) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v32) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)) →
    ∃ (v0 : (c : Dev Cert.ProjSIdeal.nD) → Buf (Elt Ideal) ((c.tc : Thread Cert.ProjSIdeal.nD Cert.ProjSIdeal.τ).loc Cert.ProjSIdeal.main_v35_4)) (v1 : (c : Dev Cert.ProjSIdeal.nD) → Buf (Elt Ideal) ((c.tc : Thread Cert.ProjSIdeal.nD Cert.ProjSIdeal.τ).loc Cert.ProjSIdeal.main_v35_5)) (v2 : (c : Dev Cert.ProjSIdeal.nD) → Buf (Elt Ideal) ((c.tc : Thread Cert.ProjSIdeal.nD Cert.ProjSIdeal.τ).loc Cert.ProjSIdeal.main_v35_7)) (v3 : (c : Dev Cert.ProjSIdeal.nD) → Buf (Elt Ideal) ((c.tc : Thread Cert.ProjSIdeal.nD Cert.ProjSIdeal.τ).loc Cert.ProjSIdeal.main_v35_9)) (v4 : (c : Dev Cert.ProjSIdeal.nD) → Buf (Elt Ideal) ((c.tc : Thread Cert.ProjSIdeal.nD Cert.ProjSIdeal.τ).loc Cert.ProjSIdeal.main_v35_6)) (v5 : (c : Dev Cert.ProjSIdeal.nD) → Buf (Elt Ideal) ((c.tc : Thread Cert.ProjSIdeal.nD Cert.ProjSIdeal.τ).loc Cert.ProjSIdeal.main_v35_0)) (v6 : (c : Dev Cert.ProjSIdeal.nD) → Buf (Elt Ideal) ((c.tc : Thread Cert.ProjSIdeal.nD Cert.ProjSIdeal.τ).loc Cert.ProjSIdeal.main_v35_1)) (v7 : (c : Dev Cert.ProjSIdeal.nD) → Buf (Elt Ideal) ((c.tc : Thread Cert.ProjSIdeal.nD Cert.ProjSIdeal.τ).loc Cert.ProjSIdeal.main_v35_2)) (v8 : (c : Dev Cert.ProjSIdeal.nD) → Buf (Elt Ideal) ((c.tc : Thread Cert.ProjSIdeal.nD Cert.ProjSIdeal.τ).loc Cert.ProjSIdeal.main_v35_3)) (v9 : (c : Dev Cert.ProjSIdeal.nD) → Buf (Elt Ideal) ((c.tc : Thread Cert.ProjSIdeal.nD Cert.ProjSIdeal.τ).loc Cert.ProjSIdeal.main_v35_8)) (v10 : (c : Dev Cert.ProjSIdeal.nD) → Buf (Elt Ideal) ((c.tc : Thread Cert.ProjSIdeal.nD Cert.ProjSIdeal.τ).loc Cert.ProjSIdeal.main_v35_10)) (v11 : (c : Dev Cert.ProjSIdeal.nD) → Buf (Elt Ideal) ((c.tc : Thread Cert.ProjSIdeal.nD Cert.ProjSIdeal.τ).loc Cert.ProjSIdeal.main_v35_11)) (v12 : (c : Dev Cert.ProjSIdeal.nD) → Buf (Elt Ideal) ((c.tc : Thread Cert.ProjSIdeal.nD Cert.ProjSIdeal.τ).loc Cert.ProjSIdeal.main_v35_12)) (v13 : (c : Dev Cert.ProjSIdeal.nD) → Buf (Elt Ideal) ((c.tc : Thread Cert.ProjSIdeal.nD Cert.ProjSIdeal.τ).loc Cert.ProjSIdeal.main_v38)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v35_4) = v0 c
          ∧ r.2.mem ((c.tc : Thread Cert.ProjSIdeal.nD Cert.ProjSIdeal.τ).loc Cert.ProjSIdeal.main_v35_5) = v1 c
          ∧ r.2.mem ((c.tc : Thread Cert.ProjSIdeal.nD Cert.ProjSIdeal.τ).loc Cert.ProjSIdeal.main_v35_7) = v2 c
          ∧ r.2.mem ((c.tc : Thread Cert.ProjSIdeal.nD Cert.ProjSIdeal.τ).loc Cert.ProjSIdeal.main_v35_9) = v3 c
          ∧ r.2.mem ((c.tc : Thread Cert.ProjSIdeal.nD Cert.ProjSIdeal.τ).loc Cert.ProjSIdeal.main_v35_6) = v4 c
          ∧ r.2.mem ((c.tc : Thread Cert.ProjSIdeal.nD Cert.ProjSIdeal.τ).loc Cert.ProjSIdeal.main_v35_0) = v5 c
          ∧ r.2.mem ((c.tc : Thread Cert.ProjSIdeal.nD Cert.ProjSIdeal.τ).loc Cert.ProjSIdeal.main_v35_1) = v6 c
          ∧ r.2.mem ((c.tc : Thread Cert.ProjSIdeal.nD Cert.ProjSIdeal.τ).loc Cert.ProjSIdeal.main_v35_2) = v7 c
          ∧ r.2.mem ((c.tc : Thread Cert.ProjSIdeal.nD Cert.ProjSIdeal.τ).loc Cert.ProjSIdeal.main_v35_3) = v8 c
          ∧ r.2.mem ((c.tc : Thread Cert.ProjSIdeal.nD Cert.ProjSIdeal.τ).loc Cert.ProjSIdeal.main_v35_8) = v9 c
          ∧ r.2.mem ((c.tc : Thread Cert.ProjSIdeal.nD Cert.ProjSIdeal.τ).loc Cert.ProjSIdeal.main_v35_10) = v10 c
          ∧ r.2.mem ((c.tc : Thread Cert.ProjSIdeal.nD Cert.ProjSIdeal.τ).loc Cert.ProjSIdeal.main_v35_11) = v11 c
          ∧ r.2.mem ((c.tc : Thread Cert.ProjSIdeal.nD Cert.ProjSIdeal.τ).loc Cert.ProjSIdeal.main_v35_12) = v12 c
          ∧ r.2.mem ((c.tc : Thread Cert.ProjSIdeal.nD Cert.ProjSIdeal.τ).loc Cert.ProjSIdeal.main_v38) = v13 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v15) = v0 c
          ∧ r.2.mem ((c.tc : Thread Cert.ProjSRefIdeal.nD Cert.ProjSRefIdeal.τ).loc Cert.ProjSRefIdeal.main_v16) = v1 c
          ∧ r.2.mem ((c.tc : Thread Cert.ProjSRefIdeal.nD Cert.ProjSRefIdeal.τ).loc Cert.ProjSRefIdeal.main_v20) = v2 c
          ∧ r.2.mem ((c.tc : Thread Cert.ProjSRefIdeal.nD Cert.ProjSRefIdeal.τ).loc Cert.ProjSRefIdeal.main_v22) = v3 c
          ∧ r.2.mem ((c.tc : Thread Cert.ProjSRefIdeal.nD Cert.ProjSRefIdeal.τ).loc Cert.ProjSRefIdeal.main_v17) = v4 c
          ∧ r.2.mem ((c.tc : Thread Cert.ProjSRefIdeal.nD Cert.ProjSRefIdeal.τ).loc Cert.ProjSRefIdeal.main_v39) = v5 c
          ∧ r.2.mem ((c.tc : Thread Cert.ProjSRefIdeal.nD Cert.ProjSRefIdeal.τ).loc Cert.ProjSRefIdeal.main_v54) = v6 c
          ∧ r.2.mem ((c.tc : Thread Cert.ProjSRefIdeal.nD Cert.ProjSRefIdeal.τ).loc Cert.ProjSRefIdeal.main_v58) = v7 c
          ∧ r.2.mem ((c.tc : Thread Cert.ProjSRefIdeal.nD Cert.ProjSRefIdeal.τ).loc Cert.ProjSRefIdeal.main_v62) = v8 c
          ∧ r.2.mem ((c.tc : Thread Cert.ProjSRefIdeal.nD Cert.ProjSRefIdeal.τ).loc Cert.ProjSRefIdeal.main_v64) = v9 c
          ∧ r.2.mem ((c.tc : Thread Cert.ProjSRefIdeal.nD Cert.ProjSRefIdeal.τ).loc Cert.ProjSRefIdeal.main_v65) = v10 c
          ∧ r.2.mem ((c.tc : Thread Cert.ProjSRefIdeal.nD Cert.ProjSRefIdeal.τ).loc Cert.ProjSRefIdeal.main_v66) = v11 c
          ∧ r.2.mem ((c.tc : Thread Cert.ProjSRefIdeal.nD Cert.ProjSRefIdeal.τ).loc Cert.ProjSRefIdeal.main_v67) = v12 c
          ∧ r.2.mem ((c.tc : Thread Cert.ProjSRefIdeal.nD Cert.ProjSRefIdeal.τ).loc Cert.ProjSRefIdeal.main_v70) = v13 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)) →
    ∃ (v0 : (c : Dev Cert.CompressIdeal.nD) → Buf (Elt Ideal) ((c.tc : Thread Cert.CompressIdeal.nD Cert.CompressIdeal.τ).loc Cert.CompressIdeal.main_v32)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v32) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v37) = v0 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)) →
    ∃ (v0 : (c : Dev Cert.TailIdeal.nD) → Buf (Elt Ideal) ((c.tc : Thread Cert.TailIdeal.nD Cert.TailIdeal.τ).loc Cert.TailIdeal.main_v38)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v38) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v64) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12))

def preserves_TailS_TailSIdeal : Prop :=
  True

def algebraic_TailSIdeal_TailSRefIdeal [hTailSIdeal : Cert.TailSIdeal.Facts] [hTailSRefIdeal : Cert.TailSRefIdeal.Facts] : Prop :=
  ∀ (m : (ℓ : Loc Cert.TailSIdeal.nD Cert.TailSIdeal.τ Cert.TailSIdeal.sig) → Buf (Elt Ideal) ℓ) (g : Dev Cert.TailSIdeal.nD → PrngReg)
    (m' : (ℓ : Loc Cert.TailSRefIdeal.nD Cert.TailSRefIdeal.τ Cert.TailSRefIdeal.sig) → Buf (Elt Ideal) ℓ) (g' : Dev Cert.TailSRefIdeal.nD → PrngReg), Pre_TailSIdeal m →
    (∀ c : Dev Cert.TailSIdeal.nD,
      m' ((c.tc : Thread Cert.TailSRefIdeal.nD Cert.TailSRefIdeal.τ).loc Cert.TailSRefIdeal.main_arg0) = m ((c.tc : Thread Cert.TailSIdeal.nD Cert.TailSIdeal.τ).loc Cert.TailSIdeal.main_arg0)
      ∧ m' ((c.tc : Thread Cert.TailSRefIdeal.nD Cert.TailSRefIdeal.τ).loc Cert.TailSRefIdeal.main_arg1) = m ((c.tc : Thread Cert.TailSIdeal.nD Cert.TailSIdeal.τ).loc Cert.TailSIdeal.main_arg1)
      ∧ m' ((c.tc : Thread Cert.TailSRefIdeal.nD Cert.TailSRefIdeal.τ).loc Cert.TailSRefIdeal.main_arg2) = m ((c.tc : Thread Cert.TailSIdeal.nD Cert.TailSIdeal.τ).loc Cert.TailSIdeal.main_arg2)
      ∧ m' ((c.tc : Thread Cert.TailSRefIdeal.nD Cert.TailSRefIdeal.τ).loc Cert.TailSRefIdeal.main_arg3) = m ((c.tc : Thread Cert.TailSIdeal.nD Cert.TailSIdeal.τ).loc Cert.TailSIdeal.main_arg3)
      ∧ m' ((c.tc : Thread Cert.TailSRefIdeal.nD Cert.TailSRefIdeal.τ).loc Cert.TailSRefIdeal.main_arg4) = m ((c.tc : Thread Cert.TailSIdeal.nD Cert.TailSIdeal.τ).loc Cert.TailSIdeal.main_arg4)
      ∧ m' ((c.tc : Thread Cert.TailSRefIdeal.nD Cert.TailSRefIdeal.τ).loc Cert.TailSRefIdeal.main_arg5) = m ((c.tc : Thread Cert.TailSIdeal.nD Cert.TailSIdeal.τ).loc Cert.TailSIdeal.main_arg5)
      ∧ m' ((c.tc : Thread Cert.TailSRefIdeal.nD Cert.TailSRefIdeal.τ).loc Cert.TailSRefIdeal.main_arg6) = m ((c.tc : Thread Cert.TailSIdeal.nD Cert.TailSIdeal.τ).loc Cert.TailSIdeal.main_arg6)
      ∧ m' ((c.tc : Thread Cert.TailSRefIdeal.nD Cert.TailSRefIdeal.τ).loc Cert.TailSRefIdeal.main_arg7) = m ((c.tc : Thread Cert.TailSIdeal.nD Cert.TailSIdeal.τ).loc Cert.TailSIdeal.main_arg7)
      ∧ m' ((c.tc : Thread Cert.TailSRefIdeal.nD Cert.TailSRefIdeal.τ).loc Cert.TailSRefIdeal.main_arg8) = m ((c.tc : Thread Cert.TailSIdeal.nD Cert.TailSIdeal.τ).loc Cert.TailSIdeal.main_arg8)
      ∧ m' ((c.tc : Thread Cert.TailSRefIdeal.nD Cert.TailSRefIdeal.τ).loc Cert.TailSRefIdeal.main_arg9) = m ((c.tc : Thread Cert.TailSIdeal.nD Cert.TailSIdeal.τ).loc Cert.TailSIdeal.main_arg9)
      ∧ m' ((c.tc : Thread Cert.TailSRefIdeal.nD Cert.TailSRefIdeal.τ).loc Cert.TailSRefIdeal.main_arg10) = m ((c.tc : Thread Cert.TailSIdeal.nD Cert.TailSIdeal.τ).loc Cert.TailSIdeal.main_arg10)
      ∧ m' ((c.tc : Thread Cert.TailSRefIdeal.nD Cert.TailSRefIdeal.τ).loc Cert.TailSRefIdeal.main_arg11) = m ((c.tc : Thread Cert.TailSIdeal.nD Cert.TailSIdeal.τ).loc Cert.TailSIdeal.main_arg11)
      ∧ m' ((c.tc : Thread Cert.TailSRefIdeal.nD Cert.TailSRefIdeal.τ).loc Cert.TailSRefIdeal.main_arg12) = m ((c.tc : Thread Cert.TailSIdeal.nD Cert.TailSIdeal.τ).loc Cert.TailSIdeal.main_arg12)) →
    ∃ (v0 : (c : Dev Cert.TailSIdeal.nD) → Buf (Elt Ideal) ((c.tc : Thread Cert.TailSIdeal.nD Cert.TailSIdeal.τ).loc Cert.TailSIdeal.main_v38)),
      θ_run (Cert.TailSIdeal.defs (F := Ideal)) (onTc (τ := Cert.TailSIdeal.τ) (Cert.TailSIdeal.main (F := Ideal))) ⟨m, fun _ => 0, g⟩ (fun r => ∀ c : Dev Cert.TailSIdeal.nD,
          r.2.mem ((c.tc : Thread Cert.TailSIdeal.nD Cert.TailSIdeal.τ).loc Cert.TailSIdeal.main_v38) = v0 c
          ∧ r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
          ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
          ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
          ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
          ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
          ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
          ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
          ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
          ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8)
          ∧ r.2.mem ((c.tc : Thread Cert.TailSIdeal.nD Cert.TailSIdeal.τ).loc Cert.TailSIdeal.main_arg9) = m ((c.tc : Thread Cert.TailSIdeal.nD Cert.TailSIdeal.τ).loc Cert.TailSIdeal.main_arg9)
          ∧ r.2.mem ((c.tc : Thread Cert.TailSIdeal.nD Cert.TailSIdeal.τ).loc Cert.TailSIdeal.main_arg10) = m ((c.tc : Thread Cert.TailSIdeal.nD Cert.TailSIdeal.τ).loc Cert.TailSIdeal.main_arg10)
          ∧ r.2.mem ((c.tc : Thread Cert.TailSIdeal.nD Cert.TailSIdeal.τ).loc Cert.TailSIdeal.main_arg11) = m ((c.tc : Thread Cert.TailSIdeal.nD Cert.TailSIdeal.τ).loc Cert.TailSIdeal.main_arg11)
          ∧ r.2.mem ((c.tc : Thread Cert.TailSIdeal.nD Cert.TailSIdeal.τ).loc Cert.TailSIdeal.main_arg12) = m ((c.tc : Thread Cert.TailSIdeal.nD Cert.TailSIdeal.τ).loc Cert.TailSIdeal.main_arg12))
      ∧ θ_run (Cert.TailSRefIdeal.defs (F := Ideal)) (onTc (τ := Cert.TailSRefIdeal.τ) (Cert.TailSRefIdeal.main (F := Ideal))) ⟨m', fun _ => 0, g'⟩ (fun r => ∀ c : Dev Cert.TailSRefIdeal.nD,
          r.2.mem ((c.tc : Thread Cert.TailSRefIdeal.nD Cert.TailSRefIdeal.τ).loc Cert.TailSRefIdeal.main_v64) = v0 c
          ∧ r.2.mem ((c.tc : Thread Cert.TailSRefIdeal.nD Cert.TailSRefIdeal.τ).loc Cert.TailSRefIdeal.main_arg0) = m' ((c.tc : Thread Cert.TailSRefIdeal.nD Cert.TailSRefIdeal.τ).loc Cert.TailSRefIdeal.main_arg0)
          ∧ r.2.mem ((c.tc : Thread Cert.TailSRefIdeal.nD Cert.TailSRefIdeal.τ).loc Cert.TailSRefIdeal.main_arg1) = m' ((c.tc : Thread Cert.TailSRefIdeal.nD Cert.TailSRefIdeal.τ).loc Cert.TailSRefIdeal.main_arg1)
          ∧ r.2.mem ((c.tc : Thread Cert.TailSRefIdeal.nD Cert.TailSRefIdeal.τ).loc Cert.TailSRefIdeal.main_arg2) = m' ((c.tc : Thread Cert.TailSRefIdeal.nD Cert.TailSRefIdeal.τ).loc Cert.TailSRefIdeal.main_arg2)
          ∧ r.2.mem ((c.tc : Thread Cert.TailSRefIdeal.nD Cert.TailSRefIdeal.τ).loc Cert.TailSRefIdeal.main_arg3) = m' ((c.tc : Thread Cert.TailSRefIdeal.nD Cert.TailSRefIdeal.τ).loc Cert.TailSRefIdeal.main_arg3)
          ∧ r.2.mem ((c.tc : Thread Cert.TailSRefIdeal.nD Cert.TailSRefIdeal.τ).loc Cert.TailSRefIdeal.main_arg4) = m' ((c.tc : Thread Cert.TailSRefIdeal.nD Cert.TailSRefIdeal.τ).loc Cert.TailSRefIdeal.main_arg4)
          ∧ r.2.mem ((c.tc : Thread Cert.TailSRefIdeal.nD Cert.TailSRefIdeal.τ).loc Cert.TailSRefIdeal.main_arg5) = m' ((c.tc : Thread Cert.TailSRefIdeal.nD Cert.TailSRefIdeal.τ).loc Cert.TailSRefIdeal.main_arg5)
          ∧ r.2.mem ((c.tc : Thread Cert.TailSRefIdeal.nD Cert.TailSRefIdeal.τ).loc Cert.TailSRefIdeal.main_arg6) = m' ((c.tc : Thread Cert.TailSRefIdeal.nD Cert.TailSRefIdeal.τ).loc Cert.TailSRefIdeal.main_arg6)
          ∧ r.2.mem ((c.tc : Thread Cert.TailSRefIdeal.nD Cert.TailSRefIdeal.τ).loc Cert.TailSRefIdeal.main_arg7) = m' ((c.tc : Thread Cert.TailSRefIdeal.nD Cert.TailSRefIdeal.τ).loc Cert.TailSRefIdeal.main_arg7)
          ∧ r.2.mem ((c.tc : Thread Cert.TailSRefIdeal.nD Cert.TailSRefIdeal.τ).loc Cert.TailSRefIdeal.main_arg8) = m' ((c.tc : Thread Cert.TailSRefIdeal.nD Cert.TailSRefIdeal.τ).loc Cert.TailSRefIdeal.main_arg8)
          ∧ r.2.mem ((c.tc : Thread Cert.TailSRefIdeal.nD Cert.TailSRefIdeal.τ).loc Cert.TailSRefIdeal.main_arg9) = m' ((c.tc : Thread Cert.TailSRefIdeal.nD Cert.TailSRefIdeal.τ).loc Cert.TailSRefIdeal.main_arg9)
          ∧ r.2.mem ((c.tc : Thread Cert.TailSRefIdeal.nD Cert.TailSRefIdeal.τ).loc Cert.TailSRefIdeal.main_arg10) = m' ((c.tc : Thread Cert.TailSRefIdeal.nD Cert.TailSRefIdeal.τ).loc Cert.TailSRefIdeal.main_arg10)
          ∧ r.2.mem ((c.tc : Thread Cert.TailSRefIdeal.nD Cert.TailSRefIdeal.τ).loc Cert.TailSRefIdeal.main_arg11) = m' ((c.tc : Thread Cert.TailSRefIdeal.nD Cert.TailSRefIdeal.τ).loc Cert.TailSRefIdeal.main_arg11)
          ∧ r.2.mem ((c.tc : Thread Cert.TailSRefIdeal.nD Cert.TailSRefIdeal.τ).loc Cert.TailSRefIdeal.main_arg12) = m' ((c.tc : Thread Cert.TailSRefIdeal.nD Cert.TailSRefIdeal.τ).loc Cert.TailSRefIdeal.main_arg12))

def Claim : Prop :=
  ∃ (hKernel : Cert.Kernel.Facts) (hKernelIdeal : Cert.KernelIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hFfnS : Cert.FfnS.Facts) (hFfnSIdeal : Cert.FfnSIdeal.Facts) (hFfnSRefIdeal : Cert.FfnSRefIdeal.Facts) (hMergeS : Cert.MergeS.Facts) (hMergeSIdeal : Cert.MergeSIdeal.Facts) (hMergeSRefIdeal : Cert.MergeSRefIdeal.Facts) (hProjS : Cert.ProjS.Facts) (hProjSIdeal : Cert.ProjSIdeal.Facts) (hProjSRefIdeal : Cert.ProjSRefIdeal.Facts) (hCompress : Cert.Compress.Facts) (hCompressIdeal : Cert.CompressIdeal.Facts) (hCompressRefIdeal : Cert.CompressRefIdeal.Facts) (hTail : Cert.Tail.Facts) (hTailIdeal : Cert.TailIdeal.Facts) (hTailRefIdeal : Cert.TailRefIdeal.Facts) (hTailS : Cert.TailS.Facts) (hTailSIdeal : Cert.TailSIdeal.Facts) (hTailSRefIdeal : Cert.TailSRefIdeal.Facts),
    quiescent_Kernel (hKernel := hKernel)
    ∧ quiescent_KernelIdeal (hKernelIdeal := hKernelIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_Compress (hCompress := hCompress)
    ∧ quiescent_CompressIdeal (hCompressIdeal := hCompressIdeal)
    ∧ quiescent_CompressRefIdeal (hCompressRefIdeal := hCompressRefIdeal)
    ∧ quiescent_Tail (hTail := hTail)
    ∧ quiescent_TailIdeal (hTailIdeal := hTailIdeal)
    ∧ quiescent_TailRefIdeal (hTailRefIdeal := hTailRefIdeal)
    ∧ quiescent_TailS (hTailS := hTailS)
    ∧ quiescent_TailSIdeal (hTailSIdeal := hTailSIdeal)
    ∧ quiescent_TailSRefIdeal (hTailSRefIdeal := hTailSRefIdeal)
    ∧ preserves_Kernel_KernelIdeal
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_FfnS_FfnSIdeal
    ∧ algebraic_FfnSIdeal_FfnSRefIdeal (hFfnSIdeal := hFfnSIdeal) (hFfnSRefIdeal := hFfnSRefIdeal)
    ∧ preserves_MergeS_MergeSIdeal
    ∧ algebraic_MergeSIdeal_MergeSRefIdeal (hMergeSIdeal := hMergeSIdeal) (hMergeSRefIdeal := hMergeSRefIdeal)
    ∧ preserves_ProjS_ProjSIdeal
    ∧ algebraic_ProjSIdeal_ProjSRefIdeal (hProjSIdeal := hProjSIdeal) (hProjSRefIdeal := hProjSRefIdeal)
    ∧ preserves_Compress_CompressIdeal
    ∧ algebraic_CompressIdeal_CompressRefIdeal (hCompressIdeal := hCompressIdeal) (hCompressRefIdeal := hCompressRefIdeal)
    ∧ preserves_Tail_TailIdeal
    ∧ algebraic_TailIdeal_TailRefIdeal (hTailIdeal := hTailIdeal) (hTailRefIdeal := hTailRefIdeal)
    ∧ preserves_TailS_TailSIdeal
    ∧ algebraic_TailSIdeal_TailSRefIdeal (hTailSIdeal := hTailSIdeal) (hTailSRefIdeal := hTailSRefIdeal)
-- ==== Kernel.lean ====
abbrev S2x8192x2x4x64 : Shape := ⟨5, ![2, 8192, 2, 4, 64]⟩
abbrev S2x8192x2x4x3 : Shape := ⟨5, ![2, 8192, 2, 4, 3]⟩
abbrev S2x511x2x64 : Shape := ⟨4, ![2, 511, 2, 64]⟩
abbrev S2x8192x2x2x64 : Shape := ⟨5, ![2, 8192, 2, 2, 64]⟩
abbrev S32x8 : Shape := ⟨2, ![32, 8]⟩
abbrev S8x2 : Shape := ⟨2, ![8, 2]⟩
abbrev S129 : Shape := ⟨1, ![129]⟩
abbrev S768x128 : Shape := ⟨2, ![768, 128]⟩
abbrev S16384x512 : Shape := ⟨2, ![16384, 512]⟩
abbrev S16384x8x1x64 : Shape := ⟨4, ![16384, 8, 1, 64]⟩
abbrev S1x8x2x1 : Shape := ⟨4, ![1, 8, 2, 1]⟩
abbrev S16384x8x2x64 : Shape := ⟨4, ![16384, 8, 2, 64]⟩
abbrev S16384x1024 : Shape := ⟨2, ![16384, 1024]⟩
abbrev S_ : Shape := ⟨0, ![]⟩
abbrev S16384x24 : Shape := ⟨2, ![16384, 24]⟩
abbrev S16384x128 : Shape := ⟨2, ![16384, 128]⟩
abbrev S2x511x128 : Shape := ⟨3, ![2, 511, 128]⟩
abbrev S2x511x256 : Shape := ⟨3, ![2, 511, 256]⟩
abbrev S2x768x256 : Shape := ⟨3, ![2, 768, 256]⟩
abbrev S16384x256 : Shape := ⟨2, ![16384, 256]⟩
abbrev S1x8 : Shape := ⟨2, ![1, 8]⟩
abbrev S8 : Shape := ⟨1, ![8]⟩
abbrev S129x1 : Shape := ⟨2, ![129, 1]⟩
abbrev S129x8 : Shape := ⟨2, ![129, 8]⟩
abbrev S128 : Shape := ⟨1, ![128]⟩
abbrev S128x1 : Shape := ⟨2, ![128, 1]⟩
abbrev S1x128 : Shape := ⟨2, ![1, 128]⟩
abbrev S256 : Shape := ⟨1, ![256]⟩
abbrev S1x256 : Shape := ⟨2, ![1, 256]⟩
abbrev S128x128 : Shape := ⟨2, ![128, 128]⟩
abbrev S128x128x1 : Shape := ⟨3, ![128, 128, 1]⟩
abbrev S128x128x8 : Shape := ⟨3, ![128, 128, 8]⟩
abbrev S8x128x128 : Shape := ⟨3, ![8, 128, 128]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S2x8192x256 : Shape := ⟨3, ![2, 8192, 256]⟩
abbrev S2x8576x256 : Shape := ⟨3, ![2, 8576, 256]⟩
abbrev S2x8704x256 : Shape := ⟨3, ![2, 8704, 256]⟩
abbrev S128x1024 : Shape := ⟨2, ![128, 1024]⟩
abbrev S1x768x256 : Shape := ⟨3, ![1, 768, 256]⟩
abbrev S1x8576x256 : Shape := ⟨3, ![1, 8576, 256]⟩
abbrev S1x8704x256 : Shape := ⟨3, ![1, 8704, 256]⟩
abbrev S128x24 : Shape := ⟨2, ![128, 24]⟩
abbrev S128x768 : Shape := ⟨2, ![128, 768]⟩
abbrev S128x512 : Shape := ⟨2, ![128, 512]⟩
abbrev S128x640 : Shape := ⟨2, ![128, 640]⟩
abbrev S512x128 : Shape := ⟨2, ![512, 128]⟩
abbrev S1x768x128 : Shape := ⟨3, ![1, 768, 128]⟩
abbrev S512x768 : Shape := ⟨2, ![512, 768]⟩
abbrev S1x128x256 : Shape := ⟨3, ![1, 128, 256]⟩
abbrev S256x128 : Shape := ⟨2, ![256, 128]⟩
abbrev S256x1 : Shape := ⟨2, ![256, 1]⟩
abbrev S1x640x128 : Shape := ⟨3, ![1, 640, 128]⟩
abbrev S640x128 : Shape := ⟨2, ![640, 128]⟩
abbrev S512x640 : Shape := ⟨2, ![512, 640]⟩
abbrev S1x128x128 : Shape := ⟨3, ![1, 128, 128]⟩
abbrev S512x256 : Shape := ⟨2, ![512, 256]⟩
abbrev S512x384 : Shape := ⟨2, ![512, 384]⟩
abbrev S1x128x640 : Shape := ⟨3, ![1, 128, 640]⟩
abbrev S4x128x640 : Shape := ⟨3, ![4, 128, 640]⟩
abbrev S512 : Shape := ⟨1, ![512]⟩
abbrev S512x1 : Shape := ⟨2, ![512, 1]⟩
abbrev S1x512x128 : Shape := ⟨3, ![1, 512, 128]⟩
abbrev S512x512 : Shape := ⟨2, ![512, 512]⟩
abbrev S1x128x512 : Shape := ⟨3, ![1, 128, 512]⟩
abbrev S4x128x512 : Shape := ⟨3, ![4, 128, 512]⟩

abbrev nBuf : Space → Nat
  | .hbm => 140
  | .vmem => 16
  | .smem => 0
  | _ => 0

abbrev hbmTy0_0 (i : Nat) : BufTy := match i % 128 with
  | 0 => ⟨S2x8192x2x4x64, .f32⟩
  | 1 => ⟨S2x8192x2x4x3, .f32⟩
  | 2 => ⟨S2x511x2x64, .f32⟩
  | 3 => ⟨S2x511x2x64, .f32⟩
  | 4 => ⟨S2x8192x2x2x64, .f32⟩
  | 5 => ⟨S2x8192x2x2x64, .f32⟩
  | 6 => ⟨S32x8, .f32⟩
  | 7 => ⟨S8x2, .f32⟩
  | 8 => ⟨S129, .i32⟩
  | 9 => ⟨S768x128, .bf16⟩
  | 10 => ⟨S16384x512, .f32⟩
  | 11 => ⟨S16384x8x1x64, .f32⟩
  | 12 => ⟨S1x8x2x1, .f32⟩
  | 13 => ⟨S16384x8x2x64, .f32⟩
  | 14 => ⟨S16384x8x2x64, .f32⟩
  | 15 => ⟨S16384x8x2x64, .f32⟩
  | 16 => ⟨S16384x1024, .f32⟩
  | 17 => ⟨S_, .f32⟩
  | 18 => ⟨S16384x1024, .f32⟩
  | 19 => ⟨S16384x1024, .f32⟩
  | 20 => ⟨S16384x1024, .bf16⟩
  | 21 => ⟨S16384x24, .f32⟩
  | 22 => ⟨S_, .i32⟩
  | 23 => ⟨S_, .f32⟩
  | 24 => ⟨S16384x128, .f32⟩
  | 25 => ⟨S2x511x128, .f32⟩
  | 26 => ⟨S2x511x128, .f32⟩
  | 27 => ⟨S2x511x256, .f32⟩
  | 28 => ⟨S_, .i32⟩
  | 29 => ⟨S_, .f32⟩
  | 30 => ⟨S2x768x256, .f32⟩
  | 31 => ⟨S2x768x256, .bf16⟩
  | 32 => ⟨S16384x256, .f32⟩
  | 33 => ⟨S16384x256, .bf16⟩
  | 34 => ⟨S16384x256, .f32⟩
  | 35 => ⟨S16384x256, .bf16⟩
  | 36 => ⟨S1x8, .f32⟩
  | 37 => ⟨S8, .f32⟩
  | 38 => ⟨S1x8, .f32⟩
  | 39 => ⟨S32x8, .f32⟩
  | 40 => ⟨S32x8, .f32⟩
  | 41 => ⟨S_, .i32⟩
  | 42 => ⟨S129, .i32⟩
  | 43 => ⟨S129, .i1⟩
  | 44 => ⟨S_, .i32⟩
  | 45 => ⟨S129, .i32⟩
  | 46 => ⟨S129, .i32⟩
  | 47 => ⟨S129, .i32⟩
  | 48 => ⟨S129x1, .i32⟩
  | 49 => ⟨S129x8, .f32⟩
  | 50 => ⟨S128, .i32⟩
  | 51 => ⟨S128x1, .i32⟩
  | 52 => ⟨S128, .i32⟩
  | 53 => ⟨S1x128, .i32⟩
  | 54 => ⟨S256, .i32⟩
  | 55 => ⟨S1x256, .i32⟩
  | 56 => ⟨S128x128, .i32⟩
  | 57 => ⟨S128x128, .i32⟩
  | 58 => ⟨S128x128, .i32⟩
  | 59 => ⟨S_, .i32⟩
  | 60 => ⟨S_, .i32⟩
  | 61 => ⟨S_, .i32⟩
  | 62 => ⟨S128x128, .i32⟩
  | 63 => ⟨S128x128, .i32⟩
  | 64 => ⟨S_, .i32⟩
  | 65 => ⟨S128x128, .i32⟩
  | 66 => ⟨S128x128, .i32⟩
  | 67 => ⟨S_, .i32⟩
  | 68 => ⟨S128x128, .i32⟩
  | 69 => ⟨S128x128, .i1⟩
  | 70 => ⟨S_, .i32⟩
  | 71 => ⟨S128x128, .i32⟩
  | 72 => ⟨S128x128, .i32⟩
  | 73 => ⟨S128x128, .i32⟩
  | 74 => ⟨S128x128x1, .i32⟩
  | 75 => ⟨S128x128x8, .f32⟩
  | 76 => ⟨S8x128x128, .f32⟩
  | 77 => ⟨S_, .i32⟩
  | 78 => ⟨S128x1, .i32⟩
  | 79 => ⟨S128x1, .i32⟩
  | 80 => ⟨S128x128, .i32⟩
  | 81 => ⟨S128x128, .i32⟩
  | 82 => ⟨S128x128, .i32⟩
  | 83 => ⟨S_, .i32⟩
  | 84 => ⟨S_, .i32⟩
  | 85 => ⟨S_, .i32⟩
  | 86 => ⟨S128x128, .i32⟩
  | 87 => ⟨S128x128, .i32⟩
  | 88 => ⟨S_, .i32⟩
  | 89 => ⟨S128x128, .i32⟩
  | 90 => ⟨S128x128, .i32⟩
  | 91 => ⟨S_, .i32⟩
  | 92 => ⟨S128x128, .i32⟩
  | 93 => ⟨S128x128, .i1⟩
  | 94 => ⟨S_, .i32⟩
  | 95 => ⟨S128x128, .i32⟩
  | 96 => ⟨S128x128, .i32⟩
  | 97 => ⟨S128x128, .i32⟩
  | 98 => ⟨S128x128x1, .i32⟩
  | 99 => ⟨S128x128x8, .f32⟩
  | 100 => ⟨S8x128x128, .f32⟩
  | 101 => ⟨S_, .i32⟩
  | 102 => ⟨S1x256, .i32⟩
  | 103 => ⟨S1x256, .i32⟩
  | 104 => ⟨S_, .i32⟩
  | 105 => ⟨S1x256, .i32⟩
  | 106 => ⟨S1x256, .i32⟩
  | 107 => ⟨S128x256, .i32⟩
  | 108 => ⟨S128x256, .i32⟩
  | 109 => ⟨S128x256, .i32⟩
  | 110 => ⟨S_, .i32⟩
  | 111 => ⟨S128x256, .i32⟩
  | 112 => ⟨S128x256, .i32⟩
  | 113 => ⟨S_, .i32⟩
  | 114 => ⟨S_, .i32⟩
  | 115 => ⟨S_, .i32⟩
  | 116 => ⟨S128x256, .i32⟩
  | 117 => ⟨S128x256, .i32⟩
  | 118 => ⟨S_, .i32⟩
  | 119 => ⟨S128x256, .i32⟩
  | 120 => ⟨S128x256, .i32⟩
  | 121 => ⟨S_, .i32⟩
  | 122 => ⟨S128x256, .i32⟩
  | 123 => ⟨S128x256, .i1⟩
  | 124 => ⟨S_, .i32⟩
  | 125 => ⟨S128x256, .i32⟩
  | 126 => ⟨S128x256, .i32⟩
  | 127 => ⟨S128x256, .i32⟩
  | _ => ⟨S2x8192x2x4x64, .f32⟩

abbrev hbmTy0_1 (i : Nat) : BufTy := match i % 128 with
  | 0 => ⟨S128x256x1, .i32⟩
  | 1 => ⟨S128x256x8, .f32⟩
  | 2 => ⟨S8x128x256, .f32⟩
  | 3 => ⟨S2x8192x256, .bf16⟩
  | 4 => ⟨S_, .i32⟩
  | 5 => ⟨S_, .bf16⟩
  | 6 => ⟨S2x8576x256, .bf16⟩
  | 7 => ⟨S2x8192x256, .bf16⟩
  | 8 => ⟨S_, .i32⟩
  | 9 => ⟨S_, .bf16⟩
  | 10 => ⟨S2x8704x256, .bf16⟩
  | 11 => ⟨S16384x1024, .bf16⟩
  | _ => ⟨S2x8192x2x4x64, .f32⟩

abbrev hbmTy (i : Nat) : BufTy := match i / 128 with
  | 0 => hbmTy0_0 i
  | 1 => hbmTy0_1 i
  | _ => ⟨S2x8192x2x4x64, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x128, .f32⟩
  | .local _ .vmem, ⟨3, _⟩ => ⟨S128x128, .f32⟩
  | .local _ .vmem, ⟨4, _⟩ => ⟨S1x768x256, .bf16⟩
  | .local _ .vmem, ⟨5, _⟩ => ⟨S1x768x256, .bf16⟩
  | .local _ .vmem, ⟨6, _⟩ => ⟨S1x8576x256, .bf16⟩
  | .local _ .vmem, ⟨7, _⟩ => ⟨S1x8576x256, .bf16⟩
  | .local _ .vmem, ⟨8, _⟩ => ⟨S1x8704x256, .bf16⟩
  | .local _ .vmem, ⟨9, _⟩ => ⟨S1x8704x256, .bf16⟩
  | .local _ .vmem, ⟨10, _⟩ => ⟨S768x128, .bf16⟩
  | .local _ .vmem, ⟨11, _⟩ => ⟨S8x128x256, .f32⟩
  | .local _ .vmem, ⟨12, _⟩ => ⟨S8x128x128, .f32⟩
  | .local _ .vmem, ⟨13, _⟩ => ⟨S8x128x128, .f32⟩
  | .local _ .vmem, ⟨14, _⟩ => ⟨S128x1024, .bf16⟩
  | .local _ .vmem, ⟨15, _⟩ => ⟨S128x1024, .bf16⟩
  | _, _ => ⟨S2x8192x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_c : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_call1_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_c_7 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_c_12 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v56 : Ref sig .tc := ⟨.hbm, 90, rfl⟩
abbrev main_c_13 : Ref sig .tc := ⟨.hbm, 91, rfl⟩
abbrev main_v57 : Ref sig .tc := ⟨.hbm, 92, rfl⟩
abbrev main_v58 : Ref sig .tc := ⟨.hbm, 93, rfl⟩
abbrev main_c_14 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_15 : Ref sig .tc := ⟨.hbm, 101, rfl⟩
abbrev main_v65 : Ref sig .tc := ⟨.hbm, 102, rfl⟩
abbrev main_v66 : Ref sig .tc := ⟨.hbm, 103, rfl⟩
abbrev main_c_16 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_17 : Ref sig .tc := ⟨.hbm, 110, rfl⟩
abbrev main_v72 : Ref sig .tc := ⟨.hbm, 111, rfl⟩
abbrev main_v73 : Ref sig .tc := ⟨.hbm, 112, rfl⟩
abbrev main_c_18 : Ref sig .tc := ⟨.hbm, 113, rfl⟩
abbrev main_c_19 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_v74 : Ref sig .tc := ⟨.hbm, 120, rfl⟩
abbrev main_c_20 : Ref sig .tc := ⟨.hbm, 121, rfl⟩
abbrev main_v75 : Ref sig .tc := ⟨.hbm, 122, rfl⟩
abbrev main_v76 : Ref sig .tc := ⟨.hbm, 123, rfl⟩
abbrev main_c_21 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_c_22 : Ref sig .tc := ⟨.hbm, 132, rfl⟩
abbrev main_call5_v0 : Ref sig .tc := ⟨.hbm, 133, rfl⟩
abbrev main_v84 : Ref sig .tc := ⟨.hbm, 134, rfl⟩
abbrev main_v85 : Ref sig .tc := ⟨.hbm, 135, rfl⟩
abbrev main_c_23 : Ref sig .tc := ⟨.hbm, 136, rfl⟩
abbrev main_call6_v0 : Ref sig .tc := ⟨.hbm, 137, rfl⟩
abbrev main_v86 : Ref sig .tc := ⟨.hbm, 138, rfl⟩
abbrev main_v87 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 3 → Nat :=
  let c0_243 : Index := 0#32
  let arg1 : BitVec 32 := BitVec.ofNat 32 (i 1).val
  let c128_i32 : BitVec 32 := 128#32
  let v0 : BitVec 32 := Scalar.muli arg1 c128_i32
  let v625 : BitVec 32 := v0
  let v626 : Index := Scalar.indexCast v625
  let c0_244 : Index := 0#32
  ![0, v626.toNat, 0]
def k0_off2 (i : grid0.Coords) : Fin 3 → Nat :=
  let c0_276 : Index := 0#32
  let arg1 : BitVec 32 := BitVec.ofNat 32 (i 1).val
  let c128_i32 : BitVec 32 := 128#32
  let v0 : BitVec 32 := Scalar.muli arg1 c128_i32
  let v625 : BitVec 32 := v0
  let v678 : Index := Scalar.indexCast v625
  let c128_277 : Index := 128#32
  ![0, v678.toNat, 128]
def k0_mult2 (i : grid0.Coords) : BitVec 32 :=
  let c128_i32_322 : BitVec 32 := 128#32
  let arg1 : BitVec 32 := BitVec.ofNat 32 (i 1).val
  let c0_i32_321 : BitVec 32 := 0#32
  let v744 : BitVec 32 := Scalar.subi arg1 c0_i32_321
  let v745 : BitVec 32 := Scalar.muli c128_i32_322 v744
  v745
def k0_off3 (i : grid0.Coords) : Fin 3 → Nat :=
  let c0_334 : Index := 0#32
  let c128_i32_322 : BitVec 32 := 128#32
  let arg1 : BitVec 32 := BitVec.ofNat 32 (i 1).val
  let c0_i32_321 : BitVec 32 := 0#32
  let v744 : BitVec 32 := Scalar.subi arg1 c0_i32_321
  let v745 : BitVec 32 := Scalar.muli c128_i32_322 v744
  let v746 : BitVec 32 := v745
  let v775 : Index := Scalar.indexCast v746
  let c0_335 : Index := 0#32
  ![0, v775.toNat, 0]
def k0_off4 (i : grid0.Coords) : Fin 3 → Nat :=
  let c0_363 : Index := 0#32
  let c128_i32_322 : BitVec 32 := 128#32
  let arg1 : BitVec 32 := BitVec.ofNat 32 (i 1).val
  let c0_i32_321 : BitVec 32 := 0#32
  let v744 : BitVec 32 := Scalar.subi arg1 c0_i32_321
  let v745 : BitVec 32 := Scalar.muli c128_i32_322 v744
  let v746 : BitVec 32 := v745
  let v815 : Index := Scalar.indexCast v746
  let c128_364 : Index := 128#32
  ![0, v815.toNat, 128]
@[reducible] def k0_t1_loop (i : grid0.Coords) : Scf.Loop 32 :=
  let c1_i32_408 : BitVec 32 := 1#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v906 : BitVec 32 := Scalar.subi v18 c1_i32_408
  let c1_i32_409 : BitVec 32 := 1#32
  let v908 : BitVec 32 := Scalar.divsi v906 c1_i32_409
  let v909 : BitVec 32 := Scalar.muli v908 c1_i32_409
  let v910 : BitVec 32 := Scalar.addi c1_i32_408 v909
  let c1_i32_410 : BitVec 32 := 1#32
  ⟨c1_i32_408, v910, c1_i32_410⟩
def k0_mult3 (i : grid0.Coords) (k0_t1 : Fin (k0_t1_loop i).trips) : BitVec 32 :=
  let c128_i32_447 : BitVec 32 := 128#32
  let arg1 : BitVec 32 := BitVec.ofNat 32 (i 1).val
  let c4_i32_446 : BitVec 32 := 4#32
  let c1_i32_408 : BitVec 32 := 1#32
  let c1_i32_410 : BitVec 32 := 1#32
  let arg12 : BitVec 32 := Scf.iv c1_i32_408 c1_i32_410 k0_t1
  let v1107 : BitVec 32 := Scalar.muli c4_i32_446 arg12
  let v1108 : BitVec 32 := Scalar.subi arg1 v1107
  let v1109 : BitVec 32 := Scalar.muli c128_i32_447 v1108
  v1109
def k0_off5 (i : grid0.Coords) (k0_t1 : Fin (k0_t1_loop i).trips) : Fin 3 → Nat :=
  let c0_460 : Index := 0#32
  let c128_i32_447 : BitVec 32 := 128#32
  let arg1 : BitVec 32 := BitVec.ofNat 32 (i 1).val
  let c4_i32_446 : BitVec 32 := 4#32
  let c1_i32_408 : BitVec 32 := 1#32
  let c1_i32_410 : BitVec 32 := 1#32
  let arg12 : BitVec 32 := Scf.iv c1_i32_408 c1_i32_410 k0_t1
  let v1107 : BitVec 32 := Scalar.muli c4_i32_446 arg12
  let v1108 : BitVec 32 := Scalar.subi arg1 v1107
  let v1109 : BitVec 32 := Scalar.muli c128_i32_447 v1108
  let v1110 : BitVec 32 := v1109
  let v1139 : Index := Scalar.indexCast v1110
  let c0_461 : Index := 0#32
  ![0, v1139.toNat, 0]
def k0_off6 (i : grid0.Coords) (k0_t1 : Fin (k0_t1_loop i).trips) : Fin 3 → Nat :=
  let c0_464 : Index := 0#32
  let c128_i32_447 : BitVec 32 := 128#32
  let arg1 : BitVec 32 := BitVec.ofNat 32 (i 1).val
  let c4_i32_446 : BitVec 32 := 4#32
  let c1_i32_408 : BitVec 32 := 1#32
  let c1_i32_410 : BitVec 32 := 1#32
  let arg12 : BitVec 32 := Scf.iv c1_i32_408 c1_i32_410 k0_t1
  let v1107 : BitVec 32 := Scalar.muli c4_i32_446 arg12
  let v1108 : BitVec 32 := Scalar.subi arg1 v1107
  let v1109 : BitVec 32 := Scalar.muli c128_i32_447 v1108
  let v1110 : BitVec 32 := v1109
  let v1150 : Index := Scalar.indexCast v1110
  let c128_465 : Index := 128#32
  ![0, v1150.toNat, 128]
@[reducible] def k0_t2_loop (i : grid0.Coords) : Scf.Loop 32 :=
  let c1_i32_408 : BitVec 32 := 1#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v906 : BitVec 32 := Scalar.subi v18 c1_i32_408
  let c1_i32_409 : BitVec 32 := 1#32
  let v908 : BitVec 32 := Scalar.divsi v906 c1_i32_409
  let v909 : BitVec 32 := Scalar.muli v908 c1_i32_409
  let v910 : BitVec 32 := Scalar.addi c1_i32_408 v909
  let v907 : BitVec 32 := Scalar.addi c1_i32_408 v906
  let c1_i32_411 : BitVec 32 := 1#32
  ⟨v910, v907, c1_i32_411⟩
def k0_mult4 (i : grid0.Coords) (k0_t2 : Fin (k0_t2_loop i).trips) : BitVec 32 :=
  let c128_i32_447 : BitVec 32 := 128#32
  let arg1 : BitVec 32 := BitVec.ofNat 32 (i 1).val
  let c4_i32_446 : BitVec 32 := 4#32
  let c1_i32_408 : BitVec 32 := 1#32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v906 : BitVec 32 := Scalar.subi v18 c1_i32_408
  let c1_i32_409 : BitVec 32 := 1#32
  let v908 : BitVec 32 := Scalar.divsi v906 c1_i32_409
  let v909 : BitVec 32 := Scalar.muli v908 c1_i32_409
  let v910 : BitVec 32 := Scalar.addi c1_i32_408 v909
  let c1_i32_411 : BitVec 32 := 1#32
  let arg12 : BitVec 32 := Scf.iv v910 c1_i32_411 k0_t2
  let v1107 : BitVec 32 := Scalar.muli c4_i32_446 arg12
  let v1108 : BitVec 32 := Scalar.subi arg1 v1107
  let v1109 : BitVec 32 := Scalar.muli c128_i32_447 v1108
  v1109
def k0_off7 (i : grid0.Coords) (k0_t2 : Fin (k0_t2_loop i).trips) : Fin 3 → Nat :=
  let c0_460 : Index := 0#32
  let c128_i32_447 : BitVec 32 := 128#32
  let arg1 : BitVec 32 := BitVec.ofNat 32 (i 1).val
  let c4_i32_446 : BitVec 32 := 4#32
  let c1_i32_408 : BitVec 32 := 1#32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v906 : BitVec 32 := Scalar.subi v18 c1_i32_408
  let c1_i32_409 : BitVec 32 := 1#32
  let v908 : BitVec 32 := Scalar.divsi v906 c1_i32_409
  let v909 : BitVec 32 := Scalar.muli v908 c1_i32_409
  let v910 : BitVec 32 := Scalar.addi c1_i32_408 v909
  let c1_i32_411 : BitVec 32 := 1#32
  let arg12 : BitVec 32 := Scf.iv v910 c1_i32_411 k0_t2
  let v1107 : BitVec 32 := Scalar.muli c4_i32_446 arg12
  let v1108 : BitVec 32 := Scalar.subi arg1 v1107
  let v1109 : BitVec 32 := Scalar.muli c128_i32_447 v1108
  let v1110 : BitVec 32 := v1109
  let v1139 : Index := Scalar.indexCast v1110
  let c0_461 : Index := 0#32
  ![0, v1139.toNat, 0]
def k0_off8 (i : grid0.Coords) (k0_t2 : Fin (k0_t2_loop i).trips) : Fin 3 → Nat :=
  let c0_464 : Index := 0#32
  let c128_i32_447 : BitVec 32 := 128#32
  let arg1 : BitVec 32 := BitVec.ofNat 32 (i 1).val
  let c4_i32_446 : BitVec 32 := 4#32
  let c1_i32_408 : BitVec 32 := 1#32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v906 : BitVec 32 := Scalar.subi v18 c1_i32_408
  let c1_i32_409 : BitVec 32 := 1#32
  let v908 : BitVec 32 := Scalar.divsi v906 c1_i32_409
  let v909 : BitVec 32 := Scalar.muli v908 c1_i32_409
  let v910 : BitVec 32 := Scalar.addi c1_i32_408 v909
  let c1_i32_411 : BitVec 32 := 1#32
  let arg12 : BitVec 32 := Scf.iv v910 c1_i32_411 k0_t2
  let v1107 : BitVec 32 := Scalar.muli c4_i32_446 arg12
  let v1108 : BitVec 32 := Scalar.subi arg1 v1107
  let v1109 : BitVec 32 := Scalar.muli c128_i32_447 v1108
  let v1110 : BitVec 32 := v1109
  let v1150 : Index := Scalar.indexCast v1110
  let c128_465 : Index := 128#32
  ![0, v1150.toNat, 128]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8576x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8704x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S768x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S1024 : Shape := ⟨1, ![1024]⟩
abbrev S1024x4444 : Shape := ⟨2, ![1024, 4444]⟩
abbrev S512x1024 : Shape := ⟨2, ![512, 1024]⟩
abbrev S1024x1024 : Shape := ⟨2, ![1024, 1024]⟩
abbrev S8x2 : Shape := ⟨2, ![8, 2]⟩
abbrev S1024x2048 : Shape := ⟨2, ![1024, 2048]⟩
abbrev S8x1x64x1024 : Shape := ⟨4, ![8, 1, 64, 1024]⟩
abbrev S8x2x1x1 : Shape := ⟨4, ![8, 2, 1, 1]⟩
abbrev S8x2x64x1024 : Shape := ⟨4, ![8, 2, 64, 1024]⟩
abbrev S16384x8x1x64 : Shape := ⟨4, ![16384, 8, 1, 64]⟩
abbrev S1x8x2x1 : Shape := ⟨4, ![1, 8, 2, 1]⟩
abbrev S16384x8x2x64 : Shape := ⟨4, ![16384, 8, 2, 64]⟩
abbrev S1x1024 : Shape := ⟨2, ![1, 1024]⟩
abbrev S512 : Shape := ⟨1, ![512]⟩
abbrev S512x1 : Shape := ⟨2, ![512, 1]⟩

abbrev nBuf : Space → Nat
  | .hbm => 45
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024, .f32⟩
  | .hbm, ⟨4, _⟩ => ⟨S1024x4444, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8x2, .f32⟩
  | .hbm, ⟨9, _⟩ => ⟨S8x2, .f32⟩
  | .hbm, ⟨10, _⟩ => ⟨S8x2, .f32⟩
  | .hbm, ⟨11, _⟩ => ⟨S8x2, .f32⟩
  | .hbm, ⟨12, _⟩ => ⟨S1024x2048, .f32⟩
  | .hbm, ⟨13, _⟩ => ⟨S1024x2048, .bf16⟩
  | .hbm, ⟨14, _⟩ => ⟨S8x1x64x1024, .f32⟩
  | .hbm, ⟨15, _⟩ => ⟨S8x2x1x1, .f32⟩
  | .hbm, ⟨16, _⟩ => ⟨S8x2x64x1024, .f32⟩
  | .hbm, ⟨17, _⟩ => ⟨S8x2x64x1024, .f32⟩
  | .hbm, ⟨18, _⟩ => ⟨S8x2x64x1024, .f32⟩
  | .hbm, ⟨19, _⟩ => ⟨S1024x1024, .f32⟩
  | .hbm, ⟨20, _⟩ => ⟨S1024x1024, .bf16⟩
  | .hbm, ⟨21, _⟩ => ⟨S8x1x64x1024, .f32⟩
  | .hbm, ⟨22, _⟩ => ⟨S8x2x1x1, .f32⟩
  | .hbm, ⟨23, _⟩ => ⟨S8x2x64x1024, .f32⟩
  | .hbm, ⟨24, _⟩ => ⟨S8x2x64x1024, .f32⟩
  | .hbm, ⟨25, _⟩ => ⟨S8x2x64x1024, .f32⟩
  | .hbm, ⟨26, _⟩ => ⟨S1024x1024, .f32⟩
  | .hbm, ⟨27, _⟩ => ⟨S1024x1024, .bf16⟩
  | .hbm, ⟨28, _⟩ => ⟨S16384x8x1x64, .f32⟩
  | .hbm, ⟨29, _⟩ => ⟨S1x8x2x1, .f32⟩
  | .hbm, ⟨30, _⟩ => ⟨S16384x8x2x64, .f32⟩
  | .hbm, ⟨31, _⟩ => ⟨S16384x8x2x64, .f32⟩
  | .hbm, ⟨32, _⟩ => ⟨S16384x8x2x64, .f32⟩
  | .hbm, ⟨33, _⟩ => ⟨S16384x1024, .f32⟩
  | .hbm, ⟨34, _⟩ => ⟨S16384x1024, .bf16⟩
  | .hbm, ⟨35, _⟩ => ⟨S16384x8x1x64, .f32⟩
  | .hbm, ⟨36, _⟩ => ⟨S1x8x2x1, .f32⟩
  | .hbm, ⟨37, _⟩ => ⟨S16384x8x2x64, .f32⟩
  | .hbm, ⟨38, _⟩ => ⟨S16384x8x2x64, .f32⟩
  | .hbm, ⟨39, _⟩ => ⟨S16384x8x2x64, .f32⟩
  | .hbm, ⟨40, _⟩ => ⟨S16384x1024, .f32⟩
  | .hbm, ⟨41, _⟩ => ⟨S16384x1024, .bf16⟩
  | .hbm, ⟨42, _⟩ => ⟨S1x1024, .f32⟩
  | .hbm, ⟨43, _⟩ => ⟨S1024x1024, .bf16⟩
  | .hbm, ⟨44, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeIdeal.lean ====
abbrev S16384x1024 : Shape := ⟨2, ![16384, 1024]⟩
abbrev S16384x512 : Shape := ⟨2, ![16384, 512]⟩
abbrev S1024 : Shape := ⟨1, ![1024]⟩
abbrev S1024x4444 : Shape := ⟨2, ![1024, 4444]⟩
abbrev S512x1024 : Shape := ⟨2, ![512, 1024]⟩
abbrev S1024x1024 : Shape := ⟨2, ![1024, 1024]⟩
abbrev S8x2 : Shape := ⟨2, ![8, 2]⟩
abbrev S1024x2048 : Shape := ⟨2, ![1024, 2048]⟩
abbrev S8x1x64x1024 : Shape := ⟨4, ![8, 1, 64, 1024]⟩
abbrev S8x2x1x1 : Shape := ⟨4, ![8, 2, 1, 1]⟩
abbrev S8x2x64x1024 : Shape := ⟨4, ![8, 2, 64, 1024]⟩
abbrev S16384x8x1x64 : Shape := ⟨4, ![16384, 8, 1, 64]⟩
abbrev S1x8x2x1 : Shape := ⟨4, ![1, 8, 2, 1]⟩
abbrev S16384x8x2x64 : Shape := ⟨4, ![16384, 8, 2, 64]⟩
abbrev S1x1024 : Shape := ⟨2, ![1, 1024]⟩
abbrev S512 : Shape := ⟨1, ![512]⟩
abbrev S512x1 : Shape := ⟨2, ![512, 1]⟩

abbrev nBuf : Space → Nat
  | .hbm => 45
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024, .f32⟩
  | .hbm, ⟨4, _⟩ => ⟨S1024x4444, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8x2, .f32⟩
  | .hbm, ⟨9, _⟩ => ⟨S8x2, .f32⟩
  | .hbm, ⟨10, _⟩ => ⟨S8x2, .f32⟩
  | .hbm, ⟨11, _⟩ => ⟨S8x2, .f32⟩
  | .hbm, ⟨12, _⟩ => ⟨S1024x2048, .f32⟩
  | .hbm, ⟨13, _⟩ => ⟨S1024x2048, .bf16⟩
  | .hbm, ⟨14, _⟩ => ⟨S8x1x64x1024, .f32⟩
  | .hbm, ⟨15, _⟩ => ⟨S8x2x1x1, .f32⟩
  | .hbm, ⟨16, _⟩ => ⟨S8x2x64x1024, .f32⟩
  | .hbm, ⟨17, _⟩ => ⟨S8x2x64x1024, .f32⟩
  | .hbm, ⟨18, _⟩ => ⟨S8x2x64x1024, .f32⟩
  | .hbm, ⟨19, _⟩ => ⟨S1024x1024, .f32⟩
  | .hbm, ⟨20, _⟩ => ⟨S1024x1024, .bf16⟩
  | .hbm, ⟨21, _⟩ => ⟨S8x1x64x1024, .f32⟩
  | .hbm, ⟨22, _⟩ => ⟨S8x2x1x1, .f32⟩
  | .hbm, ⟨23, _⟩ => ⟨S8x2x64x1024, .f32⟩
  | .hbm, ⟨24, _⟩ => ⟨S8x2x64x1024, .f32⟩
  | .hbm, ⟨25, _⟩ => ⟨S8x2x64x1024, .f32⟩
  | .hbm, ⟨26, _⟩ => ⟨S1024x1024, .f32⟩
  | .hbm, ⟨27, _⟩ => ⟨S1024x1024, .bf16⟩
  | .hbm, ⟨28, _⟩ => ⟨S16384x8x1x64, .f32⟩
  | .hbm, ⟨29, _⟩ => ⟨S1x8x2x1, .f32⟩
  | .hbm, ⟨30, _⟩ => ⟨S16384x8x2x64, .f32⟩
  | .hbm, ⟨31, _⟩ => ⟨S16384x8x2x64, .f32⟩
  | .hbm, ⟨32, _⟩ => ⟨S16384x8x2x64, .f32⟩
  | .hbm, ⟨33, _⟩ => ⟨S16384x1024, .f32⟩
  | .hbm, ⟨34, _⟩ => ⟨S16384x1024, .bf16⟩
  | .hbm, ⟨35, _⟩ => ⟨S16384x8x1x64, .f32⟩
  | .hbm, ⟨36, _⟩ => ⟨S1x8x2x1, .f32⟩
  | .hbm, ⟨37, _⟩ => ⟨S16384x8x2x64, .f32⟩
  | .hbm, ⟨38, _⟩ => ⟨S16384x8x2x64, .f32⟩
  | .hbm, ⟨39, _⟩ => ⟨S16384x8x2x64, .f32⟩
  | .hbm, ⟨40, _⟩ => ⟨S16384x1024, .f32⟩
  | .hbm, ⟨41, _⟩ => ⟨S16384x1024, .bf16⟩
  | .hbm, ⟨42, _⟩ => ⟨S1x1024, .f32⟩
  | .hbm, ⟨43, _⟩ => ⟨S1024x1024, .bf16⟩
  | .hbm, ⟨44, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S16384x1024 : Shape := ⟨2, ![16384, 1024]⟩
abbrev S16384x512 : Shape := ⟨2, ![16384, 512]⟩
abbrev S1024 : Shape := ⟨1, ![1024]⟩
abbrev S1024x4444 : Shape := ⟨2, ![1024, 4444]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x2048 : Shape := ⟨2, ![1024, 2048]⟩
abbrev S16384x2048 : Shape := ⟨2, ![16384, 2048]⟩
abbrev S16384x2x1024 : Shape := ⟨3, ![16384, 2, 1024]⟩
abbrev S16384x1x1024 : Shape := ⟨3, ![16384, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024, .f32⟩
  | .hbm, ⟨4, _⟩ => ⟨S1024x4444, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1024x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S16384x2x1024, .f32⟩
  | .hbm, ⟨35, _⟩ => ⟨S16384x1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x4444 : Shape := ⟨2, ![1024, 4444]⟩
abbrev S8x2 : Shape := ⟨2, ![8, 2]⟩
abbrev S4x2 : Shape := ⟨2, ![4, 2]⟩
abbrev S1x1024 : Shape := ⟨2, ![1, 1024]⟩
abbrev S1024x512 : Shape := ⟨2, ![1024, 512]⟩
abbrev S1024x8x1x64 : Shape := ⟨4, ![1024, 8, 1, 64]⟩
abbrev S1x8x2x1 : Shape := ⟨4, ![1, 8, 2, 1]⟩
abbrev S1024x8x2x64 : Shape := ⟨4, ![1024, 8, 2, 64]⟩
abbrev S1024x1024 : Shape := ⟨2, ![1024, 1024]⟩
abbrev S1024x256 : Shape := ⟨2, ![1024, 256]⟩
abbrev S1024x4x1x64 : Shape := ⟨4, ![1024, 4, 1, 64]⟩
abbrev S1x4x2x1 : Shape := ⟨4, ![1, 4, 2, 1]⟩
abbrev S1024x4x2x64 : Shape := ⟨4, ![1024, 4, 2, 64]⟩
abbrev S1024x64 : Shape := ⟨2, ![1024, 64]⟩
abbrev S_ : Shape := ⟨0, ![]⟩
abbrev S1024x4 : Shape := ⟨2, ![1024, 4]⟩
abbrev S1024x24 : Shape := ⟨2, ![1024, 24]⟩
abbrev S1024x100 : Shape := ⟨2, ![1024, 100]⟩
abbrev S1024x3840 : Shape := ⟨2, ![1024, 3840]⟩
abbrev S1024x2048 : Shape := ⟨2, ![1024, 2048]⟩
abbrev S16384x512 : Shape := ⟨2, ![16384, 512]⟩
abbrev S16384x128 : Shape := ⟨2, ![16384, 128]⟩
abbrev S16384x256 : Shape := ⟨2, ![16384, 256]⟩
abbrev S16384x64 : Shape := ⟨2, ![16384, 64]⟩
abbrev S512x1024 : Shape := ⟨2, ![512, 1024]⟩
abbrev S512x512 : Shape := ⟨2, ![512, 512]⟩
abbrev S512x128 : Shape := ⟨2, ![512, 128]⟩
abbrev S512x256 : Shape := ⟨2, ![512, 256]⟩
abbrev S512x64 : Shape := ⟨2, ![512, 64]⟩
abbrev S512 : Shape := ⟨1, ![512]⟩
abbrev S512x1 : Shape := ⟨2, ![512, 1]⟩
abbrev S1024x128 : Shape := ⟨2, ![1024, 128]⟩
abbrev S2x8192x2x2x64 : Shape := ⟨5, ![2, 8192, 2, 2, 64]⟩
abbrev S2x512x2x2x64 : Shape := ⟨5, ![2, 512, 2, 2, 64]⟩

abbrev nBuf : Space → Nat
  | .hbm => 58
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4444, .f32⟩
  | .hbm, ⟨3, _⟩ => ⟨S8x2, .f32⟩
  | .hbm, ⟨4, _⟩ => ⟨S8x2, .f32⟩
  | .hbm, ⟨5, _⟩ => ⟨S4x2, .f32⟩
  | .hbm, ⟨6, _⟩ => ⟨S1x1024, .f32⟩
  | .hbm, ⟨7, _⟩ => ⟨S1024x512, .f32⟩
  | .hbm, ⟨8, _⟩ => ⟨S1024x8x1x64, .f32⟩
  | .hbm, ⟨9, _⟩ => ⟨S1x8x2x1, .f32⟩
  | .hbm, ⟨10, _⟩ => ⟨S1024x8x2x64, .f32⟩
  | .hbm, ⟨11, _⟩ => ⟨S1024x8x2x64, .f32⟩
  | .hbm, ⟨12, _⟩ => ⟨S1024x8x2x64, .f32⟩
  | .hbm, ⟨13, _⟩ => ⟨S1024x1024, .f32⟩
  | .hbm, ⟨14, _⟩ => ⟨S1024x512, .f32⟩
  | .hbm, ⟨15, _⟩ => ⟨S1024x8x1x64, .f32⟩
  | .hbm, ⟨16, _⟩ => ⟨S1x8x2x1, .f32⟩
  | .hbm, ⟨17, _⟩ => ⟨S1024x8x2x64, .f32⟩
  | .hbm, ⟨18, _⟩ => ⟨S1024x8x2x64, .f32⟩
  | .hbm, ⟨19, _⟩ => ⟨S1024x8x2x64, .f32⟩
  | .hbm, ⟨20, _⟩ => ⟨S1024x1024, .f32⟩
  | .hbm, ⟨21, _⟩ => ⟨S1024x256, .f32⟩
  | .hbm, ⟨22, _⟩ => ⟨S1024x4x1x64, .f32⟩
  | .hbm, ⟨23, _⟩ => ⟨S1x4x2x1, .f32⟩
  | .hbm, ⟨24, _⟩ => ⟨S1024x4x2x64, .f32⟩
  | .hbm, ⟨25, _⟩ => ⟨S1024x4x2x64, .f32⟩
  | .hbm, ⟨26, _⟩ => ⟨S1024x4x2x64, .f32⟩
  | .hbm, ⟨27, _⟩ => ⟨S1024x512, .f32⟩
  | .hbm, ⟨28, _⟩ => ⟨S1024x64, .f32⟩
  | .hbm, ⟨29, _⟩ => ⟨S_, .f32⟩
  | .hbm, ⟨30, _⟩ => ⟨S1024x64, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S1024x4, .f32⟩
  | .hbm, ⟨36, _⟩ => ⟨S1024x24, .f32⟩
  | .hbm, ⟨37, _⟩ => ⟨S_, .f32⟩
  | .hbm, ⟨38, _⟩ => ⟨S1024x100, .f32⟩
  | .hbm, ⟨39, _⟩ => ⟨S1024x3840, .f32⟩
  | .hbm, ⟨40, _⟩ => ⟨S1024x3840, .bf16⟩
  | .hbm, ⟨41, _⟩ => ⟨S1024x2048, .f32⟩
  | .hbm, ⟨42, _⟩ => ⟨S1024x2048, .bf16⟩
  | .hbm, ⟨43, _⟩ => ⟨S16384x1024, .bf16⟩
  | .hbm, ⟨44, _⟩ => ⟨S16384x1024, .bf16⟩
  | .hbm, ⟨45, _⟩ => ⟨S16384x512, .bf16⟩
  | .hbm, ⟨46, _⟩ => ⟨S16384x128, .bf16⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S16384x256, .f32⟩
  | .hbm, ⟨51, _⟩ => ⟨S16384x128, .f32⟩
  | .hbm, ⟨52, _⟩ => ⟨S16384x64, .f32⟩
  | .hbm, ⟨53, _⟩ => ⟨S16384x256, .bf16⟩
  | .hbm, ⟨54, _⟩ => ⟨S16384x256, .bf16⟩
  | .hbm, ⟨55, _⟩ => ⟨S16384x256, .bf16⟩
  | .hbm, ⟨56, _⟩ => ⟨S2x8192x2x2x64, .f32⟩
  | .hbm, ⟨57, _⟩ => ⟨S2x512x2x2x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x128, .bf16⟩
  | .local _ .vmem, ⟨11, _⟩ => ⟨S512x128, .bf16⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x128, .f32⟩
  | .local _ .vmem, ⟨21, _⟩ => ⟨S512x128, .f32⟩
  | .local _ .vmem, ⟨22, _⟩ => ⟨S512x64, .f32⟩
  | .local _ .vmem, ⟨23, _⟩ => ⟨S512x64, .f32⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev main_v35_2 : Ref sig .tc := ⟨.hbm, 45, rfl⟩
abbrev main_v35_3 : Ref sig .tc := ⟨.hbm, 46, rfl⟩
abbrev main_v35_4 : Ref sig .tc := ⟨.hbm, 47, rfl⟩
abbrev main_v35_5 : Ref sig .tc := ⟨.hbm, 48, rfl⟩
abbrev main_v35_6 : Ref sig .tc := ⟨.hbm, 49, rfl⟩
abbrev main_v35_7 : Ref sig .tc := ⟨.hbm, 50, rfl⟩
abbrev main_v35_8 : Ref sig .tc := ⟨.hbm, 51, rfl⟩
abbrev main_v35_9 : Ref sig .tc := ⟨.hbm, 52, rfl⟩
abbrev main_v35_10 : Ref sig .tc := ⟨.hbm, 53, rfl⟩
abbrev main_v35_11 : Ref sig .tc := ⟨.hbm, 54, rfl⟩
abbrev main_v35_12 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRefIdeal.lean ====
abbrev S16384x1024 : Shape := ⟨2, ![16384, 1024]⟩
abbrev S1024 : Shape := ⟨1, ![1024]⟩
abbrev S1024x4444 : Shape := ⟨2, ![1024, 4444]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4444 : Shape := ⟨2, ![16384, 4444]⟩
abbrev S16384x512 : Shape := ⟨2, ![16384, 512]⟩
abbrev S16384x256 : Shape := ⟨2, ![16384, 256]⟩
abbrev S16384x24 : Shape := ⟨2, ![16384, 24]⟩
abbrev S16384x64 : Shape := ⟨2, ![16384, 64]⟩
abbrev S16384x4 : Shape := ⟨2, ![16384, 4]⟩
abbrev S16384x2048 : Shape := ⟨2, ![16384, 2048]⟩
abbrev S16384x2x4x64 : Shape := ⟨4, ![16384, 2, 4, 64]⟩
abbrev S16384x1x4x64 : Shape := ⟨4, ![16384, 1, 4, 64]⟩
abbrev S16384x4x64 : Shape := ⟨3, ![16384, 4, 64]⟩
abbrev S16384x4x128 : Shape := ⟨3, ![16384, 4, 128]⟩
abbrev S16384x1x4x128 : Shape := ⟨4, ![16384, 1, 4, 128]⟩
abbrev S16384x2x4x128 : Shape := ⟨4, ![16384, 2, 4, 128]⟩
abbrev S16384x1x64 : Shape := ⟨3, ![16384, 1, 64]⟩
abbrev S16384x1x128 : Shape := ⟨3, ![16384, 1, 128]⟩
abbrev S16384x128 : Shape := ⟨2, ![16384, 128]⟩
abbrev S16384x28 : Shape := ⟨2, ![16384, 28]⟩
abbrev S2x8192x2x2x64 : Shape := ⟨5, ![2, 8192, 2, 2, 64]⟩
abbrev S2x512x2x2x64 : Shape := ⟨5, ![2, 512, 2, 2, 64]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4444, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4444, .f32⟩
  | .hbm, ⟨20, _⟩ => ⟨S16384x512, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S16384x24, .f32⟩
  | .hbm, ⟨25, _⟩ => ⟨S16384x512, .f32⟩
  | .hbm, ⟨26, _⟩ => ⟨S16384x256, .f32⟩
  | .hbm, ⟨27, _⟩ => ⟨S16384x256, .f32⟩
  | .hbm, ⟨28, _⟩ => ⟨S16384x64, .f32⟩
  | .hbm, ⟨29, _⟩ => ⟨S16384x4, .f32⟩
  | .hbm, ⟨30, _⟩ => ⟨S16384x2048, .f32⟩
  | .hbm, ⟨31, _⟩ => ⟨S16384x2x4x64, .f32⟩
  | .hbm, ⟨32, _⟩ => ⟨S16384x1x4x64, .f32⟩
  | .hbm, ⟨33, _⟩ => ⟨S16384x4x64, .f32⟩
  | .hbm, ⟨34, _⟩ => ⟨S_, .i32⟩
  | .hbm, ⟨35, _⟩ => ⟨S_, .f32⟩
  | .hbm, ⟨36, _⟩ => ⟨S16384x4x128, .f32⟩
  | .hbm, ⟨37, _⟩ => ⟨S16384x2x4x64, .f32⟩
  | .hbm, ⟨38, _⟩ => ⟨S16384x1x4x64, .f32⟩
  | .hbm, ⟨39, _⟩ => ⟨S16384x4x64, .f32⟩
  | .hbm, ⟨40, _⟩ => ⟨S_, .i32⟩
  | .hbm, ⟨41, _⟩ => ⟨S_, .f32⟩
  | .hbm, ⟨42, _⟩ => ⟨S16384x4x128, .f32⟩
  | .hbm, ⟨43, _⟩ => ⟨S16384x1x4x128, .f32⟩
  | .hbm, ⟨44, _⟩ => ⟨S16384x1x4x128, .f32⟩
  | .hbm, ⟨45, _⟩ => ⟨S16384x2x4x128, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .bf16⟩
  | .hbm, ⟨51, _⟩ => ⟨S16384x2x4x64, .f32⟩
  | .hbm, ⟨52, _⟩ => ⟨S16384x1x4x64, .f32⟩
  | .hbm, ⟨53, _⟩ => ⟨S16384x4x64, .f32⟩
  | .hbm, ⟨54, _⟩ => ⟨S_, .i32⟩
  | .hbm, ⟨55, _⟩ => ⟨S_, .f32⟩
  | .hbm, ⟨56, _⟩ => ⟨S16384x4x128, .f32⟩
  | .hbm, ⟨57, _⟩ => ⟨S16384x2x4x64, .f32⟩
  | .hbm, ⟨58, _⟩ => ⟨S16384x1x4x64, .f32⟩
  | .hbm, ⟨59, _⟩ => ⟨S16384x4x64, .f32⟩
  | .hbm, ⟨60, _⟩ => ⟨S_, .i32⟩
  | .hbm, ⟨61, _⟩ => ⟨S_, .f32⟩
  | .hbm, ⟨62, _⟩ => ⟨S16384x4x128, .f32⟩
  | .hbm, ⟨63, _⟩ => ⟨S16384x1x4x128, .f32⟩
  | .hbm, ⟨64, _⟩ => ⟨S16384x1x4x128, .f32⟩
  | .hbm, ⟨65, _⟩ => ⟨S16384x2x4x128, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S16384x1024, .bf16⟩
  | .hbm, ⟨71, _⟩ => ⟨S16384x4x64, .f32⟩
  | .hbm, ⟨72, _⟩ => ⟨S_, .i32⟩
  | .hbm, ⟨73, _⟩ => ⟨S_, .f32⟩
  | .hbm, ⟨74, _⟩ => ⟨S16384x4x128, .f32⟩
  | .hbm, ⟨75, _⟩ => ⟨S16384x512, .f32⟩
  | .hbm, ⟨76, _⟩ => ⟨S16384x512, .bf16⟩
  | .hbm, ⟨77, _⟩ => ⟨S16384x1x64, .f32⟩
  | .hbm, ⟨78, _⟩ => ⟨S_, .i32⟩
  | .hbm, ⟨79, _⟩ => ⟨S_, .f32⟩
  | .hbm, ⟨80, _⟩ => ⟨S16384x1x128, .f32⟩
  | .hbm, ⟨81, _⟩ => ⟨S16384x128, .f32⟩
  | .hbm, ⟨82, _⟩ => ⟨S16384x128, .bf16⟩
  | .hbm, ⟨83, _⟩ => ⟨S16384x28, .f32⟩
  | .hbm, ⟨84, _⟩ => ⟨S_, .i32⟩
  | .hbm, ⟨85, _⟩ => ⟨S_, .f32⟩
  | .hbm, ⟨86, _⟩ => ⟨S16384x128, .f32⟩
  | .hbm, ⟨87, _⟩ => ⟨S16384x256, .bf16⟩
  | .hbm, ⟨88, _⟩ => ⟨S16384x256, .bf16⟩
  | .hbm, ⟨89, _⟩ => ⟨S16384x256, .bf16⟩
  | .hbm, ⟨90, _⟩ => ⟨S2x8192x2x2x64, .f32⟩
  | .hbm, ⟨91, _⟩ => ⟨S2x512x2x2x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_call0_v0 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_call1_v0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_4 : Ref sig .tc := ⟨.hbm, 54, rfl⟩
abbrev main_call2_v0 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_5 : Ref sig .tc := ⟨.hbm, 60, rfl⟩
abbrev main_call3_v0 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_7 : Ref sig .tc := ⟨.hbm, 72, rfl⟩
abbrev main_call4_v0 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_8 : Ref sig .tc := ⟨.hbm, 78, rfl⟩
abbrev main_call5_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_9 : Ref sig .tc := ⟨.hbm, 84, rfl⟩
abbrev main_call6_v0 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== FfnS.lean ====
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== FfnSRefIdeal.lean ====
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x2816 : Shape := ⟨2, ![512, 2816]⟩

abbrev nBuf : Space → Nat
  | .hbm => 52
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1024, .f32⟩
  | .hbm, ⟨18, _⟩ => ⟨S512x1024, .f32⟩
  | .hbm, ⟨19, _⟩ => ⟨S1x1024, .f32⟩
  | .hbm, ⟨20, _⟩ => ⟨S512x1024, .f32⟩
  | .hbm, ⟨21, _⟩ => ⟨S512x1024, .f32⟩
  | .hbm, ⟨22, _⟩ => ⟨S512x2816, .f32⟩
  | .hbm, ⟨23, _⟩ => ⟨S512x2816, .f32⟩
  | .hbm, ⟨24, _⟩ => ⟨S512x2816, .f32⟩
  | .hbm, ⟨25, _⟩ => ⟨S_, .f32⟩
  | .hbm, ⟨26, _⟩ => ⟨S512x2816, .f32⟩
  | .hbm, ⟨27, _⟩ => ⟨S512x2816, .f32⟩
  | .hbm, ⟨28, _⟩ => ⟨S_, .f32⟩
  | .hbm, ⟨29, _⟩ => ⟨S512x2816, .f32⟩
  | .hbm, ⟨30, _⟩ => ⟨S512x2816, .f32⟩
  | .hbm, ⟨31, _⟩ => ⟨S512x2816, .f32⟩
  | .hbm, ⟨32, _⟩ => ⟨S512x2816, .f32⟩
  | .hbm, ⟨33, _⟩ => ⟨S512x2816, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512, .f32⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S_, .f32⟩
  | .hbm, ⟨44, _⟩ => ⟨S512x1, .f32⟩
  | .hbm, ⟨45, _⟩ => ⟨S512x1, .f32⟩
  | .hbm, ⟨46, _⟩ => ⟨S512x1, .f32⟩
  | .hbm, ⟨47, _⟩ => ⟨S512x1024, .f32⟩
  | .hbm, ⟨48, _⟩ => ⟨S512x1024, .f32⟩
  | .hbm, ⟨49, _⟩ => ⟨S1x1024, .f32⟩
  | .hbm, ⟨50, _⟩ => ⟨S512x1024, .f32⟩
  | .hbm, ⟨51, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== MergeS.lean ====
abbrev S512x1024 : Shape := ⟨2, ![512, 1024]⟩
abbrev S512x512 : Shape := ⟨2, ![512, 512]⟩
abbrev S1024 : Shape := ⟨1, ![1024]⟩
abbrev S1024x4444 : Shape := ⟨2, ![1024, 4444]⟩
abbrev S1024x1024 : Shape := ⟨2, ![1024, 1024]⟩
abbrev S8x2 : Shape := ⟨2, ![8, 2]⟩
abbrev S1024x2048 : Shape := ⟨2, ![1024, 2048]⟩
abbrev S8x1x64x1024 : Shape := ⟨4, ![8, 1, 64, 1024]⟩
abbrev S8x2x1x1 : Shape := ⟨4, ![8, 2, 1, 1]⟩
abbrev S8x2x64x1024 : Shape := ⟨4, ![8, 2, 64, 1024]⟩
abbrev S512x8x1x64 : Shape := ⟨4, ![512, 8, 1, 64]⟩
abbrev S1x8x2x1 : Shape := ⟨4, ![1, 8, 2, 1]⟩
abbrev S512x8x2x64 : Shape := ⟨4, ![512, 8, 2, 64]⟩
abbrev S1x1024 : Shape := ⟨2, ![1, 1024]⟩
abbrev S512 : Shape := ⟨1, ![512]⟩
abbrev S512x1 : Shape := ⟨2, ![512, 1]⟩

abbrev nBuf : Space → Nat
  | .hbm => 45
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S1024, .f32⟩
  | .hbm, ⟨4, _⟩ => ⟨S1024x4444, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8x2, .f32⟩
  | .hbm, ⟨9, _⟩ => ⟨S8x2, .f32⟩
  | .hbm, ⟨10, _⟩ => ⟨S8x2, .f32⟩
  | .hbm, ⟨11, _⟩ => ⟨S8x2, .f32⟩
  | .hbm, ⟨12, _⟩ => ⟨S1024x2048, .f32⟩
  | .hbm, ⟨13, _⟩ => ⟨S1024x2048, .bf16⟩
  | .hbm, ⟨14, _⟩ => ⟨S8x1x64x1024, .f32⟩
  | .hbm, ⟨15, _⟩ => ⟨S8x2x1x1, .f32⟩
  | .hbm, ⟨16, _⟩ => ⟨S8x2x64x1024, .f32⟩
  | .hbm, ⟨17, _⟩ => ⟨S8x2x64x1024, .f32⟩
  | .hbm, ⟨18, _⟩ => ⟨S8x2x64x1024, .f32⟩
  | .hbm, ⟨19, _⟩ => ⟨S1024x1024, .f32⟩
  | .hbm, ⟨20, _⟩ => ⟨S1024x1024, .bf16⟩
  | .hbm, ⟨21, _⟩ => ⟨S8x1x64x1024, .f32⟩
  | .hbm, ⟨22, _⟩ => ⟨S8x2x1x1, .f32⟩
  | .hbm, ⟨23, _⟩ => ⟨S8x2x64x1024, .f32⟩
  | .hbm, ⟨24, _⟩ => ⟨S8x2x64x1024, .f32⟩
  | .hbm, ⟨25, _⟩ => ⟨S8x2x64x1024, .f32⟩
  | .hbm, ⟨26, _⟩ => ⟨S1024x1024, .f32⟩
  | .hbm, ⟨27, _⟩ => ⟨S1024x1024, .bf16⟩
  | .hbm, ⟨28, _⟩ => ⟨S512x8x1x64, .f32⟩
  | .hbm, ⟨29, _⟩ => ⟨S1x8x2x1, .f32⟩
  | .hbm, ⟨30, _⟩ => ⟨S512x8x2x64, .f32⟩
  | .hbm, ⟨31, _⟩ => ⟨S512x8x2x64, .f32⟩
  | .hbm, ⟨32, _⟩ => ⟨S512x8x2x64, .f32⟩
  | .hbm, ⟨33, _⟩ => ⟨S512x1024, .f32⟩
  | .hbm, ⟨34, _⟩ => ⟨S512x1024, .bf16⟩
  | .hbm, ⟨35, _⟩ => ⟨S512x8x1x64, .f32⟩
  | .hbm, ⟨36, _⟩ => ⟨S1x8x2x1, .f32⟩
  | .hbm, ⟨37, _⟩ => ⟨S512x8x2x64, .f32⟩
  | .hbm, ⟨38, _⟩ => ⟨S512x8x2x64, .f32⟩
  | .hbm, ⟨39, _⟩ => ⟨S512x8x2x64, .f32⟩
  | .hbm, ⟨40, _⟩ => ⟨S512x1024, .f32⟩
  | .hbm, ⟨41, _⟩ => ⟨S512x1024, .bf16⟩
  | .hbm, ⟨42, _⟩ => ⟨S1x1024, .f32⟩
  | .hbm, ⟨43, _⟩ => ⟨S1024x1024, .bf16⟩
  | .hbm, ⟨44, _⟩ => ⟨S512x1024, .f32⟩
  | .local _ .vmem, ⟨0, _⟩ => ⟨S512x1024, .f32⟩
  | .local _ .vmem, ⟨1, _⟩ => ⟨S512x1024, .bf16⟩
  | .local _ .vmem, ⟨2, _⟩ => ⟨S512x1024, .bf16⟩
  | .local _ .vmem, ⟨3, _⟩ => ⟨S1x1024, .f32⟩
  | .local _ .vmem, ⟨4, _⟩ => ⟨S1024x2048, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== MergeSRefIdeal.lean ====
abbrev S512x1024 : Shape := ⟨2, ![512, 1024]⟩
abbrev S512x512 : Shape := ⟨2, ![512, 512]⟩
abbrev S1024 : Shape := ⟨1, ![1024]⟩
abbrev S1024x4444 : Shape := ⟨2, ![1024, 4444]⟩
abbrev S1024x1024 : Shape := ⟨2, ![1024, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S1024x2048 : Shape := ⟨2, ![1024, 2048]⟩
abbrev S512x2048 : Shape := ⟨2, ![512, 2048]⟩
abbrev S512x2x1024 : Shape := ⟨3, ![512, 2, 1024]⟩
abbrev S512x1x1024 : Shape := ⟨3, ![512, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S1024, .f32⟩
  | .hbm, ⟨4, _⟩ => ⟨S1024x4444, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S512x1024, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x1024, .f32⟩
  | .hbm, ⟨20, _⟩ => ⟨S512x1024, .f32⟩
  | .hbm, ⟨21, _⟩ => ⟨S1x1024, .f32⟩
  | .hbm, ⟨22, _⟩ => ⟨S512x1024, .f32⟩
  | .hbm, ⟨23, _⟩ => ⟨S512x1024, .f32⟩
  | .hbm, ⟨24, _⟩ => ⟨S1024x2048, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S512x2x1024, .f32⟩
  | .hbm, ⟨35, _⟩ => ⟨S512x1x1024, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S512x1x1024, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S512x1024, .f32⟩
  | .hbm, ⟨44, _⟩ => ⟨S512x1024, .f32⟩
  | .hbm, ⟨45, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== ProjS.lean ====
abbrev S512x1024 : Shape := ⟨2, ![512, 1024]⟩
abbrev S1024 : Shape := ⟨1, ![1024]⟩
abbrev S1024x4444 : Shape := ⟨2, ![1024, 4444]⟩
abbrev S128x512x2x2x64 : Shape := ⟨5, ![128, 512, 2, 2, 64]⟩
abbrev S8x2 : Shape := ⟨2, ![8, 2]⟩
abbrev S4x2 : Shape := ⟨2, ![4, 2]⟩
abbrev S1x1024 : Shape := ⟨2, ![1, 1024]⟩
abbrev S1024x512 : Shape := ⟨2, ![1024, 512]⟩
abbrev S1024x8x1x64 : Shape := ⟨4, ![1024, 8, 1, 64]⟩
abbrev S1x8x2x1 : Shape := ⟨4, ![1, 8, 2, 1]⟩
abbrev S1024x8x2x64 : Shape := ⟨4, ![1024, 8, 2, 64]⟩
abbrev S1024x1024 : Shape := ⟨2, ![1024, 1024]⟩
abbrev S1024x256 : Shape := ⟨2, ![1024, 256]⟩
abbrev S1024x4x1x64 : Shape := ⟨4, ![1024, 4, 1, 64]⟩
abbrev S1x4x2x1 : Shape := ⟨4, ![1, 4, 2, 1]⟩
abbrev S1024x4x2x64 : Shape := ⟨4, ![1024, 4, 2, 64]⟩
abbrev S1024x64 : Shape := ⟨2, ![1024, 64]⟩
abbrev S_ : Shape := ⟨0, ![]⟩
abbrev S1024x4 : Shape := ⟨2, ![1024, 4]⟩
abbrev S1024x24 : Shape := ⟨2, ![1024, 24]⟩
abbrev S1024x100 : Shape := ⟨2, ![1024, 100]⟩
abbrev S1024x3840 : Shape := ⟨2, ![1024, 3840]⟩
abbrev S1024x2048 : Shape := ⟨2, ![1024, 2048]⟩
abbrev S512x512 : Shape := ⟨2, ![512, 512]⟩
abbrev S512x128 : Shape := ⟨2, ![512, 128]⟩
abbrev S512x256 : Shape := ⟨2, ![512, 256]⟩
abbrev S512x64 : Shape := ⟨2, ![512, 64]⟩
abbrev S512 : Shape := ⟨1, ![512]⟩
abbrev S512x1 : Shape := ⟨2, ![512, 1]⟩
abbrev S1024x128 : Shape := ⟨2, ![1024, 128]⟩
abbrev S128x4x2x2x64 : Shape := ⟨5, ![128, 4, 2, 2, 64]⟩
abbrev S128x516x2x2x64 : Shape := ⟨5, ![128, 516, 2, 2, 64]⟩

abbrev nBuf : Space → Nat
  | .hbm => 60
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x4444, .f32⟩
  | .hbm, ⟨3, _⟩ => ⟨S128x512x2x2x64, .f32⟩
  | .hbm, ⟨4, _⟩ => ⟨S8x2, .f32⟩
  | .hbm, ⟨5, _⟩ => ⟨S8x2, .f32⟩
  | .hbm, ⟨6, _⟩ => ⟨S4x2, .f32⟩
  | .hbm, ⟨7, _⟩ => ⟨S1x1024, .f32⟩
  | .hbm, ⟨8, _⟩ => ⟨S1024x512, .f32⟩
  | .hbm, ⟨9, _⟩ => ⟨S1024x8x1x64, .f32⟩
  | .hbm, ⟨10, _⟩ => ⟨S1x8x2x1, .f32⟩
  | .hbm, ⟨11, _⟩ => ⟨S1024x8x2x64, .f32⟩
  | .hbm, ⟨12, _⟩ => ⟨S1024x8x2x64, .f32⟩
  | .hbm, ⟨13, _⟩ => ⟨S1024x8x2x64, .f32⟩
  | .hbm, ⟨14, _⟩ => ⟨S1024x1024, .f32⟩
  | .hbm, ⟨15, _⟩ => ⟨S1024x512, .f32⟩
  | .hbm, ⟨16, _⟩ => ⟨S1024x8x1x64, .f32⟩
  | .hbm, ⟨17, _⟩ => ⟨S1x8x2x1, .f32⟩
  | .hbm, ⟨18, _⟩ => ⟨S1024x8x2x64, .f32⟩
  | .hbm, ⟨19, _⟩ => ⟨S1024x8x2x64, .f32⟩
  | .hbm, ⟨20, _⟩ => ⟨S1024x8x2x64, .f32⟩
  | .hbm, ⟨21, _⟩ => ⟨S1024x1024, .f32⟩
  | .hbm, ⟨22, _⟩ => ⟨S1024x256, .f32⟩
  | .hbm, ⟨23, _⟩ => ⟨S1024x4x1x64, .f32⟩
  | .hbm, ⟨24, _⟩ => ⟨S1x4x2x1, .f32⟩
  | .hbm, ⟨25, _⟩ => ⟨S1024x4x2x64, .f32⟩
  | .hbm, ⟨26, _⟩ => ⟨S1024x4x2x64, .f32⟩
  | .hbm, ⟨27, _⟩ => ⟨S1024x4x2x64, .f32⟩
  | .hbm, ⟨28, _⟩ => ⟨S1024x512, .f32⟩
  | .hbm, ⟨29, _⟩ => ⟨S1024x64, .f32⟩
  | .hbm, ⟨30, _⟩ => ⟨S_, .f32⟩
  | .hbm, ⟨31, _⟩ => ⟨S1024x64, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S1024x4, .f32⟩
  | .hbm, ⟨37, _⟩ => ⟨S1024x24, .f32⟩
  | .hbm, ⟨38, _⟩ => ⟨S_, .f32⟩
  | .hbm, ⟨39, _⟩ => ⟨S1024x100, .f32⟩
  | .hbm, ⟨40, _⟩ => ⟨S1024x3840, .f32⟩
  | .hbm, ⟨41, _⟩ => ⟨S1024x3840, .bf16⟩
  | .hbm, ⟨42, _⟩ => ⟨S1024x2048, .f32⟩
  | .hbm, ⟨43, _⟩ => ⟨S1024x2048, .bf16⟩
  | .hbm, ⟨44, _⟩ => ⟨S512x1024, .bf16⟩
  | .hbm, ⟨45, _⟩ => ⟨S512x1024, .bf16⟩
  | .hbm, ⟨46, _⟩ => ⟨S512x512, .bf16⟩
  | .hbm, ⟨47, _⟩ => ⟨S512x128, .bf16⟩
  | .hbm, ⟨48, _⟩ => ⟨S512x256, .f32⟩
  | .hbm, ⟨49, _⟩ => ⟨S512x256, .f32⟩
  | .hbm, ⟨50, _⟩ => ⟨S512x256, .f32⟩
  | .hbm, ⟨51, _⟩ => ⟨S512x256, .f32⟩
  | .hbm, ⟨52, _⟩ => ⟨S512x128, .f32⟩
  | .hbm, ⟨53, _⟩ => ⟨S512x64, .f32⟩
  | .hbm, ⟨54, _⟩ => ⟨S512x256, .bf16⟩
  | .hbm, ⟨55, _⟩ => ⟨S512x256, .bf16⟩
  | .hbm, ⟨56, _⟩ => ⟨S512x256, .bf16⟩
  | .hbm, ⟨57, _⟩ => ⟨S128x4x2x2x64, .f32⟩
  | .hbm, ⟨58, _⟩ => ⟨S128x516x2x2x64, .f32⟩
  | .hbm, ⟨59, _⟩ => ⟨S128x512x2x2x64, .f32⟩
  | .local _ .vmem, ⟨0, _⟩ => ⟨S512x1024, .f32⟩
  | .local _ .vmem, ⟨1, _⟩ => ⟨S1x1024, .f32⟩
  | .local _ .vmem, ⟨2, _⟩ => ⟨S1024x3840, .bf16⟩
  | .local _ .vmem, ⟨3, _⟩ => ⟨S512x1024, .bf16⟩
  | .local _ .vmem, ⟨4, _⟩ => ⟨S512x1024, .bf16⟩
  | .local _ .vmem, ⟨5, _⟩ => ⟨S512x512, .bf16⟩
  | .local _ .vmem, ⟨6, _⟩ => ⟨S512x128, .bf16⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x128, .f32⟩
  | .local _ .vmem, ⟨12, _⟩ => ⟨S512x64, .f32⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35_0 : Ref sig .tc := ⟨.hbm, 44, rfl⟩
abbrev main_v35_1 : Ref sig .tc := ⟨.hbm, 45, rfl⟩
abbrev main_v35_2 : Ref sig .tc := ⟨.hbm, 46, rfl⟩
abbrev main_v35_3 : Ref sig .tc := ⟨.hbm, 47, rfl⟩
abbrev main_v35_4 : Ref sig .tc := ⟨.hbm, 48, rfl⟩
abbrev main_v35_5 : Ref sig .tc := ⟨.hbm, 49, rfl⟩
abbrev main_v35_6 : Ref sig .tc := ⟨.hbm, 50, rfl⟩
abbrev main_v35_7 : Ref sig .tc := ⟨.hbm, 51, rfl⟩
abbrev main_v35_8 : Ref sig .tc := ⟨.hbm, 52, rfl⟩
abbrev main_v35_9 : Ref sig .tc := ⟨.hbm, 53, rfl⟩
abbrev main_v35_10 : Ref sig .tc := ⟨.hbm, 54, rfl⟩
abbrev main_v35_11 : Ref sig .tc := ⟨.hbm, 55, rfl⟩
abbrev main_v35_12 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== ProjSRefIdeal.lean ====
abbrev S512x1024 : Shape := ⟨2, ![512, 1024]⟩
abbrev S1024 : Shape := ⟨1, ![1024]⟩
abbrev S1024x4444 : Shape := ⟨2, ![1024, 4444]⟩
abbrev S128x512x2x2x64 : Shape := ⟨5, ![128, 512, 2, 2, 64]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x4444 : Shape := ⟨2, ![512, 4444]⟩
abbrev S512x512 : Shape := ⟨2, ![512, 512]⟩
abbrev S512x256 : Shape := ⟨2, ![512, 256]⟩
abbrev S512x24 : Shape := ⟨2, ![512, 24]⟩
abbrev S512x64 : Shape := ⟨2, ![512, 64]⟩
abbrev S512x4 : Shape := ⟨2, ![512, 4]⟩
abbrev S512x2048 : Shape := ⟨2, ![512, 2048]⟩
abbrev S512x2x4x64 : Shape := ⟨4, ![512, 2, 4, 64]⟩
abbrev S512x1x4x64 : Shape := ⟨4, ![512, 1, 4, 64]⟩
abbrev S512x4x64 : Shape := ⟨3, ![512, 4, 64]⟩
abbrev S512x4x128 : Shape := ⟨3, ![512, 4, 128]⟩
abbrev S512x1x4x128 : Shape := ⟨4, ![512, 1, 4, 128]⟩
abbrev S512x2x4x128 : Shape := ⟨4, ![512, 2, 4, 128]⟩
abbrev S512x1x64 : Shape := ⟨3, ![512, 1, 64]⟩
abbrev S512x1x128 : Shape := ⟨3, ![512, 1, 128]⟩
abbrev S512x128 : Shape := ⟨2, ![512, 128]⟩
abbrev S512x28 : Shape := ⟨2, ![512, 28]⟩
abbrev S128x4x2x2x64 : Shape := ⟨5, ![128, 4, 2, 2, 64]⟩
abbrev S128x516x2x2x64 : Shape := ⟨5, ![128, 516, 2, 2, 64]⟩

abbrev nBuf : Space → Nat
  | .hbm => 94
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x4444, .f32⟩
  | .hbm, ⟨3, _⟩ => ⟨S128x512x2x2x64, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S512x4444, .f32⟩
  | .hbm, ⟨21, _⟩ => ⟨S512x512, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S512x24, .f32⟩
  | .hbm, ⟨26, _⟩ => ⟨S512x512, .f32⟩
  | .hbm, ⟨27, _⟩ => ⟨S512x256, .f32⟩
  | .hbm, ⟨28, _⟩ => ⟨S512x256, .f32⟩
  | .hbm, ⟨29, _⟩ => ⟨S512x64, .f32⟩
  | .hbm, ⟨30, _⟩ => ⟨S512x4, .f32⟩
  | .hbm, ⟨31, _⟩ => ⟨S512x2048, .f32⟩
  | .hbm, ⟨32, _⟩ => ⟨S512x2x4x64, .f32⟩
  | .hbm, ⟨33, _⟩ => ⟨S512x1x4x64, .f32⟩
  | .hbm, ⟨34, _⟩ => ⟨S512x4x64, .f32⟩
  | .hbm, ⟨35, _⟩ => ⟨S_, .i32⟩
  | .hbm, ⟨36, _⟩ => ⟨S_, .f32⟩
  | .hbm, ⟨37, _⟩ => ⟨S512x4x128, .f32⟩
  | .hbm, ⟨38, _⟩ => ⟨S512x2x4x64, .f32⟩
  | .hbm, ⟨39, _⟩ => ⟨S512x1x4x64, .f32⟩
  | .hbm, ⟨40, _⟩ => ⟨S512x4x64, .f32⟩
  | .hbm, ⟨41, _⟩ => ⟨S_, .i32⟩
  | .hbm, ⟨42, _⟩ => ⟨S_, .f32⟩
  | .hbm, ⟨43, _⟩ => ⟨S512x4x128, .f32⟩
  | .hbm, ⟨44, _⟩ => ⟨S512x1x4x128, .f32⟩
  | .hbm, ⟨45, _⟩ => ⟨S512x1x4x128, .f32⟩
  | .hbm, ⟨46, _⟩ => ⟨S512x2x4x128, .f32⟩
  | .hbm, ⟨47, _⟩ => ⟨S512x1024, .f32⟩
  | .hbm, ⟨48, _⟩ => ⟨S_, .f32⟩
  | .hbm, ⟨49, _⟩ => ⟨S512x1024, .f32⟩
  | .hbm, ⟨50, _⟩ => ⟨S512x1024, .f32⟩
  | .hbm, ⟨51, _⟩ => ⟨S512x1024, .bf16⟩
  | .hbm, ⟨52, _⟩ => ⟨S512x2x4x64, .f32⟩
  | .hbm, ⟨53, _⟩ => ⟨S512x1x4x64, .f32⟩
  | .hbm, ⟨54, _⟩ => ⟨S512x4x64, .f32⟩
  | .hbm, ⟨55, _⟩ => ⟨S_, .i32⟩
  | .hbm, ⟨56, _⟩ => ⟨S_, .f32⟩
  | .hbm, ⟨57, _⟩ => ⟨S512x4x128, .f32⟩
  | .hbm, ⟨58, _⟩ => ⟨S512x2x4x64, .f32⟩
  | .hbm, ⟨59, _⟩ => ⟨S512x1x4x64, .f32⟩
  | .hbm, ⟨60, _⟩ => ⟨S512x4x64, .f32⟩
  | .hbm, ⟨61, _⟩ => ⟨S_, .i32⟩
  | .hbm, ⟨62, _⟩ => ⟨S_, .f32⟩
  | .hbm, ⟨63, _⟩ => ⟨S512x4x128, .f32⟩
  | .hbm, ⟨64, _⟩ => ⟨S512x1x4x128, .f32⟩
  | .hbm, ⟨65, _⟩ => ⟨S512x1x4x128, .f32⟩
  | .hbm, ⟨66, _⟩ => ⟨S512x2x4x128, .f32⟩
  | .hbm, ⟨67, _⟩ => ⟨S512x1024, .f32⟩
  | .hbm, ⟨68, _⟩ => ⟨S_, .f32⟩
  | .hbm, ⟨69, _⟩ => ⟨S512x1024, .f32⟩
  | .hbm, ⟨70, _⟩ => ⟨S512x1024, .f32⟩
  | .hbm, ⟨71, _⟩ => ⟨S512x1024, .bf16⟩
  | .hbm, ⟨72, _⟩ => ⟨S512x4x64, .f32⟩
  | .hbm, ⟨73, _⟩ => ⟨S_, .i32⟩
  | .hbm, ⟨74, _⟩ => ⟨S_, .f32⟩
  | .hbm, ⟨75, _⟩ => ⟨S512x4x128, .f32⟩
  | .hbm, ⟨76, _⟩ => ⟨S512x512, .f32⟩
  | .hbm, ⟨77, _⟩ => ⟨S512x512, .bf16⟩
  | .hbm, ⟨78, _⟩ => ⟨S512x1x64, .f32⟩
  | .hbm, ⟨79, _⟩ => ⟨S_, .i32⟩
  | .hbm, ⟨80, _⟩ => ⟨S_, .f32⟩
  | .hbm, ⟨81, _⟩ => ⟨S512x1x128, .f32⟩
  | .hbm, ⟨82, _⟩ => ⟨S512x128, .f32⟩
  | .hbm, ⟨83, _⟩ => ⟨S512x128, .bf16⟩
  | .hbm, ⟨84, _⟩ => ⟨S512x28, .f32⟩
  | .hbm, ⟨85, _⟩ => ⟨S_, .i32⟩
  | .hbm, ⟨86, _⟩ => ⟨S_, .f32⟩
  | .hbm, ⟨87, _⟩ => ⟨S512x128, .f32⟩
  | .hbm, ⟨88, _⟩ => ⟨S512x256, .bf16⟩
  | .hbm, ⟨89, _⟩ => ⟨S512x256, .bf16⟩
  | .hbm, ⟨90, _⟩ => ⟨S512x256, .bf16⟩
  | .hbm, ⟨91, _⟩ => ⟨S128x4x2x2x64, .f32⟩
  | .hbm, ⟨92, _⟩ => ⟨S128x516x2x2x64, .f32⟩
  | .hbm, ⟨93, _⟩ => ⟨S128x512x2x2x64, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_call0_v0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_call1_v0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_call2_v0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_5 : Ref sig .tc := ⟨.hbm, 61, rfl⟩
abbrev main_call3_v0 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_7 : Ref sig .tc := ⟨.hbm, 73, rfl⟩
abbrev main_call4_v0 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_8 : Ref sig .tc := ⟨.hbm, 79, rfl⟩
abbrev main_call5_v0 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_9 : Ref sig .tc := ⟨.hbm, 85, rfl⟩
abbrev main_call6_v0 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Compress.lean ====
abbrev S2x8192x256 : Shape := ⟨3, ![2, 8192, 256]⟩
abbrev S2x32x64 : Shape := ⟨3, ![2, 32, 64]⟩
abbrev S2x32x64x128 : Shape := ⟨4, ![2, 32, 64, 128]⟩
abbrev S2x128 : Shape := ⟨2, ![2, 128]⟩
abbrev S2x128x64 : Shape := ⟨3, ![2, 128, 64]⟩
abbrev S2x2 : Shape := ⟨2, ![2, 2]⟩
abbrev S_ : Shape := ⟨0, ![]⟩
abbrev S2x2x16x64x128 : Shape := ⟨5, ![2, 2, 16, 64, 128]⟩
abbrev S2x16x64x2x128 : Shape := ⟨5, ![2, 16, 64, 2, 128]⟩
abbrev S2x16x1x64x2x1x128 : Shape := ⟨7, ![2, 16, 1, 64, 2, 1, 128]⟩
abbrev S1x1x2x1x1x2x1 : Shape := ⟨7, ![1, 1, 2, 1, 1, 2, 1]⟩
abbrev S2x16x2x64x2x2x128 : Shape := ⟨7, ![2, 16, 2, 64, 2, 2, 128]⟩
abbrev S2x2048x512 : Shape := ⟨3, ![2, 2048, 512]⟩
abbrev S2x1x128x1x64 : Shape := ⟨5, ![2, 1, 128, 1, 64]⟩
abbrev S1x2x1x2x1 : Shape := ⟨5, ![1, 2, 1, 2, 1]⟩
abbrev S2x2x128x2x64 : Shape := ⟨5, ![2, 2, 128, 2, 64]⟩
abbrev S2x256x128 : Shape := ⟨3, ![2, 256, 128]⟩
abbrev S2x2x16x64 : Shape := ⟨4, ![2, 2, 16, 64]⟩
abbrev S2x16x2x64 : Shape := ⟨4, ![2, 16, 2, 64]⟩
abbrev S2x16x2x1x64 : Shape := ⟨5, ![2, 16, 2, 1, 64]⟩
abbrev S2x16x2x2x64 : Shape := ⟨5, ![2, 16, 2, 2, 64]⟩
abbrev S2x4096 : Shape := ⟨2, ![2, 4096]⟩
abbrev S6x4096 : Shape := ⟨2, ![6, 4096]⟩
abbrev S8x4096 : Shape := ⟨2, ![8, 4096]⟩
abbrev S2x256 : Shape := ⟨2, ![2, 256]⟩
abbrev S2x1x256 : Shape := ⟨3, ![2, 1, 256]⟩
abbrev S2x512x4096 : Shape := ⟨3, ![2, 512, 4096]⟩
abbrev S2x768x256 : Shape := ⟨3, ![2, 768, 256]⟩
abbrev S1x512x4096 : Shape := ⟨3, ![1, 512, 4096]⟩
abbrev S1x768x256 : Shape := ⟨3, ![1, 768, 256]⟩
abbrev S1x512x128 : Shape := ⟨3, ![1, 512, 128]⟩
abbrev S512x128 : Shape := ⟨2, ![512, 128]⟩
abbrev S512x2048 : Shape := ⟨2, ![512, 2048]⟩
abbrev S1x2048x512 : Shape := ⟨3, ![1, 2048, 512]⟩
abbrev S2048x512 : Shape := ⟨2, ![2048, 512]⟩
abbrev S512x512 : Shape := ⟨2, ![512, 512]⟩
abbrev S8x128 : Shape := ⟨2, ![8, 128]⟩
abbrev S8x2048 : Shape := ⟨2, ![8, 2048]⟩
abbrev S8x512 : Shape := ⟨2, ![8, 512]⟩
abbrev S1x1x256 : Shape := ⟨3, ![1, 1, 256]⟩
abbrev S1x256 : Shape := ⟨2, ![1, 256]⟩
abbrev S512x256 : Shape := ⟨2, ![512, 256]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 40
  | .vmem => 8
  | .smem => 0
  | _ => 0

abbrev bufTy : (tb : Table) → Fin (tcTables nBuf tb) → BufTy
  | .hbm, ⟨0, _⟩ => ⟨S2x8192x256, .f32⟩
  | .hbm, ⟨1, _⟩ => ⟨S2x32x64, .f32⟩
  | .hbm, ⟨2, _⟩ => ⟨S2x32x64x128, .f32⟩
  | .hbm, ⟨3, _⟩ => ⟨S2x128, .f32⟩
  | .hbm, ⟨4, _⟩ => ⟨S2x128x64, .f32⟩
  | .hbm, ⟨5, _⟩ => ⟨S2x2, .i32⟩
  | .hbm, ⟨6, _⟩ => ⟨S2x2, .i32⟩
  | .hbm, ⟨7, _⟩ => ⟨S_, .i32⟩
  | .hbm, ⟨8, _⟩ => ⟨S2x2, .i32⟩
  | .hbm, ⟨9, _⟩ => ⟨S2x2, .i32⟩
  | .hbm, ⟨10, _⟩ => ⟨S2x2, .i1⟩
  | .hbm, ⟨11, _⟩ => ⟨S2x2, .f32⟩
  | .hbm, ⟨12, _⟩ => ⟨S2x2x16x64x128, .f32⟩
  | .hbm, ⟨13, _⟩ => ⟨S2x16x64x2x128, .f32⟩
  | .hbm, ⟨14, _⟩ => ⟨S2x16x1x64x2x1x128, .f32⟩
  | .hbm, ⟨15, _⟩ => ⟨S1x1x2x1x1x2x1, .f32⟩
  | .hbm, ⟨16, _⟩ => ⟨S2x16x2x64x2x2x128, .f32⟩
  | .hbm, ⟨17, _⟩ => ⟨S2x16x2x64x2x2x128, .f32⟩
  | .hbm, ⟨18, _⟩ => ⟨S2x16x2x64x2x2x128, .f32⟩
  | .hbm, ⟨19, _⟩ => ⟨S2x2048x512, .f32⟩
  | .hbm, ⟨20, _⟩ => ⟨S2x1x128x1x64, .f32⟩
  | .hbm, ⟨21, _⟩ => ⟨S1x2x1x2x1, .f32⟩
  | .hbm, ⟨22, _⟩ => ⟨S2x2x128x2x64, .f32⟩
  | .hbm, ⟨23, _⟩ => ⟨S2x2x128x2x64, .f32⟩
  | .hbm, ⟨24, _⟩ => ⟨S2x2x128x2x64, .f32⟩
  | .hbm, ⟨25, _⟩ => ⟨S2x256x128, .f32⟩
  | .hbm, ⟨26, _⟩ => ⟨S2x2x16x64, .f32⟩
  | .hbm, ⟨27, _⟩ => ⟨S2x16x2x64, .f32⟩
  | .hbm, ⟨28, _⟩ => ⟨S2x16x2x1x64, .f32⟩
  | .hbm, ⟨29, _⟩ => ⟨S2x16x2x2x64, .f32⟩
  | .hbm, ⟨30, _⟩ => ⟨S2x4096, .f32⟩
  | .hbm, ⟨31, _⟩ => ⟨S_, .f32⟩
  | .hbm, ⟨32, _⟩ => ⟨S6x4096, .f32⟩
  | .hbm, ⟨33, _⟩ => ⟨S8x4096, .f32⟩
  | .hbm, ⟨34, _⟩ => ⟨S2x256, .f32⟩
  | .hbm, ⟨35, _⟩ => ⟨S2x1x256, .f32⟩
  | .hbm, ⟨36, _⟩ => ⟨S2x2048x512, .bf16⟩
  | .hbm, ⟨37, _⟩ => ⟨S2x256x128, .bf16⟩
  | .hbm, ⟨38, _⟩ => ⟨S2x512x4096, .f32⟩
  | .hbm, ⟨39, _⟩ => ⟨S2x768x256, .bf16⟩
  | .local _ .vmem, ⟨0, _⟩ => ⟨S1x512x4096, .f32⟩
  | .local _ .vmem, ⟨1, _⟩ => ⟨S1x512x4096, .f32⟩
  | .local _ .vmem, ⟨2, _⟩ => ⟨S8x4096, .f32⟩
  | .local _ .vmem, ⟨3, _⟩ => ⟨S2x2048x512, .bf16⟩
  | .local _ .vmem, ⟨4, _⟩ => ⟨S2x256x128, .bf16⟩
  | .local _ .vmem, ⟨5, _⟩ => ⟨S2x1x256, .f32⟩
  | .local _ .vmem, ⟨6, _⟩ => ⟨S1x768x256, .bf16⟩
  | .local _ .vmem, ⟨7, _⟩ => ⟨S1x768x256, .bf16⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x768x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CompressRefIdeal.lean ====
abbrev S2x8192x256 : Shape := ⟨3, ![2, 8192, 256]⟩
abbrev S2x32x64 : Shape := ⟨3, ![2, 32, 64]⟩
abbrev S2x32x64x128 : Shape := ⟨4, ![2, 32, 64, 128]⟩
abbrev S2x128 : Shape := ⟨2, ![2, 128]⟩
abbrev S2x128x64 : Shape := ⟨3, ![2, 128, 64]⟩
abbrev S2x16x256 : Shape := ⟨3, ![2, 16, 256]⟩
abbrev S2x8208x256 : Shape := ⟨3, ![2, 8208, 256]⟩
abbrev S2x513x16x2x2x64 : Shape := ⟨6, ![2, 513, 16, 2, 2, 64]⟩
abbrev S2x2x16x64x128 : Shape := ⟨5, ![2, 2, 16, 64, 128]⟩
abbrev S1x1x2x1x128 : Shape := ⟨5, ![1, 1, 2, 1, 128]⟩
abbrev S2x1x16x64x128 : Shape := ⟨5, ![2, 1, 16, 64, 128]⟩
abbrev S2x16x64x128 : Shape := ⟨4, ![2, 16, 64, 128]⟩
abbrev S2x128x2x513x2 : Shape := ⟨5, ![2, 128, 2, 513, 2]⟩
abbrev S2x513x2x2x128 : Shape := ⟨5, ![2, 513, 2, 2, 128]⟩
abbrev S2x512x2x2x128 : Shape := ⟨5, ![2, 512, 2, 2, 128]⟩
abbrev S_ : Shape := ⟨0, ![]⟩
abbrev S2x64x2x512x2 : Shape := ⟨5, ![2, 64, 2, 512, 2]⟩
abbrev S2x512x2x2x64 : Shape := ⟨5, ![2, 512, 2, 2, 64]⟩
abbrev S2x512x256 : Shape := ⟨3, ![2, 512, 256]⟩
abbrev S2x768x256 : Shape := ⟨3, ![2, 768, 256]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x256, .f32⟩
  | .hbm, ⟨1, _⟩ => ⟨S2x32x64, .f32⟩
  | .hbm, ⟨2, _⟩ => ⟨S2x32x64x128, .f32⟩
  | .hbm, ⟨3, _⟩ => ⟨S2x128, .f32⟩
  | .hbm, ⟨4, _⟩ => ⟨S2x128x64, .f32⟩
  | .hbm, ⟨5, _⟩ => ⟨S2x16x256, .f32⟩
  | .hbm, ⟨6, _⟩ => ⟨S2x8208x256, .f32⟩
  | .hbm, ⟨7, _⟩ => ⟨S2x513x16x2x2x64, .f32⟩
  | .hbm, ⟨8, _⟩ => ⟨S2x2x16x64x128, .f32⟩
  | .hbm, ⟨9, _⟩ => ⟨S2x128, .f32⟩
  | .hbm, ⟨10, _⟩ => ⟨S2x128, .f32⟩
  | .hbm, ⟨11, _⟩ => ⟨S1x1x2x1x128, .f32⟩
  | .hbm, ⟨12, _⟩ => ⟨S2x1x16x64x128, .f32⟩
  | .hbm, ⟨13, _⟩ => ⟨S2x16x64x128, .f32⟩
  | .hbm, ⟨14, _⟩ => ⟨S2x128x2x513x2, .f32⟩
  | .hbm, ⟨15, _⟩ => ⟨S2x513x2x2x128, .f32⟩
  | .hbm, ⟨16, _⟩ => ⟨S2x512x2x2x128, .f32⟩
  | .hbm, ⟨17, _⟩ => ⟨S2x512x2x2x128, .f32⟩
  | .hbm, ⟨18, _⟩ => ⟨S2x512x2x2x128, .f32⟩
  | .hbm, ⟨19, _⟩ => ⟨S2x1x16x64x128, .f32⟩
  | .hbm, ⟨20, _⟩ => ⟨S2x16x64x128, .f32⟩
  | .hbm, ⟨21, _⟩ => ⟨S2x128x2x513x2, .f32⟩
  | .hbm, ⟨22, _⟩ => ⟨S2x513x2x2x128, .f32⟩
  | .hbm, ⟨23, _⟩ => ⟨S2x512x2x2x128, .f32⟩
  | .hbm, ⟨24, _⟩ => ⟨S2x512x2x2x128, .f32⟩
  | .hbm, ⟨25, _⟩ => ⟨S2x512x2x2x128, .f32⟩
  | .hbm, ⟨26, _⟩ => ⟨S2x512x2x2x128, .f32⟩
  | .hbm, ⟨27, _⟩ => ⟨S_, .f32⟩
  | .hbm, ⟨28, _⟩ => ⟨S2x512x2x2x128, .f32⟩
  | .hbm, ⟨29, _⟩ => ⟨S2x512x2x2x128, .f32⟩
  | .hbm, ⟨30, _⟩ => ⟨S2x512x2x2x128, .f32⟩
  | .hbm, ⟨31, _⟩ => ⟨S_, .f32⟩
  | .hbm, ⟨32, _⟩ => ⟨S2x512x2x2x128, .f32⟩
  | .hbm, ⟨33, _⟩ => ⟨S2x512x2x2x128, .f32⟩
  | .hbm, ⟨34, _⟩ => ⟨S2x512x2x2x128, .f32⟩
  | .hbm, ⟨35, _⟩ => ⟨S_, .f32⟩
  | .hbm, ⟨36, _⟩ => ⟨S2x512x2x2x128, .f32⟩
  | .hbm, ⟨37, _⟩ => ⟨S2x512x2x2x128, .f32⟩
  | .hbm, ⟨38, _⟩ => ⟨S_, .f32⟩
  | .hbm, ⟨39, _⟩ => ⟨S2x512x2x2x128, .f32⟩
  | .hbm, ⟨40, _⟩ => ⟨S2x512x2x2x128, .f32⟩
  | .hbm, ⟨41, _⟩ => ⟨S2x512x2x2x128, .f32⟩
  | .hbm, ⟨42, _⟩ => ⟨S2x64x2x512x2, .f32⟩
  | .hbm, ⟨43, _⟩ => ⟨S2x512x2x2x64, .f32⟩
  | .hbm, ⟨44, _⟩ => ⟨S2x512x256, .f32⟩
  | .hbm, ⟨45, _⟩ => ⟨S_, .i32⟩
  | .hbm, ⟨46, _⟩ => ⟨S_, .f32⟩
  | .hbm, ⟨47, _⟩ => ⟨S2x768x256, .f32⟩
  | .hbm, ⟨48, _⟩ => ⟨S2x768x256, .bf16⟩
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_call0_v0 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Tail.lean ====
abbrev S16384x1024 : Shape := ⟨2, ![16384, 1024]⟩
abbrev S16384x512 : Shape := ⟨2, ![16384, 512]⟩
abbrev S1024 : Shape := ⟨1, ![1024]⟩
abbrev S1024x4444 : Shape := ⟨2, ![1024, 4444]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S8x2 : Shape := ⟨2, ![8, 2]⟩
abbrev S1024x2048 : Shape := ⟨2, ![1024, 2048]⟩
abbrev S8x1x64x1024 : Shape := ⟨4, ![8, 1, 64, 1024]⟩
abbrev S8x2x1x1 : Shape := ⟨4, ![8, 2, 1, 1]⟩
abbrev S8x2x64x1024 : Shape := ⟨4, ![8, 2, 64, 1024]⟩
abbrev S16384x8x1x64 : Shape := ⟨4, ![16384, 8, 1, 64]⟩
abbrev S1x8x2x1 : Shape := ⟨4, ![1, 8, 2, 1]⟩
abbrev S16384x8x2x64 : Shape := ⟨4, ![16384, 8, 2, 64]⟩
abbrev S1x1024 : Shape := ⟨2, ![1, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 56
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024, .f32⟩
  | .hbm, ⟨4, _⟩ => ⟨S1024x4444, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S8x2, .f32⟩
  | .hbm, ⟨14, _⟩ => ⟨S8x2, .f32⟩
  | .hbm, ⟨15, _⟩ => ⟨S8x2, .f32⟩
  | .hbm, ⟨16, _⟩ => ⟨S8x2, .f32⟩
  | .hbm, ⟨17, _⟩ => ⟨S1024x2048, .f32⟩
  | .hbm, ⟨18, _⟩ => ⟨S1024x2048, .bf16⟩
  | .hbm, ⟨19, _⟩ => ⟨S8x1x64x1024, .f32⟩
  | .hbm, ⟨20, _⟩ => ⟨S8x2x1x1, .f32⟩
  | .hbm, ⟨21, _⟩ => ⟨S8x2x64x1024, .f32⟩
  | .hbm, ⟨22, _⟩ => ⟨S8x2x64x1024, .f32⟩
  | .hbm, ⟨23, _⟩ => ⟨S8x2x64x1024, .f32⟩
  | .hbm, ⟨24, _⟩ => ⟨S1024x1024, .f32⟩
  | .hbm, ⟨25, _⟩ => ⟨S1024x1024, .bf16⟩
  | .hbm, ⟨26, _⟩ => ⟨S8x1x64x1024, .f32⟩
  | .hbm, ⟨27, _⟩ => ⟨S8x2x1x1, .f32⟩
  | .hbm, ⟨28, _⟩ => ⟨S8x2x64x1024, .f32⟩
  | .hbm, ⟨29, _⟩ => ⟨S8x2x64x1024, .f32⟩
  | .hbm, ⟨30, _⟩ => ⟨S8x2x64x1024, .f32⟩
  | .hbm, ⟨31, _⟩ => ⟨S1024x1024, .f32⟩
  | .hbm, ⟨32, _⟩ => ⟨S1024x1024, .bf16⟩
  | .hbm, ⟨33, _⟩ => ⟨S16384x8x1x64, .f32⟩
  | .hbm, ⟨34, _⟩ => ⟨S1x8x2x1, .f32⟩
  | .hbm, ⟨35, _⟩ => ⟨S16384x8x2x64, .f32⟩
  | .hbm, ⟨36, _⟩ => ⟨S16384x8x2x64, .f32⟩
  | .hbm, ⟨37, _⟩ => ⟨S16384x8x2x64, .f32⟩
  | .hbm, ⟨38, _⟩ => ⟨S16384x1024, .f32⟩
  | .hbm, ⟨39, _⟩ => ⟨S16384x1024, .bf16⟩
  | .hbm, ⟨40, _⟩ => ⟨S16384x8x1x64, .f32⟩
  | .hbm, ⟨41, _⟩ => ⟨S1x8x2x1, .f32⟩
  | .hbm, ⟨42, _⟩ => ⟨S16384x8x2x64, .f32⟩
  | .hbm, ⟨43, _⟩ => ⟨S16384x8x2x64, .f32⟩
  | .hbm, ⟨44, _⟩ => ⟨S16384x8x2x64, .f32⟩
  | .hbm, ⟨45, _⟩ => ⟨S16384x1024, .f32⟩
  | .hbm, ⟨46, _⟩ => ⟨S16384x1024, .bf16⟩
  | .hbm, ⟨47, _⟩ => ⟨S1x1024, .f32⟩
  | .hbm, ⟨48, _⟩ => ⟨S1024x1024, .bf16⟩
  | .hbm, ⟨49, _⟩ => ⟨S16384x1024, .f32⟩
  | .hbm, ⟨50, _⟩ => ⟨S1024x2816, .bf16⟩
  | .hbm, ⟨51, _⟩ => ⟨S1024x2816, .bf16⟩
  | .hbm, ⟨52, _⟩ => ⟨S2816x1024, .bf16⟩
  | .hbm, ⟨53, _⟩ => ⟨S1x1024, .f32⟩
  | .hbm, ⟨54, _⟩ => ⟨S1x1024, .f32⟩
  | .hbm, ⟨55, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S1024x2816, .bf16⟩
  | .local _ .vmem, ⟨18, _⟩ => ⟨S1024x2816, .bf16⟩
  | .local _ .vmem, ⟨19, _⟩ => ⟨S2816x1024, .bf16⟩
  | .local _ .vmem, ⟨20, _⟩ => ⟨S512x1024, .f32⟩
  | .local _ .vmem, ⟨21, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_cst_1 : Ref sig .tc := ⟨.hbm, 15, rfl⟩
abbrev main_cst_2 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x2816 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x2816 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== TailIdeal.lean ====
abbrev S16384x1024 : Shape := ⟨2, ![16384, 1024]⟩
abbrev S16384x512 : Shape := ⟨2, ![16384, 512]⟩
abbrev S1024 : Shape := ⟨1, ![1024]⟩
abbrev S1024x4444 : Shape := ⟨2, ![1024, 4444]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S8x2 : Shape := ⟨2, ![8, 2]⟩
abbrev S1024x2048 : Shape := ⟨2, ![1024, 2048]⟩
abbrev S8x1x64x1024 : Shape := ⟨4, ![8, 1, 64, 1024]⟩
abbrev S8x2x1x1 : Shape := ⟨4, ![8, 2, 1, 1]⟩
abbrev S8x2x64x1024 : Shape := ⟨4, ![8, 2, 64, 1024]⟩
abbrev S16384x8x1x64 : Shape := ⟨4, ![16384, 8, 1, 64]⟩
abbrev S1x8x2x1 : Shape := ⟨4, ![1, 8, 2, 1]⟩
abbrev S16384x8x2x64 : Shape := ⟨4, ![16384, 8, 2, 64]⟩
abbrev S1x1024 : Shape := ⟨2, ![1, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 56
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024, .f32⟩
  | .hbm, ⟨4, _⟩ => ⟨S1024x4444, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S8x2, .f32⟩
  | .hbm, ⟨14, _⟩ => ⟨S8x2, .f32⟩
  | .hbm, ⟨15, _⟩ => ⟨S8x2, .f32⟩
  | .hbm, ⟨16, _⟩ => ⟨S8x2, .f32⟩
  | .hbm, ⟨17, _⟩ => ⟨S1024x2048, .f32⟩
  | .hbm, ⟨18, _⟩ => ⟨S1024x2048, .bf16⟩
  | .hbm, ⟨19, _⟩ => ⟨S8x1x64x1024, .f32⟩
  | .hbm, ⟨20, _⟩ => ⟨S8x2x1x1, .f32⟩
  | .hbm, ⟨21, _⟩ => ⟨S8x2x64x1024, .f32⟩
  | .hbm, ⟨22, _⟩ => ⟨S8x2x64x1024, .f32⟩
  | .hbm, ⟨23, _⟩ => ⟨S8x2x64x1024, .f32⟩
  | .hbm, ⟨24, _⟩ => ⟨S1024x1024, .f32⟩
  | .hbm, ⟨25, _⟩ => ⟨S1024x1024, .bf16⟩
  | .hbm, ⟨26, _⟩ => ⟨S8x1x64x1024, .f32⟩
  | .hbm, ⟨27, _⟩ => ⟨S8x2x1x1, .f32⟩
  | .hbm, ⟨28, _⟩ => ⟨S8x2x64x1024, .f32⟩
  | .hbm, ⟨29, _⟩ => ⟨S8x2x64x1024, .f32⟩
  | .hbm, ⟨30, _⟩ => ⟨S8x2x64x1024, .f32⟩
  | .hbm, ⟨31, _⟩ => ⟨S1024x1024, .f32⟩
  | .hbm, ⟨32, _⟩ => ⟨S1024x1024, .bf16⟩
  | .hbm, ⟨33, _⟩ => ⟨S16384x8x1x64, .f32⟩
  | .hbm, ⟨34, _⟩ => ⟨S1x8x2x1, .f32⟩
  | .hbm, ⟨35, _⟩ => ⟨S16384x8x2x64, .f32⟩
  | .hbm, ⟨36, _⟩ => ⟨S16384x8x2x64, .f32⟩
  | .hbm, ⟨37, _⟩ => ⟨S16384x8x2x64, .f32⟩
  | .hbm, ⟨38, _⟩ => ⟨S16384x1024, .f32⟩
  | .hbm, ⟨39, _⟩ => ⟨S16384x1024, .bf16⟩
  | .hbm, ⟨40, _⟩ => ⟨S16384x8x1x64, .f32⟩
  | .hbm, ⟨41, _⟩ => ⟨S1x8x2x1, .f32⟩
  | .hbm, ⟨42, _⟩ => ⟨S16384x8x2x64, .f32⟩
  | .hbm, ⟨43, _⟩ => ⟨S16384x8x2x64, .f32⟩
  | .hbm, ⟨44, _⟩ => ⟨S16384x8x2x64, .f32⟩
  | .hbm, ⟨45, _⟩ => ⟨S16384x1024, .f32⟩
  | .hbm, ⟨46, _⟩ => ⟨S16384x1024, .bf16⟩
  | .hbm, ⟨47, _⟩ => ⟨S1x1024, .f32⟩
  | .hbm, ⟨48, _⟩ => ⟨S1024x1024, .bf16⟩
  | .hbm, ⟨49, _⟩ => ⟨S16384x1024, .f32⟩
  | .hbm, ⟨50, _⟩ => ⟨S1024x2816, .bf16⟩
  | .hbm, ⟨51, _⟩ => ⟨S1024x2816, .bf16⟩
  | .hbm, ⟨52, _⟩ => ⟨S2816x1024, .bf16⟩
  | .hbm, ⟨53, _⟩ => ⟨S1x1024, .f32⟩
  | .hbm, ⟨54, _⟩ => ⟨S1x1024, .f32⟩
  | .hbm, ⟨55, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S1024x2816, .bf16⟩
  | .local _ .vmem, ⟨18, _⟩ => ⟨S1024x2816, .bf16⟩
  | .local _ .vmem, ⟨19, _⟩ => ⟨S2816x1024, .bf16⟩
  | .local _ .vmem, ⟨20, _⟩ => ⟨S512x1024, .f32⟩
  | .local _ .vmem, ⟨21, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_cst_1 : Ref sig .tc := ⟨.hbm, 15, rfl⟩
abbrev main_cst_2 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x2816 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x2816 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== TailRefIdeal.lean ====
abbrev S16384x1024 : Shape := ⟨2, ![16384, 1024]⟩
abbrev S16384x512 : Shape := ⟨2, ![16384, 512]⟩
abbrev S1024 : Shape := ⟨1, ![1024]⟩
abbrev S1024x4444 : Shape := ⟨2, ![1024, 4444]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x2048 : Shape := ⟨2, ![1024, 2048]⟩
abbrev S16384x2048 : Shape := ⟨2, ![16384, 2048]⟩
abbrev S16384x2x1024 : Shape := ⟨3, ![16384, 2, 1024]⟩
abbrev S16384x1x1024 : Shape := ⟨3, ![16384, 1, 1024]⟩
abbrev S16384x2816 : Shape := ⟨2, ![16384, 2816]⟩

abbrev nBuf : Space → Nat
  | .hbm => 97
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024, .f32⟩
  | .hbm, ⟨4, _⟩ => ⟨S1024x4444, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1024x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2x1024, .f32⟩
  | .hbm, ⟨40, _⟩ => ⟨S16384x1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x2816, .f32⟩
  | .hbm, ⟨68, _⟩ => ⟨S16384x2816, .f32⟩
  | .hbm, ⟨69, _⟩ => ⟨S16384x2816, .f32⟩
  | .hbm, ⟨70, _⟩ => ⟨S_, .f32⟩
  | .hbm, ⟨71, _⟩ => ⟨S16384x2816, .f32⟩
  | .hbm, ⟨72, _⟩ => ⟨S16384x2816, .f32⟩
  | .hbm, ⟨73, _⟩ => ⟨S_, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x2816, .f32⟩
  | .hbm, ⟨78, _⟩ => ⟨S16384x2816, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S16384x1, .f32⟩
  | .hbm, ⟨92, _⟩ => ⟨S16384x1024, .f32⟩
  | .hbm, ⟨93, _⟩ => ⟨S16384x1024, .f32⟩
  | .hbm, ⟨94, _⟩ => ⟨S1x1024, .f32⟩
  | .hbm, ⟨95, _⟩ => ⟨S16384x1024, .f32⟩
  | .hbm, ⟨96, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== TailS.lean ====
abbrev S512x1024 : Shape := ⟨2, ![512, 1024]⟩
abbrev S512x512 : Shape := ⟨2, ![512, 512]⟩
abbrev S1024 : Shape := ⟨1, ![1024]⟩
abbrev S1024x4444 : Shape := ⟨2, ![1024, 4444]⟩
abbrev S1024x1024 : Shape := ⟨2, ![1024, 1024]⟩
abbrev S1024x2816 : Shape := ⟨2, ![1024, 2816]⟩
abbrev S2816x1024 : Shape := ⟨2, ![2816, 1024]⟩
abbrev S8x2 : Shape := ⟨2, ![8, 2]⟩
abbrev S1024x2048 : Shape := ⟨2, ![1024, 2048]⟩
abbrev S8x1x64x1024 : Shape := ⟨4, ![8, 1, 64, 1024]⟩
abbrev S8x2x1x1 : Shape := ⟨4, ![8, 2, 1, 1]⟩
abbrev S8x2x64x1024 : Shape := ⟨4, ![8, 2, 64, 1024]⟩
abbrev S512x8x1x64 : Shape := ⟨4, ![512, 8, 1, 64]⟩
abbrev S1x8x2x1 : Shape := ⟨4, ![1, 8, 2, 1]⟩
abbrev S512x8x2x64 : Shape := ⟨4, ![512, 8, 2, 64]⟩
abbrev S1x1024 : Shape := ⟨2, ![1, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 56
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S1024, .f32⟩
  | .hbm, ⟨4, _⟩ => ⟨S1024x4444, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S8x2, .f32⟩
  | .hbm, ⟨14, _⟩ => ⟨S8x2, .f32⟩
  | .hbm, ⟨15, _⟩ => ⟨S8x2, .f32⟩
  | .hbm, ⟨16, _⟩ => ⟨S8x2, .f32⟩
  | .hbm, ⟨17, _⟩ => ⟨S1024x2048, .f32⟩
  | .hbm, ⟨18, _⟩ => ⟨S1024x2048, .bf16⟩
  | .hbm, ⟨19, _⟩ => ⟨S8x1x64x1024, .f32⟩
  | .hbm, ⟨20, _⟩ => ⟨S8x2x1x1, .f32⟩
  | .hbm, ⟨21, _⟩ => ⟨S8x2x64x1024, .f32⟩
  | .hbm, ⟨22, _⟩ => ⟨S8x2x64x1024, .f32⟩
  | .hbm, ⟨23, _⟩ => ⟨S8x2x64x1024, .f32⟩
  | .hbm, ⟨24, _⟩ => ⟨S1024x1024, .f32⟩
  | .hbm, ⟨25, _⟩ => ⟨S1024x1024, .bf16⟩
  | .hbm, ⟨26, _⟩ => ⟨S8x1x64x1024, .f32⟩
  | .hbm, ⟨27, _⟩ => ⟨S8x2x1x1, .f32⟩
  | .hbm, ⟨28, _⟩ => ⟨S8x2x64x1024, .f32⟩
  | .hbm, ⟨29, _⟩ => ⟨S8x2x64x1024, .f32⟩
  | .hbm, ⟨30, _⟩ => ⟨S8x2x64x1024, .f32⟩
  | .hbm, ⟨31, _⟩ => ⟨S1024x1024, .f32⟩
  | .hbm, ⟨32, _⟩ => ⟨S1024x1024, .bf16⟩
  | .hbm, ⟨33, _⟩ => ⟨S512x8x1x64, .f32⟩
  | .hbm, ⟨34, _⟩ => ⟨S1x8x2x1, .f32⟩
  | .hbm, ⟨35, _⟩ => ⟨S512x8x2x64, .f32⟩
  | .hbm, ⟨36, _⟩ => ⟨S512x8x2x64, .f32⟩
  | .hbm, ⟨37, _⟩ => ⟨S512x8x2x64, .f32⟩
  | .hbm, ⟨38, _⟩ => ⟨S512x1024, .f32⟩
  | .hbm, ⟨39, _⟩ => ⟨S512x1024, .bf16⟩
  | .hbm, ⟨40, _⟩ => ⟨S512x8x1x64, .f32⟩
  | .hbm, ⟨41, _⟩ => ⟨S1x8x2x1, .f32⟩
  | .hbm, ⟨42, _⟩ => ⟨S512x8x2x64, .f32⟩
  | .hbm, ⟨43, _⟩ => ⟨S512x8x2x64, .f32⟩
  | .hbm, ⟨44, _⟩ => ⟨S512x8x2x64, .f32⟩
  | .hbm, ⟨45, _⟩ => ⟨S512x1024, .f32⟩
  | .hbm, ⟨46, _⟩ => ⟨S512x1024, .bf16⟩
  | .hbm, ⟨47, _⟩ => ⟨S1x1024, .f32⟩
  | .hbm, ⟨48, _⟩ => ⟨S1024x1024, .bf16⟩
  | .hbm, ⟨49, _⟩ => ⟨S512x1024, .f32⟩
  | .hbm, ⟨50, _⟩ => ⟨S1024x2816, .bf16⟩
  | .hbm, ⟨51, _⟩ => ⟨S1024x2816, .bf16⟩
  | .hbm, ⟨52, _⟩ => ⟨S2816x1024, .bf16⟩
  | .hbm, ⟨53, _⟩ => ⟨S1x1024, .f32⟩
  | .hbm, ⟨54, _⟩ => ⟨S1x1024, .f32⟩
  | .hbm, ⟨55, _⟩ => ⟨S512x1024, .f32⟩
  | .local _ .vmem, ⟨0, _⟩ => ⟨S512x1024, .f32⟩
  | .local _ .vmem, ⟨1, _⟩ => ⟨S512x1024, .bf16⟩
  | .local _ .vmem, ⟨2, _⟩ => ⟨S512x1024, .bf16⟩
  | .local _ .vmem, ⟨3, _⟩ => ⟨S1x1024, .f32⟩
  | .local _ .vmem, ⟨4, _⟩ => ⟨S1024x2048, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_cst_1 : Ref sig .tc := ⟨.hbm, 15, rfl⟩
abbrev main_cst_2 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x2816 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x2816 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]
-- ==== TailSRefIdeal.lean ====
abbrev S512x1024 : Shape := ⟨2, ![512, 1024]⟩
abbrev S512x512 : Shape := ⟨2, ![512, 512]⟩
abbrev S1024 : Shape := ⟨1, ![1024]⟩
abbrev S1024x4444 : Shape := ⟨2, ![1024, 4444]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S1024x2048 : Shape := ⟨2, ![1024, 2048]⟩
abbrev S512x2048 : Shape := ⟨2, ![512, 2048]⟩
abbrev S512x2x1024 : Shape := ⟨3, ![512, 2, 1024]⟩
abbrev S512x1x1024 : Shape := ⟨3, ![512, 1, 1024]⟩
abbrev S512x2816 : Shape := ⟨2, ![512, 2816]⟩

abbrev nBuf : Space → Nat
  | .hbm => 97
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S1024, .f32⟩
  | .hbm, ⟨4, _⟩ => ⟨S1024x4444, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S512x1024, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x1024, .f32⟩
  | .hbm, ⟨25, _⟩ => ⟨S512x1024, .f32⟩
  | .hbm, ⟨26, _⟩ => ⟨S1x1024, .f32⟩
  | .hbm, ⟨27, _⟩ => ⟨S512x1024, .f32⟩
  | .hbm, ⟨28, _⟩ => ⟨S512x1024, .f32⟩
  | .hbm, ⟨29, _⟩ => ⟨S1024x2048, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | .hbm, ⟨39, _⟩ => ⟨S512x2x1024, .f32⟩
  | .hbm, ⟨40, _⟩ => ⟨S512x1x1024, .f32⟩
  | .hbm, ⟨41, _⟩ => ⟨S512x1024, .f32⟩
  | .hbm, ⟨42, _⟩ => ⟨S512x1024, .f32⟩
  | .hbm, ⟨43, _⟩ => ⟨S512x1024, .f32⟩
  | .hbm, ⟨44, _⟩ => ⟨S512x1x1024, .f32⟩
  | .hbm, ⟨45, _⟩ => ⟨S512x1024, .f32⟩
  | .hbm, ⟨46, _⟩ => ⟨S512x1024, .f32⟩
  | .hbm, ⟨47, _⟩ => ⟨S512x1024, .f32⟩
  | .hbm, ⟨48, _⟩ => ⟨S512x1024, .f32⟩
  | .hbm, ⟨49, _⟩ => ⟨S512x1024, .f32⟩
  | .hbm, ⟨50, _⟩ => ⟨S512x1024, .f32⟩
  | .hbm, ⟨51, _⟩ => ⟨S512x1024, .f32⟩
  | .hbm, ⟨52, _⟩ => ⟨S_, .f32⟩
  | .hbm, ⟨53, _⟩ => ⟨S512, .f32⟩
  | .hbm, ⟨54, _⟩ => ⟨S512x1, .f32⟩
  | .hbm, ⟨55, _⟩ => ⟨S_, .f32⟩
  | .hbm, ⟨56, _⟩ => ⟨S512x1, .f32⟩
  | .hbm, ⟨57, _⟩ => ⟨S512x1, .f32⟩
  | .hbm, ⟨58, _⟩ => ⟨S_, .f32⟩
  | .hbm, ⟨59, _⟩ => ⟨S512x1, .f32⟩
  | .hbm, ⟨60, _⟩ => ⟨S512x1, .f32⟩
  | .hbm, ⟨61, _⟩ => ⟨S512x1, .f32⟩
  | .hbm, ⟨62, _⟩ => ⟨S512x1024, .f32⟩
  | .hbm, ⟨63, _⟩ => ⟨S512x1024, .f32⟩
  | .hbm, ⟨64, _⟩ => ⟨S1x1024, .f32⟩
  | .hbm, ⟨65, _⟩ => ⟨S512x1024, .f32⟩
  | .hbm, ⟨66, _⟩ => ⟨S512x1024, .f32⟩
  | .hbm, ⟨67, _⟩ => ⟨S512x2816, .f32⟩
  | .hbm, ⟨68, _⟩ => ⟨S512x2816, .f32⟩
  | .hbm, ⟨69, _⟩ => ⟨S512x2816, .f32⟩
  | .hbm, ⟨70, _⟩ => ⟨S_, .f32⟩
  | .hbm, ⟨71, _⟩ => ⟨S512x2816, .f32⟩
  | .hbm, ⟨72, _⟩ => ⟨S512x2816, .f32⟩
  | .hbm, ⟨73, _⟩ => ⟨S_, .f32⟩
  | .hbm, ⟨74, _⟩ => ⟨S512x2816, .f32⟩
  | .hbm, ⟨75, _⟩ => ⟨S512x2816, .f32⟩
  | .hbm, ⟨76, _⟩ => ⟨S512x2816, .f32⟩
  | .hbm, ⟨77, _⟩ => ⟨S512x2816, .f32⟩
  | .hbm, ⟨78, _⟩ => ⟨S512x2816, .f32⟩
  | .hbm, ⟨79, _⟩ => ⟨S512x1024, .f32⟩
  | .hbm, ⟨80, _⟩ => ⟨S512x1024, .f32⟩
  | .hbm, ⟨81, _⟩ => ⟨S512x1024, .f32⟩
  | .hbm, ⟨82, _⟩ => ⟨S_, .f32⟩
  | .hbm, ⟨83, _⟩ => ⟨S512, .f32⟩
  | .hbm, ⟨84, _⟩ => ⟨S512x1, .f32⟩
  | .hbm, ⟨85, _⟩ => ⟨S_, .f32⟩
  | .hbm, ⟨86, _⟩ => ⟨S512x1, .f32⟩
  | .hbm, ⟨87, _⟩ => ⟨S512x1, .f32⟩
  | .hbm, ⟨88, _⟩ => ⟨S_, .f32⟩
  | .hbm, ⟨89, _⟩ => ⟨S512x1, .f32⟩
  | .hbm, ⟨90, _⟩ => ⟨S512x1, .f32⟩
  | .hbm, ⟨91, _⟩ => ⟨S512x1, .f32⟩
  | .hbm, ⟨92, _⟩ => ⟨S512x1024, .f32⟩
  | .hbm, ⟨93, _⟩ => ⟨S512x1024, .f32⟩
  | .hbm, ⟨94, _⟩ => ⟨S1x1024, .f32⟩
  | .hbm, ⟨95, _⟩ => ⟨S512x1024, .f32⟩
  | .hbm, ⟨96, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== Proof.Rows.lean ====
/- The mathematics of the dense calls, a row at a time over the extended reals: the root-mean-square norm,
   the gated feed-forward, and a sum over a range cut in two. -/
module

public import Idealize.ShloMosaic.Lib.Pointwise
public import Idealize.ShloMosaic.PureOps.Ideal

@[expose] public section

noncomputable section

namespace Cert.Rows

open Idealize.ShloMosaic

/-- The norm's mean divisor, 1024, as the word both programs write. -/
abbrev c1024 : EReal := Ideal.ofBits .f32 0x44800000#32
/-- The norm's epsilon as the word both programs write. -/
abbrev cEps : EReal := Ideal.ofBits .f32 0x358637BD#32

/-- Root-mean-square norm of a row `x` with gain `g`. -/
def rms (x g : Fin 1024 → EReal) (j : Fin 1024) : EReal :=
  x j * Ideal.rsqrt (Ideal.div (∑ k, x k * x k) c1024 + cEps) * g j

/-- One hidden feature of the gated feed-forward: `silu(a) · b` for the two products `a`, `b`. -/
def swi (a b : EReal) : EReal := a * Ideal.logistic a * b

/-- One hidden feature from the normed row and the two weight columns. -/
def act (h : Fin 1024 → EReal) (wg wu : Fin 1024 → EReal) : EReal :=
  swi (∑ k, h k * wg k) (∑ k, h k * wu k)

/-- The row the feed-forward adds to its input. -/
def ffnSum (x g : Fin 1024 → EReal) (wg wu : Fin 1024 → Fin 2816 → EReal) (wd : Fin 2816 → Fin 1024 → EReal)
    (j : Fin 1024) : EReal :=
  x j + ∑ f, act (rms x g) (fun k => wg k f) (fun k => wu k f) * wd f j

/-- The feed-forward's residual row with its final norm. -/
def ffnRow (x g1 g2 : Fin 1024 → EReal) (wg wu : Fin 1024 → Fin 2816 → EReal) (wd : Fin 2816 → Fin 1024 → EReal) :
    Fin 1024 → EReal :=
  rms (ffnSum x g1 wg wu wd) g2

/-- A sum over 2816 terms is the sum of its first 1408 and of its last 1408. -/
theorem sum_halves (f : Fin 2816 → EReal) :
    ∑ k, f k = (∑ k : Fin 1408, f ⟨k.val, by omega⟩) + ∑ k : Fin 1408, f ⟨1408 + k.val, by omega⟩ := by
  exact Fin.sum_univ_add (a := 1408) (b := 1408) f

/-- The gate of one feature: the logistic of the normed row's product with a gate column. -/
def gate (h : Fin 1024 → EReal) (w : Fin 1024 → Fin 1024 → EReal) (k : Fin 1024) : EReal :=
  Ideal.logistic (∑ i, h i * w i k)

/-- The merge of two branches: each branch's projection under its gate, summed, projected and added to the input. -/
def mergeRow (x g : Fin 1024 → EReal) (ga gb : Fin 1024 → Fin 1024 → EReal) (oa ob : Fin 512 → EReal)
    (wa wb : Fin 512 → Fin 1024 → EReal) (wo : Fin 1024 → Fin 1024 → EReal) (j : Fin 1024) : EReal :=
  x j + ∑ k, (gate (rms x g) ga k * (∑ i, oa i * wa i k) + gate (rms x g) gb k * (∑ i, ob i * wb i k)) * wo k j

/-- The column of 512 that lane `l` of a 1024-lane layout holds: eight heads of 128 lanes, each the head's
    64 columns twice. -/
def lane (l : Fin 1024) : Fin 512 := ⟨64 * (l.val / 128) + l.val % 64, by omega⟩

/-- Whether lane `l` of the 1024-lane layout is kept: the first half of a head of the first four, the second half
    of a head of the last four. -/
def keep (l : Fin 1024) : EReal := if l.val / 64 % 2 = l.val / 512 then 1 else 0

/-- A product summed over the 1024-lane layout is the product summed over the 512 columns. -/
theorem sum_lanes (o w : Fin 512 → EReal) :
    ∑ l : Fin 1024, (o (lane l) * keep l) * (w (lane l) * keep l) = ∑ i : Fin 512, o i * w i := by
  rw [Fin.sum_univ_tiles 8 128 rfl, Fin.sum_univ_tiles 8 64 rfl (fun i : Fin 512 => o i * w i)]
  refine Finset.sum_congr rfl fun a _ => ?_
  have hs := Fin.sum_univ_add (a := 64) (b := 64) (fun b : Fin 128 =>
    (o (lane ⟨a.val * 128 + b.val, by omega⟩) * keep ⟨a.val * 128 + b.val, by omega⟩)
      * (w (lane ⟨a.val * 128 + b.val, by omega⟩) * keep ⟨a.val * 128 + b.val, by omega⟩))
  have hlo : ∀ i : Fin 64, lane ⟨a.val * 128 + (Fin.castAdd 64 i).val, by
      have := (Fin.castAdd 64 i).isLt; omega⟩ = ⟨a.val * 64 + i.val, by omega⟩ := by
    intro i; apply Fin.ext; simp only [lane, Fin.val_castAdd]; omega
  have hhi : ∀ i : Fin 64, lane ⟨a.val * 128 + (Fin.natAdd 64 i).val, by
      have := (Fin.natAdd 64 i).isLt; omega⟩ = ⟨a.val * 64 + i.val, by omega⟩ := by
    intro i; apply Fin.ext; simp only [lane, Fin.val_natAdd]; omega
  refine hs.trans ?_
  simp only [hlo, hhi]
  by_cases h : a.val < 4
  · have klo : ∀ i : Fin 64, keep ⟨a.val * 128 + (Fin.castAdd 64 i).val, by
        have := (Fin.castAdd 64 i).isLt; omega⟩ = 1 := by
      intro i; simp only [keep, Fin.val_castAdd]; exact if_pos (by omega)
    have khi : ∀ i : Fin 64, keep ⟨a.val * 128 + (Fin.natAdd 64 i).val, by
        have := (Fin.natAdd 64 i).isLt; omega⟩ = 0 := by
      intro i; simp only [keep, Fin.val_natAdd]; exact if_neg (by omega)
    simp only [klo, khi, mul_one, mul_zero, Finset.sum_const_zero, add_zero]
  · have klo : ∀ i : Fin 64, keep ⟨a.val * 128 + (Fin.castAdd 64 i).val, by
        have := (Fin.castAdd 64 i).isLt; omega⟩ = 0 := by
      intro i; simp only [keep, Fin.val_castAdd]; exact if_neg (by omega)
    have khi : ∀ i : Fin 64, keep ⟨a.val * 128 + (Fin.natAdd 64 i).val, by
        have := (Fin.natAdd 64 i).isLt; omega⟩ = 1 := by
      intro i; simp only [keep, Fin.val_natAdd]; exact if_pos (by omega)
    simp only [klo, khi, mul_one, mul_zero, Finset.sum_const_zero, zero_add]

end Cert.Rows

end
-- ==== Proof.FfnBlock.lean ====
/- What one grid point of the feed-forward kernel stores, a row at a time. -/
module

public import proofs.«01_k».proof.Proof.Rows
public import proofs.«01_k».proof.Proof.Gen.FfnIdeal.Skeleton

@[expose] public section

set_option maxRecDepth 16384

noncomputable section

open Idealize.ShloMosaic Idealize.ShloMosaic.TcCoe Idealize.SL.Sem
open scoped BigOperators

namespace Cert.FfnIdeal.Block

open Cert.FfnIdeal Cert.FfnIdeal.Gen Cert.Rows

theorem pay2_at (x : FVec Ideal S512x1024 .f32) (g : FVec Ideal S1x1024 .f32) (r : Fin 512) (j : Fin 1024) :
    k0_pay2 (F := Ideal) x g (ix2 r j) = rms (fun k => x (ix2 r k)) (fun k => g (ix2 0 k)) j := by
  pointwise! [k0_pay2, rms]

theorem pay4_at (x : FVec Ideal S512x1024 .f32) (g : FVec Ideal S1x1024 .f32) (w : FVec Ideal S1024x1408 .bf16)
    (r : Fin 512) (f : Fin 1408) :
    k0_pay4 (F := Ideal) x g w (ix2 r f) = ∑ k : Fin 1024, k0_pay2 (F := Ideal) x g (ix2 r k) * w (ix2 k f) := by
  pointwise! [k0_pay4]

theorem pay5_at (x : FVec Ideal S512x1024 .f32) (g : FVec Ideal S1x1024 .f32) (w : FVec Ideal S1024x1408 .bf16)
    (r : Fin 512) (f : Fin 1408) :
    k0_pay5 (F := Ideal) x g w (ix2 r f) = ∑ k : Fin 1024, k0_pay2 (F := Ideal) x g (ix2 r k) * w (ix2 k f) := by
  pointwise! [k0_pay5]

theorem pay6_at (x : FVec Ideal S512x1024 .f32) (g : FVec Ideal S1x1024 .f32) (w : FVec Ideal S1024x1408 .bf16)
    (r : Fin 512) (f : Fin 1408) :
    k0_pay6 (F := Ideal) x g w (ix2 r f) = Ideal.logistic (k0_pay4 (F := Ideal) x g w (ix2 r f)) := by
  pointwise! [k0_pay6]

theorem pay3_at (x : FVec Ideal S512x1024 .f32) (g : FVec Ideal S1x1024 .f32) (wg wu : FVec Ideal S1024x1408 .bf16)
    (wd : FVec Ideal S1408x1024 .bf16) (r : Fin 512) (j : Fin 1024) :
    k0_pay3 (F := Ideal) x g wg wu wd (ix2 r j) = x (ix2 r j)
      + ∑ f : Fin 1408, swi (∑ k : Fin 1024, k0_pay2 (F := Ideal) x g (ix2 r k) * wg (ix2 k f))
          (∑ k : Fin 1024, k0_pay2 (F := Ideal) x g (ix2 r k) * wu (ix2 k f)) * wd (ix2 f j) := by
  pointwise! [k0_pay3, swi]

/-- The block the body stores, from the running row `a`, the second half's products and the second half of the
    down weight. -/
theorem pay1_at (a : FVec Ideal S512x1024 .f32) (p q l : FVec Ideal S512x1408 .f32)
    (wd : FVec Ideal S1408x1024 .bf16) (g : FVec Ideal S1x1024 .f32) (r : Fin 512) (j : Fin 1024) :
    k0_pay1 (F := Ideal) a p q l wd g (ix2 r j)
      = rms (fun j => a (ix2 r j) + ∑ f : Fin 1408, p (ix2 r f) * l (ix2 r f) * q (ix2 r f) * wd (ix2 f j))
          (fun k => g (ix2 0 k)) j := by
  pointwise! [k0_pay1, rms]

end Cert.FfnIdeal.Block

end
-- ==== Proof.FfnRef.lean ====
/- What the feed-forward's reference computes, a row at a time. -/
module

public import proofs.«01_k».proof.Proof.Rows
public import proofs.«01_k».proof.Proof.Gen.FfnRefIdeal.Run

@[expose] public section

set_option maxRecDepth 16384

noncomputable section

open Idealize.ShloMosaic Idealize.ShloMosaic.TcCoe Idealize.SL.Sem
open scoped BigOperators

namespace Cert.FfnRefIdeal.Read

open Cert.FfnRefIdeal Cert.FfnRefIdeal.Gen Cert.Rows

/-- The reference's root-mean-square norm of every row. -/
def nrm (x : FVec Ideal S16384x1024 .f32) (g : FVec Ideal S1024 .f32) : FVec Ideal S16384x1024 .f32 :=
  mulf (mulf x (broadcastInDim S16384x1024 ![0, 1] bcast_S16384x1_S16384x1024_0_1
    (Host.rsqrt (addf (Host.divf (broadcastInDim S16384x1 ![0] bcast_S16384_S16384x1_0
      (Host.reduceAdd (mulf x x) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1
      (broadcastInDim S1x1024 ![1] bcast_S1024_S1x1024_1 g))

/-- The reference's product with a 2816-column weight. -/
def up (h : FVec Ideal S16384x1024 .f32) (w : FVec Ideal S1024x2816 .f32) : FVec Ideal S16384x2816 .f32 :=
  Host.dotGeneral dot_S16384x1024_S1024x2816_S16384x2816_1_0_0_1_n_n none h w

/-- The reference's gate `silu(a) · b`. -/
def gated (a b : FVec Ideal S16384x2816 .f32) : FVec Ideal S16384x2816 .f32 :=
  mulf (mulf a (Host.divf (broadcastInDim S16384x2816 ![] bcast_S_S16384x2816 (constant S_ .f32 0x3F800000#32))
    (addf (broadcastInDim S16384x2816 ![] bcast_S_S16384x2816 (constant S_ .f32 0x3F800000#32))
      (Host.exp (Host.negf a))))) b

/-- The reference's residual: the input plus the product with the down weight. -/
def resid (x : FVec Ideal S16384x1024 .f32) (a : FVec Ideal S16384x2816 .f32) (w : FVec Ideal S2816x1024 .f32) :
    FVec Ideal S16384x1024 .f32 :=
  addf x (Host.dotGeneral dot_S16384x2816_S2816x1024_S16384x1024_1_0_0_1_n_n none a w)

/-- The reference's result from its arguments. -/
def out (x : FVec Ideal S16384x1024 .f32) (g1 g2 : FVec Ideal S1024 .f32) (wg wu : FVec Ideal S1024x2816 .f32)
    (wd : FVec Ideal S2816x1024 .f32) : FVec Ideal S16384x1024 .f32 :=
  nrm (resid x (gated (up (nrm x g1) wg) (up (nrm x g1) wu)) wd) g2

theorem nrm_at (x : FVec Ideal S16384x1024 .f32) (g : FVec Ideal S1024 .f32) (r : Fin 16384) (j : Fin 1024) :
    nrm x g (ix2 r j) = rms (fun k => x (ix2 r k)) (fun k => g (ix1 k)) j := by
  pointwise! [nrm, rms]

theorem up_at (h : FVec Ideal S16384x1024 .f32) (w : FVec Ideal S1024x2816 .f32) (r : Fin 16384) (f : Fin 2816) :
    up h w (ix2 r f) = ∑ k : Fin 1024, h (ix2 r k) * w (ix2 k f) := by
  pointwise! [up]

theorem gated_at (a b : FVec Ideal S16384x2816 .f32) (r : Fin 16384) (f : Fin 2816) :
    gated a b (ix2 r f) = swi (a (ix2 r f)) (b (ix2 r f)) := by
  pointwise! [gated, swi, Ideal.logistic]

theorem resid_at (x : FVec Ideal S16384x1024 .f32) (a : FVec Ideal S16384x2816 .f32) (w : FVec Ideal S2816x1024 .f32)
    (r : Fin 16384) (j : Fin 1024) :
    resid x a w (ix2 r j) = x (ix2 r j) + ∑ f : Fin 2816, a (ix2 r f) * w (ix2 f j) := by
  pointwise! [resid]

/-- The reference's result, read at a row and a column. -/
theorem out_at (x : FVec Ideal S16384x1024 .f32) (g1 g2 : FVec Ideal S1024 .f32) (wg wu : FVec Ideal S1024x2816 .f32)
    (wd : FVec Ideal S2816x1024 .f32) (r : Fin 16384) (j : Fin 1024) :
    out x g1 g2 wg wu wd (ix2 r j) = ffnRow (fun k => x (ix2 r k)) (fun k => g1 (ix1 k)) (fun k => g2 (ix1 k))
      (fun k f => wg (ix2 k f)) (fun k f => wu (ix2 k f)) (fun f k => wd (ix2 f k)) j := by
  rw [out, nrm_at]
  simp only [resid_at, gated_at, up_at, nrm_at]
  rfl

/-- The generated result term is this composition. -/
theorem res_eq (m : (ℓ : Loc nD τ sig) → Buf (Elt Ideal) ℓ) (c : Dev nD) :
    Cert.FfnRefIdeal.Value.res_out0 m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  with_unfolding_all rfl

end Cert.FfnRefIdeal.Read

end
-- ==== Proof.FfnValue.lean ====
/- What the feed-forward kernel's result array holds after the run. -/
module

public import proofs.«01_k».proof.Proof.FfnBlock
public import proofs.«01_k».proof.Proof.FfnRef
public import proofs.«01_k».proof.Proof.Gen.FfnIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FfnIdeal.Whole

open Cert.FfnIdeal Cert.FfnIdeal.Gen Cert.Rows

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0] :=
  (by decide +kernel : ∀ t : Fin grid0.N, _)

/-- What the body computes from its blocks, at a row and a column. -/
theorem block_at (x : FVec Ideal S512x1024 .f32) (g1 g2 : FVec Ideal S1x1024 .f32)
    (wg wu : Fin 1024 → Fin 2816 → EReal) (wd : Fin 2816 → Fin 1024 → EReal)
    (ga ua gb ub : FVec Ideal S1024x1408 .bf16) (da db : FVec Ideal S1408x1024 .bf16)
    (hga : ∀ k (f : Fin 1408), ga (ix2 k f) = wg k ⟨f.val, by omega⟩)
    (hgb : ∀ k (f : Fin 1408), gb (ix2 k f) = wg k ⟨1408 + f.val, by omega⟩)
    (hua : ∀ k (f : Fin 1408), ua (ix2 k f) = wu k ⟨f.val, by omega⟩)
    (hub : ∀ k (f : Fin 1408), ub (ix2 k f) = wu k ⟨1408 + f.val, by omega⟩)
    (hda : ∀ (f : Fin 1408) k, da (ix2 f k) = wd ⟨f.val, by omega⟩ k)
    (hdb : ∀ (f : Fin 1408) k, db (ix2 f k) = wd ⟨1408 + f.val, by omega⟩ k)
    (r : Fin 512) (j : Fin 1024) :
    k0_pay1 (F := Ideal) (k0_pay3 x g1 ga ua da) (k0_pay4 x g1 gb) (k0_pay5 x g1 ub) (k0_pay6 x g1 gb) db g2 (ix2 r j)
      = ffnRow (fun k => x (ix2 r k)) (fun k => g1 (ix2 0 k)) (fun k => g2 (ix2 0 k)) wg wu wd j := by
  rw [Block.pay1_at]
  simp only [Block.pay3_at, Block.pay6_at, Block.pay5_at, Block.pay4_at, Block.pay2_at, hga, hgb, hua, hub, hda, hdb]
  unfold ffnRow
  congr 1
  funext j
  unfold ffnSum
  rw [sum_halves, ← add_assoc]
  rfl

/-- The row of the activations that row `y0` of point `t`'s block is. -/
def row (t : Fin cfg0.N) (y0 : Fin 512) : Fin 16384 :=
  ⟨t.val * 512 + y0.val, by have : t.val < 32 := t.isLt; omega⟩

theorem in0 (c : Dev nD) (t : Fin cfg0.N) (r : Fin 512) (k : Fin 1024) :
    (iblk m c 0 t : FVec Ideal S512x1024 .f32) (ix2 r k) = m ((c : Thread nD τ).loc main_arg0) (ix2 (row t r) k) := by
  blk_ext! [iblk, V, row, idx t]

theorem in1 (c : Dev nD) (t : Fin cfg0.N) (k : Fin 1024) :
    (iblk m c 1 t : FVec Ideal S1x1024 .f32) (ix2 0 k) = m ((c : Thread nD τ).loc main_arg1) (ix1 k) := by
  blk_simp [iblk]; entry_read; pointwise; blk_ext! [idx t]

theorem in2 (c : Dev nD) (t : Fin cfg0.N) (k : Fin 1024) :
    (iblk m c 2 t : FVec Ideal S1x1024 .f32) (ix2 0 k) = m ((c : Thread nD τ).loc main_arg2) (ix1 k) := by
  blk_simp [iblk]; entry_read; pointwise; blk_ext! [idx t]

theorem in3 (c : Dev nD) (t : Fin cfg0.N) :
    (iblk m c 3 t : FVec Ideal S1024x2816 .bf16) = m ((c : Thread nD τ).loc main_arg3) := by
  funext y; blk_simp [iblk]; entry_read; blk_ext! [idx t]

theorem in4 (c : Dev nD) (t : Fin cfg0.N) :
    (iblk m c 4 t : FVec Ideal S1024x2816 .bf16) = m ((c : Thread nD τ).loc main_arg4) := by
  funext y; blk_simp [iblk]; entry_read; blk_ext! [idx t]

theorem in5 (c : Dev nD) (t : Fin cfg0.N) :
    (iblk m c 5 t : FVec Ideal S2816x1024 .bf16) = m ((c : Thread nD τ).loc main_arg5) := by
  funext y; blk_simp [iblk]; entry_read; blk_ext! [idx t]

theorem outPos (t : Fin cfg0.N) (y0 : Fin 512) (y1 : Fin 1024) :
    ((cfg0.win 6).blk t).view.emb (ix2 y0 y1) = ix2 (row t y0) y1 := by
  blk_ext! [row, idx t]

theorem point (c : Dev nD) (t : Fin cfg0.N) (y : S512x1024.Idx) :
    k0_pay1 (k0_pay3 (iblk m c 0 t) (iblk m c 1 t) (View.ld (iblk m c 3 t) r0_2) (View.ld (iblk m c 4 t) r0_2)
      (View.ld (iblk m c 5 t) r0_3)) (k0_pay4 (iblk m c 0 t) (iblk m c 1 t) (View.ld (iblk m c 3 t) r0_4)) (k0_pay5
      (iblk m c 0 t) (iblk m c 1 t) (View.ld (iblk m c 4 t) r0_4)) (k0_pay6 (iblk m c 0 t) (iblk m c 1 t) (View.ld (iblk
      m c 3 t) r0_4)) (View.ld (iblk m c 5 t) r0_5) (iblk m c 2 t) y
      = Cert.FfnRefIdeal.Read.out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (((cfg0.win 6).blk t).view.emb y) := by
  idx_vars y
  refine (block_at _ _ _ (fun k f => m ((c : Thread nD τ).loc main_arg3) (ix2 k f))
    (fun k f => m ((c : Thread nD τ).loc main_arg4) (ix2 k f)) (fun f k => m ((c : Thread nD τ).loc main_arg5) (ix2 f k))
    _ _ _ _ _ _ ?_ ?_ ?_ ?_ ?_ ?_ _ _).trans ?_
  · intro k f; rw [in3]; pointwise [r0_2]
  · intro k f; rw [in3]; pointwise [r0_4]
  · intro k f; rw [in4]; pointwise [r0_2]
  · intro k f; rw [in4]; pointwise [r0_4]
  · intro k f; rw [in5]; pointwise [r0_3]
  · intro k f; rw [in5]; pointwise [r0_5]
  · refine Eq.trans ?_ (congrArg _ (outPos t y0 y1).symm)
    refine Eq.trans ?_ (Cert.FfnRefIdeal.Read.out_at _ _ _ _ _ _ _ _).symm
    simp only [in0, in1, in2]

/-- The result array after the run is the reference's result. -/
theorem final (c : Dev nD) : (dats m 0 c).arrAt 6 (cfgs 0).N
    = Cert.FfnRefIdeal.Read.out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hf y => ?_
  blk_simp; rw [after0_6]; frame_out
  exact point m c t y

end Cert.FfnIdeal.Whole

end
-- ==== Proof.FfnClaim.lean ====
/- The feed-forward kernel computes its reference. -/
module

public import proofs.«01_k».proof.Defs
public import proofs.«01_k».proof.Proof.FfnValue
public import proofs.«01_k».proof.Proof.Gen.FfnIdeal.Value

@[expose] public section

set_option maxRecDepth 16384

noncomputable section

open Idealize.ShloMosaic Idealize.SL.Sem

namespace Cert.FfnValue

/-- From memories that agree on the arguments the kernel and its reference end with equal results. -/
theorem algebraic : Cert.algebraic_FfnIdeal_FfnRefIdeal (hFfnIdeal := Cert.FfnIdeal.Gen.facts)
    (hFfnRefIdeal := Cert.FfnRefIdeal.Gen.facts) := by
  pair_intro
  · run_from Cert.FfnIdeal.Value.run_blocks m g
  · run_from Cert.FfnRefIdeal.Value.run m' g'
    refine (Cert.FfnRefIdeal.Read.res_eq m' c).trans (Eq.trans ?_ (Cert.FfnIdeal.Whole.final m c).symm)
    obtain ⟨h0, h1, h2, h3, h4, h5⟩ := hagree c
    rw [h0, h1, h2, h3, h4, h5]

end Cert.FfnValue

end
-- ==== Proof.MergeBlock.lean ====
/- What one grid point of the merge kernel stores, a row at a time. -/
module

public import proofs.«01_k».proof.Proof.Rows
public import proofs.«01_k».proof.Proof.Gen.MergeIdeal.Skeleton

@[expose] public section

set_option maxRecDepth 16384

noncomputable section

open Idealize.ShloMosaic Idealize.ShloMosaic.TcCoe Idealize.SL.Sem
open scoped BigOperators

namespace Cert.MergeIdeal.Block

open Cert.MergeIdeal Cert.MergeIdeal.Gen Cert.Rows

theorem pay2_at (x : FVec Ideal S512x1024 .f32) (g : FVec Ideal S1x1024 .f32) (r : Fin 512) (j : Fin 1024) :
    k0_pay2 (F := Ideal) x g (ix2 r j) = rms (fun k => x (ix2 r k)) (fun k => g (ix2 0 k)) j := by
  pointwise! [k0_pay2, rms]

theorem pay3_at (x : FVec Ideal S512x1024 .f32) (g : FVec Ideal S1x1024 .f32) (wg : FVec Ideal S1024x1024 .bf16)
    (o : FVec Ideal S512x1024 .bf16) (w : FVec Ideal S1024x1024 .bf16) (r : Fin 512) (j : Fin 1024) :
    k0_pay3 (F := Ideal) x g wg o w (ix2 r j)
      = Ideal.logistic (∑ k : Fin 1024, k0_pay2 (F := Ideal) x g (ix2 r k) * wg (ix2 k j))
        * ∑ l : Fin 1024, o (ix2 r l) * w (ix2 l j) := by
  pointwise! [k0_pay3]

theorem pay4_at (x : FVec Ideal S512x1024 .f32) (g : FVec Ideal S1x1024 .f32) (wg : FVec Ideal S1024x1024 .bf16)
    (o : FVec Ideal S512x1024 .bf16) (w : FVec Ideal S1024x1024 .bf16) (r : Fin 512) (j : Fin 1024) :
    k0_pay4 (F := Ideal) x g wg o w (ix2 r j)
      = Ideal.logistic (∑ k : Fin 1024, k0_pay2 (F := Ideal) x g (ix2 r k) * wg (ix2 k j))
        * ∑ l : Fin 1024, o (ix2 r l) * w (ix2 l j) := by
  pointwise! [k0_pay4]

theorem pay1_at (x a b : FVec Ideal S512x1024 .f32) (w : FVec Ideal S1024x1024 .bf16) (r : Fin 512) (j : Fin 1024) :
    k0_pay1 (F := Ideal) x a b w (ix2 r j)
      = x (ix2 r j) + ∑ k : Fin 1024, (a (ix2 r k) + b (ix2 r k)) * w (ix2 k j) := by
  pointwise! [k0_pay1]

/-- What the body computes from blocks laid out in lanes, at a row and a column. -/
theorem block_at (x : FVec Ideal S512x1024 .f32) (g : FVec Ideal S1x1024 .f32) (ga gb : FVec Ideal S1024x1024 .bf16)
    (oa ob : FVec Ideal S512x1024 .bf16) (wa wb : FVec Ideal S1024x1024 .bf16) (wo : FVec Ideal S1024x1024 .bf16)
    (pa pb : Fin 512 → Fin 512 → EReal) (qa qb : Fin 512 → Fin 1024 → EReal)
    (hoa : ∀ r l, oa (ix2 r l) = pa r (lane l) * keep l) (hob : ∀ r l, ob (ix2 r l) = pb r (lane l) * keep l)
    (hwa : ∀ l k, wa (ix2 l k) = qa (lane l) k * keep l) (hwb : ∀ l k, wb (ix2 l k) = qb (lane l) k * keep l)
    (r : Fin 512) (j : Fin 1024) :
    k0_pay1 (F := Ideal) x (k0_pay3 x g ga oa wa) (k0_pay4 x g gb ob wb) wo (ix2 r j)
      = mergeRow (fun k => x (ix2 r k)) (fun k => g (ix2 0 k)) (fun k f => ga (ix2 k f)) (fun k f => gb (ix2 k f))
        (pa r) (pb r) qa qb (fun k j => wo (ix2 k j)) j := by
  rw [pay1_at]
  simp only [pay3_at, pay4_at, pay2_at, hoa, hob, hwa, hwb]
  have hA := fun k => sum_lanes (pa r) (fun i => qa i k)
  have hB := fun k => sum_lanes (pb r) (fun i => qb i k)
  simp only [hA, hB]
  rfl

end Cert.MergeIdeal.Block

end
-- ==== Proof.MergeRef.lean ====
/- What the merge's reference computes, a row at a time. -/
module

public import proofs.«01_k».proof.Proof.Rows
public import proofs.«01_k».proof.Proof.Gen.MergeRefIdeal.Run

@[expose] public section

set_option maxRecDepth 16384

noncomputable section

open Idealize.ShloMosaic Idealize.ShloMosaic.TcCoe Idealize.SL.Sem
open scoped BigOperators

namespace Cert.MergeRefIdeal.Read

open Cert.MergeRefIdeal Cert.MergeRefIdeal.Gen Cert.Rows

/-- The reference's root-mean-square norm of every row. -/
def nrm (x : FVec Ideal S16384x1024 .f32) (g : FVec Ideal S1024 .f32) : FVec Ideal S16384x1024 .f32 :=
  mulf (mulf x (broadcastInDim S16384x1024 ![0, 1] bcast_S16384x1_S16384x1024_0_1
    (Host.rsqrt (addf (Host.divf (broadcastInDim S16384x1 ![0] bcast_S16384_S16384x1_0
      (Host.reduceAdd (mulf x x) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1
      (broadcastInDim S1x1024 ![1] bcast_S1024_S1x1024_1 g))

/-- The reference's product with the gate columns of the packed weight, 2396 on. -/
def gin (h : FVec Ideal S16384x1024 .f32) (w : FVec Ideal S1024x4444 .f32) : FVec Ideal S16384x2048 .f32 :=
  Host.dotGeneral dot_S16384x1024_S1024x2048_S16384x2048_1_0_0_1_n_n none h
    (extractStridedSlice S1024x2048 ![0, 2396] w slices_S1024x4444_S1024x2048_0_2396)

/-- The reference's sigmoid of both gates. -/
def gates (a : FVec Ideal S16384x2048 .f32) : FVec Ideal S16384x2048 .f32 :=
  Host.divf (broadcastInDim S16384x2048 ![] bcast_S_S16384x2048 (constant S_ .f32 0x3F800000#32))
    (addf (broadcastInDim S16384x2048 ![] bcast_S_S16384x2048 (constant S_ .f32 0x3F800000#32))
      (Host.exp (Host.negf a)))

/-- The first branch's gate, a column a feature. -/
def gateA (a : FVec Ideal S16384x2048 .f32) : FVec Ideal S16384x1024 .f32 :=
  shapeCast _ (extractStridedSlice S16384x1x1024 ![0, 0, 0] (shapeCast _ a shapeCasts_S16384x2048_S16384x2x1024)
    slices_S16384x2x1024_S16384x1x1024_0_0_0) shapeCasts_S16384x1x1024_S16384x1024

/-- The second branch's gate. -/
def gateB (a : FVec Ideal S16384x2048 .f32) : FVec Ideal S16384x1024 .f32 :=
  shapeCast _ (extractStridedSlice S16384x1x1024 ![0, 1, 0] (shapeCast _ a shapeCasts_S16384x2048_S16384x2x1024)
    slices_S16384x2x1024_S16384x1x1024_0_1_0) shapeCasts_S16384x1x1024_S16384x1024

/-- A branch's projection. -/
def branch (o : FVec Ideal S16384x512 .f32) (w : FVec Ideal S512x1024 .f32) : FVec Ideal S16384x1024 .f32 :=
  Host.dotGeneral dot_S16384x512_S512x1024_S16384x1024_1_0_0_1_n_n none o w

/-- The residual with the output projection. -/
def resid (x a : FVec Ideal S16384x1024 .f32) (w : FVec Ideal S1024x1024 .f32) : FVec Ideal S16384x1024 .f32 :=
  addf x (Host.dotGeneral dot_S16384x1024_S1024x1024_S16384x1024_1_0_0_1_n_n none a w)

/-- The reference's result from its arguments. -/
def out (x : FVec Ideal S16384x1024 .f32) (oa ob : FVec Ideal S16384x512 .f32) (g : FVec Ideal S1024 .f32)
    (w : FVec Ideal S1024x4444 .f32) (wa wb : FVec Ideal S512x1024 .f32) (wo : FVec Ideal S1024x1024 .f32) :
    FVec Ideal S16384x1024 .f32 :=
  resid x (addf (mulf (gateA (gates (gin (nrm x g) w))) (branch oa wa))
    (mulf (gateB (gates (gin (nrm x g) w))) (branch ob wb))) wo

theorem nrm_at (x : FVec Ideal S16384x1024 .f32) (g : FVec Ideal S1024 .f32) (r : Fin 16384) (j : Fin 1024) :
    nrm x g (ix2 r j) = rms (fun k => x (ix2 r k)) (fun k => g (ix1 k)) j := by
  pointwise! [nrm, rms]

theorem gin_at (h : FVec Ideal S16384x1024 .f32) (w : FVec Ideal S1024x4444 .f32) (r : Fin 16384) (f : Fin 2048) :
    gin h w (ix2 r f) = ∑ k : Fin 1024, h (ix2 r k) * w (ix2 k ⟨2396 + f.val, by omega⟩) := by
  pointwise! [gin]

theorem gates_at (a : FVec Ideal S16384x2048 .f32) (r : Fin 16384) (f : Fin 2048) :
    gates a (ix2 r f) = Ideal.logistic (a (ix2 r f)) := by
  pointwise! [gates, Ideal.logistic]

theorem gateA_at (a : FVec Ideal S16384x2048 .f32) (r : Fin 16384) (k : Fin 1024) :
    gateA a (ix2 r k) = a (ix2 r ⟨k.val, by omega⟩) := by
  pointwise! [gateA]

theorem gateB_at (a : FVec Ideal S16384x2048 .f32) (r : Fin 16384) (k : Fin 1024) :
    gateB a (ix2 r k) = a (ix2 r ⟨1024 + k.val, by omega⟩) := by
  pointwise! [gateB]

theorem branch_at (o : FVec Ideal S16384x512 .f32) (w : FVec Ideal S512x1024 .f32) (r : Fin 16384) (k : Fin 1024) :
    branch o w (ix2 r k) = ∑ i : Fin 512, o (ix2 r i) * w (ix2 i k) := by
  pointwise! [branch]

theorem resid_at (x a : FVec Ideal S16384x1024 .f32) (w : FVec Ideal S1024x1024 .f32) (r : Fin 16384) (j : Fin 1024) :
    resid x a w (ix2 r j) = x (ix2 r j) + ∑ k : Fin 1024, a (ix2 r k) * w (ix2 k j) := by
  pointwise! [resid]

theorem mix_at (a b c d : FVec Ideal S16384x1024 .f32) (r : Fin 16384) (j : Fin 1024) :
    addf (mulf a b) (mulf c d) (ix2 r j) = a (ix2 r j) * b (ix2 r j) + c (ix2 r j) * d (ix2 r j) := rfl

/-- The reference's result, read at a row and a column. -/
theorem out_at (x : FVec Ideal S16384x1024 .f32) (oa ob : FVec Ideal S16384x512 .f32) (g : FVec Ideal S1024 .f32)
    (w : FVec Ideal S1024x4444 .f32) (wa wb : FVec Ideal S512x1024 .f32) (wo : FVec Ideal S1024x1024 .f32)
    (r : Fin 16384) (j : Fin 1024) :
    out x oa ob g w wa wb wo (ix2 r j) = mergeRow (fun k => x (ix2 r k)) (fun k => g (ix1 k))
      (fun k f => w (ix2 k ⟨2396 + f.val, by omega⟩)) (fun k f => w (ix2 k ⟨2396 + (1024 + f.val), by omega⟩))
      (fun i => oa (ix2 r i)) (fun i => ob (ix2 r i)) (fun i k => wa (ix2 i k)) (fun i k => wb (ix2 i k))
      (fun k j => wo (ix2 k j)) j := by
  rw [out, resid_at]
  simp only [mix_at, gateA_at, gateB_at, gates_at, gin_at, branch_at, nrm_at]
  rfl

end Cert.MergeRefIdeal.Read

end
-- ==== Proof.MergeValue.lean ====
/- What the merge kernel's result array holds after the run. -/
module

public import proofs.«01_k».proof.Proof.MergeBlock
public import proofs.«01_k».proof.Proof.MergeRef
public import proofs.«01_k».proof.Proof.Gen.MergeIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MergeIdeal.Whole

open Cert.MergeIdeal Cert.MergeIdeal.Gen Cert.Rows

variable (m : (ℓ : Loc nD τ sig) → Buf (Elt Ideal) ℓ)

/-- Every window's block index at every grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val, 0] :=
  (by decide +kernel : ∀ t : Fin grid0.N, _)

/-- The row of the activations that row `y0` of point `t`'s block is. -/
def row (t : Fin cfg0.N) (y0 : Fin 512) : Fin 16384 :=
  ⟨t.val * 512 + y0.val, by have : t.val < 32 := t.isLt; omega⟩

theorem in0 (c : Dev nD) (t : Fin cfg0.N) (r : Fin 512) (k : Fin 1024) :
    (iblk m c 0 t : FVec Ideal S512x1024 .f32) (ix2 r k) = m ((c : Thread nD τ).loc main_arg0) (ix2 (row t r) k) := by
  blk_ext! [iblk, V, row, idx t]

theorem lit0_at (a : Fin 8) (b : Fin 2) :
    (FloatOps.ofBits (F := Ideal) .f32 (lit0 (S8x2.rowMajor (ix2 a b))) : EReal) = if b.val = a.val / 4 then 1 else 0 := by
  have h : lit0 (S8x2.rowMajor (ix2 a b)) = if b.val = a.val / 4 then 0x3F800000#32 else 0x00000000#32 := by
    revert a b; decide +kernel
  rw [h]; split <;> pointwise!

theorem lit1_at (a : Fin 8) (b : Fin 2) :
    (FloatOps.ofBits (F := Ideal) .f32 (lit1 (S8x2.rowMajor (ix2 a b))) : EReal) = if b.val = a.val / 4 then 1 else 0 := by
  have h : lit1 (S8x2.rowMajor (ix2 a b)) = if b.val = a.val / 4 then 0x3F800000#32 else 0x00000000#32 := by
    revert a b; decide +kernel
  rw [h]; split <;> pointwise!

theorem lit2_at (a : Fin 8) (b : Fin 2) :
    (FloatOps.ofBits (F := Ideal) .f32 (lit2 (S8x2.rowMajor (ix2 a b))) : EReal) = if b.val = a.val / 4 then 1 else 0 := by
  have h : lit2 (S8x2.rowMajor (ix2 a b)) = if b.val = a.val / 4 then 0x3F800000#32 else 0x00000000#32 := by
    revert a b; decide +kernel
  rw [h]; split <;> pointwise!

theorem lit3_at (a : Fin 8) (b : Fin 2) :
    (FloatOps.ofBits (F := Ideal) .f32 (lit3 (S8x2.rowMajor (ix2 a b))) : EReal) = if b.val = a.val / 4 then 1 else 0 := by
  have h : lit3 (S8x2.rowMajor (ix2 a b)) = if b.val = a.val / 4 then 0x3F800000#32 else 0x00000000#32 := by
    revert a b; decide +kernel
  rw [h]; split <;> pointwise!

/-- The lane layout's selector in terms of the lane. -/
theorem keep_of (l : Fin 1024) (v : Fin 8 → Fin 2 → EReal) (hv : ∀ a b, v a b = if b.val = a.val / 4 then 1 else 0) :
    v ⟨l.val / 128, by omega⟩ ⟨l.val / 64 % 2, by omega⟩ = keep l := by
  rw [hv, keep]
  have h : l.val / 128 / 4 = l.val / 512 := by omega
  simp only [h]

/-- The first branch's output. -/
abbrev A1 (c : Dev nD) : FVec Ideal S16384x512 .f32 := m ((c : Thread nD τ).loc main_arg1)
/-- The second branch's output. -/
abbrev A2 (c : Dev nD) : FVec Ideal S16384x512 .f32 := m ((c : Thread nD τ).loc main_arg2)
/-- The first branch's weight. -/
abbrev A5 (c : Dev nD) : FVec Ideal S512x1024 .f32 := m ((c : Thread nD τ).loc main_arg5)
/-- The second branch's weight. -/
abbrev A6 (c : Dev nD) : FVec Ideal S512x1024 .f32 := m ((c : Thread nD τ).loc main_arg6)

theorem in1 (c : Dev nD) (t : Fin cfg0.N) (r : Fin 512) (l : Fin 1024) :
    (iblk m c 1 t : FVec Ideal S512x1024 .bf16) (ix2 r l) = A1 m c (ix2 (row t r) (lane l)) * keep l := by
  have e : ((cfg0.win 1).blk t).view.emb (ix2 r l) = ix2 (row t r) l := by blk_ext! [row, idx t]
  blk_simp [iblk]; entry_read
  refine (congrArg _ e).trans ?_
  pointwise
  refine congrArg₂ (fun x y : EReal => x * y) ?_ (keep_of l (fun a b => Ideal.ofBits .f32 (lit2 (S8x2.rowMajor (ix2 a b)))) lit2_at)
  refine congrArg (A1 m c) ?_
  blk_ext! [lane]

theorem in2 (c : Dev nD) (t : Fin cfg0.N) (r : Fin 512) (l : Fin 1024) :
    (iblk m c 2 t : FVec Ideal S512x1024 .bf16) (ix2 r l) = A2 m c (ix2 (row t r) (lane l)) * keep l := by
  have e : ((cfg0.win 2).blk t).view.emb (ix2 r l) = ix2 (row t r) l := by blk_ext! [row, idx t]
  blk_simp [iblk]; entry_read
  refine (congrArg _ e).trans ?_
  pointwise
  refine congrArg₂ (fun x y : EReal => x * y) ?_ (keep_of l (fun a b => Ideal.ofBits .f32 (lit3 (S8x2.rowMajor (ix2 a b)))) lit3_at)
  refine congrArg (A2 m c) ?_
  blk_ext! [lane]

theorem in3 (c : Dev nD) (t : Fin cfg0.N) (k : Fin 1024) :
    (iblk m c 3 t : FVec Ideal S1x1024 .f32) (ix2 0 k) = m ((c : Thread nD τ).loc main_arg3) (ix1 k) := by
  blk_simp [iblk]; entry_read; pointwise; blk_ext! [idx t]

theorem in4 (c : Dev nD) (t : Fin cfg0.N) (k : Fin 1024) (f : Fin 2048) :
    (iblk m c 4 t : FVec Ideal S1024x2048 .bf16) (ix2 k f)
      = m ((c : Thread nD τ).loc main_arg4) (ix2 k ⟨2396 + f.val, by omega⟩) := by
  blk_simp [iblk]; entry_read; pointwise; blk_ext! [idx t]

theorem in5 (c : Dev nD) (t : Fin cfg0.N) (l k : Fin 1024) :
    (iblk m c 5 t : FVec Ideal S1024x1024 .bf16) (ix2 l k) = A5 m c (ix2 (lane l) k) * keep l := by
  have e : ((cfg0.win 5).blk t).view.emb (ix2 l k) = ix2 l k := by blk_ext! [row, idx t]
  blk_simp [iblk]; entry_read
  refine (congrArg _ e).trans ?_
  pointwise
  refine congrArg₂ (fun x y : EReal => x * y) ?_ (keep_of l (fun a b => Ideal.ofBits .f32 (lit0 (S8x2.rowMajor (ix2 a b)))) lit0_at)
  refine congrArg (A5 m c) ?_
  blk_ext! [lane]

theorem in6 (c : Dev nD) (t : Fin cfg0.N) (l k : Fin 1024) :
    (iblk m c 6 t : FVec Ideal S1024x1024 .bf16) (ix2 l k) = A6 m c (ix2 (lane l) k) * keep l := by
  have e : ((cfg0.win 6).blk t).view.emb (ix2 l k) = ix2 l k := by blk_ext! [row, idx t]
  blk_simp [iblk]; entry_read
  refine (congrArg _ e).trans ?_
  pointwise
  refine congrArg₂ (fun x y : EReal => x * y) ?_ (keep_of l (fun a b => Ideal.ofBits .f32 (lit1 (S8x2.rowMajor (ix2 a b)))) lit1_at)
  refine congrArg (A6 m c) ?_
  blk_ext! [lane]

theorem in7 (c : Dev nD) (t : Fin cfg0.N) :
    (iblk m c 7 t : FVec Ideal S1024x1024 .bf16) = m ((c : Thread nD τ).loc main_arg7) := by
  funext y; blk_simp [iblk]; entry_read; blk_ext! [idx t]

theorem outPos (t : Fin cfg0.N) (y0 : Fin 512) (y1 : Fin 1024) :
    ((cfg0.win 8).blk t).view.emb (ix2 y0 y1) = ix2 (row t y0) y1 := by
  blk_ext! [row, idx t]

theorem point (c : Dev nD) (t : Fin cfg0.N) (y : S512x1024.Idx) :
    k0_pay1 (iblk m c 0 t) (k0_pay3 (iblk m c 0 t) (iblk m c 3 t) (View.ld (iblk m c 4 t) r0_2) (iblk m c 1 t) (iblk m
      c 5 t)) (k0_pay4 (iblk m c 0 t) (iblk m c 3 t) (View.ld (iblk m c 4 t) r0_4) (iblk m c 2 t) (iblk m c 6 t)) (iblk
      m c 7 t) y
      = Cert.MergeRefIdeal.Read.out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (((cfg0.win 8).blk t).view.emb y) := by
  idx_vars y
  refine (Block.block_at _ _ _ _ _ _ _ _ _ (fun r i => A1 m c (ix2 (row t r) i)) (fun r i => A2 m c (ix2 (row t r) i))
    (fun i k => A5 m c (ix2 i k)) (fun i k => A6 m c (ix2 i k)) (in1 m c t) (in2 m c t) (in5 m c t) (in6 m c t)
    y0 y1).trans ?_
  refine Eq.trans ?_ (congrArg _ (outPos t y0 y1).symm)
  refine Eq.trans ?_ (Cert.MergeRefIdeal.Read.out_at _ _ _ _ _ _ _ _ _ _).symm
  have ha : ∀ k f : Fin 1024, View.ld (iblk m c 4 t) r0_2 (ix2 k f)
      = m ((c : Thread nD τ).loc main_arg4) (ix2 k ⟨2396 + f.val, by omega⟩) := by
    intro k f; pointwise [r0_2]; exact in4 m c t k ⟨f.val, by omega⟩
  have hb : ∀ k f : Fin 1024, View.ld (iblk m c 4 t) r0_4 (ix2 k f)
      = m ((c : Thread nD τ).loc main_arg4) (ix2 k ⟨2396 + (1024 + f.val), by omega⟩) := by
    intro k f; pointwise [r0_4]; exact in4 m c t k ⟨1024 + f.val, by omega⟩
  simp only [in0, in3, in7, ha, hb]

/-- The result array after the run is the reference's result. -/
theorem final (c : Dev nD) : (dats m 0 c).arrAt 8 (cfgs 0).N
    = Cert.MergeRefIdeal.Read.out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp; rw [after0_8]; frame_out
  exact point m c t y

end Cert.MergeIdeal.Whole

end
-- ==== Proof.MergeClaim.lean ====
/- The merge kernel computes its reference. -/
module

public import proofs.«01_k».proof.Defs
public import proofs.«01_k».proof.Proof.MergeValue
public import proofs.«01_k».proof.Proof.Gen.MergeIdeal.Value

@[expose] public section

set_option maxRecDepth 16384

noncomputable section

open Idealize.ShloMosaic Idealize.SL.Sem

namespace Cert.MergeValue

/-- From memories that agree on the arguments the kernel and its reference end with equal results. -/
theorem algebraic : Cert.algebraic_MergeIdeal_MergeRefIdeal (hMergeIdeal := Cert.MergeIdeal.Gen.facts)
    (hMergeRefIdeal := Cert.MergeRefIdeal.Gen.facts) := by
  pair_intro
  · run_from Cert.MergeIdeal.Value.run_blocks m g
  · run_from Cert.MergeRefIdeal.Value.run m' g'
    refine Eq.trans ?_ (Cert.MergeIdeal.Whole.final m c).symm
    with_unfolding_all rfl

end Cert.MergeValue

end
-- ==== Proof.ProjBlock.lean ====
/- What one block of the projection kernel computes, an entry at a time. -/
module

public import proofs.«01_k».proof.Proof.Rows
public import proofs.«01_k».proof.Proof.Gen.ProjIdeal.Skeleton

@[expose] public section

set_option maxRecDepth 16384

noncomputable section

open Idealize.ShloMosaic Idealize.ShloMosaic.TcCoe Idealize.SL.Sem
open scoped BigOperators

namespace Cert.ProjIdeal.Block

open Cert.ProjIdeal Cert.ProjIdeal.Gen Cert.Rows

/-- The kernel's norm of one block of rows. -/
theorem pay4_at (x : FVec Ideal S512x1024 .f32) (g : FVec Ideal S1x1024 .f32) (r : Fin 512) (j : Fin 1024) :
    k0_pay4 (F := Ideal) x g (ix2 r j) = rms (fun k => x (ix2 r k)) (fun k => g (ix2 0 k)) j := by
  pointwise! [k0_pay4, rms]

theorem pay5_at (x : FVec Ideal S512x1024 .f32) (g : FVec Ideal S1x1024 .f32) (w : FVec Ideal S1024x1024 .bf16)
    (r : Fin 512) (j : Fin 1024) : k0_pay5 (F := Ideal) x g w (ix2 r j)
      = (∑ k : Fin 1024, k0_pay4 (F := Ideal) x g (ix2 r k) * w (ix2 k j)) * Ideal.ofBits .f32 0x3E000000#32 := by
  pointwise! [k0_pay5]

theorem pay6_at (x : FVec Ideal S512x1024 .f32) (g : FVec Ideal S1x1024 .f32) (w : FVec Ideal S1024x1024 .bf16)
    (r : Fin 512) (j : Fin 1024) : k0_pay6 (F := Ideal) x g w (ix2 r j)
      = (∑ k : Fin 1024, k0_pay4 (F := Ideal) x g (ix2 r k) * w (ix2 k j)) * Ideal.ofBits .f32 0x3E000000#32 := by
  pointwise! [k0_pay6]

theorem pay7_at (x : FVec Ideal S512x1024 .f32) (g : FVec Ideal S1x1024 .f32) (w : FVec Ideal S1024x512 .bf16)
    (r : Fin 512) (j : Fin 512) : k0_pay7 (F := Ideal) x g w (ix2 r j)
      = (∑ k : Fin 1024, k0_pay4 (F := Ideal) x g (ix2 r k) * w (ix2 k j)) := by
  pointwise! [k0_pay7]

theorem pay8_at (p : FVec Ideal S512x1024 .bf16) (w : FVec Ideal S1024x128 .bf16) (r : Fin 512) (j : Fin 128) :
    k0_pay8 (F := Ideal) p w (ix2 r j) = ∑ k : Fin 1024, p (ix2 r k) * w (ix2 k j) := by
  pointwise! [k0_pay8]

theorem pay9_at (p : FVec Ideal S512x1024 .bf16) (w : FVec Ideal S1024x128 .bf16) (r : Fin 512) (j : Fin 128) :
    k0_pay9 (F := Ideal) p w (ix2 r j) = ∑ k : Fin 1024, p (ix2 r k) * w (ix2 k j) := by
  pointwise! [k0_pay9, k0_pay8]

theorem pay10_at (p : FVec Ideal S512x1024 .bf16) (w : FVec Ideal S1024x128 .bf16) (r : Fin 512) (j : Fin 64) :
    k0_pay10 (F := Ideal) p w (ix2 r j) = ∑ k : Fin 1024, p (ix2 r k) * w (ix2 k ⟨j.val, by omega⟩) := by
  pointwise! [k0_pay10, k0_pay8]

theorem pay11_at (p : FVec Ideal S512x1024 .bf16) (w : FVec Ideal S1024x256 .bf16) (r : Fin 512) (j : Fin 256) :
    k0_pay11 (F := Ideal) p w (ix2 r j) = ∑ k : Fin 1024, p (ix2 r k) * w (ix2 k j) := by
  pointwise! [k0_pay11]

theorem pay12_at (p : FVec Ideal S512x1024 .bf16) (w : FVec Ideal S1024x256 .bf16) (r : Fin 512) (j : Fin 256) :
    k0_pay12 (F := Ideal) p w (ix2 r j) = ∑ k : Fin 1024, p (ix2 r k) * w (ix2 k j) := by
  pointwise! [k0_pay12]

theorem pay13_at (p : FVec Ideal S512x1024 .bf16) (w : FVec Ideal S1024x256 .bf16) (r : Fin 512) (j : Fin 256) :
    k0_pay13 (F := Ideal) p w (ix2 r j) = ∑ k : Fin 1024, p (ix2 r k) * w (ix2 k j) := by
  pointwise! [k0_pay13, k0_pay12]

theorem pay14_at (p : FVec Ideal S512x1024 .bf16) (w : FVec Ideal S1024x256 .bf16) (r : Fin 512) (j : Fin 256) :
    k0_pay14 (F := Ideal) p w (ix2 r j) = ∑ k : Fin 1024, p (ix2 r k) * w (ix2 k j) := by
  pointwise! [k0_pay14]

theorem pay15_at (p : FVec Ideal S512x1024 .bf16) (w : FVec Ideal S1024x256 .bf16) (r : Fin 512) (j : Fin 256) :
    k0_pay15 (F := Ideal) p w (ix2 r j) = ∑ k : Fin 1024, p (ix2 r k) * w (ix2 k j) := by
  pointwise! [k0_pay15, k0_pay14]

theorem pay1_at (p : FVec Ideal S512x1024 .bf16) (w : FVec Ideal S1024x256 .bf16) (r : Fin 512) (j : Fin 256) :
    k0_pay1 (F := Ideal) p w (ix2 r j) = ∑ k : Fin 1024, p (ix2 r k) * w (ix2 k j) := by
  pointwise! [k0_pay1]

theorem pay2_at (p : FVec Ideal S512x1024 .bf16) (w : FVec Ideal S1024x256 .bf16) (r : Fin 512) (j : Fin 256) :
    k0_pay2 (F := Ideal) p w (ix2 r j) = ∑ k : Fin 1024, p (ix2 r k) * w (ix2 k j) := by
  pointwise! [k0_pay2, k0_pay1]

theorem pay3_at (p : FVec Ideal S512x1024 .bf16) (w : FVec Ideal S1024x128 .bf16) (r : Fin 512) (j : Fin 128) :
    k0_pay3 (F := Ideal) p w (ix2 r j) = ∑ k : Fin 1024, p (ix2 r k) * w (ix2 k j) := by
  pointwise! [k0_pay3]

end Cert.ProjIdeal.Block

end
-- ==== Proof.ProjRef.lean ====
/- What the projection's reference computes, a row at a time. -/
module

public import proofs.«01_k».proof.Proof.Rows
public import proofs.«01_k».proof.Proof.Gen.ProjRefIdeal.Run

@[expose] public section

set_option maxRecDepth 16384

noncomputable section

open Idealize.ShloMosaic Idealize.ShloMosaic.TcCoe Idealize.SL.Sem
open scoped BigOperators

namespace Cert.ProjRefIdeal.Read

open Cert.ProjRefIdeal Cert.ProjRefIdeal.Gen Cert.Rows

/-- The reference's root-mean-square norm of every row. -/
def nrm (x : FVec Ideal S16384x1024 .f32) (g : FVec Ideal S1024 .f32) : FVec Ideal S16384x1024 .f32 :=
  mulf (mulf x (broadcastInDim S16384x1024 ![0, 1] bcast_S16384x1_S16384x1024_0_1
    (Host.rsqrt (addf (Host.divf (broadcastInDim S16384x1 ![0] bcast_S16384_S16384x1_0
      (Host.reduceAdd (mulf x x) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1
      (broadcastInDim S1x1024 ![1] bcast_S1024_S1x1024_1 g))

/-- The reference's product with the whole packed weight. -/
def prod (x : FVec Ideal S16384x1024 .f32) (g : FVec Ideal S1024 .f32) (w : FVec Ideal S1024x4444 .f32) :
    FVec Ideal S16384x4444 .f32 :=
  Host.dotGeneral dot_S16384x1024_S1024x4444_S16384x4444_1_0_0_1_n_n none (nrm x g) w

/-- Eight heads of 64 columns laid out in 128 lanes a head: the first four heads in their first halves, the last
    four in their second halves, zero elsewhere. -/
def halves (q : FVec Ideal S16384x512 .f32) : FVec Ideal S16384x1024 .f32 :=
  (shapeCast _ (concatenate S16384x2x4x128 1
    [⟨S16384x1x4x128, (broadcastInDim S16384x1x4x128 ![0, 2, 3] bcast_S16384x4x128_S16384x1x4x128_0_2_3
      (pad S16384x4x128 ![0, 0, 0] ![0, 0, 64] ![0, 0, 0] (shapeCast _ (extractStridedSlice S16384x1x4x64 ![0, 0, 0, 0]
        (shapeCast _ q shapeCasts_S16384x512_S16384x2x4x64) slices_S16384x2x4x64_S16384x1x4x64_0_0_0_0)
        shapeCasts_S16384x1x4x64_S16384x4x64) (sitofp .f32 (constantI S_ 32 0#32))
        pads_S16384x4x64_S16384x4x128_000_000_0640 h_S_))⟩,
     ⟨S16384x1x4x128, (broadcastInDim S16384x1x4x128 ![0, 2, 3] bcast_S16384x4x128_S16384x1x4x128_0_2_3
      (pad S16384x4x128 ![0, 0, 64] ![0, 0, 0] ![0, 0, 0] (shapeCast _ (extractStridedSlice S16384x1x4x64 ![0, 1, 0, 0]
        (shapeCast _ q shapeCasts_S16384x512_S16384x2x4x64) slices_S16384x2x4x64_S16384x1x4x64_0_1_0_0)
        shapeCasts_S16384x1x4x64_S16384x4x64) (sitofp .f32 (constantI S_ 32 0#32))
        pads_S16384x4x64_S16384x4x128_000_000_6400 h_S_))⟩]
    concatenates_S16384x1x4x128_S16384x1x4x128_S16384x2x4x128_d1) shapeCasts_S16384x2x4x128_S16384x1024)

/-- The laid-out queries, scaled. -/
def scaled (q : FVec Ideal S16384x512 .f32) : FVec Ideal S16384x1024 .bf16 :=
  truncf .bf16 (mulf (halves q) (broadcastInDim S16384x1024 ![] bcast_S_S16384x1024 (constant S_ .f32 0x3E000000#32)))
    bitsLt_bf16_f32

/-- The NSA queries. -/
def nq (p : FVec Ideal S16384x4444 .f32) : FVec Ideal S16384x1024 .bf16 :=
  scaled (extractStridedSlice S16384x512 ![0, 0] p slices_S16384x4444_S16384x512_0_0)

/-- The DSA queries. -/
def dq (p : FVec Ideal S16384x4444 .f32) : FVec Ideal S16384x1024 .bf16 :=
  scaled (extractStridedSlice S16384x512 ![0, 1304] p slices_S16384x4444_S16384x512_0_1304)

/-- The indexer's queries, in the first halves of four heads. -/
def iq (p : FVec Ideal S16384x4444 .f32) : FVec Ideal S16384x512 .bf16 :=
  truncf .bf16 (shapeCast _ (pad S16384x4x128 ![0, 0, 0] ![0, 0, 64] ![0, 0, 0]
    (shapeCast _ (extractStridedSlice S16384x256 ![0, 2072] p slices_S16384x4444_S16384x256_0_2072)
      shapeCasts_S16384x256_S16384x4x64) (sitofp .f32 (constantI S_ 32 0#32)) pads_S16384x4x64_S16384x4x128_000_000_0640
      h_S_) shapeCasts_S16384x4x128_S16384x512) bitsLt_bf16_f32

/-- The indexer's keys, in the first half of one head. -/
def ikx (p : FVec Ideal S16384x4444 .f32) : FVec Ideal S16384x128 .bf16 :=
  truncf .bf16 (shapeCast _ (pad S16384x1x128 ![0, 0, 0] ![0, 0, 64] ![0, 0, 0]
    (shapeCast _ (extractStridedSlice S16384x64 ![0, 2328] p slices_S16384x4444_S16384x64_0_2328)
      shapeCasts_S16384x64_S16384x1x64) (sitofp .f32 (constantI S_ 32 0#32)) pads_S16384x1x64_S16384x1x128_000_000_0640
      h_S_) shapeCasts_S16384x1x128_S16384x128) bitsLt_bf16_f32

/-- The indexer's weights and the NSA gates, then zeros. -/
def misc (p : FVec Ideal S16384x4444 .f32) : FVec Ideal S16384x128 .f32 :=
  pad S16384x128 ![0, 0] ![0, 100] ![0, 0] (concatenate S16384x28 1
    [⟨S16384x4, (extractStridedSlice S16384x4 ![0, 2392] p slices_S16384x4444_S16384x4_0_2392)⟩,
     ⟨S16384x24, (extractStridedSlice S16384x24 ![0, 1280] p slices_S16384x4444_S16384x24_0_1280)⟩]
    concatenates_S16384x4_S16384x24_S16384x28_d1) (sitofp .f32 (constantI S_ 32 0#32)) pads_S16384x28_S16384x128_000_01000 h_S_

/-- The product's columns from 512 on. -/
def ckv (p : FVec Ideal S16384x4444 .f32) : FVec Ideal S16384x256 .f32 :=
  extractStridedSlice S16384x256 ![0, 512] p slices_S16384x4444_S16384x256_0_512

/-- The product's columns from 768 on. -/
def skv (p : FVec Ideal S16384x4444 .f32) : FVec Ideal S16384x256 .f32 :=
  extractStridedSlice S16384x256 ![0, 768] p slices_S16384x4444_S16384x256_0_768

/-- The product's columns from 1024 on. -/
def wkv (p : FVec Ideal S16384x4444 .f32) : FVec Ideal S16384x256 .f32 :=
  extractStridedSlice S16384x256 ![0, 1024] p slices_S16384x4444_S16384x256_0_1024

/-- The product's columns from 1816 on. -/
def dkv (p : FVec Ideal S16384x4444 .f32) : FVec Ideal S16384x256 .f32 :=
  extractStridedSlice S16384x256 ![0, 1816] p slices_S16384x4444_S16384x256_0_1816

/-- The product's columns from 2328 on. -/
def ik (p : FVec Ideal S16384x4444 .f32) : FVec Ideal S16384x64 .f32 :=
  extractStridedSlice S16384x64 ![0, 2328] p slices_S16384x4444_S16384x64_0_2328

/-- The product's columns from 768 on. -/
def skvb (p : FVec Ideal S16384x4444 .f32) : FVec Ideal S16384x256 .bf16 :=
  truncf .bf16 (extractStridedSlice S16384x256 ![0, 768] p slices_S16384x4444_S16384x256_0_768) bitsLt_bf16_f32

/-- The product's columns from 1024 on. -/
def wkvb (p : FVec Ideal S16384x4444 .f32) : FVec Ideal S16384x256 .bf16 :=
  truncf .bf16 (extractStridedSlice S16384x256 ![0, 1024] p slices_S16384x4444_S16384x256_0_1024) bitsLt_bf16_f32

/-- The product's columns from 1816 on. -/
def dkvb (p : FVec Ideal S16384x4444 .f32) : FVec Ideal S16384x256 .bf16 :=
  truncf .bf16 (extractStridedSlice S16384x256 ![0, 1816] p slices_S16384x4444_S16384x256_0_1816) bitsLt_bf16_f32

theorem nrm_at (x : FVec Ideal S16384x1024 .f32) (g : FVec Ideal S1024 .f32) (r : Fin 16384) (j : Fin 1024) :
    nrm x g (ix2 r j) = rms (fun k => x (ix2 r k)) (fun k => g (ix1 k)) j := by
  pointwise! [nrm, rms]

theorem prod_at (x : FVec Ideal S16384x1024 .f32) (g : FVec Ideal S1024 .f32) (w : FVec Ideal S1024x4444 .f32)
    (r : Fin 16384) (f : Fin 4444) :
    prod x g w (ix2 r f)
      = ∑ k : Fin 1024, rms (fun k => x (ix2 r k)) (fun k => g (ix1 k)) k * w (ix2 k f) := by
  have h : prod x g w (ix2 r f) = ∑ k : Fin 1024, nrm x g (ix2 r k) * w (ix2 k f) := by pointwise! [prod]
  simp only [h, nrm_at]

/-- The padding value is zero. -/
theorem pad_zero : (FloatOps.sitofp (F := Ideal) .f32 (0#32 : BitVec 32) : EReal) = 0 := by
  show ((((0#32 : BitVec 32).toInt : ℤ) : ℝ) : EReal) = 0
  norm_num

/-- The two halves' cases of the laid-out columns as one. -/
theorem halves_cases (q : Fin 512 → EReal) (l : Fin 1024) (z : EReal) (hz : z = 0) :
    (if h : l.val / 512 < 1 then
      (if h1 : l.val / 128 % 4 < 4 ∧ l.val % 128 < 64 then q ⟨l.val / 128 % 4 * 64 + l.val % 128, by omega⟩ else z)
     else
      (if h1 : l.val / 128 % 4 < 4 ∧ 64 ≤ l.val % 128 ∧ l.val % 128 - 64 < 64 then
        q ⟨256 + l.val / 128 % 4 * 64 + (l.val % 128 - 64), by omega⟩ else z))
      = if l.val / 64 % 2 = l.val / 512 then q (lane l) else 0 := by
  subst hz
  have hl := l.isLt
  by_cases h1 : l.val / 512 < 1
  · rw [dif_pos h1]
    by_cases h2 : l.val % 128 < 64
    · rw [dif_pos ⟨by omega, h2⟩, if_pos (by omega)]
      exact congrArg q (Fin.ext (by simp only [lane]; omega))
    · rw [dif_neg (fun h => h2 h.2), if_neg (by omega)]
  · rw [dif_neg h1]
    by_cases h2 : l.val % 128 < 64
    · rw [dif_neg (fun h => by omega), if_neg (by omega)]
    · rw [dif_pos ⟨by omega, by omega, by omega⟩, if_pos (by omega)]
      exact congrArg q (Fin.ext (by simp only [lane]; omega))

theorem halves_at (q : FVec Ideal S16384x512 .f32) (r : Fin 16384) (l : Fin 1024) :
    halves q (ix2 r l) = if l.val / 64 % 2 = l.val / 512 then q (ix2 r (lane l)) else 0 := by
  pointwise [halves]
  have hl := l.isLt
  exact halves_cases (fun t => q (ix2 r t)) l _ pad_zero

theorem scaled_at (q : FVec Ideal S16384x512 .f32) (r : Fin 16384) (l : Fin 1024) :
    scaled q (ix2 r l) = halves q (ix2 r l) * Ideal.ofBits .f32 0x3E000000#32 := by
  pointwise! [scaled]

theorem nq_at (p : FVec Ideal S16384x4444 .f32) (r : Fin 16384) (l : Fin 1024) :
    nq p (ix2 r l) = (if l.val / 64 % 2 = l.val / 512 then p (ix2 r ⟨(lane l).val, by omega⟩) else 0)
      * Ideal.ofBits .f32 0x3E000000#32 := by
  have h : (extractStridedSlice S16384x512 ![0, 0] p slices_S16384x4444_S16384x512_0_0 : FVec Ideal _ _) (ix2 r (lane l))
      = p (ix2 r ⟨(lane l).val, by omega⟩) := by pointwise!
  rw [nq, scaled_at, halves_at, h]

theorem dq_at (p : FVec Ideal S16384x4444 .f32) (r : Fin 16384) (l : Fin 1024) :
    dq p (ix2 r l) = (if l.val / 64 % 2 = l.val / 512 then p (ix2 r ⟨1304 + (lane l).val, by omega⟩) else 0)
      * Ideal.ofBits .f32 0x3E000000#32 := by
  have h : (extractStridedSlice S16384x512 ![0, 1304] p slices_S16384x4444_S16384x512_0_1304 : FVec Ideal _ _) (ix2 r (lane l))
      = p (ix2 r ⟨1304 + (lane l).val, by omega⟩) := by pointwise!
  rw [dq, scaled_at, halves_at, h]

theorem iq_at (p : FVec Ideal S16384x4444 .f32) (r : Fin 16384) (l : Fin 512) :
    iq p (ix2 r l) = if l.val / 64 % 2 = 0 then p (ix2 r ⟨2072 + (64 * (l.val / 128) + l.val % 64), by omega⟩) else 0 := by
  pointwise [iq]
  have hl := l.isLt
  rw [pad_zero]
  split_ifs <;> first | with_reducible rfl | omega | exact congrArg (fun t => p (ix2 r t)) (Fin.ext (by simp only []; omega))

theorem ikx_at (p : FVec Ideal S16384x4444 .f32) (r : Fin 16384) (l : Fin 128) :
    ikx p (ix2 r l) = if h : l.val < 64 then p (ix2 r ⟨2328 + l.val, by omega⟩) else 0 := by
  pointwise [ikx]
  rw [pad_zero]

theorem misc_at (p : FVec Ideal S16384x4444 .f32) (r : Fin 16384) (l : Fin 128) :
    misc p (ix2 r l) = if l.val < 4 then p (ix2 r ⟨2392 + l.val, by omega⟩)
      else if l.val < 28 then p (ix2 r ⟨1276 + l.val, by omega⟩) else 0 := by
  pointwise [misc]
  rw [pad_zero]
  split_ifs <;> first | with_reducible rfl | omega | exact congrArg (fun t => p (ix2 r t)) (Fin.ext (by simp only []; omega))

theorem ckv_at (p : FVec Ideal S16384x4444 .f32) (r : Fin 16384) (l : Fin 256) :
    ckv p (ix2 r l) = p (ix2 r ⟨512 + l.val, by omega⟩) := by
  pointwise! [ckv]

theorem skv_at (p : FVec Ideal S16384x4444 .f32) (r : Fin 16384) (l : Fin 256) :
    skv p (ix2 r l) = p (ix2 r ⟨768 + l.val, by omega⟩) := by
  pointwise! [skv]

theorem wkv_at (p : FVec Ideal S16384x4444 .f32) (r : Fin 16384) (l : Fin 256) :
    wkv p (ix2 r l) = p (ix2 r ⟨1024 + l.val, by omega⟩) := by
  pointwise! [wkv]

theorem dkv_at (p : FVec Ideal S16384x4444 .f32) (r : Fin 16384) (l : Fin 256) :
    dkv p (ix2 r l) = p (ix2 r ⟨1816 + l.val, by omega⟩) := by
  pointwise! [dkv]

theorem ik_at (p : FVec Ideal S16384x4444 .f32) (r : Fin 16384) (l : Fin 64) :
    ik p (ix2 r l) = p (ix2 r ⟨2328 + l.val, by omega⟩) := by
  pointwise! [ik]

theorem skvb_at (p : FVec Ideal S16384x4444 .f32) (r : Fin 16384) (l : Fin 256) :
    skvb p (ix2 r l) = p (ix2 r ⟨768 + l.val, by omega⟩) := by
  pointwise! [skvb]

theorem wkvb_at (p : FVec Ideal S16384x4444 .f32) (r : Fin 16384) (l : Fin 256) :
    wkvb p (ix2 r l) = p (ix2 r ⟨1024 + l.val, by omega⟩) := by
  pointwise! [wkvb]

theorem dkvb_at (p : FVec Ideal S16384x4444 .f32) (r : Fin 16384) (l : Fin 256) :
    dkvb p (ix2 r l) = p (ix2 r ⟨1816 + l.val, by omega⟩) := by
  pointwise! [dkvb]

end Cert.ProjRefIdeal.Read

end
-- ==== Proof.ProjWeight.lean ====
/- What the projection kernel's packed weight holds. -/
module

public import proofs.«01_k».proof.Proof.ProjBlock
public import proofs.«01_k».proof.Proof.ProjRef
public import proofs.«01_k».proof.Proof.Gen.ProjIdeal.Frame
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.ProjIdeal.Whole

open Cert.ProjIdeal Cert.ProjIdeal.Gen Cert.Rows

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0] :=
  (by decide +kernel : ∀ t : Fin grid0.N, _)

/-- The row of the activations that row `y0` of point `t`'s block is. -/
def row (t : Fin cfg0.N) (y0 : Fin 512) : Fin 16384 :=
  ⟨t.val * 512 + y0.val, by have : t.val < 32 := t.isLt; omega⟩

/-- The whole input weight. -/
abbrev W (c : Dev nD) : FVec Ideal S1024x4444 .f32 := m ((c : Thread nD τ).loc main_arg2)

theorem in0 (c : Dev nD) (t : Fin cfg0.N) (r : Fin 512) (k : Fin 1024) :
    (iblk m c 0 t : FVec Ideal S512x1024 .f32) (ix2 r k) = m ((c : Thread nD τ).loc main_arg0) (ix2 (row t r) k) := by
  blk_ext! [iblk, V, row, idx t]

/-- What a buffer holds when the call begins. -/
theorem entry (c : Dev nD) (b : Ref sig .tc) :
    V m c b = StableHlo.after hostOps0 (fun b => m (c, b)) (Proc.devRef .tc b) := by
  simp only [V, V0, List.flatten_cons, List.flatten_nil, List.append_nil]

theorem in1 (c : Dev nD) (t : Fin cfg0.N) (k : Fin 1024) :
    (iblk m c 1 t : FVec Ideal S1x1024 .f32) (ix2 0 k) = m ((c : Thread nD τ).loc main_arg1) (ix1 k) := by
  blk_simp [iblk]; rw [entry]; entry_read; pointwise; blk_ext! [idx t]

/-- A read of the packed weight. -/
theorem emb2 (t : Fin cfg0.N) (k : Fin 1024) (j : Fin 3840) :
    ((cfg0.win 2).blk t).view.emb (ix2 k j) = ix2 k j := by blk_ext! [idx t]

/-- Twelve pieces side by side. -/
def pack (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32) :
    FVec Ideal S1024x3840 .bf16 :=
  truncf .bf16 (concatenate S1024x3840 1 [⟨S1024x1024, p0⟩, ⟨S1024x1024, p1⟩, ⟨S1024x512, p2⟩, ⟨S1024x64, p3⟩, ⟨S1024x64, p4⟩, ⟨S1024x256, p5⟩, ⟨S1024x256, p6⟩, ⟨S1024x256, p7⟩, ⟨S1024x256, p8⟩, ⟨S1024x4, p9⟩, ⟨S1024x24, p10⟩, ⟨S1024x100, p11⟩]
    concatenates_S1024x1024_S1024x1024_S1024x512_S1024x64_S1024x64_S1024x256_S1024x256_S1024x256_S1024x256_S1024x4_S1024x24_S1024x100_S1024x3840_d1) bitsLt_bf16_f32

theorem pack_at0 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 1024) : pack p0 p1 p2 p3 p4 p5 p6 p7 p8 p9 p10 p11 (ix2 k ⟨0 + f.val, by omega⟩) = p0 (ix2 k f) := by
  pointwise! [pack]

theorem pack_at1 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 1024) : pack p0 p1 p2 p3 p4 p5 p6 p7 p8 p9 p10 p11 (ix2 k ⟨1024 + f.val, by omega⟩) = p1 (ix2 k f) := by
  pointwise! [pack]

theorem pack_at2 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 512) : pack p0 p1 p2 p3 p4 p5 p6 p7 p8 p9 p10 p11 (ix2 k ⟨2048 + f.val, by omega⟩) = p2 (ix2 k f) := by
  pointwise [pack]
  rw [dif_neg (by omega), dif_neg (by omega), dif_pos (by omega)]
  exact congrArg (fun t => p2 (ix2 k t)) (Fin.ext (by simp only []; omega))

theorem pack_at3 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 64) : pack p0 p1 p2 p3 p4 p5 p6 p7 p8 p9 p10 p11 (ix2 k ⟨2560 + f.val, by omega⟩) = p3 (ix2 k f) := by
  pointwise [pack]
  rw [dif_neg (by omega), dif_neg (by omega), dif_neg (by omega), dif_pos (by omega)]
  exact congrArg (fun t => p3 (ix2 k t)) (Fin.ext (by simp only []; omega))

theorem pack_at4 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 64) : pack p0 p1 p2 p3 p4 p5 p6 p7 p8 p9 p10 p11 (ix2 k ⟨2624 + f.val, by omega⟩) = p4 (ix2 k f) := by
  pointwise [pack]
  rw [dif_neg (by omega), dif_neg (by omega), dif_neg (by omega), dif_neg (by omega), dif_pos (by omega)]
  exact congrArg (fun t => p4 (ix2 k t)) (Fin.ext (by simp only []; omega))

theorem pack_at5 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 256) : pack p0 p1 p2 p3 p4 p5 p6 p7 p8 p9 p10 p11 (ix2 k ⟨2688 + f.val, by omega⟩) = p5 (ix2 k f) := by
  pointwise [pack]
  rw [dif_neg (by omega), dif_neg (by omega), dif_neg (by omega), dif_neg (by omega), dif_neg (by omega), dif_pos (by omega)]
  exact congrArg (fun t => p5 (ix2 k t)) (Fin.ext (by simp only []; omega))

theorem pack_at6 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 256) : pack p0 p1 p2 p3 p4 p5 p6 p7 p8 p9 p10 p11 (ix2 k ⟨2944 + f.val, by omega⟩) = p6 (ix2 k f) := by
  pointwise [pack]
  rw [dif_neg (by omega), dif_neg (by omega), dif_neg (by omega), dif_neg (by omega), dif_neg (by omega), dif_neg (by omega), dif_pos (by omega)]
  exact congrArg (fun t => p6 (ix2 k t)) (Fin.ext (by simp only []; omega))

theorem pack_at7 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 256) : pack p0 p1 p2 p3 p4 p5 p6 p7 p8 p9 p10 p11 (ix2 k ⟨3200 + f.val, by omega⟩) = p7 (ix2 k f) := by
  pointwise [pack]
  rw [dif_neg (by omega), dif_neg (by omega), dif_neg (by omega), dif_neg (by omega), dif_neg (by omega), dif_neg (by omega), dif_neg (by omega), dif_pos (by omega)]
  exact congrArg (fun t => p7 (ix2 k t)) (Fin.ext (by simp only []; omega))

theorem pack_at8 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 256) : pack p0 p1 p2 p3 p4 p5 p6 p7 p8 p9 p10 p11 (ix2 k ⟨3456 + f.val, by omega⟩) = p8 (ix2 k f) := by
  pointwise [pack]
  rw [dif_neg (by omega), dif_neg (by omega), dif_neg (by omega), dif_neg (by omega), dif_neg (by omega), dif_neg (by omega), dif_neg (by omega), dif_neg (by omega), dif_pos (by omega)]
  exact congrArg (fun t => p8 (ix2 k t)) (Fin.ext (by simp only []; omega))

theorem pack_at9 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 4) : pack p0 p1 p2 p3 p4 p5 p6 p7 p8 p9 p10 p11 (ix2 k ⟨3712 + f.val, by omega⟩) = p9 (ix2 k f) := by
  pointwise [pack]
  rw [dif_neg (by omega), dif_neg (by omega), dif_neg (by omega), dif_neg (by omega), dif_neg (by omega), dif_neg (by omega), dif_neg (by omega), dif_neg (by omega), dif_neg (by omega), dif_pos (by omega)]
  exact congrArg (fun t => p9 (ix2 k t)) (Fin.ext (by simp only []; omega))

theorem pack_at10 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 24) : pack p0 p1 p2 p3 p4 p5 p6 p7 p8 p9 p10 p11 (ix2 k ⟨3716 + f.val, by omega⟩) = p10 (ix2 k f) := by
  pointwise [pack]
  rw [dif_neg (by omega), dif_neg (by omega), dif_neg (by omega), dif_neg (by omega), dif_neg (by omega), dif_neg (by omega), dif_neg (by omega), dif_neg (by omega), dif_neg (by omega), dif_neg (by omega), dif_pos (by omega)]
  exact congrArg (fun t => p10 (ix2 k t)) (Fin.ext (by simp only []; omega))

theorem pack_at11 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 100) : pack p0 p1 p2 p3 p4 p5 p6 p7 p8 p9 p10 p11 (ix2 k ⟨3740 + f.val, by omega⟩) = p11 (ix2 k f) := by
  pointwise [pack]
  rw [dif_neg (by omega), dif_neg (by omega), dif_neg (by omega), dif_neg (by omega), dif_neg (by omega), dif_neg (by omega), dif_neg (by omega), dif_neg (by omega), dif_neg (by omega), dif_neg (by omega), dif_neg (by omega)]
  exact congrArg (fun t => p11 (ix2 k t)) (Fin.ext (by simp only []; omega))

/-- The piece `b` of the packed weight, as the host's operations leave it. -/
abbrev piece (c : Dev nD) (b : Ref sig .tc) : Buf (Elt Ideal) ((c : Thread nD τ).loc b) :=
  StableHlo.upto hostOps0 (fun b => m (c, b)) 36 (Proc.tc.devRef b)

theorem packed (c : Dev nD) : V m c main_v32
    = pack (piece m c main_v7) (piece m c main_v14) (piece m c main_v21) (piece m c main_v22) (piece m c main_v23) (piece m c main_v24) (piece m c main_v25) (piece m c main_v26) (piece m c main_v27) (piece m c main_v28) (piece m c main_v29) (piece m c main_v30) := by
  unfold_abbrev_sides
  after_reads_simp
  rfl

theorem lit0_at (a : Fin 8) (b : Fin 2) :
    (Ideal.ofBits .f32 (lit0 (S8x2.rowMajor (ix2 a b))) : EReal) = if b.val = a.val / 4 then 1 else 0 := by
  have h : lit0 (S8x2.rowMajor (ix2 a b)) = if b.val = a.val / 4 then 0x3F800000#32 else 0x00000000#32 := by
    revert a b; decide +kernel
  rw [h]; split <;> pointwise!

theorem lit1_at (a : Fin 8) (b : Fin 2) :
    (Ideal.ofBits .f32 (lit1 (S8x2.rowMajor (ix2 a b))) : EReal) = if b.val = a.val / 4 then 1 else 0 := by
  have h : lit1 (S8x2.rowMajor (ix2 a b)) = if b.val = a.val / 4 then 0x3F800000#32 else 0x00000000#32 := by
    revert a b; decide +kernel
  rw [h]; split <;> pointwise!

theorem lit2_at (a : Fin 4) (b : Fin 2) :
    (Ideal.ofBits .f32 (lit2 (S4x2.rowMajor (ix2 a b))) : EReal) = if b.val = 0 then 1 else 0 := by
  have h : lit2 (S4x2.rowMajor (ix2 a b)) = if b.val = 0 then 0x3F800000#32 else 0x00000000#32 := by
    revert a b; decide +kernel
  rw [h]; split <;> pointwise!

/-- The lane layout's selector in terms of the lane. -/
theorem keep_of (l : Fin 1024) (v : Fin 8 → Fin 2 → EReal) (hv : ∀ a b, v a b = if b.val = a.val / 4 then 1 else 0) :
    v ⟨l.val / 128, by omega⟩ ⟨l.val / 64 % 2, by omega⟩ = keep l := by
  rw [hv, keep]
  have h : l.val / 128 / 4 = l.val / 512 := by omega
  simp only [h]

theorem piece0 (c : Dev nD) (k f : Fin 1024) : (piece m c main_v7 : FVec Ideal S1024x1024 .f32) (ix2 k f)
    = W m c (ix2 k ⟨0 + (lane f).val, by omega⟩) * keep f := by
  unfold piece
  after_reads_simp
  pointwise
  refine congrArg₂ (fun x y : EReal => x * y) ?_
    (keep_of f (fun a b => Ideal.ofBits .f32 (lit0 (S8x2.rowMajor (ix2 a b)))) lit0_at)
  exact congrArg (fun t => W m c (ix2 k t)) (Fin.ext (by simp only [lane]; omega))

theorem piece1 (c : Dev nD) (k f : Fin 1024) : (piece m c main_v14 : FVec Ideal S1024x1024 .f32) (ix2 k f)
    = W m c (ix2 k ⟨1304 + (lane f).val, by omega⟩) * keep f := by
  unfold piece
  after_reads_simp
  pointwise
  refine congrArg₂ (fun x y : EReal => x * y) ?_
    (keep_of f (fun a b => Ideal.ofBits .f32 (lit1 (S8x2.rowMajor (ix2 a b)))) lit1_at)
  exact congrArg (fun t => W m c (ix2 k t)) (Fin.ext (by simp only [lane]; omega))

theorem piece2 (c : Dev nD) (k : Fin 1024) (f : Fin 512) : (piece m c main_v21 : FVec Ideal S1024x512 .f32) (ix2 k f)
    = W m c (ix2 k ⟨2072 + (64 * (f.val / 128) + f.val % 64), by omega⟩) * (if f.val / 64 % 2 = 0 then 1 else 0) := by
  unfold piece
  after_reads_simp
  pointwise
  refine congrArg₂ (fun x y : EReal => x * y) ?_ (lit2_at ⟨f.val / 128, by omega⟩ ⟨f.val / 64 % 2, by omega⟩)
  exact congrArg (fun t => W m c (ix2 k t)) (Fin.ext (by simp only []; omega))

theorem piece3 (c : Dev nD) (k : Fin 1024) (f : Fin 64) : (piece m c main_v22 : FVec Ideal S1024x64 .f32) (ix2 k f)
    = W m c (ix2 k ⟨2328 + f.val, by omega⟩) := by
  unfold piece
  after_reads_simp
  pointwise!

theorem piece5 (c : Dev nD) (k : Fin 1024) (f : Fin 256) : (piece m c main_v24 : FVec Ideal S1024x256 .f32) (ix2 k f)
    = W m c (ix2 k ⟨512 + f.val, by omega⟩) := by
  unfold piece
  after_reads_simp
  pointwise!

theorem piece6 (c : Dev nD) (k : Fin 1024) (f : Fin 256) : (piece m c main_v25 : FVec Ideal S1024x256 .f32) (ix2 k f)
    = W m c (ix2 k ⟨768 + f.val, by omega⟩) := by
  unfold piece
  after_reads_simp
  pointwise!

theorem piece7 (c : Dev nD) (k : Fin 1024) (f : Fin 256) : (piece m c main_v26 : FVec Ideal S1024x256 .f32) (ix2 k f)
    = W m c (ix2 k ⟨1024 + f.val, by omega⟩) := by
  unfold piece
  after_reads_simp
  pointwise!

theorem piece8 (c : Dev nD) (k : Fin 1024) (f : Fin 256) : (piece m c main_v27 : FVec Ideal S1024x256 .f32) (ix2 k f)
    = W m c (ix2 k ⟨1816 + f.val, by omega⟩) := by
  unfold piece
  after_reads_simp
  pointwise!

theorem piece9 (c : Dev nD) (k : Fin 1024) (f : Fin 4) : (piece m c main_v28 : FVec Ideal S1024x4 .f32) (ix2 k f)
    = W m c (ix2 k ⟨2392 + f.val, by omega⟩) := by
  unfold piece
  after_reads_simp
  pointwise!

theorem piece10 (c : Dev nD) (k : Fin 1024) (f : Fin 24) : (piece m c main_v29 : FVec Ideal S1024x24 .f32) (ix2 k f)
    = W m c (ix2 k ⟨1280 + f.val, by omega⟩) := by
  unfold piece
  after_reads_simp
  pointwise!

theorem piece4 (c : Dev nD) (k : Fin 1024) (f : Fin 64) : (piece m c main_v23 : FVec Ideal S1024x64 .f32) (ix2 k f)
    = (0 : EReal) := by
  unfold piece
  after_reads_simp
  pointwise!

theorem piece11 (c : Dev nD) (k : Fin 1024) (f : Fin 100) : (piece m c main_v30 : FVec Ideal S1024x100 .f32) (ix2 k f)
    = (0 : EReal) := by
  unfold piece
  after_reads_simp
  pointwise!

/-- A read of the packed weight's window is a read of the pieces side by side. -/
theorem in2 (c : Dev nD) (t : Fin cfg0.N) (k : Fin 1024) (j : Fin 3840) :
    (iblk m c 2 t : FVec Ideal S1024x3840 .bf16) (ix2 k j)
    = pack (piece m c main_v7) (piece m c main_v14) (piece m c main_v21) (piece m c main_v22) (piece m c main_v23) (piece m c main_v24) (piece m c main_v25) (piece m c main_v26) (piece m c main_v27) (piece m c main_v28) (piece m c main_v29) (piece m c main_v30) (ix2 k j) := by
  blk_simp [iblk]
  rw [packed]
  exact congrArg _ (emb2 t k j)

theorem w0 (c : Dev nD) (t : Fin cfg0.N) (k : Fin 1024) (f : Fin 1024) :
    (iblk m c 2 t : FVec Ideal S1024x3840 .bf16) (ix2 k ⟨0 + f.val, by omega⟩) = W m c (ix2 k ⟨0 + (lane f).val, by omega⟩) * keep f :=
  (in2 m c t k _).trans ((pack_at0 _ _ _ _ _ _ _ _ _ _ _ _ k f).trans (piece0 m c k f))

theorem w1 (c : Dev nD) (t : Fin cfg0.N) (k : Fin 1024) (f : Fin 1024) :
    (iblk m c 2 t : FVec Ideal S1024x3840 .bf16) (ix2 k ⟨1024 + f.val, by omega⟩) = W m c (ix2 k ⟨1304 + (lane f).val, by omega⟩) * keep f :=
  (in2 m c t k _).trans ((pack_at1 _ _ _ _ _ _ _ _ _ _ _ _ k f).trans (piece1 m c k f))

theorem w2 (c : Dev nD) (t : Fin cfg0.N) (k : Fin 1024) (f : Fin 512) :
    (iblk m c 2 t : FVec Ideal S1024x3840 .bf16) (ix2 k ⟨2048 + f.val, by omega⟩) = W m c (ix2 k ⟨2072 + (64 * (f.val / 128) + f.val % 64), by omega⟩) * (if f.val / 64 % 2 = 0 then 1 else 0) :=
  (in2 m c t k _).trans ((pack_at2 _ _ _ _ _ _ _ _ _ _ _ _ k f).trans (piece2 m c k f))

theorem w3 (c : Dev nD) (t : Fin cfg0.N) (k : Fin 1024) (f : Fin 64) :
    (iblk m c 2 t : FVec Ideal S1024x3840 .bf16) (ix2 k ⟨2560 + f.val, by omega⟩) = W m c (ix2 k ⟨2328 + f.val, by omega⟩) :=
  (in2 m c t k _).trans ((pack_at3 _ _ _ _ _ _ _ _ _ _ _ _ k f).trans (piece3 m c k f))

theorem w4 (c : Dev nD) (t : Fin cfg0.N) (k : Fin 1024) (f : Fin 64) :
    (iblk m c 2 t : FVec Ideal S1024x3840 .bf16) (ix2 k ⟨2624 + f.val, by omega⟩) = (0 : EReal) :=
  (in2 m c t k _).trans ((pack_at4 _ _ _ _ _ _ _ _ _ _ _ _ k f).trans (piece4 m c k f))

theorem w5 (c : Dev nD) (t : Fin cfg0.N) (k : Fin 1024) (f : Fin 256) :
    (iblk m c 2 t : FVec Ideal S1024x3840 .bf16) (ix2 k ⟨2688 + f.val, by omega⟩) = W m c (ix2 k ⟨512 + f.val, by omega⟩) :=
  (in2 m c t k _).trans ((pack_at5 _ _ _ _ _ _ _ _ _ _ _ _ k f).trans (piece5 m c k f))

theorem w6 (c : Dev nD) (t : Fin cfg0.N) (k : Fin 1024) (f : Fin 256) :
    (iblk m c 2 t : FVec Ideal S1024x3840 .bf16) (ix2 k ⟨2944 + f.val, by omega⟩) = W m c (ix2 k ⟨768 + f.val, by omega⟩) :=
  (in2 m c t k _).trans ((pack_at6 _ _ _ _ _ _ _ _ _ _ _ _ k f).trans (piece6 m c k f))

theorem w7 (c : Dev nD) (t : Fin cfg0.N) (k : Fin 1024) (f : Fin 256) :
    (iblk m c 2 t : FVec Ideal S1024x3840 .bf16) (ix2 k ⟨3200 + f.val, by omega⟩) = W m c (ix2 k ⟨1024 + f.val, by omega⟩) :=
  (in2 m c t k _).trans ((pack_at7 _ _ _ _ _ _ _ _ _ _ _ _ k f).trans (piece7 m c k f))

theorem w8 (c : Dev nD) (t : Fin cfg0.N) (k : Fin 1024) (f : Fin 256) :
    (iblk m c 2 t : FVec Ideal S1024x3840 .bf16) (ix2 k ⟨3456 + f.val, by omega⟩) = W m c (ix2 k ⟨1816 + f.val, by omega⟩) :=
  (in2 m c t k _).trans ((pack_at8 _ _ _ _ _ _ _ _ _ _ _ _ k f).trans (piece8 m c k f))

theorem w9 (c : Dev nD) (t : Fin cfg0.N) (k : Fin 1024) (f : Fin 4) :
    (iblk m c 2 t : FVec Ideal S1024x3840 .bf16) (ix2 k ⟨3712 + f.val, by omega⟩) = W m c (ix2 k ⟨2392 + f.val, by omega⟩) :=
  (in2 m c t k _).trans ((pack_at9 _ _ _ _ _ _ _ _ _ _ _ _ k f).trans (piece9 m c k f))

theorem w10 (c : Dev nD) (t : Fin cfg0.N) (k : Fin 1024) (f : Fin 24) :
    (iblk m c 2 t : FVec Ideal S1024x3840 .bf16) (ix2 k ⟨3716 + f.val, by omega⟩) = W m c (ix2 k ⟨1280 + f.val, by omega⟩) :=
  (in2 m c t k _).trans ((pack_at10 _ _ _ _ _ _ _ _ _ _ _ _ k f).trans (piece10 m c k f))

theorem w11 (c : Dev nD) (t : Fin cfg0.N) (k : Fin 1024) (f : Fin 100) :
    (iblk m c 2 t : FVec Ideal S1024x3840 .bf16) (ix2 k ⟨3740 + f.val, by omega⟩) = (0 : EReal) :=
  (in2 m c t k _).trans ((pack_at11 _ _ _ _ _ _ _ _ _ _ _ _ k f).trans (piece11 m c k f))

end Cert.ProjIdeal.Whole

end
-- ==== Proof.ProjValue.lean ====
/- What the projection kernel's result arrays hold after the run. -/
module

public import proofs.«01_k».proof.Proof.ProjWeight

@[expose] public section

set_option maxRecDepth 16384

noncomputable section

open Idealize.ShloMosaic Idealize.ShloMosaic.TcCoe Idealize.SL.Sem
open Idealize.ShloMosaic.Pipeline (Dat)
open scoped BigOperators

namespace Cert.ProjIdeal.Whole

open Cert.ProjIdeal Cert.ProjIdeal.Gen Cert.Rows

variable (m : (ℓ : Loc nD τ sig) → Buf (Elt Ideal) ℓ)

/-- The normed row that row `r` of point `t`'s block is. -/
def h (c : Dev nD) (t : Fin cfg0.N) (r : Fin 512) : Fin 1024 → EReal :=
  rms (fun k => m ((c : Thread nD τ).loc main_arg0) (ix2 (row t r) k)) (fun k => m ((c : Thread nD τ).loc main_arg1) (ix1 k))

theorem norm_at (c : Dev nD) (t : Fin cfg0.N) (r : Fin 512) (k : Fin 1024) :
    k0_pay4 (F := Ideal) (iblk m c 0 t) (iblk m c 1 t) (ix2 r k) = h m c t r k := by
  refine (Block.pay4_at _ _ r k).trans ?_
  simp only [in0, in1, h]

theorem norm16_at (c : Dev nD) (t : Fin cfg0.N) (r : Fin 512) (k : Fin 1024) :
    k0_pay16 (F := Ideal) (iblk m c 0 t) (iblk m c 1 t) (iblk m c 2 t) (ix2 r k) = h m c t r k := by
  have e0 : View.ld (iblk m c 0 t : FVec Ideal S512x1024 .f32) r0_0 = iblk m c 0 t := by
    funext y; idx_vars y; pointwise [r0_0]
  have e1 : View.ld (iblk m c 1 t : FVec Ideal S1x1024 .f32) r0_1 = iblk m c 1 t := by
    funext y; idx_vars y; rw [Subsingleton.elim y0 0]; pointwise [r0_1]
  have e : k0_pay16 (F := Ideal) (iblk m c 0 t) (iblk m c 1 t) (iblk m c 2 t)
      = k0_pay4 (F := Ideal) (iblk m c 0 t) (iblk m c 1 t) := by
    exact congrArg₂ (k0_pay4 (F := Ideal)) e0 e1
  rw [e, norm_at]

/-- The reference's whole product, from the launch's arguments. -/
def prodOf (c : Dev nD) : FVec Ideal Cert.ProjRefIdeal.S16384x4444 .f32 :=
  Cert.ProjRefIdeal.Read.prod (m ((c : Thread nD τ).loc main_arg0)) (m ((c : Thread nD τ).loc main_arg1))
    (m ((c : Thread nD τ).loc main_arg2))

theorem prodOf_at (c : Dev nD) (t : Fin cfg0.N) (r : Fin 512) (f : Fin 4444) :
    prodOf m c (ix2 (row t r) f) = ∑ k : Fin 1024, h m c t r k * W m c (ix2 k f) :=
  Cert.ProjRefIdeal.Read.prod_at _ _ _ _ _

/-- A product whose column is kept or zeroed is the product kept or zeroed. -/
theorem sum_keep (a b : Fin 1024 → EReal) (p : Prop) [Decidable p] :
    ∑ k : Fin 1024, a k * (b k * (if p then 1 else 0)) = if p then ∑ k : Fin 1024, a k * b k else 0 := by
  split
  · simp only [mul_one]
  · simp only [mul_zero, Finset.sum_const_zero]

theorem sum_zero (a : Fin 1024 → EReal) : ∑ k : Fin 1024, a k * (0 : EReal) = 0 := by
  simp only [mul_zero, Finset.sum_const_zero]

theorem outPos3 (t : Fin cfg0.N) (y0 : Fin 512) (y1 : Fin 1024) :
    ((cfg0.win 3).blk t).view.emb (ix2 y0 y1) = ix2 (row t y0) y1 := by
  blk_ext! [row, idx t]

theorem outPos4 (t : Fin cfg0.N) (y0 : Fin 512) (y1 : Fin 1024) :
    ((cfg0.win 4).blk t).view.emb (ix2 y0 y1) = ix2 (row t y0) y1 := by
  blk_ext! [row, idx t]

theorem outPos5 (t : Fin cfg0.N) (y0 : Fin 512) (y1 : Fin 512) :
    ((cfg0.win 5).blk t).view.emb (ix2 y0 y1) = ix2 (row t y0) y1 := by
  blk_ext! [row, idx t]

theorem outPos6 (t : Fin cfg0.N) (y0 : Fin 512) (y1 : Fin 128) :
    ((cfg0.win 6).blk t).view.emb (ix2 y0 y1) = ix2 (row t y0) y1 := by
  blk_ext! [row, idx t]

theorem outPos7 (t : Fin cfg0.N) (y0 : Fin 512) (y1 : Fin 256) :
    ((cfg0.win 7).blk t).view.emb (ix2 y0 y1) = ix2 (row t y0) y1 := by
  blk_ext! [row, idx t]

theorem outPos8 (t : Fin cfg0.N) (y0 : Fin 512) (y1 : Fin 256) :
    ((cfg0.win 8).blk t).view.emb (ix2 y0 y1) = ix2 (row t y0) y1 := by
  blk_ext! [row, idx t]

theorem outPos9 (t : Fin cfg0.N) (y0 : Fin 512) (y1 : Fin 256) :
    ((cfg0.win 9).blk t).view.emb (ix2 y0 y1) = ix2 (row t y0) y1 := by
  blk_ext! [row, idx t]

theorem outPos10 (t : Fin cfg0.N) (y0 : Fin 512) (y1 : Fin 256) :
    ((cfg0.win 10).blk t).view.emb (ix2 y0 y1) = ix2 (row t y0) y1 := by
  blk_ext! [row, idx t]

theorem outPos11 (t : Fin cfg0.N) (y0 : Fin 512) (y1 : Fin 128) :
    ((cfg0.win 11).blk t).view.emb (ix2 y0 y1) = ix2 (row t y0) y1 := by
  blk_ext! [row, idx t]

theorem outPos12 (t : Fin cfg0.N) (y0 : Fin 512) (y1 : Fin 64) :
    ((cfg0.win 12).blk t).view.emb (ix2 y0 y1) = ix2 (row t y0) y1 := by
  blk_ext! [row, idx t]

theorem outPos13 (t : Fin cfg0.N) (y0 : Fin 512) (y1 : Fin 256) :
    ((cfg0.win 13).blk t).view.emb (ix2 y0 y1) = ix2 (row t y0) y1 := by
  blk_ext! [row, idx t]

theorem outPos14 (t : Fin cfg0.N) (y0 : Fin 512) (y1 : Fin 256) :
    ((cfg0.win 14).blk t).view.emb (ix2 y0 y1) = ix2 (row t y0) y1 := by
  blk_ext! [row, idx t]

theorem outPos15 (t : Fin cfg0.N) (y0 : Fin 512) (y1 : Fin 256) :
    ((cfg0.win 15).blk t).view.emb (ix2 y0 y1) = ix2 (row t y0) y1 := by
  blk_ext! [row, idx t]

theorem ld3 (c : Dev nD) (t : Fin cfg0.N) (k : Fin 1024) (f : Fin 1024) :
    View.ld (iblk m c 2 t : FVec Ideal S1024x3840 .bf16) r0_2 (ix2 k f)
      = (iblk m c 2 t : FVec Ideal S1024x3840 .bf16) (ix2 k ⟨0 + f.val, by omega⟩) := by
  pointwise! [r0_2]

theorem ld4 (c : Dev nD) (t : Fin cfg0.N) (k : Fin 1024) (f : Fin 1024) :
    View.ld (iblk m c 2 t : FVec Ideal S1024x3840 .bf16) r0_3 (ix2 k f)
      = (iblk m c 2 t : FVec Ideal S1024x3840 .bf16) (ix2 k ⟨1024 + f.val, by omega⟩) := by
  pointwise! [r0_3]

theorem ld5 (c : Dev nD) (t : Fin cfg0.N) (k : Fin 1024) (f : Fin 512) :
    View.ld (iblk m c 2 t : FVec Ideal S1024x3840 .bf16) r0_4 (ix2 k f)
      = (iblk m c 2 t : FVec Ideal S1024x3840 .bf16) (ix2 k ⟨2048 + f.val, by omega⟩) := by
  pointwise! [r0_4]

theorem ld6 (c : Dev nD) (t : Fin cfg0.N) (k : Fin 1024) (f : Fin 128) :
    View.ld (iblk m c 2 t : FVec Ideal S1024x3840 .bf16) r0_6 (ix2 k f)
      = (iblk m c 2 t : FVec Ideal S1024x3840 .bf16) (ix2 k ⟨2560 + f.val, by omega⟩) := by
  pointwise! [r0_6]

theorem ld7 (c : Dev nD) (t : Fin cfg0.N) (k : Fin 1024) (f : Fin 256) :
    View.ld (iblk m c 2 t : FVec Ideal S1024x3840 .bf16) r0_9 (ix2 k f)
      = (iblk m c 2 t : FVec Ideal S1024x3840 .bf16) (ix2 k ⟨2688 + f.val, by omega⟩) := by
  pointwise! [r0_9]

theorem ld8 (c : Dev nD) (t : Fin cfg0.N) (k : Fin 1024) (f : Fin 256) :
    View.ld (iblk m c 2 t : FVec Ideal S1024x3840 .bf16) r0_11 (ix2 k f)
      = (iblk m c 2 t : FVec Ideal S1024x3840 .bf16) (ix2 k ⟨2944 + f.val, by omega⟩) := by
  pointwise! [r0_11]

theorem ld9 (c : Dev nD) (t : Fin cfg0.N) (k : Fin 1024) (f : Fin 256) :
    View.ld (iblk m c 2 t : FVec Ideal S1024x3840 .bf16) r0_12 (ix2 k f)
      = (iblk m c 2 t : FVec Ideal S1024x3840 .bf16) (ix2 k ⟨3200 + f.val, by omega⟩) := by
  pointwise! [r0_12]

theorem ld10 (c : Dev nD) (t : Fin cfg0.N) (k : Fin 1024) (f : Fin 256) :
    View.ld (iblk m c 2 t : FVec Ideal S1024x3840 .bf16) r0_13 (ix2 k f)
      = (iblk m c 2 t : FVec Ideal S1024x3840 .bf16) (ix2 k ⟨3456 + f.val, by omega⟩) := by
  pointwise! [r0_13]

theorem ld11 (c : Dev nD) (t : Fin cfg0.N) (k : Fin 1024) (f : Fin 128) :
    View.ld (iblk m c 2 t : FVec Ideal S1024x3840 .bf16) r0_14 (ix2 k f)
      = (iblk m c 2 t : FVec Ideal S1024x3840 .bf16) (ix2 k ⟨3712 + f.val, by omega⟩) := by
  pointwise! [r0_14]

theorem point3 (c : Dev nD) (t : Fin cfg0.N) (y : S512x1024.Idx) :
    k0_pay5 (F := Ideal) (iblk m c 0 t) (iblk m c 1 t) (View.ld (iblk m c 2 t) r0_2) y
      = Cert.ProjRefIdeal.Read.nq (prodOf m c) (((cfg0.win 3).blk t).view.emb y) := by
  idx_vars y
  refine Eq.trans ?_ (congrArg _ (outPos3 t y0 y1).symm)
  refine (Block.pay5_at _ _ _ y0 y1).trans ?_
  refine Eq.trans ?_ (Cert.ProjRefIdeal.Read.nq_at _ _ _).symm
  refine congrArg (fun z : EReal => z * Ideal.ofBits .f32 0x3E000000#32) ?_
  have hw := fun k => (ld3 m c t k y1).trans (w0 m c t k y1)
  simp only [hw, norm_at, prodOf_at, keep, sum_keep, Nat.zero_add]

/-- Result array 3: what the reference lays out. -/
theorem final3 (c : Dev nD) : (dats m 0 c).arrAt 3 (cfgs 0).N
    = Cert.ProjRefIdeal.Read.nq (prodOf m c) := by
  refine (dats m 0 c).arrAt_eq_of_covers 3 _ (by decide +kernel) fun t hf y => ?_
  blk_simp; rw [after0_3]; frame_out
  exact point3 m c t y

theorem point4 (c : Dev nD) (t : Fin cfg0.N) (y : S512x1024.Idx) :
    k0_pay6 (F := Ideal) (iblk m c 0 t) (iblk m c 1 t) (View.ld (iblk m c 2 t) r0_3) y
      = Cert.ProjRefIdeal.Read.dq (prodOf m c) (((cfg0.win 4).blk t).view.emb y) := by
  idx_vars y
  refine Eq.trans ?_ (congrArg _ (outPos4 t y0 y1).symm)
  refine (Block.pay6_at _ _ _ y0 y1).trans ?_
  refine Eq.trans ?_ (Cert.ProjRefIdeal.Read.dq_at _ _ _).symm
  refine congrArg (fun z : EReal => z * Ideal.ofBits .f32 0x3E000000#32) ?_
  have hw := fun k => (ld4 m c t k y1).trans (w1 m c t k y1)
  simp only [hw, norm_at, prodOf_at, keep, sum_keep]

/-- Result array 4: what the reference lays out. -/
theorem final4 (c : Dev nD) : (dats m 0 c).arrAt 4 (cfgs 0).N
    = Cert.ProjRefIdeal.Read.dq (prodOf m c) := by
  refine (dats m 0 c).arrAt_eq_of_covers 4 _ (by decide +kernel) fun t hf y => ?_
  blk_simp; rw [after0_4]; frame_out
  exact point4 m c t y

theorem point5 (c : Dev nD) (t : Fin cfg0.N) (y : S512x512.Idx) :
    k0_pay7 (F := Ideal) (iblk m c 0 t) (iblk m c 1 t) (View.ld (iblk m c 2 t) r0_4) y
      = Cert.ProjRefIdeal.Read.iq (prodOf m c) (((cfg0.win 5).blk t).view.emb y) := by
  idx_vars y
  refine Eq.trans ?_ (congrArg _ (outPos5 t y0 y1).symm)
  refine (Block.pay7_at _ _ _ y0 y1).trans ?_
  refine Eq.trans ?_ (Cert.ProjRefIdeal.Read.iq_at _ _ _).symm
  have hw := fun k => (ld5 m c t k y1).trans (w2 m c t k y1)
  simp only [hw, norm_at, prodOf_at, sum_keep]

/-- Result array 5: what the reference lays out. -/
theorem final5 (c : Dev nD) : (dats m 0 c).arrAt 5 (cfgs 0).N
    = Cert.ProjRefIdeal.Read.iq (prodOf m c) := by
  refine (dats m 0 c).arrAt_eq_of_covers 5 _ (by decide +kernel) fun t hf y => ?_
  blk_simp; rw [after0_5]; frame_out
  exact point5 m c t y

theorem point6 (c : Dev nD) (t : Fin cfg0.N) (y : S512x128.Idx) :
    k0_pay9 (F := Ideal) (k0_pay16 (iblk m c 0 t) (iblk m c 1 t) (iblk m c 2 t)) (View.ld (iblk m c 2 t) r0_6) y
      = Cert.ProjRefIdeal.Read.ikx (prodOf m c) (((cfg0.win 6).blk t).view.emb y) := by
  idx_vars y
  refine Eq.trans ?_ (congrArg _ (outPos6 t y0 y1).symm)
  refine (Block.pay9_at _ _ y0 y1).trans ?_
  refine Eq.trans ?_ (Cert.ProjRefIdeal.Read.ikx_at _ _ _).symm
  have hl := y1.isLt
  by_cases hy : y1.val < 64
  · rw [dif_pos hy]
    have hw := fun k => (ld6 m c t k y1).trans (w3 m c t k ⟨y1.val, hy⟩)
    simp only [hw, norm16_at, prodOf_at]
  · rw [dif_neg hy]
    have e : (⟨2560 + y1.val, by omega⟩ : Fin 3840) = ⟨2624 + (y1.val - 64), by omega⟩ := Fin.ext (by simp only []; omega)
    have hw := fun k => (ld6 m c t k y1).trans ((congrArg (fun z => (iblk m c 2 t : FVec Ideal S1024x3840 .bf16) (ix2 k z)) e).trans
      (w4 m c t k ⟨y1.val - 64, by omega⟩))
    simp only [hw, sum_zero]

/-- Result array 6: what the reference lays out. -/
theorem final6 (c : Dev nD) : (dats m 0 c).arrAt 6 (cfgs 0).N
    = Cert.ProjRefIdeal.Read.ikx (prodOf m c) := by
  refine (dats m 0 c).arrAt_eq_of_covers 6 _ (by decide +kernel) fun t hf y => ?_
  blk_simp; rw [after0_6]; frame_out
  exact point6 m c t y

theorem point11 (c : Dev nD) (t : Fin cfg0.N) (y : S512x128.Idx) :
    k0_pay3 (F := Ideal) (k0_pay16 (iblk m c 0 t) (iblk m c 1 t) (iblk m c 2 t)) (View.ld (iblk m c 2 t) r0_14) y
      = Cert.ProjRefIdeal.Read.misc (prodOf m c) (((cfg0.win 11).blk t).view.emb y) := by
  idx_vars y
  refine Eq.trans ?_ (congrArg _ (outPos11 t y0 y1).symm)
  refine (Block.pay3_at _ _ y0 y1).trans ?_
  refine Eq.trans ?_ (Cert.ProjRefIdeal.Read.misc_at _ _ _).symm
  have hl := y1.isLt
  by_cases hy : y1.val < 4
  · rw [if_pos hy]
    have hw := fun k => (ld11 m c t k y1).trans (w9 m c t k ⟨y1.val, hy⟩)
    simp only [hw, norm16_at, prodOf_at]
  · rw [if_neg hy]
    by_cases hz : y1.val < 28
    · rw [if_pos hz]
      have e : (⟨3712 + y1.val, by omega⟩ : Fin 3840) = ⟨3716 + (y1.val - 4), by omega⟩ := Fin.ext (by simp only []; omega)
      have e' : (⟨1280 + (y1.val - 4), by omega⟩ : Fin 4444) = ⟨1276 + y1.val, by omega⟩ := Fin.ext (by simp only []; omega)
      have hw := fun k => (ld11 m c t k y1).trans ((congrArg (fun z => (iblk m c 2 t : FVec Ideal S1024x3840 .bf16) (ix2 k z)) e).trans
        ((w10 m c t k ⟨y1.val - 4, by omega⟩).trans (congrArg (fun z => W m c (ix2 k z)) e')))
      simp only [hw, norm16_at, prodOf_at]
    · rw [if_neg hz]
      have e : (⟨3712 + y1.val, by omega⟩ : Fin 3840) = ⟨3740 + (y1.val - 28), by omega⟩ := Fin.ext (by simp only []; omega)
      have hw := fun k => (ld11 m c t k y1).trans ((congrArg (fun z => (iblk m c 2 t : FVec Ideal S1024x3840 .bf16) (ix2 k z)) e).trans
        (w11 m c t k ⟨y1.val - 28, by omega⟩))
      simp only [hw, sum_zero]

/-- Result array 11: what the reference lays out. -/
theorem final11 (c : Dev nD) : (dats m 0 c).arrAt 11 (cfgs 0).N
    = Cert.ProjRefIdeal.Read.misc (prodOf m c) := by
  refine (dats m 0 c).arrAt_eq_of_covers 11 _ (by decide +kernel) fun t hf y => ?_
  blk_simp; rw [after0_11]; frame_out
  exact point11 m c t y

theorem point7 (c : Dev nD) (t : Fin cfg0.N) (y : S512x256.Idx) :
    k0_pay11 (F := Ideal) (k0_pay16 (iblk m c 0 t) (iblk m c 1 t) (iblk m c 2 t)) (View.ld (iblk m c 2 t) r0_9) y
      = Cert.ProjRefIdeal.Read.ckv (prodOf m c) (((cfg0.win 7).blk t).view.emb y) := by
  idx_vars y
  refine Eq.trans ?_ (congrArg _ (outPos7 t y0 y1).symm)
  refine (Block.pay11_at _ _ y0 y1).trans ?_
  refine Eq.trans ?_ (Cert.ProjRefIdeal.Read.ckv_at _ _ _).symm
  have hw := fun k => (ld7 m c t k y1).trans (w5 m c t k y1)
  simp only [hw, norm16_at, prodOf_at]

/-- Result array 7: what the reference lays out. -/
theorem final7 (c : Dev nD) : (dats m 0 c).arrAt 7 (cfgs 0).N
    = Cert.ProjRefIdeal.Read.ckv (prodOf m c) := by
  refine (dats m 0 c).arrAt_eq_of_covers 7 _ (by decide +kernel) fun t hf y => ?_
  blk_simp; rw [after0_7]; frame_out
  exact point7 m c t y

theorem point8 (c : Dev nD) (t : Fin cfg0.N) (y : S512x256.Idx) :
    k0_pay12 (F := Ideal) (k0_pay16 (iblk m c 0 t) (iblk m c 1 t) (iblk m c 2 t)) (View.ld (iblk m c 2 t) r0_11) y
      = Cert.ProjRefIdeal.Read.skv (prodOf m c) (((cfg0.win 8).blk t).view.emb y) := by
  idx_vars y
  refine Eq.trans ?_ (congrArg _ (outPos8 t y0 y1).symm)
  refine (Block.pay12_at _ _ y0 y1).trans ?_
  refine Eq.trans ?_ (Cert.ProjRefIdeal.Read.skv_at _ _ _).symm
  have hw := fun k => (ld8 m c t k y1).trans (w6 m c t k y1)
  simp only [hw, norm16_at, prodOf_at]

/-- Result array 8: what the reference lays out. -/
theorem final8 (c : Dev nD) : (dats m 0 c).arrAt 8 (cfgs 0).N
    = Cert.ProjRefIdeal.Read.skv (prodOf m c) := by
  refine (dats m 0 c).arrAt_eq_of_covers 8 _ (by decide +kernel) fun t hf y => ?_
  blk_simp; rw [after0_8]; frame_out
  exact point8 m c t y

theorem point13 (c : Dev nD) (t : Fin cfg0.N) (y : S512x256.Idx) :
    k0_pay13 (F := Ideal) (k0_pay16 (iblk m c 0 t) (iblk m c 1 t) (iblk m c 2 t)) (View.ld (iblk m c 2 t) r0_11) y
      = Cert.ProjRefIdeal.Read.skvb (prodOf m c) (((cfg0.win 13).blk t).view.emb y) := by
  idx_vars y
  refine Eq.trans ?_ (congrArg _ (outPos13 t y0 y1).symm)
  refine (Block.pay13_at _ _ y0 y1).trans ?_
  refine Eq.trans ?_ (Cert.ProjRefIdeal.Read.skvb_at _ _ _).symm
  have hw := fun k => (ld8 m c t k y1).trans (w6 m c t k y1)
  simp only [hw, norm16_at, prodOf_at]

/-- Result array 13: what the reference lays out. -/
theorem final13 (c : Dev nD) : (dats m 0 c).arrAt 13 (cfgs 0).N
    = Cert.ProjRefIdeal.Read.skvb (prodOf m c) := by
  refine (dats m 0 c).arrAt_eq_of_covers 13 _ (by decide +kernel) fun t hf y => ?_
  blk_simp; rw [after0_13]; frame_out
  exact point13 m c t y

theorem point9 (c : Dev nD) (t : Fin cfg0.N) (y : S512x256.Idx) :
    k0_pay14 (F := Ideal) (k0_pay16 (iblk m c 0 t) (iblk m c 1 t) (iblk m c 2 t)) (View.ld (iblk m c 2 t) r0_12) y
      = Cert.ProjRefIdeal.Read.wkv (prodOf m c) (((cfg0.win 9).blk t).view.emb y) := by
  idx_vars y
  refine Eq.trans ?_ (congrArg _ (outPos9 t y0 y1).symm)
  refine (Block.pay14_at _ _ y0 y1).trans ?_
  refine Eq.trans ?_ (Cert.ProjRefIdeal.Read.wkv_at _ _ _).symm
  have hw := fun k => (ld9 m c t k y1).trans (w7 m c t k y1)
  simp only [hw, norm16_at, prodOf_at]

/-- Result array 9: what the reference lays out. -/
theorem final9 (c : Dev nD) : (dats m 0 c).arrAt 9 (cfgs 0).N
    = Cert.ProjRefIdeal.Read.wkv (prodOf m c) := by
  refine (dats m 0 c).arrAt_eq_of_covers 9 _ (by decide +kernel) fun t hf y => ?_
  blk_simp; rw [after0_9]; frame_out
  exact point9 m c t y

theorem point14 (c : Dev nD) (t : Fin cfg0.N) (y : S512x256.Idx) :
    k0_pay15 (F := Ideal) (k0_pay16 (iblk m c 0 t) (iblk m c 1 t) (iblk m c 2 t)) (View.ld (iblk m c 2 t) r0_12) y
      = Cert.ProjRefIdeal.Read.wkvb (prodOf m c) (((cfg0.win 14).blk t).view.emb y) := by
  idx_vars y
  refine Eq.trans ?_ (congrArg _ (outPos14 t y0 y1).symm)
  refine (Block.pay15_at _ _ y0 y1).trans ?_
  refine Eq.trans ?_ (Cert.ProjRefIdeal.Read.wkvb_at _ _ _).symm
  have hw := fun k => (ld9 m c t k y1).trans (w7 m c t k y1)
  simp only [hw, norm16_at, prodOf_at]

/-- Result array 14: what the reference lays out. -/
theorem final14 (c : Dev nD) : (dats m 0 c).arrAt 14 (cfgs 0).N
    = Cert.ProjRefIdeal.Read.wkvb (prodOf m c) := by
  refine (dats m 0 c).arrAt_eq_of_covers 14 _ (by decide +kernel) fun t hf y => ?_
  blk_simp; rw [after0_14]; frame_out
  exact point14 m c t y

theorem point10 (c : Dev nD) (t : Fin cfg0.N) (y : S512x256.Idx) :
    k0_pay1 (F := Ideal) (k0_pay16 (iblk m c 0 t) (iblk m c 1 t) (iblk m c 2 t)) (View.ld (iblk m c 2 t) r0_13) y
      = Cert.ProjRefIdeal.Read.dkv (prodOf m c) (((cfg0.win 10).blk t).view.emb y) := by
  idx_vars y
  refine Eq.trans ?_ (congrArg _ (outPos10 t y0 y1).symm)
  refine (Block.pay1_at _ _ y0 y1).trans ?_
  refine Eq.trans ?_ (Cert.ProjRefIdeal.Read.dkv_at _ _ _).symm
  have hw := fun k => (ld10 m c t k y1).trans (w8 m c t k y1)
  simp only [hw, norm16_at, prodOf_at]

/-- Result array 10: what the reference lays out. -/
theorem final10 (c : Dev nD) : (dats m 0 c).arrAt 10 (cfgs 0).N
    = Cert.ProjRefIdeal.Read.dkv (prodOf m c) := by
  refine (dats m 0 c).arrAt_eq_of_covers 10 _ (by decide +kernel) fun t hf y => ?_
  blk_simp; rw [after0_10]; frame_out
  exact point10 m c t y

theorem point15 (c : Dev nD) (t : Fin cfg0.N) (y : S512x256.Idx) :
    k0_pay2 (F := Ideal) (k0_pay16 (iblk m c 0 t) (iblk m c 1 t) (iblk m c 2 t)) (View.ld (iblk m c 2 t) r0_13) y
      = Cert.ProjRefIdeal.Read.dkvb (prodOf m c) (((cfg0.win 15).blk t).view.emb y) := by
  idx_vars y
  refine Eq.trans ?_ (congrArg _ (outPos15 t y0 y1).symm)
  refine (Block.pay2_at _ _ y0 y1).trans ?_
  refine Eq.trans ?_ (Cert.ProjRefIdeal.Read.dkvb_at _ _ _).symm
  have hw := fun k => (ld10 m c t k y1).trans (w8 m c t k y1)
  simp only [hw, norm16_at, prodOf_at]

/-- Result array 15: what the reference lays out. -/
theorem final15 (c : Dev nD) : (dats m 0 c).arrAt 15 (cfgs 0).N
    = Cert.ProjRefIdeal.Read.dkvb (prodOf m c) := by
  refine (dats m 0 c).arrAt_eq_of_covers 15 _ (by decide +kernel) fun t hf y => ?_
  blk_simp; rw [after0_15]; frame_out
  exact point15 m c t y

theorem point12 (c : Dev nD) (t : Fin cfg0.N) (y : S512x64.Idx) :
    k0_pay10 (F := Ideal) (k0_pay16 (iblk m c 0 t) (iblk m c 1 t) (iblk m c 2 t)) (View.ld (iblk m c 2 t) r0_6) y
      = Cert.ProjRefIdeal.Read.ik (prodOf m c) (((cfg0.win 12).blk t).view.emb y) := by
  idx_vars y
  refine Eq.trans ?_ (congrArg _ (outPos12 t y0 y1).symm)
  refine (Block.pay10_at _ _ y0 y1).trans ?_
  refine Eq.trans ?_ (Cert.ProjRefIdeal.Read.ik_at _ _ _).symm
  have hw := fun k => (ld6 m c t k ⟨y1.val, by omega⟩).trans (w3 m c t k y1)
  simp only [hw, norm16_at, prodOf_at]

/-- Result array 12: what the reference lays out. -/
theorem final12 (c : Dev nD) : (dats m 0 c).arrAt 12 (cfgs 0).N
    = Cert.ProjRefIdeal.Read.ik (prodOf m c) := by
  refine (dats m 0 c).arrAt_eq_of_covers 12 _ (by decide +kernel) fun t hf y => ?_
  blk_simp; rw [after0_12]; frame_out
  exact point12 m c t y

end Cert.ProjIdeal.Whole

end
-- ==== Proof.ProjRun.lean ====
/- The projection call at the prompt's rows, with the host lines after it: what every result holds at the end. -/
module

public import proofs.«01_k».proof.Proof.Gen.ProjIdeal.Frame
public import Idealize.ShloMosaic.Lib.Pipeline.ValueKit
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem

namespace Cert.ProjIdeal.Whole

open Cert.ProjIdeal Cert.ProjIdeal.Gen

variable {F : FTy → Type} [FloatOps F]
variable (m : (ℓ : Loc nD τ sig) → Buf (Elt F) ℓ) (ρ : Dev nD → PrngReg)

/-- The window: the last 512 new rows of each of the two sequences. -/
def last (new : FVec F S16384x256 .f32) : FVec F S2x512x2x2x64 .f32 :=
  extractStridedSlice S2x512x2x2x64 ![0, 7680, 0, 0, 0]
    (shapeCast S2x8192x2x2x64 new shapeCasts_S16384x256_S2x8192x2x2x64) slices_S2x8192x2x2x64_S2x512x2x2x64_0_7680_0_0_0

/-- The host lines after the call leave the window in their last buffer. -/
theorem tail_window (c : Dev nD) :
    Pipeline.afterTail₀ cfgs (dats m) 0 (V0 m) [hostOps1] c main_v37 = last ((dats m 0 c).arrAt 9 cfg0.N) := by
  have e6 := Pipeline.withArrays_arr spec0 launch0.win.arr_inj c (V0 m c) (fun w => (dats m 0 c).arrAt w cfg0.N) 9
  unfold Pipeline.afterTail₀
  simp only [hostOps1, List.flatten_cons, List.flatten_nil, List.append_nil, StableHlo.after_cons, StableHlo.after_nil]
  after_results_simp
  exact congrArg last e6

/-- What the machine holds after the call and the host lines that follow it. -/
abbrev Post := Pipeline.FramePost cfgs (dats m) 0 (Pipeline.afterTail₀ cfgs (dats m) 0 (V0 m) [hostOps1])

section post

variable (r : PUnit × MemSt nD τ sig (Elt F)) (h : Post m r) (c : Dev nD)
include h

theorem post7 : r.2.mem ((c : Thread nD τ).loc main_v35_4) = (dats m 0 c).arrAt 7 cfg0.N := (h c).1 7
theorem post8 : r.2.mem ((c : Thread nD τ).loc main_v35_5) = (dats m 0 c).arrAt 8 cfg0.N := (h c).1 8
theorem post10 : r.2.mem ((c : Thread nD τ).loc main_v35_7) = (dats m 0 c).arrAt 10 cfg0.N := (h c).1 10
theorem post12 : r.2.mem ((c : Thread nD τ).loc main_v35_9) = (dats m 0 c).arrAt 12 cfg0.N := (h c).1 12
theorem post9 : r.2.mem ((c : Thread nD τ).loc main_v35_6) = (dats m 0 c).arrAt 9 cfg0.N := (h c).1 9
theorem post3 : r.2.mem ((c : Thread nD τ).loc main_v35_0) = (dats m 0 c).arrAt 3 cfg0.N := (h c).1 3
theorem post4 : r.2.mem ((c : Thread nD τ).loc main_v35_1) = (dats m 0 c).arrAt 4 cfg0.N := (h c).1 4
theorem post5 : r.2.mem ((c : Thread nD τ).loc main_v35_2) = (dats m 0 c).arrAt 5 cfg0.N := (h c).1 5
theorem post6 : r.2.mem ((c : Thread nD τ).loc main_v35_3) = (dats m 0 c).arrAt 6 cfg0.N := (h c).1 6
theorem post11 : r.2.mem ((c : Thread nD τ).loc main_v35_8) = (dats m 0 c).arrAt 11 cfg0.N := (h c).1 11
theorem post13 : r.2.mem ((c : Thread nD τ).loc main_v35_10) = (dats m 0 c).arrAt 13 cfg0.N := (h c).1 13
theorem post14 : r.2.mem ((c : Thread nD τ).loc main_v35_11) = (dats m 0 c).arrAt 14 cfg0.N := (h c).1 14
theorem post15 : r.2.mem ((c : Thread nD τ).loc main_v35_12) = (dats m 0 c).arrAt 15 cfg0.N := (h c).1 15
theorem post_window : r.2.mem ((c : Thread nD τ).loc main_v37)
    = last ((dats m 0 c).arrAt 9 cfg0.N) :=
  ((h c).2 main_v37 (Pipeline.mem_restRefs_of main_v37 (by decide) (by decide))).trans (tail_window m c)

end post

set_option maxHeartbeats 1000000 in
/-- The run: the call's arrays as its grid leaves them, the window, and the arguments as they were. -/
theorem run : θ_run defs (onTc (τ := τ) (main (F := F))) ⟨m, fun _ => 0, ρ⟩ fun r => ∀ c : Dev nD,
    r.2.mem ((c : Thread nD τ).loc main_v35_4) = (dats m 0 c).arrAt 7 cfg0.N
    ∧ r.2.mem ((c : Thread nD τ).loc main_v35_5) = (dats m 0 c).arrAt 8 cfg0.N
    ∧ r.2.mem ((c : Thread nD τ).loc main_v35_7) = (dats m 0 c).arrAt 10 cfg0.N
    ∧ r.2.mem ((c : Thread nD τ).loc main_v35_9) = (dats m 0 c).arrAt 12 cfg0.N
    ∧ r.2.mem ((c : Thread nD τ).loc main_v35_6) = (dats m 0 c).arrAt 9 cfg0.N
    ∧ r.2.mem ((c : Thread nD τ).loc main_v35_0) = (dats m 0 c).arrAt 3 cfg0.N
    ∧ r.2.mem ((c : Thread nD τ).loc main_v35_1) = (dats m 0 c).arrAt 4 cfg0.N
    ∧ r.2.mem ((c : Thread nD τ).loc main_v35_2) = (dats m 0 c).arrAt 5 cfg0.N
    ∧ r.2.mem ((c : Thread nD τ).loc main_v35_3) = (dats m 0 c).arrAt 6 cfg0.N
    ∧ r.2.mem ((c : Thread nD τ).loc main_v35_8) = (dats m 0 c).arrAt 11 cfg0.N
    ∧ r.2.mem ((c : Thread nD τ).loc main_v35_10) = (dats m 0 c).arrAt 13 cfg0.N
    ∧ r.2.mem ((c : Thread nD τ).loc main_v35_11) = (dats m 0 c).arrAt 14 cfg0.N
    ∧ r.2.mem ((c : Thread nD τ).loc main_v35_12) = (dats m 0 c).arrAt 15 cfg0.N
    ∧ r.2.mem ((c : Thread nD τ).loc main_v37) = last ((dats m 0 c).arrAt 9 cfg0.N)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨post7 m r h.1 c,
      post8 m r h.1 c,
      post10 m r h.1 c,
      post12 m r h.1 c,
      post9 m r h.1 c,
      post3 m r h.1 c,
      post4 m r h.1 c,
      post5 m r h.1 c,
      post6 m r h.1 c,
      post11 m r h.1 c,
      post13 m r h.1 c,
      post14 m r h.1 c,
      post15 m r h.1 c,
      post_window m r h.1 c, h.2 c⟩)
    (θ_run_and (run_main m ρ) (unchanged m ρ))

end Cert.ProjIdeal.Whole

end
-- ==== Proof.ProjClaim.lean ====
/- The projection at the prompt's rows, with the window, computes its reference. -/
module

public import proofs.«01_k».proof.Defs
public import proofs.«01_k».proof.Proof.ProjValue
public import proofs.«01_k».proof.Proof.ProjRun

@[expose] public section

set_option maxRecDepth 16384

noncomputable section

open Idealize.ShloMosaic Idealize.SL.Sem

namespace Cert.ProjValue

set_option maxHeartbeats 1000000 in
/-- From memories that agree on the arguments the kernel and its reference end with equal results. -/
theorem algebraic : Cert.algebraic_ProjIdeal_ProjRefIdeal (hProjIdeal := Cert.ProjIdeal.Gen.facts)
    (hProjRefIdeal := Cert.ProjRefIdeal.Gen.facts) := by
  pair_intro
  · run_from Cert.ProjIdeal.Whole.run m g
  · run_from Cert.ProjRefIdeal.Value.run m' g'
    · exact (Cert.ProjIdeal.Whole.final7 m c).symm
    · exact (Cert.ProjIdeal.Whole.final8 m c).symm
    · exact (Cert.ProjIdeal.Whole.final10 m c).symm
    · exact (Cert.ProjIdeal.Whole.final12 m c).symm
    · exact (Cert.ProjIdeal.Whole.final9 m c).symm
    · rw [show m' (c.tc.loc Cert.ProjRefIdeal.main_arg2) = m (c.tc.loc Cert.ProjIdeal.main_arg2) from (hagree c).2.2]
      exact (Cert.ProjIdeal.Whole.final3 m c).symm
    · rw [show m' (c.tc.loc Cert.ProjRefIdeal.main_arg2) = m (c.tc.loc Cert.ProjIdeal.main_arg2) from (hagree c).2.2]
      exact (Cert.ProjIdeal.Whole.final4 m c).symm
    · exact (Cert.ProjIdeal.Whole.final5 m c).symm
    · exact (Cert.ProjIdeal.Whole.final6 m c).symm
    · rw [show m' (c.tc.loc Cert.ProjRefIdeal.main_arg2) = m (c.tc.loc Cert.ProjIdeal.main_arg2) from (hagree c).2.2]
      exact (Cert.ProjIdeal.Whole.final11 m c).symm
    · exact (Cert.ProjIdeal.Whole.final13 m c).symm
    · exact (Cert.ProjIdeal.Whole.final14 m c).symm
    · exact (Cert.ProjIdeal.Whole.final15 m c).symm
    · exact congrArg Cert.ProjIdeal.Whole.last (Cert.ProjIdeal.Whole.final9 m c).symm

end Cert.ProjValue

end
-- ==== Proof.FfnSBlock.lean ====
/- What one grid point of the feed-forward kernel stores, a row at a time. -/
module

public import proofs.«01_k».proof.Proof.Rows
public import proofs.«01_k».proof.Proof.Gen.FfnSIdeal.Skeleton

@[expose] public section

set_option maxRecDepth 16384

noncomputable section

open Idealize.ShloMosaic Idealize.ShloMosaic.TcCoe Idealize.SL.Sem
open scoped BigOperators

namespace Cert.FfnSIdeal.Block

open Cert.FfnSIdeal Cert.FfnSIdeal.Gen Cert.Rows

theorem pay2_at (x : FVec Ideal S512x1024 .f32) (g : FVec Ideal S1x1024 .f32) (r : Fin 512) (j : Fin 1024) :
    k0_pay2 (F := Ideal) x g (ix2 r j) = rms (fun k => x (ix2 r k)) (fun k => g (ix2 0 k)) j := by
  pointwise! [k0_pay2, rms]

theorem pay4_at (x : FVec Ideal S512x1024 .f32) (g : FVec Ideal S1x1024 .f32) (w : FVec Ideal S1024x1408 .bf16)
    (r : Fin 512) (f : Fin 1408) :
    k0_pay4 (F := Ideal) x g w (ix2 r f) = ∑ k : Fin 1024, k0_pay2 (F := Ideal) x g (ix2 r k) * w (ix2 k f) := by
  pointwise! [k0_pay4]

theorem pay5_at (x : FVec Ideal S512x1024 .f32) (g : FVec Ideal S1x1024 .f32) (w : FVec Ideal S1024x1408 .bf16)
    (r : Fin 512) (f : Fin 1408) :
    k0_pay5 (F := Ideal) x g w (ix2 r f) = ∑ k : Fin 1024, k0_pay2 (F := Ideal) x g (ix2 r k) * w (ix2 k f) := by
  pointwise! [k0_pay5]

theorem pay6_at (x : FVec Ideal S512x1024 .f32) (g : FVec Ideal S1x1024 .f32) (w : FVec Ideal S1024x1408 .bf16)
    (r : Fin 512) (f : Fin 1408) :
    k0_pay6 (F := Ideal) x g w (ix2 r f) = Ideal.logistic (k0_pay4 (F := Ideal) x g w (ix2 r f)) := by
  pointwise! [k0_pay6]

theorem pay3_at (x : FVec Ideal S512x1024 .f32) (g : FVec Ideal S1x1024 .f32) (wg wu : FVec Ideal S1024x1408 .bf16)
    (wd : FVec Ideal S1408x1024 .bf16) (r : Fin 512) (j : Fin 1024) :
    k0_pay3 (F := Ideal) x g wg wu wd (ix2 r j) = x (ix2 r j)
      + ∑ f : Fin 1408, swi (∑ k : Fin 1024, k0_pay2 (F := Ideal) x g (ix2 r k) * wg (ix2 k f))
          (∑ k : Fin 1024, k0_pay2 (F := Ideal) x g (ix2 r k) * wu (ix2 k f)) * wd (ix2 f j) := by
  pointwise! [k0_pay3, swi]

/-- The block the body stores, from the running row `a`, the second half's products and the second half of the
    down weight. -/
theorem pay1_at (a : FVec Ideal S512x1024 .f32) (p q l : FVec Ideal S512x1408 .f32)
    (wd : FVec Ideal S1408x1024 .bf16) (g : FVec Ideal S1x1024 .f32) (r : Fin 512) (j : Fin 1024) :
    k0_pay1 (F := Ideal) a p q l wd g (ix2 r j)
      = rms (fun j => a (ix2 r j) + ∑ f : Fin 1408, p (ix2 r f) * l (ix2 r f) * q (ix2 r f) * wd (ix2 f j))
          (fun k => g (ix2 0 k)) j := by
  pointwise! [k0_pay1, rms]

end Cert.FfnSIdeal.Block

end
-- ==== Proof.FfnSRef.lean ====
/- What the feed-forward's reference computes, a row at a time. -/
module

public import proofs.«01_k».proof.Proof.Rows
public import proofs.«01_k».proof.Proof.Gen.FfnSRefIdeal.Run

@[expose] public section

set_option maxRecDepth 16384

noncomputable section

open Idealize.ShloMosaic Idealize.ShloMosaic.TcCoe Idealize.SL.Sem
open scoped BigOperators

namespace Cert.FfnSRefIdeal.Read

open Cert.FfnSRefIdeal Cert.FfnSRefIdeal.Gen Cert.Rows

/-- The reference's root-mean-square norm of every row. -/
def nrm (x : FVec Ideal S512x1024 .f32) (g : FVec Ideal S1024 .f32) : FVec Ideal S512x1024 .f32 :=
  mulf (mulf x (broadcastInDim S512x1024 ![0, 1] bcast_S512x1_S512x1024_0_1
    (Host.rsqrt (addf (Host.divf (broadcastInDim S512x1 ![0] bcast_S512_S512x1_0
      (Host.reduceAdd (mulf x x) (constant S_ .f32 0x00000000#32) reducesTo_S512x1024_S512_d1 h_S_))
      (broadcastInDim S512x1 ![] bcast_S_S512x1 (constant S_ .f32 0x44800000#32)))
      (broadcastInDim S512x1 ![] bcast_S_S512x1 (constant S_ .f32 0x358637BD#32))))))
    (broadcastInDim S512x1024 ![0, 1] bcast_S1x1024_S512x1024_0_1
      (broadcastInDim S1x1024 ![1] bcast_S1024_S1x1024_1 g))

/-- The reference's product with a 2816-column weight. -/
def up (h : FVec Ideal S512x1024 .f32) (w : FVec Ideal S1024x2816 .f32) : FVec Ideal S512x2816 .f32 :=
  Host.dotGeneral dot_S512x1024_S1024x2816_S512x2816_1_0_0_1_n_n none h w

/-- The reference's gate `silu(a) · b`. -/
def gated (a b : FVec Ideal S512x2816 .f32) : FVec Ideal S512x2816 .f32 :=
  mulf (mulf a (Host.divf (broadcastInDim S512x2816 ![] bcast_S_S512x2816 (constant S_ .f32 0x3F800000#32))
    (addf (broadcastInDim S512x2816 ![] bcast_S_S512x2816 (constant S_ .f32 0x3F800000#32))
      (Host.exp (Host.negf a))))) b

/-- The reference's residual: the input plus the product with the down weight. -/
def resid (x : FVec Ideal S512x1024 .f32) (a : FVec Ideal S512x2816 .f32) (w : FVec Ideal S2816x1024 .f32) :
    FVec Ideal S512x1024 .f32 :=
  addf x (Host.dotGeneral dot_S512x2816_S2816x1024_S512x1024_1_0_0_1_n_n none a w)

/-- The reference's result from its arguments. -/
def out (x : FVec Ideal S512x1024 .f32) (g1 g2 : FVec Ideal S1024 .f32) (wg wu : FVec Ideal S1024x2816 .f32)
    (wd : FVec Ideal S2816x1024 .f32) : FVec Ideal S512x1024 .f32 :=
  nrm (resid x (gated (up (nrm x g1) wg) (up (nrm x g1) wu)) wd) g2

theorem nrm_at (x : FVec Ideal S512x1024 .f32) (g : FVec Ideal S1024 .f32) (r : Fin 512) (j : Fin 1024) :
    nrm x g (ix2 r j) = rms (fun k => x (ix2 r k)) (fun k => g (ix1 k)) j := by
  pointwise! [nrm, rms]

theorem up_at (h : FVec Ideal S512x1024 .f32) (w : FVec Ideal S1024x2816 .f32) (r : Fin 512) (f : Fin 2816) :
    up h w (ix2 r f) = ∑ k : Fin 1024, h (ix2 r k) * w (ix2 k f) := by
  pointwise! [up]

theorem gated_at (a b : FVec Ideal S512x2816 .f32) (r : Fin 512) (f : Fin 2816) :
    gated a b (ix2 r f) = swi (a (ix2 r f)) (b (ix2 r f)) := by
  pointwise! [gated, swi, Ideal.logistic]

theorem resid_at (x : FVec Ideal S512x1024 .f32) (a : FVec Ideal S512x2816 .f32) (w : FVec Ideal S2816x1024 .f32)
    (r : Fin 512) (j : Fin 1024) :
    resid x a w (ix2 r j) = x (ix2 r j) + ∑ f : Fin 2816, a (ix2 r f) * w (ix2 f j) := by
  pointwise! [resid]

/-- The reference's result, read at a row and a column. -/
theorem out_at (x : FVec Ideal S512x1024 .f32) (g1 g2 : FVec Ideal S1024 .f32) (wg wu : FVec Ideal S1024x2816 .f32)
    (wd : FVec Ideal S2816x1024 .f32) (r : Fin 512) (j : Fin 1024) :
    out x g1 g2 wg wu wd (ix2 r j) = ffnRow (fun k => x (ix2 r k)) (fun k => g1 (ix1 k)) (fun k => g2 (ix1 k))
      (fun k f => wg (ix2 k f)) (fun k f => wu (ix2 k f)) (fun f k => wd (ix2 f k)) j := by
  rw [out, nrm_at]
  simp only [resid_at, gated_at, up_at, nrm_at]
  rfl

/-- The generated result term is this composition. -/
theorem res_eq (m : (ℓ : Loc nD τ sig) → Buf (Elt Ideal) ℓ) (c : Dev nD) :
    Cert.FfnSRefIdeal.Value.res_out0 m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  with_unfolding_all rfl

end Cert.FfnSRefIdeal.Read

end
-- ==== Proof.FfnSValue.lean ====
/- What the feed-forward kernel's result array holds after the run. -/
module

public import proofs.«01_k».proof.Proof.FfnSBlock
public import proofs.«01_k».proof.Proof.FfnSRef
public import proofs.«01_k».proof.Proof.Gen.FfnSIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FfnSIdeal.Whole

open Cert.FfnSIdeal Cert.FfnSIdeal.Gen Cert.Rows

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0] :=
  (by decide +kernel : ∀ t : Fin grid0.N, _)

/-- What the body computes from its blocks, at a row and a column. -/
theorem block_at (x : FVec Ideal S512x1024 .f32) (g1 g2 : FVec Ideal S1x1024 .f32)
    (wg wu : Fin 1024 → Fin 2816 → EReal) (wd : Fin 2816 → Fin 1024 → EReal)
    (ga ua gb ub : FVec Ideal S1024x1408 .bf16) (da db : FVec Ideal S1408x1024 .bf16)
    (hga : ∀ k (f : Fin 1408), ga (ix2 k f) = wg k ⟨f.val, by omega⟩)
    (hgb : ∀ k (f : Fin 1408), gb (ix2 k f) = wg k ⟨1408 + f.val, by omega⟩)
    (hua : ∀ k (f : Fin 1408), ua (ix2 k f) = wu k ⟨f.val, by omega⟩)
    (hub : ∀ k (f : Fin 1408), ub (ix2 k f) = wu k ⟨1408 + f.val, by omega⟩)
    (hda : ∀ (f : Fin 1408) k, da (ix2 f k) = wd ⟨f.val, by omega⟩ k)
    (hdb : ∀ (f : Fin 1408) k, db (ix2 f k) = wd ⟨1408 + f.val, by omega⟩ k)
    (r : Fin 512) (j : Fin 1024) :
    k0_pay1 (F := Ideal) (k0_pay3 x g1 ga ua da) (k0_pay4 x g1 gb) (k0_pay5 x g1 ub) (k0_pay6 x g1 gb) db g2 (ix2 r j)
      = ffnRow (fun k => x (ix2 r k)) (fun k => g1 (ix2 0 k)) (fun k => g2 (ix2 0 k)) wg wu wd j := by
  rw [Block.pay1_at]
  simp only [Block.pay3_at, Block.pay6_at, Block.pay5_at, Block.pay4_at, Block.pay2_at, hga, hgb, hua, hub, hda, hdb]
  unfold ffnRow
  congr 1
  funext j
  unfold ffnSum
  rw [sum_halves, ← add_assoc]
  rfl

/-- The row of the activations that row `y0` of point `t`'s block is. -/
def row (t : Fin cfg0.N) (y0 : Fin 512) : Fin 512 :=
  ⟨t.val * 512 + y0.val, by have : t.val < 1 := t.isLt; omega⟩

theorem in0 (c : Dev nD) (t : Fin cfg0.N) (r : Fin 512) (k : Fin 1024) :
    (iblk m c 0 t : FVec Ideal S512x1024 .f32) (ix2 r k) = m ((c : Thread nD τ).loc main_arg0) (ix2 (row t r) k) := by
  blk_ext! [iblk, V, row, idx t]

theorem in1 (c : Dev nD) (t : Fin cfg0.N) (k : Fin 1024) :
    (iblk m c 1 t : FVec Ideal S1x1024 .f32) (ix2 0 k) = m ((c : Thread nD τ).loc main_arg1) (ix1 k) := by
  blk_simp [iblk]; entry_read; pointwise; blk_ext! [idx t]

theorem in2 (c : Dev nD) (t : Fin cfg0.N) (k : Fin 1024) :
    (iblk m c 2 t : FVec Ideal S1x1024 .f32) (ix2 0 k) = m ((c : Thread nD τ).loc main_arg2) (ix1 k) := by
  blk_simp [iblk]; entry_read; pointwise; blk_ext! [idx t]

theorem in3 (c : Dev nD) (t : Fin cfg0.N) :
    (iblk m c 3 t : FVec Ideal S1024x2816 .bf16) = m ((c : Thread nD τ).loc main_arg3) := by
  funext y; blk_simp [iblk]; entry_read; blk_ext! [idx t]

theorem in4 (c : Dev nD) (t : Fin cfg0.N) :
    (iblk m c 4 t : FVec Ideal S1024x2816 .bf16) = m ((c : Thread nD τ).loc main_arg4) := by
  funext y; blk_simp [iblk]; entry_read; blk_ext! [idx t]

theorem in5 (c : Dev nD) (t : Fin cfg0.N) :
    (iblk m c 5 t : FVec Ideal S2816x1024 .bf16) = m ((c : Thread nD τ).loc main_arg5) := by
  funext y; blk_simp [iblk]; entry_read; blk_ext! [idx t]

theorem outPos (t : Fin cfg0.N) (y0 : Fin 512) (y1 : Fin 1024) :
    ((cfg0.win 6).blk t).view.emb (ix2 y0 y1) = ix2 (row t y0) y1 := by
  blk_ext! [row, idx t]

theorem point (c : Dev nD) (t : Fin cfg0.N) (y : S512x1024.Idx) :
    k0_pay1 (k0_pay3 (iblk m c 0 t) (iblk m c 1 t) (View.ld (iblk m c 3 t) r0_2) (View.ld (iblk m c 4 t) r0_2)
      (View.ld (iblk m c 5 t) r0_3)) (k0_pay4 (iblk m c 0 t) (iblk m c 1 t) (View.ld (iblk m c 3 t) r0_4)) (k0_pay5
      (iblk m c 0 t) (iblk m c 1 t) (View.ld (iblk m c 4 t) r0_4)) (k0_pay6 (iblk m c 0 t) (iblk m c 1 t) (View.ld (iblk
      m c 3 t) r0_4)) (View.ld (iblk m c 5 t) r0_5) (iblk m c 2 t) y
      = Cert.FfnSRefIdeal.Read.out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (((cfg0.win 6).blk t).view.emb y) := by
  idx_vars y
  refine (block_at _ _ _ (fun k f => m ((c : Thread nD τ).loc main_arg3) (ix2 k f))
    (fun k f => m ((c : Thread nD τ).loc main_arg4) (ix2 k f)) (fun f k => m ((c : Thread nD τ).loc main_arg5) (ix2 f k))
    _ _ _ _ _ _ ?_ ?_ ?_ ?_ ?_ ?_ _ _).trans ?_
  · intro k f; rw [in3]; pointwise [r0_2]
  · intro k f; rw [in3]; pointwise [r0_4]
  · intro k f; rw [in4]; pointwise [r0_2]
  · intro k f; rw [in4]; pointwise [r0_4]
  · intro k f; rw [in5]; pointwise [r0_3]
  · intro k f; rw [in5]; pointwise [r0_5]
  · refine Eq.trans ?_ (congrArg _ (outPos t y0 y1).symm)
    refine Eq.trans ?_ (Cert.FfnSRefIdeal.Read.out_at _ _ _ _ _ _ _ _).symm
    simp only [in0, in1, in2]

/-- The result array after the run is the reference's result. -/
theorem final (c : Dev nD) : (dats m 0 c).arrAt 6 (cfgs 0).N
    = Cert.FfnSRefIdeal.Read.out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hf y => ?_
  blk_simp; rw [after0_6]; frame_out
  exact point m c t y

end Cert.FfnSIdeal.Whole

end
-- ==== Proof.FfnSClaim.lean ====
/- The feed-forward kernel computes its reference. -/
module

public import proofs.«01_k».proof.Defs
public import proofs.«01_k».proof.Proof.FfnSValue
public import proofs.«01_k».proof.Proof.Gen.FfnSIdeal.Value

@[expose] public section

set_option maxRecDepth 16384

noncomputable section

open Idealize.ShloMosaic Idealize.SL.Sem

namespace Cert.FfnSValue

/-- From memories that agree on the arguments the kernel and its reference end with equal results. -/
theorem algebraic : Cert.algebraic_FfnSIdeal_FfnSRefIdeal (hFfnSIdeal := Cert.FfnSIdeal.Gen.facts)
    (hFfnSRefIdeal := Cert.FfnSRefIdeal.Gen.facts) := by
  pair_intro
  · run_from Cert.FfnSIdeal.Value.run_blocks m g
  · run_from Cert.FfnSRefIdeal.Value.run m' g'
    refine (Cert.FfnSRefIdeal.Read.res_eq m' c).trans (Eq.trans ?_ (Cert.FfnSIdeal.Whole.final m c).symm)
    obtain ⟨h0, h1, h2, h3, h4, h5⟩ := hagree c
    rw [h0, h1, h2, h3, h4, h5]

end Cert.FfnSValue

end
-- ==== Proof.MergeSBlock.lean ====
/- What one grid point of the merge kernel stores, a row at a time. -/
module

public import proofs.«01_k».proof.Proof.Rows
public import proofs.«01_k».proof.Proof.Gen.MergeSIdeal.Skeleton

@[expose] public section

set_option maxRecDepth 16384

noncomputable section

open Idealize.ShloMosaic Idealize.ShloMosaic.TcCoe Idealize.SL.Sem
open scoped BigOperators

namespace Cert.MergeSIdeal.Block

open Cert.MergeSIdeal Cert.MergeSIdeal.Gen Cert.Rows

theorem pay2_at (x : FVec Ideal S512x1024 .f32) (g : FVec Ideal S1x1024 .f32) (r : Fin 512) (j : Fin 1024) :
    k0_pay2 (F := Ideal) x g (ix2 r j) = rms (fun k => x (ix2 r k)) (fun k => g (ix2 0 k)) j := by
  pointwise! [k0_pay2, rms]

theorem pay3_at (x : FVec Ideal S512x1024 .f32) (g : FVec Ideal S1x1024 .f32) (wg : FVec Ideal S1024x1024 .bf16)
    (o : FVec Ideal S512x1024 .bf16) (w : FVec Ideal S1024x1024 .bf16) (r : Fin 512) (j : Fin 1024) :
    k0_pay3 (F := Ideal) x g wg o w (ix2 r j)
      = Ideal.logistic (∑ k : Fin 1024, k0_pay2 (F := Ideal) x g (ix2 r k) * wg (ix2 k j))
        * ∑ l : Fin 1024, o (ix2 r l) * w (ix2 l j) := by
  pointwise! [k0_pay3]

theorem pay4_at (x : FVec Ideal S512x1024 .f32) (g : FVec Ideal S1x1024 .f32) (wg : FVec Ideal S1024x1024 .bf16)
    (o : FVec Ideal S512x1024 .bf16) (w : FVec Ideal S1024x1024 .bf16) (r : Fin 512) (j : Fin 1024) :
    k0_pay4 (F := Ideal) x g wg o w (ix2 r j)
      = Ideal.logistic (∑ k : Fin 1024, k0_pay2 (F := Ideal) x g (ix2 r k) * wg (ix2 k j))
        * ∑ l : Fin 1024, o (ix2 r l) * w (ix2 l j) := by
  pointwise! [k0_pay4]

theorem pay1_at (x a b : FVec Ideal S512x1024 .f32) (w : FVec Ideal S1024x1024 .bf16) (r : Fin 512) (j : Fin 1024) :
    k0_pay1 (F := Ideal) x a b w (ix2 r j)
      = x (ix2 r j) + ∑ k : Fin 1024, (a (ix2 r k) + b (ix2 r k)) * w (ix2 k j) := by
  pointwise! [k0_pay1]

/-- What the body computes from blocks laid out in lanes, at a row and a column. -/
theorem block_at (x : FVec Ideal S512x1024 .f32) (g : FVec Ideal S1x1024 .f32) (ga gb : FVec Ideal S1024x1024 .bf16)
    (oa ob : FVec Ideal S512x1024 .bf16) (wa wb : FVec Ideal S1024x1024 .bf16) (wo : FVec Ideal S1024x1024 .bf16)
    (pa pb : Fin 512 → Fin 512 → EReal) (qa qb : Fin 512 → Fin 1024 → EReal)
    (hoa : ∀ r l, oa (ix2 r l) = pa r (lane l) * keep l) (hob : ∀ r l, ob (ix2 r l) = pb r (lane l) * keep l)
    (hwa : ∀ l k, wa (ix2 l k) = qa (lane l) k * keep l) (hwb : ∀ l k, wb (ix2 l k) = qb (lane l) k * keep l)
    (r : Fin 512) (j : Fin 1024) :
    k0_pay1 (F := Ideal) x (k0_pay3 x g ga oa wa) (k0_pay4 x g gb ob wb) wo (ix2 r j)
      = mergeRow (fun k => x (ix2 r k)) (fun k => g (ix2 0 k)) (fun k f => ga (ix2 k f)) (fun k f => gb (ix2 k f))
        (pa r) (pb r) qa qb (fun k j => wo (ix2 k j)) j := by
  rw [pay1_at]
  simp only [pay3_at, pay4_at, pay2_at, hoa, hob, hwa, hwb]
  have hA := fun k => sum_lanes (pa r) (fun i => qa i k)
  have hB := fun k => sum_lanes (pb r) (fun i => qb i k)
  simp only [hA, hB]
  rfl

end Cert.MergeSIdeal.Block

end
-- ==== Proof.MergeSRef.lean ====
/- What the merge's reference computes, a row at a time. -/
module

public import proofs.«01_k».proof.Proof.Rows
public import proofs.«01_k».proof.Proof.Gen.MergeSRefIdeal.Run

@[expose] public section

set_option maxRecDepth 16384

noncomputable section

open Idealize.ShloMosaic Idealize.ShloMosaic.TcCoe Idealize.SL.Sem
open scoped BigOperators

namespace Cert.MergeSRefIdeal.Read

open Cert.MergeSRefIdeal Cert.MergeSRefIdeal.Gen Cert.Rows

/-- The reference's root-mean-square norm of every row. -/
def nrm (x : FVec Ideal S512x1024 .f32) (g : FVec Ideal S1024 .f32) : FVec Ideal S512x1024 .f32 :=
  mulf (mulf x (broadcastInDim S512x1024 ![0, 1] bcast_S512x1_S512x1024_0_1
    (Host.rsqrt (addf (Host.divf (broadcastInDim S512x1 ![0] bcast_S512_S512x1_0
      (Host.reduceAdd (mulf x x) (constant S_ .f32 0x00000000#32) reducesTo_S512x1024_S512_d1 h_S_))
      (broadcastInDim S512x1 ![] bcast_S_S512x1 (constant S_ .f32 0x44800000#32)))
      (broadcastInDim S512x1 ![] bcast_S_S512x1 (constant S_ .f32 0x358637BD#32))))))
    (broadcastInDim S512x1024 ![0, 1] bcast_S1x1024_S512x1024_0_1
      (broadcastInDim S1x1024 ![1] bcast_S1024_S1x1024_1 g))

/-- The reference's product with the gate columns of the packed weight, 2396 on. -/
def gin (h : FVec Ideal S512x1024 .f32) (w : FVec Ideal S1024x4444 .f32) : FVec Ideal S512x2048 .f32 :=
  Host.dotGeneral dot_S512x1024_S1024x2048_S512x2048_1_0_0_1_n_n none h
    (extractStridedSlice S1024x2048 ![0, 2396] w slices_S1024x4444_S1024x2048_0_2396)

/-- The reference's sigmoid of both gates. -/
def gates (a : FVec Ideal S512x2048 .f32) : FVec Ideal S512x2048 .f32 :=
  Host.divf (broadcastInDim S512x2048 ![] bcast_S_S512x2048 (constant S_ .f32 0x3F800000#32))
    (addf (broadcastInDim S512x2048 ![] bcast_S_S512x2048 (constant S_ .f32 0x3F800000#32))
      (Host.exp (Host.negf a)))

/-- The first branch's gate, a column a feature. -/
def gateA (a : FVec Ideal S512x2048 .f32) : FVec Ideal S512x1024 .f32 :=
  shapeCast _ (extractStridedSlice S512x1x1024 ![0, 0, 0] (shapeCast _ a shapeCasts_S512x2048_S512x2x1024)
    slices_S512x2x1024_S512x1x1024_0_0_0) shapeCasts_S512x1x1024_S512x1024

/-- The second branch's gate. -/
def gateB (a : FVec Ideal S512x2048 .f32) : FVec Ideal S512x1024 .f32 :=
  shapeCast _ (extractStridedSlice S512x1x1024 ![0, 1, 0] (shapeCast _ a shapeCasts_S512x2048_S512x2x1024)
    slices_S512x2x1024_S512x1x1024_0_1_0) shapeCasts_S512x1x1024_S512x1024

/-- A branch's projection. -/
def branch (o : FVec Ideal S512x512 .f32) (w : FVec Ideal S512x1024 .f32) : FVec Ideal S512x1024 .f32 :=
  Host.dotGeneral dot_S512x512_S512x1024_S512x1024_1_0_0_1_n_n none o w

/-- The residual with the output projection. -/
def resid (x a : FVec Ideal S512x1024 .f32) (w : FVec Ideal S1024x1024 .f32) : FVec Ideal S512x1024 .f32 :=
  addf x (Host.dotGeneral dot_S512x1024_S1024x1024_S512x1024_1_0_0_1_n_n none a w)

/-- The reference's result from its arguments. -/
def out (x : FVec Ideal S512x1024 .f32) (oa ob : FVec Ideal S512x512 .f32) (g : FVec Ideal S1024 .f32)
    (w : FVec Ideal S1024x4444 .f32) (wa wb : FVec Ideal S512x1024 .f32) (wo : FVec Ideal S1024x1024 .f32) :
    FVec Ideal S512x1024 .f32 :=
  resid x (addf (mulf (gateA (gates (gin (nrm x g) w))) (branch oa wa))
    (mulf (gateB (gates (gin (nrm x g) w))) (branch ob wb))) wo

theorem nrm_at (x : FVec Ideal S512x1024 .f32) (g : FVec Ideal S1024 .f32) (r : Fin 512) (j : Fin 1024) :
    nrm x g (ix2 r j) = rms (fun k => x (ix2 r k)) (fun k => g (ix1 k)) j := by
  pointwise! [nrm, rms]

theorem gin_at (h : FVec Ideal S512x1024 .f32) (w : FVec Ideal S1024x4444 .f32) (r : Fin 512) (f : Fin 2048) :
    gin h w (ix2 r f) = ∑ k : Fin 1024, h (ix2 r k) * w (ix2 k ⟨2396 + f.val, by omega⟩) := by
  pointwise! [gin]

theorem gates_at (a : FVec Ideal S512x2048 .f32) (r : Fin 512) (f : Fin 2048) :
    gates a (ix2 r f) = Ideal.logistic (a (ix2 r f)) := by
  pointwise! [gates, Ideal.logistic]

theorem gateA_at (a : FVec Ideal S512x2048 .f32) (r : Fin 512) (k : Fin 1024) :
    gateA a (ix2 r k) = a (ix2 r ⟨k.val, by omega⟩) := by
  pointwise! [gateA]

theorem gateB_at (a : FVec Ideal S512x2048 .f32) (r : Fin 512) (k : Fin 1024) :
    gateB a (ix2 r k) = a (ix2 r ⟨1024 + k.val, by omega⟩) := by
  pointwise! [gateB]

theorem branch_at (o : FVec Ideal S512x512 .f32) (w : FVec Ideal S512x1024 .f32) (r : Fin 512) (k : Fin 1024) :
    branch o w (ix2 r k) = ∑ i : Fin 512, o (ix2 r i) * w (ix2 i k) := by
  pointwise! [branch]

theorem resid_at (x a : FVec Ideal S512x1024 .f32) (w : FVec Ideal S1024x1024 .f32) (r : Fin 512) (j : Fin 1024) :
    resid x a w (ix2 r j) = x (ix2 r j) + ∑ k : Fin 1024, a (ix2 r k) * w (ix2 k j) := by
  pointwise! [resid]

theorem mix_at (a b c d : FVec Ideal S512x1024 .f32) (r : Fin 512) (j : Fin 1024) :
    addf (mulf a b) (mulf c d) (ix2 r j) = a (ix2 r j) * b (ix2 r j) + c (ix2 r j) * d (ix2 r j) := rfl

/-- The reference's result, read at a row and a column. -/
theorem out_at (x : FVec Ideal S512x1024 .f32) (oa ob : FVec Ideal S512x512 .f32) (g : FVec Ideal S1024 .f32)
    (w : FVec Ideal S1024x4444 .f32) (wa wb : FVec Ideal S512x1024 .f32) (wo : FVec Ideal S1024x1024 .f32)
    (r : Fin 512) (j : Fin 1024) :
    out x oa ob g w wa wb wo (ix2 r j) = mergeRow (fun k => x (ix2 r k)) (fun k => g (ix1 k))
      (fun k f => w (ix2 k ⟨2396 + f.val, by omega⟩)) (fun k f => w (ix2 k ⟨2396 + (1024 + f.val), by omega⟩))
      (fun i => oa (ix2 r i)) (fun i => ob (ix2 r i)) (fun i k => wa (ix2 i k)) (fun i k => wb (ix2 i k))
      (fun k j => wo (ix2 k j)) j := by
  rw [out, resid_at]
  simp only [mix_at, gateA_at, gateB_at, gates_at, gin_at, branch_at, nrm_at]
  rfl

end Cert.MergeSRefIdeal.Read

end
-- ==== Proof.MergeSValue.lean ====
/- What the merge kernel's result array holds after the run. -/
module

public import proofs.«01_k».proof.Proof.MergeSBlock
public import proofs.«01_k».proof.Proof.MergeSRef
public import proofs.«01_k».proof.Proof.Gen.MergeSIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MergeSIdeal.Whole

open Cert.MergeSIdeal Cert.MergeSIdeal.Gen Cert.Rows

variable (m : (ℓ : Loc nD τ sig) → Buf (Elt Ideal) ℓ)

/-- Every window's block index at every grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val, 0] :=
  (by decide +kernel : ∀ t : Fin grid0.N, _)

/-- The row of the activations that row `y0` of point `t`'s block is. -/
def row (t : Fin cfg0.N) (y0 : Fin 512) : Fin 512 :=
  ⟨t.val * 512 + y0.val, by have : t.val < 1 := t.isLt; omega⟩

theorem in0 (c : Dev nD) (t : Fin cfg0.N) (r : Fin 512) (k : Fin 1024) :
    (iblk m c 0 t : FVec Ideal S512x1024 .f32) (ix2 r k) = m ((c : Thread nD τ).loc main_arg0) (ix2 (row t r) k) := by
  blk_ext! [iblk, V, row, idx t]

theorem lit0_at (a : Fin 8) (b : Fin 2) :
    (FloatOps.ofBits (F := Ideal) .f32 (lit0 (S8x2.rowMajor (ix2 a b))) : EReal) = if b.val = a.val / 4 then 1 else 0 := by
  have h : lit0 (S8x2.rowMajor (ix2 a b)) = if b.val = a.val / 4 then 0x3F800000#32 else 0x00000000#32 := by
    revert a b; decide +kernel
  rw [h]; split <;> pointwise!

theorem lit1_at (a : Fin 8) (b : Fin 2) :
    (FloatOps.ofBits (F := Ideal) .f32 (lit1 (S8x2.rowMajor (ix2 a b))) : EReal) = if b.val = a.val / 4 then 1 else 0 := by
  have h : lit1 (S8x2.rowMajor (ix2 a b)) = if b.val = a.val / 4 then 0x3F800000#32 else 0x00000000#32 := by
    revert a b; decide +kernel
  rw [h]; split <;> pointwise!

theorem lit2_at (a : Fin 8) (b : Fin 2) :
    (FloatOps.ofBits (F := Ideal) .f32 (lit2 (S8x2.rowMajor (ix2 a b))) : EReal) = if b.val = a.val / 4 then 1 else 0 := by
  have h : lit2 (S8x2.rowMajor (ix2 a b)) = if b.val = a.val / 4 then 0x3F800000#32 else 0x00000000#32 := by
    revert a b; decide +kernel
  rw [h]; split <;> pointwise!

theorem lit3_at (a : Fin 8) (b : Fin 2) :
    (FloatOps.ofBits (F := Ideal) .f32 (lit3 (S8x2.rowMajor (ix2 a b))) : EReal) = if b.val = a.val / 4 then 1 else 0 := by
  have h : lit3 (S8x2.rowMajor (ix2 a b)) = if b.val = a.val / 4 then 0x3F800000#32 else 0x00000000#32 := by
    revert a b; decide +kernel
  rw [h]; split <;> pointwise!

/-- The lane layout's selector in terms of the lane. -/
theorem keep_of (l : Fin 1024) (v : Fin 8 → Fin 2 → EReal) (hv : ∀ a b, v a b = if b.val = a.val / 4 then 1 else 0) :
    v ⟨l.val / 128, by omega⟩ ⟨l.val / 64 % 2, by omega⟩ = keep l := by
  rw [hv, keep]
  have h : l.val / 128 / 4 = l.val / 512 := by omega
  simp only [h]

/-- The first branch's output. -/
abbrev A1 (c : Dev nD) : FVec Ideal S512x512 .f32 := m ((c : Thread nD τ).loc main_arg1)
/-- The second branch's output. -/
abbrev A2 (c : Dev nD) : FVec Ideal S512x512 .f32 := m ((c : Thread nD τ).loc main_arg2)
/-- The first branch's weight. -/
abbrev A5 (c : Dev nD) : FVec Ideal S512x1024 .f32 := m ((c : Thread nD τ).loc main_arg5)
/-- The second branch's weight. -/
abbrev A6 (c : Dev nD) : FVec Ideal S512x1024 .f32 := m ((c : Thread nD τ).loc main_arg6)

theorem in1 (c : Dev nD) (t : Fin cfg0.N) (r : Fin 512) (l : Fin 1024) :
    (iblk m c 1 t : FVec Ideal S512x1024 .bf16) (ix2 r l) = A1 m c (ix2 (row t r) (lane l)) * keep l := by
  have e : ((cfg0.win 1).blk t).view.emb (ix2 r l) = ix2 (row t r) l := by blk_ext! [row, idx t]
  blk_simp [iblk]; entry_read
  refine (congrArg _ e).trans ?_
  pointwise
  refine congrArg₂ (fun x y : EReal => x * y) ?_ (keep_of l (fun a b => Ideal.ofBits .f32 (lit2 (S8x2.rowMajor (ix2 a b)))) lit2_at)
  refine congrArg (A1 m c) ?_
  blk_ext! [lane]

theorem in2 (c : Dev nD) (t : Fin cfg0.N) (r : Fin 512) (l : Fin 1024) :
    (iblk m c 2 t : FVec Ideal S512x1024 .bf16) (ix2 r l) = A2 m c (ix2 (row t r) (lane l)) * keep l := by
  have e : ((cfg0.win 2).blk t).view.emb (ix2 r l) = ix2 (row t r) l := by blk_ext! [row, idx t]
  blk_simp [iblk]; entry_read
  refine (congrArg _ e).trans ?_
  pointwise
  refine congrArg₂ (fun x y : EReal => x * y) ?_ (keep_of l (fun a b => Ideal.ofBits .f32 (lit3 (S8x2.rowMajor (ix2 a b)))) lit3_at)
  refine congrArg (A2 m c) ?_
  blk_ext! [lane]

theorem in3 (c : Dev nD) (t : Fin cfg0.N) (k : Fin 1024) :
    (iblk m c 3 t : FVec Ideal S1x1024 .f32) (ix2 0 k) = m ((c : Thread nD τ).loc main_arg3) (ix1 k) := by
  blk_simp [iblk]; entry_read; pointwise; blk_ext! [idx t]

theorem in4 (c : Dev nD) (t : Fin cfg0.N) (k : Fin 1024) (f : Fin 2048) :
    (iblk m c 4 t : FVec Ideal S1024x2048 .bf16) (ix2 k f)
      = m ((c : Thread nD τ).loc main_arg4) (ix2 k ⟨2396 + f.val, by omega⟩) := by
  blk_simp [iblk]; entry_read; pointwise; blk_ext! [idx t]

theorem in5 (c : Dev nD) (t : Fin cfg0.N) (l k : Fin 1024) :
    (iblk m c 5 t : FVec Ideal S1024x1024 .bf16) (ix2 l k) = A5 m c (ix2 (lane l) k) * keep l := by
  have e : ((cfg0.win 5).blk t).view.emb (ix2 l k) = ix2 l k := by blk_ext! [row, idx t]
  blk_simp [iblk]; entry_read
  refine (congrArg _ e).trans ?_
  pointwise
  refine congrArg₂ (fun x y : EReal => x * y) ?_ (keep_of l (fun a b => Ideal.ofBits .f32 (lit0 (S8x2.rowMajor (ix2 a b)))) lit0_at)
  refine congrArg (A5 m c) ?_
  blk_ext! [lane]

theorem in6 (c : Dev nD) (t : Fin cfg0.N) (l k : Fin 1024) :
    (iblk m c 6 t : FVec Ideal S1024x1024 .bf16) (ix2 l k) = A6 m c (ix2 (lane l) k) * keep l := by
  have e : ((cfg0.win 6).blk t).view.emb (ix2 l k) = ix2 l k := by blk_ext! [row, idx t]
  blk_simp [iblk]; entry_read
  refine (congrArg _ e).trans ?_
  pointwise
  refine congrArg₂ (fun x y : EReal => x * y) ?_ (keep_of l (fun a b => Ideal.ofBits .f32 (lit1 (S8x2.rowMajor (ix2 a b)))) lit1_at)
  refine congrArg (A6 m c) ?_
  blk_ext! [lane]

theorem in7 (c : Dev nD) (t : Fin cfg0.N) :
    (iblk m c 7 t : FVec Ideal S1024x1024 .bf16) = m ((c : Thread nD τ).loc main_arg7) := by
  funext y; blk_simp [iblk]; entry_read; blk_ext! [idx t]

theorem outPos (t : Fin cfg0.N) (y0 : Fin 512) (y1 : Fin 1024) :
    ((cfg0.win 8).blk t).view.emb (ix2 y0 y1) = ix2 (row t y0) y1 := by
  blk_ext! [row, idx t]

theorem point (c : Dev nD) (t : Fin cfg0.N) (y : S512x1024.Idx) :
    k0_pay1 (iblk m c 0 t) (k0_pay3 (iblk m c 0 t) (iblk m c 3 t) (View.ld (iblk m c 4 t) r0_2) (iblk m c 1 t) (iblk m
      c 5 t)) (k0_pay4 (iblk m c 0 t) (iblk m c 3 t) (View.ld (iblk m c 4 t) r0_4) (iblk m c 2 t) (iblk m c 6 t)) (iblk
      m c 7 t) y
      = Cert.MergeSRefIdeal.Read.out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (((cfg0.win 8).blk t).view.emb y) := by
  idx_vars y
  refine (Block.block_at _ _ _ _ _ _ _ _ _ (fun r i => A1 m c (ix2 (row t r) i)) (fun r i => A2 m c (ix2 (row t r) i))
    (fun i k => A5 m c (ix2 i k)) (fun i k => A6 m c (ix2 i k)) (in1 m c t) (in2 m c t) (in5 m c t) (in6 m c t)
    y0 y1).trans ?_
  refine Eq.trans ?_ (congrArg _ (outPos t y0 y1).symm)
  refine Eq.trans ?_ (Cert.MergeSRefIdeal.Read.out_at _ _ _ _ _ _ _ _ _ _).symm
  have ha : ∀ k f : Fin 1024, View.ld (iblk m c 4 t) r0_2 (ix2 k f)
      = m ((c : Thread nD τ).loc main_arg4) (ix2 k ⟨2396 + f.val, by omega⟩) := by
    intro k f; pointwise [r0_2]; exact in4 m c t k ⟨f.val, by omega⟩
  have hb : ∀ k f : Fin 1024, View.ld (iblk m c 4 t) r0_4 (ix2 k f)
      = m ((c : Thread nD τ).loc main_arg4) (ix2 k ⟨2396 + (1024 + f.val), by omega⟩) := by
    intro k f; pointwise [r0_4]; exact in4 m c t k ⟨1024 + f.val, by omega⟩
  simp only [in0, in3, in7, ha, hb]

/-- The result array after the run is the reference's result. -/
theorem final (c : Dev nD) : (dats m 0 c).arrAt 8 (cfgs 0).N
    = Cert.MergeSRefIdeal.Read.out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp; rw [after0_8]; frame_out
  exact point m c t y

end Cert.MergeSIdeal.Whole

end
-- ==== Proof.MergeSClaim.lean ====
/- The merge kernel computes its reference. -/
module

public import proofs.«01_k».proof.Defs
public import proofs.«01_k».proof.Proof.MergeSValue
public import proofs.«01_k».proof.Proof.Gen.MergeSIdeal.Value

@[expose] public section

set_option maxRecDepth 16384

noncomputable section

open Idealize.ShloMosaic Idealize.SL.Sem

namespace Cert.MergeSValue

/-- From memories that agree on the arguments the kernel and its reference end with equal results. -/
theorem algebraic : Cert.algebraic_MergeSIdeal_MergeSRefIdeal (hMergeSIdeal := Cert.MergeSIdeal.Gen.facts)
    (hMergeSRefIdeal := Cert.MergeSRefIdeal.Gen.facts) := by
  pair_intro
  · run_from Cert.MergeSIdeal.Value.run_blocks m g
  · run_from Cert.MergeSRefIdeal.Value.run m' g'
    refine Eq.trans ?_ (Cert.MergeSIdeal.Whole.final m c).symm
    with_unfolding_all rfl

end Cert.MergeSValue

end
-- ==== Proof.ProjSBlock.lean ====
/- What one block of the projection kernel computes, an entry at a time. -/
module

public import proofs.«01_k».proof.Proof.Rows
public import proofs.«01_k».proof.Proof.Gen.ProjSIdeal.Skeleton

@[expose] public section

set_option maxRecDepth 16384

noncomputable section

open Idealize.ShloMosaic Idealize.ShloMosaic.TcCoe Idealize.SL.Sem
open scoped BigOperators

namespace Cert.ProjSIdeal.Block

open Cert.ProjSIdeal Cert.ProjSIdeal.Gen Cert.Rows

/-- The kernel's norm of one block of rows. -/
theorem pay4_at (x : FVec Ideal S512x1024 .f32) (g : FVec Ideal S1x1024 .f32) (r : Fin 512) (j : Fin 1024) :
    k0_pay4 (F := Ideal) x g (ix2 r j) = rms (fun k => x (ix2 r k)) (fun k => g (ix2 0 k)) j := by
  pointwise! [k0_pay4, rms]

theorem pay5_at (x : FVec Ideal S512x1024 .f32) (g : FVec Ideal S1x1024 .f32) (w : FVec Ideal S1024x1024 .bf16)
    (r : Fin 512) (j : Fin 1024) : k0_pay5 (F := Ideal) x g w (ix2 r j)
      = (∑ k : Fin 1024, k0_pay4 (F := Ideal) x g (ix2 r k) * w (ix2 k j)) * Ideal.ofBits .f32 0x3E000000#32 := by
  pointwise! [k0_pay5]

theorem pay6_at (x : FVec Ideal S512x1024 .f32) (g : FVec Ideal S1x1024 .f32) (w : FVec Ideal S1024x1024 .bf16)
    (r : Fin 512) (j : Fin 1024) : k0_pay6 (F := Ideal) x g w (ix2 r j)
      = (∑ k : Fin 1024, k0_pay4 (F := Ideal) x g (ix2 r k) * w (ix2 k j)) * Ideal.ofBits .f32 0x3E000000#32 := by
  pointwise! [k0_pay6]

theorem pay7_at (x : FVec Ideal S512x1024 .f32) (g : FVec Ideal S1x1024 .f32) (w : FVec Ideal S1024x512 .bf16)
    (r : Fin 512) (j : Fin 512) : k0_pay7 (F := Ideal) x g w (ix2 r j)
      = (∑ k : Fin 1024, k0_pay4 (F := Ideal) x g (ix2 r k) * w (ix2 k j)) := by
  pointwise! [k0_pay7]

theorem pay8_at (p : FVec Ideal S512x1024 .bf16) (w : FVec Ideal S1024x128 .bf16) (r : Fin 512) (j : Fin 128) :
    k0_pay8 (F := Ideal) p w (ix2 r j) = ∑ k : Fin 1024, p (ix2 r k) * w (ix2 k j) := by
  pointwise! [k0_pay8]

theorem pay9_at (p : FVec Ideal S512x1024 .bf16) (w : FVec Ideal S1024x128 .bf16) (r : Fin 512) (j : Fin 128) :
    k0_pay9 (F := Ideal) p w (ix2 r j) = ∑ k : Fin 1024, p (ix2 r k) * w (ix2 k j) := by
  pointwise! [k0_pay9, k0_pay8]

theorem pay10_at (p : FVec Ideal S512x1024 .bf16) (w : FVec Ideal S1024x128 .bf16) (r : Fin 512) (j : Fin 64) :
    k0_pay10 (F := Ideal) p w (ix2 r j) = ∑ k : Fin 1024, p (ix2 r k) * w (ix2 k ⟨j.val, by omega⟩) := by
  pointwise! [k0_pay10, k0_pay8]

theorem pay11_at (p : FVec Ideal S512x1024 .bf16) (w : FVec Ideal S1024x256 .bf16) (r : Fin 512) (j : Fin 256) :
    k0_pay11 (F := Ideal) p w (ix2 r j) = ∑ k : Fin 1024, p (ix2 r k) * w (ix2 k j) := by
  pointwise! [k0_pay11]

theorem pay12_at (p : FVec Ideal S512x1024 .bf16) (w : FVec Ideal S1024x256 .bf16) (r : Fin 512) (j : Fin 256) :
    k0_pay12 (F := Ideal) p w (ix2 r j) = ∑ k : Fin 1024, p (ix2 r k) * w (ix2 k j) := by
  pointwise! [k0_pay12]

theorem pay13_at (p : FVec Ideal S512x1024 .bf16) (w : FVec Ideal S1024x256 .bf16) (r : Fin 512) (j : Fin 256) :
    k0_pay13 (F := Ideal) p w (ix2 r j) = ∑ k : Fin 1024, p (ix2 r k) * w (ix2 k j) := by
  pointwise! [k0_pay13, k0_pay12]

theorem pay14_at (p : FVec Ideal S512x1024 .bf16) (w : FVec Ideal S1024x256 .bf16) (r : Fin 512) (j : Fin 256) :
    k0_pay14 (F := Ideal) p w (ix2 r j) = ∑ k : Fin 1024, p (ix2 r k) * w (ix2 k j) := by
  pointwise! [k0_pay14]

theorem pay15_at (p : FVec Ideal S512x1024 .bf16) (w : FVec Ideal S1024x256 .bf16) (r : Fin 512) (j : Fin 256) :
    k0_pay15 (F := Ideal) p w (ix2 r j) = ∑ k : Fin 1024, p (ix2 r k) * w (ix2 k j) := by
  pointwise! [k0_pay15, k0_pay14]

theorem pay1_at (p : FVec Ideal S512x1024 .bf16) (w : FVec Ideal S1024x256 .bf16) (r : Fin 512) (j : Fin 256) :
    k0_pay1 (F := Ideal) p w (ix2 r j) = ∑ k : Fin 1024, p (ix2 r k) * w (ix2 k j) := by
  pointwise! [k0_pay1]

theorem pay2_at (p : FVec Ideal S512x1024 .bf16) (w : FVec Ideal S1024x256 .bf16) (r : Fin 512) (j : Fin 256) :
    k0_pay2 (F := Ideal) p w (ix2 r j) = ∑ k : Fin 1024, p (ix2 r k) * w (ix2 k j) := by
  pointwise! [k0_pay2, k0_pay1]

theorem pay3_at (p : FVec Ideal S512x1024 .bf16) (w : FVec Ideal S1024x128 .bf16) (r : Fin 512) (j : Fin 128) :
    k0_pay3 (F := Ideal) p w (ix2 r j) = ∑ k : Fin 1024, p (ix2 r k) * w (ix2 k j) := by
  pointwise! [k0_pay3]

end Cert.ProjSIdeal.Block

end
-- ==== Proof.ProjSRef.lean ====
/- What the projection's reference computes, a row at a time. -/
module

public import proofs.«01_k».proof.Proof.Rows
public import proofs.«01_k».proof.Proof.Gen.ProjSRefIdeal.Run

@[expose] public section

set_option maxRecDepth 16384

noncomputable section

open Idealize.ShloMosaic Idealize.ShloMosaic.TcCoe Idealize.SL.Sem
open scoped BigOperators

namespace Cert.ProjSRefIdeal.Read

open Cert.ProjSRefIdeal Cert.ProjSRefIdeal.Gen Cert.Rows

/-- The reference's root-mean-square norm of every row. -/
def nrm (x : FVec Ideal S512x1024 .f32) (g : FVec Ideal S1024 .f32) : FVec Ideal S512x1024 .f32 :=
  mulf (mulf x (broadcastInDim S512x1024 ![0, 1] bcast_S512x1_S512x1024_0_1
    (Host.rsqrt (addf (Host.divf (broadcastInDim S512x1 ![0] bcast_S512_S512x1_0
      (Host.reduceAdd (mulf x x) (constant S_ .f32 0x00000000#32) reducesTo_S512x1024_S512_d1 h_S_))
      (broadcastInDim S512x1 ![] bcast_S_S512x1 (constant S_ .f32 0x44800000#32)))
      (broadcastInDim S512x1 ![] bcast_S_S512x1 (constant S_ .f32 0x358637BD#32))))))
    (broadcastInDim S512x1024 ![0, 1] bcast_S1x1024_S512x1024_0_1
      (broadcastInDim S1x1024 ![1] bcast_S1024_S1x1024_1 g))

/-- The reference's product with the whole packed weight. -/
def prod (x : FVec Ideal S512x1024 .f32) (g : FVec Ideal S1024 .f32) (w : FVec Ideal S1024x4444 .f32) :
    FVec Ideal S512x4444 .f32 :=
  Host.dotGeneral dot_S512x1024_S1024x4444_S512x4444_1_0_0_1_n_n none (nrm x g) w

/-- Eight heads of 64 columns laid out in 128 lanes a head: the first four heads in their first halves, the last
    four in their second halves, zero elsewhere. -/
def halves (q : FVec Ideal S512x512 .f32) : FVec Ideal S512x1024 .f32 :=
  (shapeCast _ (concatenate S512x2x4x128 1
    [⟨S512x1x4x128, (broadcastInDim S512x1x4x128 ![0, 2, 3] bcast_S512x4x128_S512x1x4x128_0_2_3
      (pad S512x4x128 ![0, 0, 0] ![0, 0, 64] ![0, 0, 0] (shapeCast _ (extractStridedSlice S512x1x4x64 ![0, 0, 0, 0]
        (shapeCast _ q shapeCasts_S512x512_S512x2x4x64) slices_S512x2x4x64_S512x1x4x64_0_0_0_0)
        shapeCasts_S512x1x4x64_S512x4x64) (sitofp .f32 (constantI S_ 32 0#32))
        pads_S512x4x64_S512x4x128_000_000_0640 h_S_))⟩,
     ⟨S512x1x4x128, (broadcastInDim S512x1x4x128 ![0, 2, 3] bcast_S512x4x128_S512x1x4x128_0_2_3
      (pad S512x4x128 ![0, 0, 64] ![0, 0, 0] ![0, 0, 0] (shapeCast _ (extractStridedSlice S512x1x4x64 ![0, 1, 0, 0]
        (shapeCast _ q shapeCasts_S512x512_S512x2x4x64) slices_S512x2x4x64_S512x1x4x64_0_1_0_0)
        shapeCasts_S512x1x4x64_S512x4x64) (sitofp .f32 (constantI S_ 32 0#32))
        pads_S512x4x64_S512x4x128_000_000_6400 h_S_))⟩]
    concatenates_S512x1x4x128_S512x1x4x128_S512x2x4x128_d1) shapeCasts_S512x2x4x128_S512x1024)

/-- The laid-out queries, scaled. -/
def scaled (q : FVec Ideal S512x512 .f32) : FVec Ideal S512x1024 .bf16 :=
  truncf .bf16 (mulf (halves q) (broadcastInDim S512x1024 ![] bcast_S_S512x1024 (constant S_ .f32 0x3E000000#32)))
    bitsLt_bf16_f32

/-- The NSA queries. -/
def nq (p : FVec Ideal S512x4444 .f32) : FVec Ideal S512x1024 .bf16 :=
  scaled (extractStridedSlice S512x512 ![0, 0] p slices_S512x4444_S512x512_0_0)

/-- The DSA queries. -/
def dq (p : FVec Ideal S512x4444 .f32) : FVec Ideal S512x1024 .bf16 :=
  scaled (extractStridedSlice S512x512 ![0, 1304] p slices_S512x4444_S512x512_0_1304)

/-- The indexer's queries, in the first halves of four heads. -/
def iq (p : FVec Ideal S512x4444 .f32) : FVec Ideal S512x512 .bf16 :=
  truncf .bf16 (shapeCast _ (pad S512x4x128 ![0, 0, 0] ![0, 0, 64] ![0, 0, 0]
    (shapeCast _ (extractStridedSlice S512x256 ![0, 2072] p slices_S512x4444_S512x256_0_2072)
      shapeCasts_S512x256_S512x4x64) (sitofp .f32 (constantI S_ 32 0#32)) pads_S512x4x64_S512x4x128_000_000_0640
      h_S_) shapeCasts_S512x4x128_S512x512) bitsLt_bf16_f32

/-- The indexer's keys, in the first half of one head. -/
def ikx (p : FVec Ideal S512x4444 .f32) : FVec Ideal S512x128 .bf16 :=
  truncf .bf16 (shapeCast _ (pad S512x1x128 ![0, 0, 0] ![0, 0, 64] ![0, 0, 0]
    (shapeCast _ (extractStridedSlice S512x64 ![0, 2328] p slices_S512x4444_S512x64_0_2328)
      shapeCasts_S512x64_S512x1x64) (sitofp .f32 (constantI S_ 32 0#32)) pads_S512x1x64_S512x1x128_000_000_0640
      h_S_) shapeCasts_S512x1x128_S512x128) bitsLt_bf16_f32

/-- The indexer's weights and the NSA gates, then zeros. -/
def misc (p : FVec Ideal S512x4444 .f32) : FVec Ideal S512x128 .f32 :=
  pad S512x128 ![0, 0] ![0, 100] ![0, 0] (concatenate S512x28 1
    [⟨S512x4, (extractStridedSlice S512x4 ![0, 2392] p slices_S512x4444_S512x4_0_2392)⟩,
     ⟨S512x24, (extractStridedSlice S512x24 ![0, 1280] p slices_S512x4444_S512x24_0_1280)⟩]
    concatenates_S512x4_S512x24_S512x28_d1) (sitofp .f32 (constantI S_ 32 0#32)) pads_S512x28_S512x128_000_01000 h_S_

/-- The product's columns from 512 on. -/
def ckv (p : FVec Ideal S512x4444 .f32) : FVec Ideal S512x256 .f32 :=
  extractStridedSlice S512x256 ![0, 512] p slices_S512x4444_S512x256_0_512

/-- The product's columns from 768 on. -/
def skv (p : FVec Ideal S512x4444 .f32) : FVec Ideal S512x256 .f32 :=
  extractStridedSlice S512x256 ![0, 768] p slices_S512x4444_S512x256_0_768

/-- The product's columns from 1024 on. -/
def wkv (p : FVec Ideal S512x4444 .f32) : FVec Ideal S512x256 .f32 :=
  extractStridedSlice S512x256 ![0, 1024] p slices_S512x4444_S512x256_0_1024

/-- The product's columns from 1816 on. -/
def dkv (p : FVec Ideal S512x4444 .f32) : FVec Ideal S512x256 .f32 :=
  extractStridedSlice S512x256 ![0, 1816] p slices_S512x4444_S512x256_0_1816

/-- The product's columns from 2328 on. -/
def ik (p : FVec Ideal S512x4444 .f32) : FVec Ideal S512x64 .f32 :=
  extractStridedSlice S512x64 ![0, 2328] p slices_S512x4444_S512x64_0_2328

/-- The product's columns from 768 on. -/
def skvb (p : FVec Ideal S512x4444 .f32) : FVec Ideal S512x256 .bf16 :=
  truncf .bf16 (extractStridedSlice S512x256 ![0, 768] p slices_S512x4444_S512x256_0_768) bitsLt_bf16_f32

/-- The product's columns from 1024 on. -/
def wkvb (p : FVec Ideal S512x4444 .f32) : FVec Ideal S512x256 .bf16 :=
  truncf .bf16 (extractStridedSlice S512x256 ![0, 1024] p slices_S512x4444_S512x256_0_1024) bitsLt_bf16_f32

/-- The product's columns from 1816 on. -/
def dkvb (p : FVec Ideal S512x4444 .f32) : FVec Ideal S512x256 .bf16 :=
  truncf .bf16 (extractStridedSlice S512x256 ![0, 1816] p slices_S512x4444_S512x256_0_1816) bitsLt_bf16_f32

theorem nrm_at (x : FVec Ideal S512x1024 .f32) (g : FVec Ideal S1024 .f32) (r : Fin 512) (j : Fin 1024) :
    nrm x g (ix2 r j) = rms (fun k => x (ix2 r k)) (fun k => g (ix1 k)) j := by
  pointwise! [nrm, rms]

theorem prod_at (x : FVec Ideal S512x1024 .f32) (g : FVec Ideal S1024 .f32) (w : FVec Ideal S1024x4444 .f32)
    (r : Fin 512) (f : Fin 4444) :
    prod x g w (ix2 r f)
      = ∑ k : Fin 1024, rms (fun k => x (ix2 r k)) (fun k => g (ix1 k)) k * w (ix2 k f) := by
  have h : prod x g w (ix2 r f) = ∑ k : Fin 1024, nrm x g (ix2 r k) * w (ix2 k f) := by pointwise! [prod]
  simp only [h, nrm_at]

/-- The padding value is zero. -/
theorem pad_zero : (FloatOps.sitofp (F := Ideal) .f32 (0#32 : BitVec 32) : EReal) = 0 := by
  show ((((0#32 : BitVec 32).toInt : ℤ) : ℝ) : EReal) = 0
  norm_num

/-- The two halves' cases of the laid-out columns as one. -/
theorem halves_cases (q : Fin 512 → EReal) (l : Fin 1024) (z : EReal) (hz : z = 0) :
    (if h : l.val / 512 < 1 then
      (if h1 : l.val / 128 % 4 < 4 ∧ l.val % 128 < 64 then q ⟨l.val / 128 % 4 * 64 + l.val % 128, by omega⟩ else z)
     else
      (if h1 : l.val / 128 % 4 < 4 ∧ 64 ≤ l.val % 128 ∧ l.val % 128 - 64 < 64 then
        q ⟨256 + l.val / 128 % 4 * 64 + (l.val % 128 - 64), by omega⟩ else z))
      = if l.val / 64 % 2 = l.val / 512 then q (lane l) else 0 := by
  subst hz
  have hl := l.isLt
  by_cases h1 : l.val / 512 < 1
  · rw [dif_pos h1]
    by_cases h2 : l.val % 128 < 64
    · rw [dif_pos ⟨by omega, h2⟩, if_pos (by omega)]
      exact congrArg q (Fin.ext (by simp only [lane]; omega))
    · rw [dif_neg (fun h => h2 h.2), if_neg (by omega)]
  · rw [dif_neg h1]
    by_cases h2 : l.val % 128 < 64
    · rw [dif_neg (fun h => by omega), if_neg (by omega)]
    · rw [dif_pos ⟨by omega, by omega, by omega⟩, if_pos (by omega)]
      exact congrArg q (Fin.ext (by simp only [lane]; omega))

theorem halves_at (q : FVec Ideal S512x512 .f32) (r : Fin 512) (l : Fin 1024) :
    halves q (ix2 r l) = if l.val / 64 % 2 = l.val / 512 then q (ix2 r (lane l)) else 0 := by
  pointwise [halves]
  have hl := l.isLt
  exact halves_cases (fun t => q (ix2 r t)) l _ pad_zero

theorem scaled_at (q : FVec Ideal S512x512 .f32) (r : Fin 512) (l : Fin 1024) :
    scaled q (ix2 r l) = halves q (ix2 r l) * Ideal.ofBits .f32 0x3E000000#32 := by
  pointwise! [scaled]

theorem nq_at (p : FVec Ideal S512x4444 .f32) (r : Fin 512) (l : Fin 1024) :
    nq p (ix2 r l) = (if l.val / 64 % 2 = l.val / 512 then p (ix2 r ⟨(lane l).val, by omega⟩) else 0)
      * Ideal.ofBits .f32 0x3E000000#32 := by
  have h : (extractStridedSlice S512x512 ![0, 0] p slices_S512x4444_S512x512_0_0 : FVec Ideal _ _) (ix2 r (lane l))
      = p (ix2 r ⟨(lane l).val, by omega⟩) := by pointwise!
  rw [nq, scaled_at, halves_at, h]

theorem dq_at (p : FVec Ideal S512x4444 .f32) (r : Fin 512) (l : Fin 1024) :
    dq p (ix2 r l) = (if l.val / 64 % 2 = l.val / 512 then p (ix2 r ⟨1304 + (lane l).val, by omega⟩) else 0)
      * Ideal.ofBits .f32 0x3E000000#32 := by
  have h : (extractStridedSlice S512x512 ![0, 1304] p slices_S512x4444_S512x512_0_1304 : FVec Ideal _ _) (ix2 r (lane l))
      = p (ix2 r ⟨1304 + (lane l).val, by omega⟩) := by pointwise!
  rw [dq, scaled_at, halves_at, h]

theorem iq_at (p : FVec Ideal S512x4444 .f32) (r : Fin 512) (l : Fin 512) :
    iq p (ix2 r l) = if l.val / 64 % 2 = 0 then p (ix2 r ⟨2072 + (64 * (l.val / 128) + l.val % 64), by omega⟩) else 0 := by
  pointwise [iq]
  have hl := l.isLt
  rw [pad_zero]
  split_ifs <;> first | with_reducible rfl | omega | exact congrArg (fun t => p (ix2 r t)) (Fin.ext (by simp only []; omega))

theorem ikx_at (p : FVec Ideal S512x4444 .f32) (r : Fin 512) (l : Fin 128) :
    ikx p (ix2 r l) = if h : l.val < 64 then p (ix2 r ⟨2328 + l.val, by omega⟩) else 0 := by
  pointwise [ikx]
  rw [pad_zero]

theorem misc_at (p : FVec Ideal S512x4444 .f32) (r : Fin 512) (l : Fin 128) :
    misc p (ix2 r l) = if l.val < 4 then p (ix2 r ⟨2392 + l.val, by omega⟩)
      else if l.val < 28 then p (ix2 r ⟨1276 + l.val, by omega⟩) else 0 := by
  pointwise [misc]
  rw [pad_zero]
  split_ifs <;> first | with_reducible rfl | omega | exact congrArg (fun t => p (ix2 r t)) (Fin.ext (by simp only []; omega))

theorem ckv_at (p : FVec Ideal S512x4444 .f32) (r : Fin 512) (l : Fin 256) :
    ckv p (ix2 r l) = p (ix2 r ⟨512 + l.val, by omega⟩) := by
  pointwise! [ckv]

theorem skv_at (p : FVec Ideal S512x4444 .f32) (r : Fin 512) (l : Fin 256) :
    skv p (ix2 r l) = p (ix2 r ⟨768 + l.val, by omega⟩) := by
  pointwise! [skv]

theorem wkv_at (p : FVec Ideal S512x4444 .f32) (r : Fin 512) (l : Fin 256) :
    wkv p (ix2 r l) = p (ix2 r ⟨1024 + l.val, by omega⟩) := by
  pointwise! [wkv]

theorem dkv_at (p : FVec Ideal S512x4444 .f32) (r : Fin 512) (l : Fin 256) :
    dkv p (ix2 r l) = p (ix2 r ⟨1816 + l.val, by omega⟩) := by
  pointwise! [dkv]

theorem ik_at (p : FVec Ideal S512x4444 .f32) (r : Fin 512) (l : Fin 64) :
    ik p (ix2 r l) = p (ix2 r ⟨2328 + l.val, by omega⟩) := by
  pointwise! [ik]

theorem skvb_at (p : FVec Ideal S512x4444 .f32) (r : Fin 512) (l : Fin 256) :
    skvb p (ix2 r l) = p (ix2 r ⟨768 + l.val, by omega⟩) := by
  pointwise! [skvb]

theorem wkvb_at (p : FVec Ideal S512x4444 .f32) (r : Fin 512) (l : Fin 256) :
    wkvb p (ix2 r l) = p (ix2 r ⟨1024 + l.val, by omega⟩) := by
  pointwise! [wkvb]

theorem dkvb_at (p : FVec Ideal S512x4444 .f32) (r : Fin 512) (l : Fin 256) :
    dkvb p (ix2 r l) = p (ix2 r ⟨1816 + l.val, by omega⟩) := by
  pointwise! [dkvb]

end Cert.ProjSRefIdeal.Read

end
-- ==== Proof.ProjSWeight.lean ====
/- What the projection kernel's packed weight holds. -/
module

public import proofs.«01_k».proof.Proof.ProjSBlock
public import proofs.«01_k».proof.Proof.ProjSRef
public import proofs.«01_k».proof.Proof.Gen.ProjSIdeal.Frame
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.ProjSIdeal.Whole

open Cert.ProjSIdeal Cert.ProjSIdeal.Gen Cert.Rows

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0] :=
  (by decide +kernel : ∀ t : Fin grid0.N, _)

/-- The row of the activations that row `y0` of point `t`'s block is. -/
def row (t : Fin cfg0.N) (y0 : Fin 512) : Fin 512 :=
  ⟨t.val * 512 + y0.val, by have : t.val < 1 := t.isLt; omega⟩

/-- The whole input weight. -/
abbrev W (c : Dev nD) : FVec Ideal S1024x4444 .f32 := m ((c : Thread nD τ).loc main_arg2)

theorem in0 (c : Dev nD) (t : Fin cfg0.N) (r : Fin 512) (k : Fin 1024) :
    (iblk m c 0 t : FVec Ideal S512x1024 .f32) (ix2 r k) = m ((c : Thread nD τ).loc main_arg0) (ix2 (row t r) k) := by
  blk_ext! [iblk, V, row, idx t]

/-- What a buffer holds when the call begins. -/
theorem entry (c : Dev nD) (b : Ref sig .tc) :
    V m c b = StableHlo.after hostOps0 (fun b => m (c, b)) (Proc.devRef .tc b) := by
  simp only [V, V0, List.flatten_cons, List.flatten_nil, List.append_nil]

theorem in1 (c : Dev nD) (t : Fin cfg0.N) (k : Fin 1024) :
    (iblk m c 1 t : FVec Ideal S1x1024 .f32) (ix2 0 k) = m ((c : Thread nD τ).loc main_arg1) (ix1 k) := by
  blk_simp [iblk]; rw [entry]; entry_read; pointwise; blk_ext! [idx t]

/-- A read of the packed weight. -/
theorem emb2 (t : Fin cfg0.N) (k : Fin 1024) (j : Fin 3840) :
    ((cfg0.win 2).blk t).view.emb (ix2 k j) = ix2 k j := by blk_ext! [idx t]

/-- Twelve pieces side by side. -/
def pack (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32) :
    FVec Ideal S1024x3840 .bf16 :=
  truncf .bf16 (concatenate S1024x3840 1 [⟨S1024x1024, p0⟩, ⟨S1024x1024, p1⟩, ⟨S1024x512, p2⟩, ⟨S1024x64, p3⟩, ⟨S1024x64, p4⟩, ⟨S1024x256, p5⟩, ⟨S1024x256, p6⟩, ⟨S1024x256, p7⟩, ⟨S1024x256, p8⟩, ⟨S1024x4, p9⟩, ⟨S1024x24, p10⟩, ⟨S1024x100, p11⟩]
    concatenates_S1024x1024_S1024x1024_S1024x512_S1024x64_S1024x64_S1024x256_S1024x256_S1024x256_S1024x256_S1024x4_S1024x24_S1024x100_S1024x3840_d1) bitsLt_bf16_f32

theorem pack_at0 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 1024) : pack p0 p1 p2 p3 p4 p5 p6 p7 p8 p9 p10 p11 (ix2 k ⟨0 + f.val, by omega⟩) = p0 (ix2 k f) := by
  pointwise! [pack]

theorem pack_at1 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 1024) : pack p0 p1 p2 p3 p4 p5 p6 p7 p8 p9 p10 p11 (ix2 k ⟨1024 + f.val, by omega⟩) = p1 (ix2 k f) := by
  pointwise! [pack]

theorem pack_at2 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 512) : pack p0 p1 p2 p3 p4 p5 p6 p7 p8 p9 p10 p11 (ix2 k ⟨2048 + f.val, by omega⟩) = p2 (ix2 k f) := by
  pointwise [pack]
  rw [dif_neg (by omega), dif_neg (by omega), dif_pos (by omega)]
  exact congrArg (fun t => p2 (ix2 k t)) (Fin.ext (by simp only []; omega))

theorem pack_at3 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 64) : pack p0 p1 p2 p3 p4 p5 p6 p7 p8 p9 p10 p11 (ix2 k ⟨2560 + f.val, by omega⟩) = p3 (ix2 k f) := by
  pointwise [pack]
  rw [dif_neg (by omega), dif_neg (by omega), dif_neg (by omega), dif_pos (by omega)]
  exact congrArg (fun t => p3 (ix2 k t)) (Fin.ext (by simp only []; omega))

theorem pack_at4 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 64) : pack p0 p1 p2 p3 p4 p5 p6 p7 p8 p9 p10 p11 (ix2 k ⟨2624 + f.val, by omega⟩) = p4 (ix2 k f) := by
  pointwise [pack]
  rw [dif_neg (by omega), dif_neg (by omega), dif_neg (by omega), dif_neg (by omega), dif_pos (by omega)]
  exact congrArg (fun t => p4 (ix2 k t)) (Fin.ext (by simp only []; omega))

theorem pack_at5 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 256) : pack p0 p1 p2 p3 p4 p5 p6 p7 p8 p9 p10 p11 (ix2 k ⟨2688 + f.val, by omega⟩) = p5 (ix2 k f) := by
  pointwise [pack]
  rw [dif_neg (by omega), dif_neg (by omega), dif_neg (by omega), dif_neg (by omega), dif_neg (by omega), dif_pos (by omega)]
  exact congrArg (fun t => p5 (ix2 k t)) (Fin.ext (by simp only []; omega))

theorem pack_at6 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 256) : pack p0 p1 p2 p3 p4 p5 p6 p7 p8 p9 p10 p11 (ix2 k ⟨2944 + f.val, by omega⟩) = p6 (ix2 k f) := by
  pointwise [pack]
  rw [dif_neg (by omega), dif_neg (by omega), dif_neg (by omega), dif_neg (by omega), dif_neg (by omega), dif_neg (by omega), dif_pos (by omega)]
  exact congrArg (fun t => p6 (ix2 k t)) (Fin.ext (by simp only []; omega))

theorem pack_at7 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 256) : pack p0 p1 p2 p3 p4 p5 p6 p7 p8 p9 p10 p11 (ix2 k ⟨3200 + f.val, by omega⟩) = p7 (ix2 k f) := by
  pointwise [pack]
  rw [dif_neg (by omega), dif_neg (by omega), dif_neg (by omega), dif_neg (by omega), dif_neg (by omega), dif_neg (by omega), dif_neg (by omega), dif_pos (by omega)]
  exact congrArg (fun t => p7 (ix2 k t)) (Fin.ext (by simp only []; omega))

theorem pack_at8 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 256) : pack p0 p1 p2 p3 p4 p5 p6 p7 p8 p9 p10 p11 (ix2 k ⟨3456 + f.val, by omega⟩) = p8 (ix2 k f) := by
  pointwise [pack]
  rw [dif_neg (by omega), dif_neg (by omega), dif_neg (by omega), dif_neg (by omega), dif_neg (by omega), dif_neg (by omega), dif_neg (by omega), dif_neg (by omega), dif_pos (by omega)]
  exact congrArg (fun t => p8 (ix2 k t)) (Fin.ext (by simp only []; omega))

theorem pack_at9 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 4) : pack p0 p1 p2 p3 p4 p5 p6 p7 p8 p9 p10 p11 (ix2 k ⟨3712 + f.val, by omega⟩) = p9 (ix2 k f) := by
  pointwise [pack]
  rw [dif_neg (by omega), dif_neg (by omega), dif_neg (by omega), dif_neg (by omega), dif_neg (by omega), dif_neg (by omega), dif_neg (by omega), dif_neg (by omega), dif_neg (by omega), dif_pos (by omega)]
  exact congrArg (fun t => p9 (ix2 k t)) (Fin.ext (by simp only []; omega))

theorem pack_at10 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 24) : pack p0 p1 p2 p3 p4 p5 p6 p7 p8 p9 p10 p11 (ix2 k ⟨3716 + f.val, by omega⟩) = p10 (ix2 k f) := by
  pointwise [pack]
  rw [dif_neg (by omega), dif_neg (by omega), dif_neg (by omega), dif_neg (by omega), dif_neg (by omega), dif_neg (by omega), dif_neg (by omega), dif_neg (by omega), dif_neg (by omega), dif_neg (by omega), dif_pos (by omega)]
  exact congrArg (fun t => p10 (ix2 k t)) (Fin.ext (by simp only []; omega))

theorem pack_at11 (p0 : FVec Ideal S1024x1024 .f32) (p1 : FVec Ideal S1024x1024 .f32) (p2 : FVec Ideal S1024x512 .f32) (p3 : FVec Ideal S1024x64 .f32) (p4 : FVec Ideal S1024x64 .f32) (p5 : FVec Ideal S1024x256 .f32) (p6 : FVec Ideal S1024x256 .f32) (p7 : FVec Ideal S1024x256 .f32) (p8 : FVec Ideal S1024x256 .f32) (p9 : FVec Ideal S1024x4 .f32) (p10 : FVec Ideal S1024x24 .f32) (p11 : FVec Ideal S1024x100 .f32)
    (k : Fin 1024) (f : Fin 100) : pack p0 p1 p2 p3 p4 p5 p6 p7 p8 p9 p10 p11 (ix2 k ⟨3740 + f.val, by omega⟩) = p11 (ix2 k f) := by
  pointwise [pack]
  rw [dif_neg (by omega), dif_neg (by omega), dif_neg (by omega), dif_neg (by omega), dif_neg (by omega), dif_neg (by omega), dif_neg (by omega), dif_neg (by omega), dif_neg (by omega), dif_neg (by omega), dif_neg (by omega)]
  exact congrArg (fun t => p11 (ix2 k t)) (Fin.ext (by simp only []; omega))

/-- The piece `b` of the packed weight, as the host's operations leave it. -/
abbrev piece (c : Dev nD) (b : Ref sig .tc) : Buf (Elt Ideal) ((c : Thread nD τ).loc b) :=
  StableHlo.upto hostOps0 (fun b => m (c, b)) 36 (Proc.tc.devRef b)

theorem packed (c : Dev nD) : V m c main_v32
    = pack (piece m c main_v7) (piece m c main_v14) (piece m c main_v21) (piece m c main_v22) (piece m c main_v23) (piece m c main_v24) (piece m c main_v25) (piece m c main_v26) (piece m c main_v27) (piece m c main_v28) (piece m c main_v29) (piece m c main_v30) := by
  unfold_abbrev_sides
  after_reads_simp
  rfl

theorem lit0_at (a : Fin 8) (b : Fin 2) :
    (Ideal.ofBits .f32 (lit0 (S8x2.rowMajor (ix2 a b))) : EReal) = if b.val = a.val / 4 then 1 else 0 := by
  have h : lit0 (S8x2.rowMajor (ix2 a b)) = if b.val = a.val / 4 then 0x3F800000#32 else 0x00000000#32 := by
    revert a b; decide +kernel
  rw [h]; split <;> pointwise!

theorem lit1_at (a : Fin 8) (b : Fin 2) :
    (Ideal.ofBits .f32 (lit1 (S8x2.rowMajor (ix2 a b))) : EReal) = if b.val = a.val / 4 then 1 else 0 := by
  have h : lit1 (S8x2.rowMajor (ix2 a b)) = if b.val = a.val / 4 then 0x3F800000#32 else 0x00000000#32 := by
    revert a b; decide +kernel
  rw [h]; split <;> pointwise!

theorem lit2_at (a : Fin 4) (b : Fin 2) :
    (Ideal.ofBits .f32 (lit2 (S4x2.rowMajor (ix2 a b))) : EReal) = if b.val = 0 then 1 else 0 := by
  have h : lit2 (S4x2.rowMajor (ix2 a b)) = if b.val = 0 then 0x3F800000#32 else 0x00000000#32 := by
    revert a b; decide +kernel
  rw [h]; split <;> pointwise!

/-- The lane layout's selector in terms of the lane. -/
theorem keep_of (l : Fin 1024) (v : Fin 8 → Fin 2 → EReal) (hv : ∀ a b, v a b = if b.val = a.val / 4 then 1 else 0) :
    v ⟨l.val / 128, by omega⟩ ⟨l.val / 64 % 2, by omega⟩ = keep l := by
  rw [hv, keep]
  have h : l.val / 128 / 4 = l.val / 512 := by omega
  simp only [h]

theorem piece0 (c : Dev nD) (k f : Fin 1024) : (piece m c main_v7 : FVec Ideal S1024x1024 .f32) (ix2 k f)
    = W m c (ix2 k ⟨0 + (lane f).val, by omega⟩) * keep f := by
  unfold piece
  after_reads_simp
  pointwise
  refine congrArg₂ (fun x y : EReal => x * y) ?_
    (keep_of f (fun a b => Ideal.ofBits .f32 (lit0 (S8x2.rowMajor (ix2 a b)))) lit0_at)
  exact congrArg (fun t => W m c (ix2 k t)) (Fin.ext (by simp only [lane]; omega))

theorem piece1 (c : Dev nD) (k f : Fin 1024) : (piece m c main_v14 : FVec Ideal S1024x1024 .f32) (ix2 k f)
    = W m c (ix2 k ⟨1304 + (lane f).val, by omega⟩) * keep f := by
  unfold piece
  after_reads_simp
  pointwise
  refine congrArg₂ (fun x y : EReal => x * y) ?_
    (keep_of f (fun a b => Ideal.ofBits .f32 (lit1 (S8x2.rowMajor (ix2 a b)))) lit1_at)
  exact congrArg (fun t => W m c (ix2 k t)) (Fin.ext (by simp only [lane]; omega))

theorem piece2 (c : Dev nD) (k : Fin 1024) (f : Fin 512) : (piece m c main_v21 : FVec Ideal S1024x512 .f32) (ix2 k f)
    = W m c (ix2 k ⟨2072 + (64 * (f.val / 128) + f.val % 64), by omega⟩) * (if f.val / 64 % 2 = 0 then 1 else 0) := by
  unfold piece
  after_reads_simp
  pointwise
  refine congrArg₂ (fun x y : EReal => x * y) ?_ (lit2_at ⟨f.val / 128, by omega⟩ ⟨f.val / 64 % 2, by omega⟩)
  exact congrArg (fun t => W m c (ix2 k t)) (Fin.ext (by simp only []; omega))

theorem piece3 (c : Dev nD) (k : Fin 1024) (f : Fin 64) : (piece m c main_v22 : FVec Ideal S1024x64 .f32) (ix2 k f)
    = W m c (ix2 k ⟨2328 + f.val, by omega⟩) := by
  unfold piece
  after_reads_simp
  pointwise!

theorem piece5 (c : Dev nD) (k : Fin 1024) (f : Fin 256) : (piece m c main_v24 : FVec Ideal S1024x256 .f32) (ix2 k f)
    = W m c (ix2 k ⟨512 + f.val, by omega⟩) := by
  unfold piece
  after_reads_simp
  pointwise!

theorem piece6 (c : Dev nD) (k : Fin 1024) (f : Fin 256) : (piece m c main_v25 : FVec Ideal S1024x256 .f32) (ix2 k f)
    = W m c (ix2 k ⟨768 + f.val, by omega⟩) := by
  unfold piece
  after_reads_simp
  pointwise!

theorem piece7 (c : Dev nD) (k : Fin 1024) (f : Fin 256) : (piece m c main_v26 : FVec Ideal S1024x256 .f32) (ix2 k f)
    = W m c (ix2 k ⟨1024 + f.val, by omega⟩) := by
  unfold piece
  after_reads_simp
  pointwise!

theorem piece8 (c : Dev nD) (k : Fin 1024) (f : Fin 256) : (piece m c main_v27 : FVec Ideal S1024x256 .f32) (ix2 k f)
    = W m c (ix2 k ⟨1816 + f.val, by omega⟩) := by
  unfold piece
  after_reads_simp
  pointwise!

theorem piece9 (c : Dev nD) (k : Fin 1024) (f : Fin 4) : (piece m c main_v28 : FVec Ideal S1024x4 .f32) (ix2 k f)
    = W m c (ix2 k ⟨2392 + f.val, by omega⟩) := by
  unfold piece
  after_reads_simp
  pointwise!

theorem piece10 (c : Dev nD) (k : Fin 1024) (f : Fin 24) : (piece m c main_v29 : FVec Ideal S1024x24 .f32) (ix2 k f)
    = W m c (ix2 k ⟨1280 + f.val, by omega⟩) := by
  unfold piece
  after_reads_simp
  pointwise!

theorem piece4 (c : Dev nD) (k : Fin 1024) (f : Fin 64) : (piece m c main_v23 : FVec Ideal S1024x64 .f32) (ix2 k f)
    = (0 : EReal) := by
  unfold piece
  after_reads_simp
  pointwise!

theorem piece11 (c : Dev nD) (k : Fin 1024) (f : Fin 100) : (piece m c main_v30 : FVec Ideal S1024x100 .f32) (ix2 k f)
    = (0 : EReal) := by
  unfold piece
  after_reads_simp
  pointwise!

/-- A read of the packed weight's window is a read of the pieces side by side. -/
theorem in2 (c : Dev nD) (t : Fin cfg0.N) (k : Fin 1024) (j : Fin 3840) :
    (iblk m c 2 t : FVec Ideal S1024x3840 .bf16) (ix2 k j)
    = pack (piece m c main_v7) (piece m c main_v14) (piece m c main_v21) (piece m c main_v22) (piece m c main_v23) (piece m c main_v24) (piece m c main_v25) (piece m c main_v26) (piece m c main_v27) (piece m c main_v28) (piece m c main_v29) (piece m c main_v30) (ix2 k j) := by
  blk_simp [iblk]
  rw [packed]
  exact congrArg _ (emb2 t k j)

theorem w0 (c : Dev nD) (t : Fin cfg0.N) (k : Fin 1024) (f : Fin 1024) :
    (iblk m c 2 t : FVec Ideal S1024x3840 .bf16) (ix2 k ⟨0 + f.val, by omega⟩) = W m c (ix2 k ⟨0 + (lane f).val, by omega⟩) * keep f :=
  (in2 m c t k _).trans ((pack_at0 _ _ _ _ _ _ _ _ _ _ _ _ k f).trans (piece0 m c k f))

theorem w1 (c : Dev nD) (t : Fin cfg0.N) (k : Fin 1024) (f : Fin 1024) :
    (iblk m c 2 t : FVec Ideal S1024x3840 .bf16) (ix2 k ⟨1024 + f.val, by omega⟩) = W m c (ix2 k ⟨1304 + (lane f).val, by omega⟩) * keep f :=
  (in2 m c t k _).trans ((pack_at1 _ _ _ _ _ _ _ _ _ _ _ _ k f).trans (piece1 m c k f))

theorem w2 (c : Dev nD) (t : Fin cfg0.N) (k : Fin 1024) (f : Fin 512) :
    (iblk m c 2 t : FVec Ideal S1024x3840 .bf16) (ix2 k ⟨2048 + f.val, by omega⟩) = W m c (ix2 k ⟨2072 + (64 * (f.val / 128) + f.val % 64), by omega⟩) * (if f.val / 64 % 2 = 0 then 1 else 0) :=
  (in2 m c t k _).trans ((pack_at2 _ _ _ _ _ _ _ _ _ _ _ _ k f).trans (piece2 m c k f))

theorem w3 (c : Dev nD) (t : Fin cfg0.N) (k : Fin 1024) (f : Fin 64) :
    (iblk m c 2 t : FVec Ideal S1024x3840 .bf16) (ix2 k ⟨2560 + f.val, by omega⟩) = W m c (ix2 k ⟨2328 + f.val, by omega⟩) :=
  (in2 m c t k _).trans ((pack_at3 _ _ _ _ _ _ _ _ _ _ _ _ k f).trans (piece3 m c k f))

theorem w4 (c : Dev nD) (t : Fin cfg0.N) (k : Fin 1024) (f : Fin 64) :
    (iblk m c 2 t : FVec Ideal S1024x3840 .bf16) (ix2 k ⟨2624 + f.val, by omega⟩) = (0 : EReal) :=
  (in2 m c t k _).trans ((pack_at4 _ _ _ _ _ _ _ _ _ _ _ _ k f).trans (piece4 m c k f))

theorem w5 (c : Dev nD) (t : Fin cfg0.N) (k : Fin 1024) (f : Fin 256) :
    (iblk m c 2 t : FVec Ideal S1024x3840 .bf16) (ix2 k ⟨2688 + f.val, by omega⟩) = W m c (ix2 k ⟨512 + f.val, by omega⟩) :=
  (in2 m c t k _).trans ((pack_at5 _ _ _ _ _ _ _ _ _ _ _ _ k f).trans (piece5 m c k f))

theorem w6 (c : Dev nD) (t : Fin cfg0.N) (k : Fin 1024) (f : Fin 256) :
    (iblk m c 2 t : FVec Ideal S1024x3840 .bf16) (ix2 k ⟨2944 + f.val, by omega⟩) = W m c (ix2 k ⟨768 + f.val, by omega⟩) :=
  (in2 m c t k _).trans ((pack_at6 _ _ _ _ _ _ _ _ _ _ _ _ k f).trans (piece6 m c k f))

theorem w7 (c : Dev nD) (t : Fin cfg0.N) (k : Fin 1024) (f : Fin 256) :
    (iblk m c 2 t : FVec Ideal S1024x3840 .bf16) (ix2 k ⟨3200 + f.val, by omega⟩) = W m c (ix2 k ⟨1024 + f.val, by omega⟩) :=
  (in2 m c t k _).trans ((pack_at7 _ _ _ _ _ _ _ _ _ _ _ _ k f).trans (piece7 m c k f))

theorem w8 (c : Dev nD) (t : Fin cfg0.N) (k : Fin 1024) (f : Fin 256) :
    (iblk m c 2 t : FVec Ideal S1024x3840 .bf16) (ix2 k ⟨3456 + f.val, by omega⟩) = W m c (ix2 k ⟨1816 + f.val, by omega⟩) :=
  (in2 m c t k _).trans ((pack_at8 _ _ _ _ _ _ _ _ _ _ _ _ k f).trans (piece8 m c k f))

theorem w9 (c : Dev nD) (t : Fin cfg0.N) (k : Fin 1024) (f : Fin 4) :
    (iblk m c 2 t : FVec Ideal S1024x3840 .bf16) (ix2 k ⟨3712 + f.val, by omega⟩) = W m c (ix2 k ⟨2392 + f.val, by omega⟩) :=
  (in2 m c t k _).trans ((pack_at9 _ _ _ _ _ _ _ _ _ _ _ _ k f).trans (piece9 m c k f))

theorem w10 (c : Dev nD) (t : Fin cfg0.N) (k : Fin 1024) (f : Fin 24) :
    (iblk m c 2 t : FVec Ideal S1024x3840 .bf16) (ix2 k ⟨3716 + f.val, by omega⟩) = W m c (ix2 k ⟨1280 + f.val, by omega⟩) :=
  (in2 m c t k _).trans ((pack_at10 _ _ _ _ _ _ _ _ _ _ _ _ k f).trans (piece10 m c k f))

theorem w11 (c : Dev nD) (t : Fin cfg0.N) (k : Fin 1024) (f : Fin 100) :
    (iblk m c 2 t : FVec Ideal S1024x3840 .bf16) (ix2 k ⟨3740 + f.val, by omega⟩) = (0 : EReal) :=
  (in2 m c t k _).trans ((pack_at11 _ _ _ _ _ _ _ _ _ _ _ _ k f).trans (piece11 m c k f))

end Cert.ProjSIdeal.Whole

end
-- ==== Proof.ProjSValue.lean ====
/- What the projection kernel's result arrays hold after the run. -/
module

public import proofs.«01_k».proof.Proof.ProjSWeight

@[expose] public section

set_option maxRecDepth 16384

noncomputable section

open Idealize.ShloMosaic Idealize.ShloMosaic.TcCoe Idealize.SL.Sem
open Idealize.ShloMosaic.Pipeline (Dat)
open scoped BigOperators

namespace Cert.ProjSIdeal.Whole

open Cert.ProjSIdeal Cert.ProjSIdeal.Gen Cert.Rows

variable (m : (ℓ : Loc nD τ sig) → Buf (Elt Ideal) ℓ)

/-- The normed row that row `r` of point `t`'s block is. -/
def h (c : Dev nD) (t : Fin cfg0.N) (r : Fin 512) : Fin 1024 → EReal :=
  rms (fun k => m ((c : Thread nD τ).loc main_arg0) (ix2 (row t r) k)) (fun k => m ((c : Thread nD τ).loc main_arg1) (ix1 k))

theorem norm_at (c : Dev nD) (t : Fin cfg0.N) (r : Fin 512) (k : Fin 1024) :
    k0_pay4 (F := Ideal) (iblk m c 0 t) (iblk m c 1 t) (ix2 r k) = h m c t r k := by
  refine (Block.pay4_at _ _ r k).trans ?_
  simp only [in0, in1, h]

theorem norm16_at (c : Dev nD) (t : Fin cfg0.N) (r : Fin 512) (k : Fin 1024) :
    k0_pay16 (F := Ideal) (iblk m c 0 t) (iblk m c 1 t) (iblk m c 2 t) (ix2 r k) = h m c t r k := by
  have e0 : View.ld (iblk m c 0 t : FVec Ideal S512x1024 .f32) r0_0 = iblk m c 0 t := by
    funext y; idx_vars y; pointwise [r0_0]
  have e1 : View.ld (iblk m c 1 t : FVec Ideal S1x1024 .f32) r0_1 = iblk m c 1 t := by
    funext y; idx_vars y; rw [Subsingleton.elim y0 0]; pointwise [r0_1]
  have e : k0_pay16 (F := Ideal) (iblk m c 0 t) (iblk m c 1 t) (iblk m c 2 t)
      = k0_pay4 (F := Ideal) (iblk m c 0 t) (iblk m c 1 t) := by
    exact congrArg₂ (k0_pay4 (F := Ideal)) e0 e1
  rw [e, norm_at]

/-- The reference's whole product, from the launch's arguments. -/
def prodOf (c : Dev nD) : FVec Ideal Cert.ProjSRefIdeal.S512x4444 .f32 :=
  Cert.ProjSRefIdeal.Read.prod (m ((c : Thread nD τ).loc main_arg0)) (m ((c : Thread nD τ).loc main_arg1))
    (m ((c : Thread nD τ).loc main_arg2))

theorem prodOf_at (c : Dev nD) (t : Fin cfg0.N) (r : Fin 512) (f : Fin 4444) :
    prodOf m c (ix2 (row t r) f) = ∑ k : Fin 1024, h m c t r k * W m c (ix2 k f) :=
  Cert.ProjSRefIdeal.Read.prod_at _ _ _ _ _

/-- A product whose column is kept or zeroed is the product kept or zeroed. -/
theorem sum_keep (a b : Fin 1024 → EReal) (p : Prop) [Decidable p] :
    ∑ k : Fin 1024, a k * (b k * (if p then 1 else 0)) = if p then ∑ k : Fin 1024, a k * b k else 0 := by
  split
  · simp only [mul_one]
  · simp only [mul_zero, Finset.sum_const_zero]

theorem sum_zero (a : Fin 1024 → EReal) : ∑ k : Fin 1024, a k * (0 : EReal) = 0 := by
  simp only [mul_zero, Finset.sum_const_zero]

theorem outPos3 (t : Fin cfg0.N) (y0 : Fin 512) (y1 : Fin 1024) :
    ((cfg0.win 3).blk t).view.emb (ix2 y0 y1) = ix2 (row t y0) y1 := by
  blk_ext! [row, idx t]

theorem outPos4 (t : Fin cfg0.N) (y0 : Fin 512) (y1 : Fin 1024) :
    ((cfg0.win 4).blk t).view.emb (ix2 y0 y1) = ix2 (row t y0) y1 := by
  blk_ext! [row, idx t]

theorem outPos5 (t : Fin cfg0.N) (y0 : Fin 512) (y1 : Fin 512) :
    ((cfg0.win 5).blk t).view.emb (ix2 y0 y1) = ix2 (row t y0) y1 := by
  blk_ext! [row, idx t]

theorem outPos6 (t : Fin cfg0.N) (y0 : Fin 512) (y1 : Fin 128) :
    ((cfg0.win 6).blk t).view.emb (ix2 y0 y1) = ix2 (row t y0) y1 := by
  blk_ext! [row, idx t]

theorem outPos7 (t : Fin cfg0.N) (y0 : Fin 512) (y1 : Fin 256) :
    ((cfg0.win 7).blk t).view.emb (ix2 y0 y1) = ix2 (row t y0) y1 := by
  blk_ext! [row, idx t]

theorem outPos8 (t : Fin cfg0.N) (y0 : Fin 512) (y1 : Fin 256) :
    ((cfg0.win 8).blk t).view.emb (ix2 y0 y1) = ix2 (row t y0) y1 := by
  blk_ext! [row, idx t]

theorem outPos9 (t : Fin cfg0.N) (y0 : Fin 512) (y1 : Fin 256) :
    ((cfg0.win 9).blk t).view.emb (ix2 y0 y1) = ix2 (row t y0) y1 := by
  blk_ext! [row, idx t]

theorem outPos10 (t : Fin cfg0.N) (y0 : Fin 512) (y1 : Fin 256) :
    ((cfg0.win 10).blk t).view.emb (ix2 y0 y1) = ix2 (row t y0) y1 := by
  blk_ext! [row, idx t]

theorem outPos11 (t : Fin cfg0.N) (y0 : Fin 512) (y1 : Fin 128) :
    ((cfg0.win 11).blk t).view.emb (ix2 y0 y1) = ix2 (row t y0) y1 := by
  blk_ext! [row, idx t]

theorem outPos12 (t : Fin cfg0.N) (y0 : Fin 512) (y1 : Fin 64) :
    ((cfg0.win 12).blk t).view.emb (ix2 y0 y1) = ix2 (row t y0) y1 := by
  blk_ext! [row, idx t]

theorem outPos13 (t : Fin cfg0.N) (y0 : Fin 512) (y1 : Fin 256) :
    ((cfg0.win 13).blk t).view.emb (ix2 y0 y1) = ix2 (row t y0) y1 := by
  blk_ext! [row, idx t]

theorem outPos14 (t : Fin cfg0.N) (y0 : Fin 512) (y1 : Fin 256) :
    ((cfg0.win 14).blk t).view.emb (ix2 y0 y1) = ix2 (row t y0) y1 := by
  blk_ext! [row, idx t]

theorem outPos15 (t : Fin cfg0.N) (y0 : Fin 512) (y1 : Fin 256) :
    ((cfg0.win 15).blk t).view.emb (ix2 y0 y1) = ix2 (row t y0) y1 := by
  blk_ext! [row, idx t]

theorem ld3 (c : Dev nD) (t : Fin cfg0.N) (k : Fin 1024) (f : Fin 1024) :
    View.ld (iblk m c 2 t : FVec Ideal S1024x3840 .bf16) r0_2 (ix2 k f)
      = (iblk m c 2 t : FVec Ideal S1024x3840 .bf16) (ix2 k ⟨0 + f.val, by omega⟩) := by
  pointwise! [r0_2]

theorem ld4 (c : Dev nD) (t : Fin cfg0.N) (k : Fin 1024) (f : Fin 1024) :
    View.ld (iblk m c 2 t : FVec Ideal S1024x3840 .bf16) r0_3 (ix2 k f)
      = (iblk m c 2 t : FVec Ideal S1024x3840 .bf16) (ix2 k ⟨1024 + f.val, by omega⟩) := by
  pointwise! [r0_3]

theorem ld5 (c : Dev nD) (t : Fin cfg0.N) (k : Fin 1024) (f : Fin 512) :
    View.ld (iblk m c 2 t : FVec Ideal S1024x3840 .bf16) r0_4 (ix2 k f)
      = (iblk m c 2 t : FVec Ideal S1024x3840 .bf16) (ix2 k ⟨2048 + f.val, by omega⟩) := by
  pointwise! [r0_4]

theorem ld6 (c : Dev nD) (t : Fin cfg0.N) (k : Fin 1024) (f : Fin 128) :
    View.ld (iblk m c 2 t : FVec Ideal S1024x3840 .bf16) r0_6 (ix2 k f)
      = (iblk m c 2 t : FVec Ideal S1024x3840 .bf16) (ix2 k ⟨2560 + f.val, by omega⟩) := by
  pointwise! [r0_6]

theorem ld7 (c : Dev nD) (t : Fin cfg0.N) (k : Fin 1024) (f : Fin 256) :
    View.ld (iblk m c 2 t : FVec Ideal S1024x3840 .bf16) r0_9 (ix2 k f)
      = (iblk m c 2 t : FVec Ideal S1024x3840 .bf16) (ix2 k ⟨2688 + f.val, by omega⟩) := by
  pointwise! [r0_9]

theorem ld8 (c : Dev nD) (t : Fin cfg0.N) (k : Fin 1024) (f : Fin 256) :
    View.ld (iblk m c 2 t : FVec Ideal S1024x3840 .bf16) r0_11 (ix2 k f)
      = (iblk m c 2 t : FVec Ideal S1024x3840 .bf16) (ix2 k ⟨2944 + f.val, by omega⟩) := by
  pointwise! [r0_11]

theorem ld9 (c : Dev nD) (t : Fin cfg0.N) (k : Fin 1024) (f : Fin 256) :
    View.ld (iblk m c 2 t : FVec Ideal S1024x3840 .bf16) r0_12 (ix2 k f)
      = (iblk m c 2 t : FVec Ideal S1024x3840 .bf16) (ix2 k ⟨3200 + f.val, by omega⟩) := by
  pointwise! [r0_12]

theorem ld10 (c : Dev nD) (t : Fin cfg0.N) (k : Fin 1024) (f : Fin 256) :
    View.ld (iblk m c 2 t : FVec Ideal S1024x3840 .bf16) r0_13 (ix2 k f)
      = (iblk m c 2 t : FVec Ideal S1024x3840 .bf16) (ix2 k ⟨3456 + f.val, by omega⟩) := by
  pointwise! [r0_13]

theorem ld11 (c : Dev nD) (t : Fin cfg0.N) (k : Fin 1024) (f : Fin 128) :
    View.ld (iblk m c 2 t : FVec Ideal S1024x3840 .bf16) r0_14 (ix2 k f)
      = (iblk m c 2 t : FVec Ideal S1024x3840 .bf16) (ix2 k ⟨3712 + f.val, by omega⟩) := by
  pointwise! [r0_14]

theorem point3 (c : Dev nD) (t : Fin cfg0.N) (y : S512x1024.Idx) :
    k0_pay5 (F := Ideal) (iblk m c 0 t) (iblk m c 1 t) (View.ld (iblk m c 2 t) r0_2) y
      = Cert.ProjSRefIdeal.Read.nq (prodOf m c) (((cfg0.win 3).blk t).view.emb y) := by
  idx_vars y
  refine Eq.trans ?_ (congrArg _ (outPos3 t y0 y1).symm)
  refine (Block.pay5_at _ _ _ y0 y1).trans ?_
  refine Eq.trans ?_ (Cert.ProjSRefIdeal.Read.nq_at _ _ _).symm
  refine congrArg (fun z : EReal => z * Ideal.ofBits .f32 0x3E000000#32) ?_
  have hw := fun k => (ld3 m c t k y1).trans (w0 m c t k y1)
  simp only [hw, norm_at, prodOf_at, keep, sum_keep, Nat.zero_add]

/-- Result array 3: what the reference lays out. -/
theorem final3 (c : Dev nD) : (dats m 0 c).arrAt 3 (cfgs 0).N
    = Cert.ProjSRefIdeal.Read.nq (prodOf m c) := by
  refine (dats m 0 c).arrAt_eq_of_covers 3 _ (by decide +kernel) fun t hf y => ?_
  blk_simp; rw [after0_3]; frame_out
  exact point3 m c t y

theorem point4 (c : Dev nD) (t : Fin cfg0.N) (y : S512x1024.Idx) :
    k0_pay6 (F := Ideal) (iblk m c 0 t) (iblk m c 1 t) (View.ld (iblk m c 2 t) r0_3) y
      = Cert.ProjSRefIdeal.Read.dq (prodOf m c) (((cfg0.win 4).blk t).view.emb y) := by
  idx_vars y
  refine Eq.trans ?_ (congrArg _ (outPos4 t y0 y1).symm)
  refine (Block.pay6_at _ _ _ y0 y1).trans ?_
  refine Eq.trans ?_ (Cert.ProjSRefIdeal.Read.dq_at _ _ _).symm
  refine congrArg (fun z : EReal => z * Ideal.ofBits .f32 0x3E000000#32) ?_
  have hw := fun k => (ld4 m c t k y1).trans (w1 m c t k y1)
  simp only [hw, norm_at, prodOf_at, keep, sum_keep]

/-- Result array 4: what the reference lays out. -/
theorem final4 (c : Dev nD) : (dats m 0 c).arrAt 4 (cfgs 0).N
    = Cert.ProjSRefIdeal.Read.dq (prodOf m c) := by
  refine (dats m 0 c).arrAt_eq_of_covers 4 _ (by decide +kernel) fun t hf y => ?_
  blk_simp; rw [after0_4]; frame_out
  exact point4 m c t y

theorem point5 (c : Dev nD) (t : Fin cfg0.N) (y : S512x512.Idx) :
    k0_pay7 (F := Ideal) (iblk m c 0 t) (iblk m c 1 t) (View.ld (iblk m c 2 t) r0_4) y
      = Cert.ProjSRefIdeal.Read.iq (prodOf m c) (((cfg0.win 5).blk t).view.emb y) := by
  idx_vars y
  refine Eq.trans ?_ (congrArg _ (outPos5 t y0 y1).symm)
  refine (Block.pay7_at _ _ _ y0 y1).trans ?_
  refine Eq.trans ?_ (Cert.ProjSRefIdeal.Read.iq_at _ _ _).symm
  have hw := fun k => (ld5 m c t k y1).trans (w2 m c t k y1)
  simp only [hw, norm_at, prodOf_at, sum_keep]

/-- Result array 5: what the reference lays out. -/
theorem final5 (c : Dev nD) : (dats m 0 c).arrAt 5 (cfgs 0).N
    = Cert.ProjSRefIdeal.Read.iq (prodOf m c) := by
  refine (dats m 0 c).arrAt_eq_of_covers 5 _ (by decide +kernel) fun t hf y => ?_
  blk_simp; rw [after0_5]; frame_out
  exact point5 m c t y

theorem point6 (c : Dev nD) (t : Fin cfg0.N) (y : S512x128.Idx) :
    k0_pay9 (F := Ideal) (k0_pay16 (iblk m c 0 t) (iblk m c 1 t) (iblk m c 2 t)) (View.ld (iblk m c 2 t) r0_6) y
      = Cert.ProjSRefIdeal.Read.ikx (prodOf m c) (((cfg0.win 6).blk t).view.emb y) := by
  idx_vars y
  refine Eq.trans ?_ (congrArg _ (outPos6 t y0 y1).symm)
  refine (Block.pay9_at _ _ y0 y1).trans ?_
  refine Eq.trans ?_ (Cert.ProjSRefIdeal.Read.ikx_at _ _ _).symm
  have hl := y1.isLt
  by_cases hy : y1.val < 64
  · rw [dif_pos hy]
    have hw := fun k => (ld6 m c t k y1).trans (w3 m c t k ⟨y1.val, hy⟩)
    simp only [hw, norm16_at, prodOf_at]
  · rw [dif_neg hy]
    have e : (⟨2560 + y1.val, by omega⟩ : Fin 3840) = ⟨2624 + (y1.val - 64), by omega⟩ := Fin.ext (by simp only []; omega)
    have hw := fun k => (ld6 m c t k y1).trans ((congrArg (fun z => (iblk m c 2 t : FVec Ideal S1024x3840 .bf16) (ix2 k z)) e).trans
      (w4 m c t k ⟨y1.val - 64, by omega⟩))
    simp only [hw, sum_zero]

/-- Result array 6: what the reference lays out. -/
theorem final6 (c : Dev nD) : (dats m 0 c).arrAt 6 (cfgs 0).N
    = Cert.ProjSRefIdeal.Read.ikx (prodOf m c) := by
  refine (dats m 0 c).arrAt_eq_of_covers 6 _ (by decide +kernel) fun t hf y => ?_
  blk_simp; rw [after0_6]; frame_out
  exact point6 m c t y

theorem point11 (c : Dev nD) (t : Fin cfg0.N) (y : S512x128.Idx) :
    k0_pay3 (F := Ideal) (k0_pay16 (iblk m c 0 t) (iblk m c 1 t) (iblk m c 2 t)) (View.ld (iblk m c 2 t) r0_14) y
      = Cert.ProjSRefIdeal.Read.misc (prodOf m c) (((cfg0.win 11).blk t).view.emb y) := by
  idx_vars y
  refine Eq.trans ?_ (congrArg _ (outPos11 t y0 y1).symm)
  refine (Block.pay3_at _ _ y0 y1).trans ?_
  refine Eq.trans ?_ (Cert.ProjSRefIdeal.Read.misc_at _ _ _).symm
  have hl := y1.isLt
  by_cases hy : y1.val < 4
  · rw [if_pos hy]
    have hw := fun k => (ld11 m c t k y1).trans (w9 m c t k ⟨y1.val, hy⟩)
    simp only [hw, norm16_at, prodOf_at]
  · rw [if_neg hy]
    by_cases hz : y1.val < 28
    · rw [if_pos hz]
      have e : (⟨3712 + y1.val, by omega⟩ : Fin 3840) = ⟨3716 + (y1.val - 4), by omega⟩ := Fin.ext (by simp only []; omega)
      have e' : (⟨1280 + (y1.val - 4), by omega⟩ : Fin 4444) = ⟨1276 + y1.val, by omega⟩ := Fin.ext (by simp only []; omega)
      have hw := fun k => (ld11 m c t k y1).trans ((congrArg (fun z => (iblk m c 2 t : FVec Ideal S1024x3840 .bf16) (ix2 k z)) e).trans
        ((w10 m c t k ⟨y1.val - 4, by omega⟩).trans (congrArg (fun z => W m c (ix2 k z)) e')))
      simp only [hw, norm16_at, prodOf_at]
    · rw [if_neg hz]
      have e : (⟨3712 + y1.val, by omega⟩ : Fin 3840) = ⟨3740 + (y1.val - 28), by omega⟩ := Fin.ext (by simp only []; omega)
      have hw := fun k => (ld11 m c t k y1).trans ((congrArg (fun z => (iblk m c 2 t : FVec Ideal S1024x3840 .bf16) (ix2 k z)) e).trans
        (w11 m c t k ⟨y1.val - 28, by omega⟩))
      simp only [hw, sum_zero]

/-- Result array 11: what the reference lays out. -/
theorem final11 (c : Dev nD) : (dats m 0 c).arrAt 11 (cfgs 0).N
    = Cert.ProjSRefIdeal.Read.misc (prodOf m c) := by
  refine (dats m 0 c).arrAt_eq_of_covers 11 _ (by decide +kernel) fun t hf y => ?_
  blk_simp; rw [after0_11]; frame_out
  exact point11 m c t y

theorem point7 (c : Dev nD) (t : Fin cfg0.N) (y : S512x256.Idx) :
    k0_pay11 (F := Ideal) (k0_pay16 (iblk m c 0 t) (iblk m c 1 t) (iblk m c 2 t)) (View.ld (iblk m c 2 t) r0_9) y
      = Cert.ProjSRefIdeal.Read.ckv (prodOf m c) (((cfg0.win 7).blk t).view.emb y) := by
  idx_vars y
  refine Eq.trans ?_ (congrArg _ (outPos7 t y0 y1).symm)
  refine (Block.pay11_at _ _ y0 y1).trans ?_
  refine Eq.trans ?_ (Cert.ProjSRefIdeal.Read.ckv_at _ _ _).symm
  have hw := fun k => (ld7 m c t k y1).trans (w5 m c t k y1)
  simp only [hw, norm16_at, prodOf_at]

/-- Result array 7: what the reference lays out. -/
theorem final7 (c : Dev nD) : (dats m 0 c).arrAt 7 (cfgs 0).N
    = Cert.ProjSRefIdeal.Read.ckv (prodOf m c) := by
  refine (dats m 0 c).arrAt_eq_of_covers 7 _ (by decide +kernel) fun t hf y => ?_
  blk_simp; rw [after0_7]; frame_out
  exact point7 m c t y

theorem point8 (c : Dev nD) (t : Fin cfg0.N) (y : S512x256.Idx) :
    k0_pay12 (F := Ideal) (k0_pay16 (iblk m c 0 t) (iblk m c 1 t) (iblk m c 2 t)) (View.ld (iblk m c 2 t) r0_11) y
      = Cert.ProjSRefIdeal.Read.skv (prodOf m c) (((cfg0.win 8).blk t).view.emb y) := by
  idx_vars y
  refine Eq.trans ?_ (congrArg _ (outPos8 t y0 y1).symm)
  refine (Block.pay12_at _ _ y0 y1).trans ?_
  refine Eq.trans ?_ (Cert.ProjSRefIdeal.Read.skv_at _ _ _).symm
  have hw := fun k => (ld8 m c t k y1).trans (w6 m c t k y1)
  simp only [hw, norm16_at, prodOf_at]

/-- Result array 8: what the reference lays out. -/
theorem final8 (c : Dev nD) : (dats m 0 c).arrAt 8 (cfgs 0).N
    = Cert.ProjSRefIdeal.Read.skv (prodOf m c) := by
  refine (dats m 0 c).arrAt_eq_of_covers 8 _ (by decide +kernel) fun t hf y => ?_
  blk_simp; rw [after0_8]; frame_out
  exact point8 m c t y

theorem point13 (c : Dev nD) (t : Fin cfg0.N) (y : S512x256.Idx) :
    k0_pay13 (F := Ideal) (k0_pay16 (iblk m c 0 t) (iblk m c 1 t) (iblk m c 2 t)) (View.ld (iblk m c 2 t) r0_11) y
      = Cert.ProjSRefIdeal.Read.skvb (prodOf m c) (((cfg0.win 13).blk t).view.emb y) := by
  idx_vars y
  refine Eq.trans ?_ (congrArg _ (outPos13 t y0 y1).symm)
  refine (Block.pay13_at _ _ y0 y1).trans ?_
  refine Eq.trans ?_ (Cert.ProjSRefIdeal.Read.skvb_at _ _ _).symm
  have hw := fun k => (ld8 m c t k y1).trans (w6 m c t k y1)
  simp only [hw, norm16_at, prodOf_at]

/-- Result array 13: what the reference lays out. -/
theorem final13 (c : Dev nD) : (dats m 0 c).arrAt 13 (cfgs 0).N
    = Cert.ProjSRefIdeal.Read.skvb (prodOf m c) := by
  refine (dats m 0 c).arrAt_eq_of_covers 13 _ (by decide +kernel) fun t hf y => ?_
  blk_simp; rw [after0_13]; frame_out
  exact point13 m c t y

theorem point9 (c : Dev nD) (t : Fin cfg0.N) (y : S512x256.Idx) :
    k0_pay14 (F := Ideal) (k0_pay16 (iblk m c 0 t) (iblk m c 1 t) (iblk m c 2 t)) (View.ld (iblk m c 2 t) r0_12) y
      = Cert.ProjSRefIdeal.Read.wkv (prodOf m c) (((cfg0.win 9).blk t).view.emb y) := by
  idx_vars y
  refine Eq.trans ?_ (congrArg _ (outPos9 t y0 y1).symm)
  refine (Block.pay14_at _ _ y0 y1).trans ?_
  refine Eq.trans ?_ (Cert.ProjSRefIdeal.Read.wkv_at _ _ _).symm
  have hw := fun k => (ld9 m c t k y1).trans (w7 m c t k y1)
  simp only [hw, norm16_at, prodOf_at]

/-- Result array 9: what the reference lays out. -/
theorem final9 (c : Dev nD) : (dats m 0 c).arrAt 9 (cfgs 0).N
    = Cert.ProjSRefIdeal.Read.wkv (prodOf m c) := by
  refine (dats m 0 c).arrAt_eq_of_covers 9 _ (by decide +kernel) fun t hf y => ?_
  blk_simp; rw [after0_9]; frame_out
  exact point9 m c t y

theorem point14 (c : Dev nD) (t : Fin cfg0.N) (y : S512x256.Idx) :
    k0_pay15 (F := Ideal) (k0_pay16 (iblk m c 0 t) (iblk m c 1 t) (iblk m c 2 t)) (View.ld (iblk m c 2 t) r0_12) y
      = Cert.ProjSRefIdeal.Read.wkvb (prodOf m c) (((cfg0.win 14).blk t).view.emb y) := by
  idx_vars y
  refine Eq.trans ?_ (congrArg _ (outPos14 t y0 y1).symm)
  refine (Block.pay15_at _ _ y0 y1).trans ?_
  refine Eq.trans ?_ (Cert.ProjSRefIdeal.Read.wkvb_at _ _ _).symm
  have hw := fun k => (ld9 m c t k y1).trans (w7 m c t k y1)
  simp only [hw, norm16_at, prodOf_at]

/-- Result array 14: what the reference lays out. -/
theorem final14 (c : Dev nD) : (dats m 0 c).arrAt 14 (cfgs 0).N
    = Cert.ProjSRefIdeal.Read.wkvb (prodOf m c) := by
  refine (dats m 0 c).arrAt_eq_of_covers 14 _ (by decide +kernel) fun t hf y => ?_
  blk_simp; rw [after0_14]; frame_out
  exact point14 m c t y

theorem point10 (c : Dev nD) (t : Fin cfg0.N) (y : S512x256.Idx) :
    k0_pay1 (F := Ideal) (k0_pay16 (iblk m c 0 t) (iblk m c 1 t) (iblk m c 2 t)) (View.ld (iblk m c 2 t) r0_13) y
      = Cert.ProjSRefIdeal.Read.dkv (prodOf m c) (((cfg0.win 10).blk t).view.emb y) := by
  idx_vars y
  refine Eq.trans ?_ (congrArg _ (outPos10 t y0 y1).symm)
  refine (Block.pay1_at _ _ y0 y1).trans ?_
  refine Eq.trans ?_ (Cert.ProjSRefIdeal.Read.dkv_at _ _ _).symm
  have hw := fun k => (ld10 m c t k y1).trans (w8 m c t k y1)
  simp only [hw, norm16_at, prodOf_at]

/-- Result array 10: what the reference lays out. -/
theorem final10 (c : Dev nD) : (dats m 0 c).arrAt 10 (cfgs 0).N
    = Cert.ProjSRefIdeal.Read.dkv (prodOf m c) := by
  refine (dats m 0 c).arrAt_eq_of_covers 10 _ (by decide +kernel) fun t hf y => ?_
  blk_simp; rw [after0_10]; frame_out
  exact point10 m c t y

theorem point15 (c : Dev nD) (t : Fin cfg0.N) (y : S512x256.Idx) :
    k0_pay2 (F := Ideal) (k0_pay16 (iblk m c 0 t) (iblk m c 1 t) (iblk m c 2 t)) (View.ld (iblk m c 2 t) r0_13) y
      = Cert.ProjSRefIdeal.Read.dkvb (prodOf m c) (((cfg0.win 15).blk t).view.emb y) := by
  idx_vars y
  refine Eq.trans ?_ (congrArg _ (outPos15 t y0 y1).symm)
  refine (Block.pay2_at _ _ y0 y1).trans ?_
  refine Eq.trans ?_ (Cert.ProjSRefIdeal.Read.dkvb_at _ _ _).symm
  have hw := fun k => (ld10 m c t k y1).trans (w8 m c t k y1)
  simp only [hw, norm16_at, prodOf_at]

/-- Result array 15: what the reference lays out. -/
theorem final15 (c : Dev nD) : (dats m 0 c).arrAt 15 (cfgs 0).N
    = Cert.ProjSRefIdeal.Read.dkvb (prodOf m c) := by
  refine (dats m 0 c).arrAt_eq_of_covers 15 _ (by decide +kernel) fun t hf y => ?_
  blk_simp; rw [after0_15]; frame_out
  exact point15 m c t y

theorem point12 (c : Dev nD) (t : Fin cfg0.N) (y : S512x64.Idx) :
    k0_pay10 (F := Ideal) (k0_pay16 (iblk m c 0 t) (iblk m c 1 t) (iblk m c 2 t)) (View.ld (iblk m c 2 t) r0_6) y
      = Cert.ProjSRefIdeal.Read.ik (prodOf m c) (((cfg0.win 12).blk t).view.emb y) := by
  idx_vars y
  refine Eq.trans ?_ (congrArg _ (outPos12 t y0 y1).symm)
  refine (Block.pay10_at _ _ y0 y1).trans ?_
  refine Eq.trans ?_ (Cert.ProjSRefIdeal.Read.ik_at _ _ _).symm
  have hw := fun k => (ld6 m c t k ⟨y1.val, by omega⟩).trans (w3 m c t k y1)
  simp only [hw, norm16_at, prodOf_at]

/-- Result array 12: what the reference lays out. -/
theorem final12 (c : Dev nD) : (dats m 0 c).arrAt 12 (cfgs 0).N
    = Cert.ProjSRefIdeal.Read.ik (prodOf m c) := by
  refine (dats m 0 c).arrAt_eq_of_covers 12 _ (by decide +kernel) fun t hf y => ?_
  blk_simp; rw [after0_12]; frame_out
  exact point12 m c t y

end Cert.ProjSIdeal.Whole

end
-- ==== Proof.ProjSRun.lean ====
/- The projection call at the sample's rows, with the host lines after it: what every result holds at the end. -/
module

public import proofs.«01_k».proof.Proof.Gen.ProjSIdeal.Frame
public import Idealize.ShloMosaic.Lib.Pipeline.ValueKit
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem

namespace Cert.ProjSIdeal.Whole

open Cert.ProjSIdeal Cert.ProjSIdeal.Gen

variable {F : FTy → Type} [FloatOps F]
variable (m : (ℓ : Loc nD τ sig) → Buf (Elt F) ℓ) (ρ : Dev nD → PrngReg)

/-- The new window: the old window's rows and the new rows after them, without the oldest four. -/
def slide (old : FVec F S128x512x2x2x64 .f32) (new : FVec F S512x256 .f32) : FVec F S128x512x2x2x64 .f32 :=
  extractStridedSlice S128x512x2x2x64 ![0, 4, 0, 0, 0]
    (concatenate S128x516x2x2x64 1 [⟨S128x512x2x2x64, old⟩,
      ⟨S128x4x2x2x64, shapeCast S128x4x2x2x64 new shapeCasts_S512x256_S128x4x2x2x64⟩]
      concatenates_S128x512x2x2x64_S128x4x2x2x64_S128x516x2x2x64_d1) slices_S128x516x2x2x64_S128x512x2x2x64_0_4_0_0_0

/-- The host lines after the call leave the new window in their last buffer. -/
theorem tail_window (c : Dev nD) :
    Pipeline.afterTail₀ cfgs (dats m) 0 (V0 m) [hostOps1] c main_v38
      = slide (m ((c : Thread nD τ).loc main_arg3)) ((dats m 0 c).arrAt 9 cfg0.N) := by
  have e3 := Pipeline.withArrays_of_ne spec0 c (V0 m c) (fun w => (dats m 0 c).arrAt w cfg0.N) main_arg3
    (by exact (by decide : ∀ w, Pipeline.arrRef spec0 w ≠ main_arg3))
  have e6 := Pipeline.withArrays_arr spec0 launch0.win.arr_inj c (V0 m c) (fun w => (dats m 0 c).arrAt w cfg0.N) 9
  have v3 : V0 m c (Proc.devRef .tc main_arg3) = m ((c : Thread nD τ).loc main_arg3) := V_main_arg3 m c
  unfold Pipeline.afterTail₀
  simp only [hostOps1, List.flatten_cons, List.flatten_nil, List.append_nil, StableHlo.after_cons, StableHlo.after_nil]
  after_results_simp
  refine congrArg₂ (fun a b => extractStridedSlice S128x512x2x2x64 ![0, 4, 0, 0, 0]
    (concatenate S128x516x2x2x64 1 [⟨S128x512x2x2x64, a⟩, ⟨S128x4x2x2x64, b⟩]
      concatenates_S128x512x2x2x64_S128x4x2x2x64_S128x516x2x2x64_d1) slices_S128x516x2x2x64_S128x512x2x2x64_0_4_0_0_0) ?_ ?_
  · after_results_simp
    exact e3.trans v3
  · after_results_simp
    exact congrArg (fun v => shapeCast S128x4x2x2x64 v shapeCasts_S512x256_S128x4x2x2x64) e6

/-- What the machine holds after the call and the host lines that follow it. -/
abbrev Post := Pipeline.FramePost cfgs (dats m) 0 (Pipeline.afterTail₀ cfgs (dats m) 0 (V0 m) [hostOps1])

section post

variable (r : PUnit × MemSt nD τ sig (Elt F)) (h : Post m r) (c : Dev nD)
include h

theorem post7 : r.2.mem ((c : Thread nD τ).loc main_v35_4) = (dats m 0 c).arrAt 7 cfg0.N := (h c).1 7
theorem post8 : r.2.mem ((c : Thread nD τ).loc main_v35_5) = (dats m 0 c).arrAt 8 cfg0.N := (h c).1 8
theorem post10 : r.2.mem ((c : Thread nD τ).loc main_v35_7) = (dats m 0 c).arrAt 10 cfg0.N := (h c).1 10
theorem post12 : r.2.mem ((c : Thread nD τ).loc main_v35_9) = (dats m 0 c).arrAt 12 cfg0.N := (h c).1 12
theorem post9 : r.2.mem ((c : Thread nD τ).loc main_v35_6) = (dats m 0 c).arrAt 9 cfg0.N := (h c).1 9
theorem post3 : r.2.mem ((c : Thread nD τ).loc main_v35_0) = (dats m 0 c).arrAt 3 cfg0.N := (h c).1 3
theorem post4 : r.2.mem ((c : Thread nD τ).loc main_v35_1) = (dats m 0 c).arrAt 4 cfg0.N := (h c).1 4
theorem post5 : r.2.mem ((c : Thread nD τ).loc main_v35_2) = (dats m 0 c).arrAt 5 cfg0.N := (h c).1 5
theorem post6 : r.2.mem ((c : Thread nD τ).loc main_v35_3) = (dats m 0 c).arrAt 6 cfg0.N := (h c).1 6
theorem post11 : r.2.mem ((c : Thread nD τ).loc main_v35_8) = (dats m 0 c).arrAt 11 cfg0.N := (h c).1 11
theorem post13 : r.2.mem ((c : Thread nD τ).loc main_v35_10) = (dats m 0 c).arrAt 13 cfg0.N := (h c).1 13
theorem post14 : r.2.mem ((c : Thread nD τ).loc main_v35_11) = (dats m 0 c).arrAt 14 cfg0.N := (h c).1 14
theorem post15 : r.2.mem ((c : Thread nD τ).loc main_v35_12) = (dats m 0 c).arrAt 15 cfg0.N := (h c).1 15
theorem post_window : r.2.mem ((c : Thread nD τ).loc main_v38)
    = slide (m ((c : Thread nD τ).loc main_arg3)) ((dats m 0 c).arrAt 9 cfg0.N) :=
  ((h c).2 main_v38 (Pipeline.mem_restRefs_of main_v38 (by decide) (by decide))).trans (tail_window m c)

end post

set_option maxHeartbeats 1000000 in
/-- The run: the call's arrays as its grid leaves them, the new window, and the arguments as they were. -/
theorem run : θ_run defs (onTc (τ := τ) (main (F := F))) ⟨m, fun _ => 0, ρ⟩ fun r => ∀ c : Dev nD,
    r.2.mem ((c : Thread nD τ).loc main_v35_4) = (dats m 0 c).arrAt 7 cfg0.N
    ∧ r.2.mem ((c : Thread nD τ).loc main_v35_5) = (dats m 0 c).arrAt 8 cfg0.N
    ∧ r.2.mem ((c : Thread nD τ).loc main_v35_7) = (dats m 0 c).arrAt 10 cfg0.N
    ∧ r.2.mem ((c : Thread nD τ).loc main_v35_9) = (dats m 0 c).arrAt 12 cfg0.N
    ∧ r.2.mem ((c : Thread nD τ).loc main_v35_6) = (dats m 0 c).arrAt 9 cfg0.N
    ∧ r.2.mem ((c : Thread nD τ).loc main_v35_0) = (dats m 0 c).arrAt 3 cfg0.N
    ∧ r.2.mem ((c : Thread nD τ).loc main_v35_1) = (dats m 0 c).arrAt 4 cfg0.N
    ∧ r.2.mem ((c : Thread nD τ).loc main_v35_2) = (dats m 0 c).arrAt 5 cfg0.N
    ∧ r.2.mem ((c : Thread nD τ).loc main_v35_3) = (dats m 0 c).arrAt 6 cfg0.N
    ∧ r.2.mem ((c : Thread nD τ).loc main_v35_8) = (dats m 0 c).arrAt 11 cfg0.N
    ∧ r.2.mem ((c : Thread nD τ).loc main_v35_10) = (dats m 0 c).arrAt 13 cfg0.N
    ∧ r.2.mem ((c : Thread nD τ).loc main_v35_11) = (dats m 0 c).arrAt 14 cfg0.N
    ∧ r.2.mem ((c : Thread nD τ).loc main_v35_12) = (dats m 0 c).arrAt 15 cfg0.N
    ∧ r.2.mem ((c : Thread nD τ).loc main_v38) = slide (m ((c : Thread nD τ).loc main_arg3)) ((dats m 0 c).arrAt 9 cfg0.N)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨post7 m r h.1 c,
      post8 m r h.1 c,
      post10 m r h.1 c,
      post12 m r h.1 c,
      post9 m r h.1 c,
      post3 m r h.1 c,
      post4 m r h.1 c,
      post5 m r h.1 c,
      post6 m r h.1 c,
      post11 m r h.1 c,
      post13 m r h.1 c,
      post14 m r h.1 c,
      post15 m r h.1 c,
      post_window m r h.1 c, h.2 c⟩)
    (θ_run_and (run_main m ρ) (unchanged m ρ))

end Cert.ProjSIdeal.Whole

end
-- ==== Proof.ProjSClaim.lean ====
/- The projection at the sample's rows, with the new window, computes its reference. -/
module

public import proofs.«01_k».proof.Defs
public import proofs.«01_k».proof.Proof.ProjSValue
public import proofs.«01_k».proof.Proof.ProjSRun

@[expose] public section

set_option maxRecDepth 16384

noncomputable section

open Idealize.ShloMosaic Idealize.SL.Sem

namespace Cert.ProjSValue

set_option maxHeartbeats 1000000 in
/-- From memories that agree on the arguments the kernel and its reference end with equal results. -/
theorem algebraic : Cert.algebraic_ProjSIdeal_ProjSRefIdeal (hProjSIdeal := Cert.ProjSIdeal.Gen.facts)
    (hProjSRefIdeal := Cert.ProjSRefIdeal.Gen.facts) := by
  pair_intro
  · run_from Cert.ProjSIdeal.Whole.run m g
  · run_from Cert.ProjSRefIdeal.Value.run m' g'
    · exact (Cert.ProjSIdeal.Whole.final7 m c).symm
    · exact (Cert.ProjSIdeal.Whole.final8 m c).symm
    · exact (Cert.ProjSIdeal.Whole.final10 m c).symm
    · exact (Cert.ProjSIdeal.Whole.final12 m c).symm
    · exact (Cert.ProjSIdeal.Whole.final9 m c).symm
    · exact (Cert.ProjSIdeal.Whole.final3 m c).symm
    · exact (Cert.ProjSIdeal.Whole.final4 m c).symm
    · exact (Cert.ProjSIdeal.Whole.final5 m c).symm
    · exact (Cert.ProjSIdeal.Whole.final6 m c).symm
    · exact (Cert.ProjSIdeal.Whole.final11 m c).symm
    · exact (Cert.ProjSIdeal.Whole.final13 m c).symm
    · exact (Cert.ProjSIdeal.Whole.final14 m c).symm
    · exact (Cert.ProjSIdeal.Whole.final15 m c).symm
    · refine Eq.trans ?_ (congrArg (Cert.ProjSIdeal.Whole.slide (m (c.tc.loc Cert.ProjSIdeal.main_arg3)))
        (Cert.ProjSIdeal.Whole.final9 m c).symm)
      exact congrArg (fun w => Cert.ProjSIdeal.Whole.slide w (Cert.ProjSRefIdeal.Read.wkv (Cert.ProjSIdeal.Whole.prodOf m c)))
        (hagree c).2.2.2

end Cert.ProjSValue

end
-- ==== Proof.CompressRow.lean ====
/- The mathematics of the block compression, one block at a time over the extended reals: the hidden row of a block
   of two strides, the gate, and the sums over stride positions and lanes cut as the kernel lays them out. -/
module

public import Idealize.ShloMosaic.Lib.Pointwise
public import Idealize.ShloMosaic.PureOps.Ideal
public import Idealize.ShloMosaic.Lib.Pipeline.ValueKit

@[expose] public section

noncomputable section

namespace Cert.CompressRow

open Idealize.ShloMosaic

/-- The tanh form of the Gaussian error unit, with the words both programs write. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The stride after stride `n`; the last stride is followed by the first. -/
def next (n : Fin 512) : Fin 512 := ⟨(n.val + 1) % 512, Nat.mod_lt _ (by decide)⟩

/-- Hidden feature `q` of the block that starts at stride `n`: the strides `A`, the two rows `P` of positions, the
    weight `W` (its first 256 columns for a block's first stride, its last 256 for the second), the bias `b`. -/
def hid (A : Fin 512 → Fin 2048 → EReal) (P : Fin 2 → Fin 2048 → EReal) (W : Fin 2048 → Fin 512 → EReal)
    (b : Fin 256 → EReal) (n : Fin 512) (q : Fin 256) : EReal :=
  ((∑ k, A n k * W k ⟨q.val, by omega⟩) + ∑ k, A (next n) k * W k ⟨256 + q.val, by omega⟩)
    + ((b q + ∑ k, P 0 k * W k ⟨q.val, by omega⟩) + ∑ k, P 1 k * W k ⟨256 + q.val, by omega⟩)

/-- Lane `e` of the block that starts at stride `n`. -/
def blk (A : Fin 512 → Fin 2048 → EReal) (P : Fin 2 → Fin 2048 → EReal) (W : Fin 2048 → Fin 512 → EReal)
    (b : Fin 256 → EReal) (V : Fin 256 → Fin 128 → EReal) (n : Fin 512) (e : Fin 128) : EReal :=
  ∑ q, gelu (hid A P W b n q) * V q e

/-- A sum over the 2048 lanes of a stride is the sum over its 16 positions, two heads and 64 columns. -/
theorem sum_lanes (f : Fin 2048 → EReal) :
    ∑ k, f k = ∑ l : Fin 16, ∑ h : Fin 2, ∑ d : Fin 64, f ⟨l.val * 128 + (h.val * 64 + d.val), by omega⟩ := by
  rw [← Fin.sum_mul_add_fin 16 128 (fun k => f k)]
  refine Finset.sum_congr rfl fun l _ => ?_
  rw [← Fin.sum_mul_add_fin 2 64 (fun k : Fin 128 => f ⟨l.val * 128 + k.val, by omega⟩)]

/-- A sum over a stride's lanes that only head `h`'s lanes contribute to. -/
theorem sum_head (f : Fin 2048 → EReal) (h : Fin 2) (hz : ∀ k : Fin 2048, k.val / 64 % 2 ≠ h.val → f k = 0) :
    ∑ k, f k = ∑ l : Fin 16, ∑ d : Fin 64, f ⟨l.val * 128 + (h.val * 64 + d.val), by omega⟩ := by
  rw [sum_lanes]
  refine Finset.sum_congr rfl fun l _ => ?_
  rw [Finset.sum_eq_single h]
  · intro b _ hb
    refine Finset.sum_eq_zero fun d _ => hz _ fun he => hb (Fin.ext ?_)
    have e : (l.val * 128 + (b.val * 64 + d.val)) / 64 % 2 = b.val := by omega
    exact e.symm.trans he
  · intro hb; exact absurd (Finset.mem_univ h) hb

/-- A sum over 256 hidden features that only head `h`'s contribute to. -/
theorem sum_feat (f : Fin 256 → EReal) (h : Fin 2) (hz : ∀ q : Fin 256, q.val / 128 ≠ h.val → f q = 0) :
    ∑ q, f q = ∑ k : Fin 128, f ⟨h.val * 128 + k.val, by omega⟩ := by
  rw [← Fin.sum_mul_add_fin 2 128 (fun k : Fin 256 => f k), Finset.sum_eq_single h]
  · intro b _ hb
    refine Finset.sum_eq_zero fun d _ => hz _ fun he => hb (Fin.ext ?_)
    have e : (b.val * 128 + d.val) / 128 = b.val := by omega
    exact e.symm.trans he
  · intro hb; exact absurd (Finset.mem_univ h) hb

/-- The hidden feature of the block that starts at stride `n`, for one head: the strides `X` by position and column,
    the block's 32 positions `pe`, the feature's weight `w` by position and column, the bias `b`. -/
def hidS (X : Fin 512 → Fin 16 → Fin 64 → EReal) (pe w : Fin 32 → Fin 64 → EReal) (b : EReal) (n : Fin 512) : EReal :=
  ((∑ l : Fin 16, ∑ d, X n l d * w ⟨l.val, by omega⟩ d) + ∑ l : Fin 16, ∑ d, X (next n) l d * w ⟨16 + l.val, by omega⟩ d)
    + ((b + ∑ l : Fin 16, ∑ d, pe ⟨l.val, by omega⟩ d * w ⟨l.val, by omega⟩ d)
      + ∑ l : Fin 16, ∑ d, pe ⟨16 + l.val, by omega⟩ d * w ⟨16 + l.val, by omega⟩ d)

/-- A weight laid out for both heads, zero where its lane and its feature are of different heads, gives each head's
    hidden feature. -/
theorem hid_head (A : Fin 512 → Fin 2048 → EReal) (P : Fin 2 → Fin 2048 → EReal) (W : Fin 2048 → Fin 512 → EReal)
    (b : Fin 256 → EReal) (X : Fin 512 → Fin 16 → Fin 64 → EReal) (pe w : Fin 32 → Fin 64 → EReal) (h : Fin 2) (q : Fin 256)
    (hA : ∀ n (l : Fin 16) (d : Fin 64), A n ⟨l.val * 128 + (h.val * 64 + d.val), by omega⟩ = X n l d)
    (hP0 : ∀ (l : Fin 16) (d : Fin 64), P 0 ⟨l.val * 128 + (h.val * 64 + d.val), by omega⟩ = pe ⟨l.val, by omega⟩ d)
    (hP1 : ∀ (l : Fin 16) (d : Fin 64), P 1 ⟨l.val * 128 + (h.val * 64 + d.val), by omega⟩ = pe ⟨16 + l.val, by omega⟩ d)
    (hW0 : ∀ (l : Fin 16) (d : Fin 64), W ⟨l.val * 128 + (h.val * 64 + d.val), by omega⟩ ⟨q.val, by omega⟩ = w ⟨l.val, by omega⟩ d)
    (hW1 : ∀ (l : Fin 16) (d : Fin 64), W ⟨l.val * 128 + (h.val * 64 + d.val), by omega⟩ ⟨256 + q.val, by omega⟩
      = w ⟨16 + l.val, by omega⟩ d)
    (z0 : ∀ k : Fin 2048, k.val / 64 % 2 ≠ h.val → W k ⟨q.val, by omega⟩ = 0)
    (z1 : ∀ k : Fin 2048, k.val / 64 % 2 ≠ h.val → W k ⟨256 + q.val, by omega⟩ = 0) (n : Fin 512) :
    hid A P W b n q = hidS X pe w (b q) n := by
  unfold hid hidS
  rw [sum_head (fun k => A n k * W k ⟨q.val, by omega⟩) h fun k hk => by rw [z0 k hk, mul_zero],
    sum_head (fun k => A (next n) k * W k ⟨256 + q.val, by omega⟩) h fun k hk => by rw [z1 k hk, mul_zero],
    sum_head (fun k => P 0 k * W k ⟨q.val, by omega⟩) h fun k hk => by rw [z0 k hk, mul_zero],
    sum_head (fun k => P 1 k * W k ⟨256 + q.val, by omega⟩) h fun k hk => by rw [z1 k hk, mul_zero]]
  simp only [hA, hP0, hP1, hW0, hW1]

/-- The second weight laid out for both heads, zero where its feature and its lane are of different heads, gives each
    head's output. -/
theorem blk_head (A : Fin 512 → Fin 2048 → EReal) (P : Fin 2 → Fin 2048 → EReal) (W : Fin 2048 → Fin 512 → EReal)
    (b : Fin 256 → EReal) (V : Fin 256 → Fin 128 → EReal) (g : Fin 128 → EReal) (v : Fin 128 → EReal) (n : Fin 512)
    (e : Fin 128) (h : Fin 2)
    (hg : ∀ f : Fin 128, hid A P W b n ⟨h.val * 128 + f.val, by omega⟩ = g f)
    (hV : ∀ f : Fin 128, V ⟨h.val * 128 + f.val, by omega⟩ e = v f)
    (hz : ∀ q : Fin 256, q.val / 128 ≠ h.val → V q e = 0) :
    blk A P W b V n e = ∑ f, gelu (g f) * v f := by
  unfold blk
  rw [sum_feat (fun q => gelu (hid A P W b n q) * V q e) h fun q hq => by rw [hz q hq, mul_zero]]
  simp only [hg, hV]

/-- A sum over a block's 32 positions is the sum over its first 16 and its last 16. -/
theorem sum_block (f : Fin 32 → EReal) :
    ∑ l, f l = (∑ l : Fin 16, f ⟨l.val, by omega⟩) + ∑ l : Fin 16, f ⟨16 + l.val, by omega⟩ := by
  exact Fin.sum_univ_add (a := 16) (b := 16) f

end Cert.CompressRow

end
-- ==== Proof.CompressBlock.lean ====
/- What one grid point of the block compression stores, a block at a time. -/
module

public import proofs.«01_k».proof.Proof.CompressRow
public import proofs.«01_k».proof.Proof.Gen.CompressIdeal.Skeleton
public import Idealize.ShloMosaic.Lib.Pipeline.ValueKit

@[expose] public section

set_option maxRecDepth 16384

noncomputable section

open Idealize.ShloMosaic Idealize.ShloMosaic.TcCoe Idealize.SL.Sem
open scoped BigOperators

namespace Cert.CompressIdeal.Block

open Cert.CompressIdeal Cert.CompressIdeal.Gen Cert.CompressRow

/-- Sixteen 512-row pieces laid side by side, at a row and a column. -/
theorem join_at (f : Fin 16 → FVec Ideal S512x128 .f32) (h) (n : Fin 512) (k : Fin 2048) :
    concatenate S512x2048 1 [⟨S512x128, f 0⟩, ⟨S512x128, f 1⟩, ⟨S512x128, f 2⟩, ⟨S512x128, f 3⟩, ⟨S512x128, f 4⟩,
      ⟨S512x128, f 5⟩, ⟨S512x128, f 6⟩, ⟨S512x128, f 7⟩, ⟨S512x128, f 8⟩, ⟨S512x128, f 9⟩, ⟨S512x128, f 10⟩,
      ⟨S512x128, f 11⟩, ⟨S512x128, f 12⟩, ⟨S512x128, f 13⟩, ⟨S512x128, f 14⟩, ⟨S512x128, f 15⟩] h (ix2 n k)
      = f ⟨k.val / 128, by omega⟩ (ix2 n ⟨k.val % 128, by omega⟩) := by
  refine concatenate_ofFn_apply (t := S512x2048) (s₁ := S512x128) 1 f h rfl 128 rfl (ix2 n k) ⟨k.val / 128, by omega⟩ rfl
    (ix2 n ⟨k.val % 128, by omega⟩) rfl ?_
  intro b hb
  fin_cases b
  · rfl
  · exact absurd rfl hb

/-- Sixteen 8-row pieces laid side by side, at a row and a column. -/
theorem join8_at (f : Fin 16 → FVec Ideal S8x128 .f32) (h) (n : Fin 8) (k : Fin 2048) :
    concatenate S8x2048 1 [⟨S8x128, f 0⟩, ⟨S8x128, f 1⟩, ⟨S8x128, f 2⟩, ⟨S8x128, f 3⟩, ⟨S8x128, f 4⟩,
      ⟨S8x128, f 5⟩, ⟨S8x128, f 6⟩, ⟨S8x128, f 7⟩, ⟨S8x128, f 8⟩, ⟨S8x128, f 9⟩, ⟨S8x128, f 10⟩,
      ⟨S8x128, f 11⟩, ⟨S8x128, f 12⟩, ⟨S8x128, f 13⟩, ⟨S8x128, f 14⟩, ⟨S8x128, f 15⟩] h (ix2 n k)
      = f ⟨k.val / 128, by omega⟩ (ix2 n ⟨k.val % 128, by omega⟩) := by
  refine concatenate_ofFn_apply (t := S8x2048) (s₁ := S8x128) 1 f h rfl 128 rfl (ix2 n k) ⟨k.val / 128, by omega⟩ rfl
    (ix2 n ⟨k.val % 128, by omega⟩) rfl ?_
  intro b hb
  fin_cases b
  · rfl
  · exact absurd rfl hb

/-- A slice of a block of strides: position `l`, the lanes from `o` on. -/
def piece (x : FVec Ideal S1x512x4096 .f32) (o : Nat) (ho : o ≤ 128) (l : Fin 16) : FVec Ideal S512x128 .f32 :=
  fun j => x (ix3 0 (j 0) ⟨l.val * 256 + o + (j 1).val, by have : (j 1).val < 128 := (j 1).isLt; omega⟩)

/-- The same slice of the rows of positions. -/
def piece8 (x : FVec Ideal S8x4096 .f32) (o : Nat) (ho : o ≤ 128) (l : Fin 16) : FVec Ideal S8x128 .f32 :=
  fun j => x (ix2 (j 0) ⟨l.val * 256 + o + (j 1).val, by have : (j 1).val < 128 := (j 1).isLt; omega⟩)

theorem piece_0_0 (x : FVec Ideal S1x512x4096 .f32) : k0_pay6 (F := Ideal) (View.ld (Val := Elt Ideal) (e' := .f32) x
    (Rect.unit (s := S1x512x4096) ![0, 0, 0] ![1, 512, 128] inb_S1x512x4096_S1x512x128_0_0_0))
    = piece x 0 (by omega) 0 := by
  funext j; idx_vars j; pointwise [k0_pay6, piece]

theorem piece_0_1 (x : FVec Ideal S1x512x4096 .f32) : k0_pay7 (F := Ideal) (View.ld (Val := Elt Ideal) (e' := .f32) x
    (Rect.unit (s := S1x512x4096) ![0, 0, 256] ![1, 512, 128] inb_S1x512x4096_S1x512x128_0_0_256))
    = piece x 0 (by omega) 1 := by
  funext j; idx_vars j; pointwise [k0_pay7, piece]

theorem piece_0_2 (x : FVec Ideal S1x512x4096 .f32) : k0_pay8 (F := Ideal) (View.ld (Val := Elt Ideal) (e' := .f32) x
    (Rect.unit (s := S1x512x4096) ![0, 0, 512] ![1, 512, 128] inb_S1x512x4096_S1x512x128_0_0_512))
    = piece x 0 (by omega) 2 := by
  funext j; idx_vars j; pointwise [k0_pay8, piece]

theorem piece_0_3 (x : FVec Ideal S1x512x4096 .f32) : k0_pay9 (F := Ideal) (View.ld (Val := Elt Ideal) (e' := .f32) x
    (Rect.unit (s := S1x512x4096) ![0, 0, 768] ![1, 512, 128] inb_S1x512x4096_S1x512x128_0_0_768))
    = piece x 0 (by omega) 3 := by
  funext j; idx_vars j; pointwise [k0_pay9, piece]

theorem piece_0_4 (x : FVec Ideal S1x512x4096 .f32) : k0_pay10 (F := Ideal) (View.ld (Val := Elt Ideal) (e' := .f32) x
    (Rect.unit (s := S1x512x4096) ![0, 0, 1024] ![1, 512, 128] inb_S1x512x4096_S1x512x128_0_0_1024))
    = piece x 0 (by omega) 4 := by
  funext j; idx_vars j; pointwise [k0_pay10, piece]

theorem piece_0_5 (x : FVec Ideal S1x512x4096 .f32) : k0_pay11 (F := Ideal) (View.ld (Val := Elt Ideal) (e' := .f32) x
    (Rect.unit (s := S1x512x4096) ![0, 0, 1280] ![1, 512, 128] inb_S1x512x4096_S1x512x128_0_0_1280))
    = piece x 0 (by omega) 5 := by
  funext j; idx_vars j; pointwise [k0_pay11, piece]

theorem piece_0_6 (x : FVec Ideal S1x512x4096 .f32) : k0_pay12 (F := Ideal) (View.ld (Val := Elt Ideal) (e' := .f32) x
    (Rect.unit (s := S1x512x4096) ![0, 0, 1536] ![1, 512, 128] inb_S1x512x4096_S1x512x128_0_0_1536))
    = piece x 0 (by omega) 6 := by
  funext j; idx_vars j; pointwise [k0_pay12, piece]

theorem piece_0_7 (x : FVec Ideal S1x512x4096 .f32) : k0_pay13 (F := Ideal) (View.ld (Val := Elt Ideal) (e' := .f32) x
    (Rect.unit (s := S1x512x4096) ![0, 0, 1792] ![1, 512, 128] inb_S1x512x4096_S1x512x128_0_0_1792))
    = piece x 0 (by omega) 7 := by
  funext j; idx_vars j; pointwise [k0_pay13, piece]

theorem piece_0_8 (x : FVec Ideal S1x512x4096 .f32) : k0_pay14 (F := Ideal) (View.ld (Val := Elt Ideal) (e' := .f32) x
    (Rect.unit (s := S1x512x4096) ![0, 0, 2048] ![1, 512, 128] inb_S1x512x4096_S1x512x128_0_0_2048))
    = piece x 0 (by omega) 8 := by
  funext j; idx_vars j; pointwise [k0_pay14, piece]

theorem piece_0_9 (x : FVec Ideal S1x512x4096 .f32) : k0_pay15 (F := Ideal) (View.ld (Val := Elt Ideal) (e' := .f32) x
    (Rect.unit (s := S1x512x4096) ![0, 0, 2304] ![1, 512, 128] inb_S1x512x4096_S1x512x128_0_0_2304))
    = piece x 0 (by omega) 9 := by
  funext j; idx_vars j; pointwise [k0_pay15, piece]

theorem piece_0_10 (x : FVec Ideal S1x512x4096 .f32) : k0_pay16 (F := Ideal) (View.ld (Val := Elt Ideal) (e' := .f32) x
    (Rect.unit (s := S1x512x4096) ![0, 0, 2560] ![1, 512, 128] inb_S1x512x4096_S1x512x128_0_0_2560))
    = piece x 0 (by omega) 10 := by
  funext j; idx_vars j; pointwise [k0_pay16, piece]

theorem piece_0_11 (x : FVec Ideal S1x512x4096 .f32) : shapeCast S512x128 (View.ld (Val := Elt Ideal) (e' := .f32) x
    (Rect.unit (s := S1x512x4096) ![0, 0, 2816] ![1, 512, 128] inb_S1x512x4096_S1x512x128_0_0_2816)) shapeCasts_S1x512x128_S512x128
    = piece x 0 (by omega) 11 := by
  funext j; idx_vars j; pointwise [piece]

theorem piece_0_12 (x : FVec Ideal S1x512x4096 .f32) : shapeCast S512x128 (View.ld (Val := Elt Ideal) (e' := .f32) x
    (Rect.unit (s := S1x512x4096) ![0, 0, 3072] ![1, 512, 128] inb_S1x512x4096_S1x512x128_0_0_3072)) shapeCasts_S1x512x128_S512x128
    = piece x 0 (by omega) 12 := by
  funext j; idx_vars j; pointwise [piece]

theorem piece_0_13 (x : FVec Ideal S1x512x4096 .f32) : shapeCast S512x128 (View.ld (Val := Elt Ideal) (e' := .f32) x
    (Rect.unit (s := S1x512x4096) ![0, 0, 3328] ![1, 512, 128] inb_S1x512x4096_S1x512x128_0_0_3328)) shapeCasts_S1x512x128_S512x128
    = piece x 0 (by omega) 13 := by
  funext j; idx_vars j; pointwise [piece]

theorem piece_0_14 (x : FVec Ideal S1x512x4096 .f32) : shapeCast S512x128 (View.ld (Val := Elt Ideal) (e' := .f32) x
    (Rect.unit (s := S1x512x4096) ![0, 0, 3584] ![1, 512, 128] inb_S1x512x4096_S1x512x128_0_0_3584)) shapeCasts_S1x512x128_S512x128
    = piece x 0 (by omega) 14 := by
  funext j; idx_vars j; pointwise [piece]

theorem piece_0_15 (x : FVec Ideal S1x512x4096 .f32) : shapeCast S512x128 (View.ld (Val := Elt Ideal) (e' := .f32) x
    (Rect.unit (s := S1x512x4096) ![0, 0, 3840] ![1, 512, 128] inb_S1x512x4096_S1x512x128_0_0_3840)) shapeCasts_S1x512x128_S512x128
    = piece x 0 (by omega) 15 := by
  funext j; idx_vars j; pointwise [piece]

theorem piece_1_0 (x : FVec Ideal S1x512x4096 .f32) : k0_pay20 (F := Ideal) (View.ld (Val := Elt Ideal) (e' := .f32) x
    (Rect.unit (s := S1x512x4096) ![0, 0, 128] ![1, 512, 128] inb_S1x512x4096_S1x512x128_0_0_128))
    = piece x 128 (by omega) 0 := by
  funext j; idx_vars j; pointwise [k0_pay20, piece]

theorem piece_1_1 (x : FVec Ideal S1x512x4096 .f32) : k0_pay21 (F := Ideal) (View.ld (Val := Elt Ideal) (e' := .f32) x
    (Rect.unit (s := S1x512x4096) ![0, 0, 384] ![1, 512, 128] inb_S1x512x4096_S1x512x128_0_0_384))
    = piece x 128 (by omega) 1 := by
  funext j; idx_vars j; pointwise [k0_pay21, piece]

theorem piece_1_2 (x : FVec Ideal S1x512x4096 .f32) : k0_pay22 (F := Ideal) (View.ld (Val := Elt Ideal) (e' := .f32) x
    (Rect.unit (s := S1x512x4096) ![0, 0, 640] ![1, 512, 128] inb_S1x512x4096_S1x512x128_0_0_640))
    = piece x 128 (by omega) 2 := by
  funext j; idx_vars j; pointwise [k0_pay22, piece]

theorem piece_1_3 (x : FVec Ideal S1x512x4096 .f32) : k0_pay23 (F := Ideal) (View.ld (Val := Elt Ideal) (e' := .f32) x
    (Rect.unit (s := S1x512x4096) ![0, 0, 896] ![1, 512, 128] inb_S1x512x4096_S1x512x128_0_0_896))
    = piece x 128 (by omega) 3 := by
  funext j; idx_vars j; pointwise [k0_pay23, piece]

theorem piece_1_4 (x : FVec Ideal S1x512x4096 .f32) : k0_pay24 (F := Ideal) (View.ld (Val := Elt Ideal) (e' := .f32) x
    (Rect.unit (s := S1x512x4096) ![0, 0, 1152] ![1, 512, 128] inb_S1x512x4096_S1x512x128_0_0_1152))
    = piece x 128 (by omega) 4 := by
  funext j; idx_vars j; pointwise [k0_pay24, piece]

theorem piece_1_5 (x : FVec Ideal S1x512x4096 .f32) : k0_pay25 (F := Ideal) (View.ld (Val := Elt Ideal) (e' := .f32) x
    (Rect.unit (s := S1x512x4096) ![0, 0, 1408] ![1, 512, 128] inb_S1x512x4096_S1x512x128_0_0_1408))
    = piece x 128 (by omega) 5 := by
  funext j; idx_vars j; pointwise [k0_pay25, piece]

theorem piece_1_6 (x : FVec Ideal S1x512x4096 .f32) : k0_pay26 (F := Ideal) (View.ld (Val := Elt Ideal) (e' := .f32) x
    (Rect.unit (s := S1x512x4096) ![0, 0, 1664] ![1, 512, 128] inb_S1x512x4096_S1x512x128_0_0_1664))
    = piece x 128 (by omega) 6 := by
  funext j; idx_vars j; pointwise [k0_pay26, piece]

theorem piece_1_7 (x : FVec Ideal S1x512x4096 .f32) : k0_pay27 (F := Ideal) (View.ld (Val := Elt Ideal) (e' := .f32) x
    (Rect.unit (s := S1x512x4096) ![0, 0, 1920] ![1, 512, 128] inb_S1x512x4096_S1x512x128_0_0_1920))
    = piece x 128 (by omega) 7 := by
  funext j; idx_vars j; pointwise [k0_pay27, piece]

theorem piece_1_8 (x : FVec Ideal S1x512x4096 .f32) : k0_pay28 (F := Ideal) (View.ld (Val := Elt Ideal) (e' := .f32) x
    (Rect.unit (s := S1x512x4096) ![0, 0, 2176] ![1, 512, 128] inb_S1x512x4096_S1x512x128_0_0_2176))
    = piece x 128 (by omega) 8 := by
  funext j; idx_vars j; pointwise [k0_pay28, piece]

theorem piece_1_9 (x : FVec Ideal S1x512x4096 .f32) : k0_pay29 (F := Ideal) (View.ld (Val := Elt Ideal) (e' := .f32) x
    (Rect.unit (s := S1x512x4096) ![0, 0, 2432] ![1, 512, 128] inb_S1x512x4096_S1x512x128_0_0_2432))
    = piece x 128 (by omega) 9 := by
  funext j; idx_vars j; pointwise [k0_pay29, piece]

theorem piece_1_10 (x : FVec Ideal S1x512x4096 .f32) : k0_pay30 (F := Ideal) (View.ld (Val := Elt Ideal) (e' := .f32) x
    (Rect.unit (s := S1x512x4096) ![0, 0, 2688] ![1, 512, 128] inb_S1x512x4096_S1x512x128_0_0_2688))
    = piece x 128 (by omega) 10 := by
  funext j; idx_vars j; pointwise [k0_pay30, piece]

theorem piece_1_11 (x : FVec Ideal S1x512x4096 .f32) : k0_pay31 (F := Ideal) (View.ld (Val := Elt Ideal) (e' := .f32) x
    (Rect.unit (s := S1x512x4096) ![0, 0, 2944] ![1, 512, 128] inb_S1x512x4096_S1x512x128_0_0_2944))
    = piece x 128 (by omega) 11 := by
  funext j; idx_vars j; pointwise [k0_pay31, piece]

theorem piece_1_12 (x : FVec Ideal S1x512x4096 .f32) : k0_pay32 (F := Ideal) (View.ld (Val := Elt Ideal) (e' := .f32) x
    (Rect.unit (s := S1x512x4096) ![0, 0, 3200] ![1, 512, 128] inb_S1x512x4096_S1x512x128_0_0_3200))
    = piece x 128 (by omega) 12 := by
  funext j; idx_vars j; pointwise [k0_pay32, piece]

theorem piece_1_13 (x : FVec Ideal S1x512x4096 .f32) : k0_pay33 (F := Ideal) (View.ld (Val := Elt Ideal) (e' := .f32) x
    (Rect.unit (s := S1x512x4096) ![0, 0, 3456] ![1, 512, 128] inb_S1x512x4096_S1x512x128_0_0_3456))
    = piece x 128 (by omega) 13 := by
  funext j; idx_vars j; pointwise [k0_pay33, piece]

theorem piece_1_14 (x : FVec Ideal S1x512x4096 .f32) : k0_pay34 (F := Ideal) (View.ld (Val := Elt Ideal) (e' := .f32) x
    (Rect.unit (s := S1x512x4096) ![0, 0, 3712] ![1, 512, 128] inb_S1x512x4096_S1x512x128_0_0_3712))
    = piece x 128 (by omega) 14 := by
  funext j; idx_vars j; pointwise [k0_pay34, piece]

theorem piece_1_15 (x : FVec Ideal S1x512x4096 .f32) : k0_pay35 (F := Ideal) (View.ld (Val := Elt Ideal) (e' := .f32) x
    (Rect.unit (s := S1x512x4096) ![0, 0, 3968] ![1, 512, 128] inb_S1x512x4096_S1x512x128_0_0_3968))
    = piece x 128 (by omega) 15 := by
  funext j; idx_vars j; pointwise [k0_pay35, piece]

theorem row_0_0 (x : FVec Ideal S8x4096 .f32) : extractStridedSlice S8x128 ![0, 0] x
    slices_S8x4096_o0_0_S8x128 = piece8 x 0 (by omega) 0 := by
  funext j; idx_vars j; pointwise [piece8]

theorem row_0_1 (x : FVec Ideal S8x4096 .f32) : extractStridedSlice S8x128 ![0, 256] x
    slices_S8x4096_o0_256_S8x128 = piece8 x 0 (by omega) 1 := by
  funext j; idx_vars j; pointwise [piece8]

theorem row_0_2 (x : FVec Ideal S8x4096 .f32) : extractStridedSlice S8x128 ![0, 512] x
    slices_S8x4096_o0_512_S8x128 = piece8 x 0 (by omega) 2 := by
  funext j; idx_vars j; pointwise [piece8]

theorem row_0_3 (x : FVec Ideal S8x4096 .f32) : extractStridedSlice S8x128 ![0, 768] x
    slices_S8x4096_o0_768_S8x128 = piece8 x 0 (by omega) 3 := by
  funext j; idx_vars j; pointwise [piece8]

theorem row_0_4 (x : FVec Ideal S8x4096 .f32) : extractStridedSlice S8x128 ![0, 1024] x
    slices_S8x4096_o0_1024_S8x128 = piece8 x 0 (by omega) 4 := by
  funext j; idx_vars j; pointwise [piece8]

theorem row_0_5 (x : FVec Ideal S8x4096 .f32) : extractStridedSlice S8x128 ![0, 1280] x
    slices_S8x4096_o0_1280_S8x128 = piece8 x 0 (by omega) 5 := by
  funext j; idx_vars j; pointwise [piece8]

theorem row_0_6 (x : FVec Ideal S8x4096 .f32) : extractStridedSlice S8x128 ![0, 1536] x
    slices_S8x4096_o0_1536_S8x128 = piece8 x 0 (by omega) 6 := by
  funext j; idx_vars j; pointwise [piece8]

theorem row_0_7 (x : FVec Ideal S8x4096 .f32) : extractStridedSlice S8x128 ![0, 1792] x
    slices_S8x4096_o0_1792_S8x128 = piece8 x 0 (by omega) 7 := by
  funext j; idx_vars j; pointwise [piece8]

theorem row_0_8 (x : FVec Ideal S8x4096 .f32) : extractStridedSlice S8x128 ![0, 2048] x
    slices_S8x4096_o0_2048_S8x128 = piece8 x 0 (by omega) 8 := by
  funext j; idx_vars j; pointwise [piece8]

theorem row_0_9 (x : FVec Ideal S8x4096 .f32) : extractStridedSlice S8x128 ![0, 2304] x
    slices_S8x4096_o0_2304_S8x128 = piece8 x 0 (by omega) 9 := by
  funext j; idx_vars j; pointwise [piece8]

theorem row_0_10 (x : FVec Ideal S8x4096 .f32) : extractStridedSlice S8x128 ![0, 2560] x
    slices_S8x4096_o0_2560_S8x128 = piece8 x 0 (by omega) 10 := by
  funext j; idx_vars j; pointwise [piece8]

theorem row_0_11 (x : FVec Ideal S8x4096 .f32) : extractStridedSlice S8x128 ![0, 2816] x
    slices_S8x4096_o0_2816_S8x128 = piece8 x 0 (by omega) 11 := by
  funext j; idx_vars j; pointwise [piece8]

theorem row_0_12 (x : FVec Ideal S8x4096 .f32) : extractStridedSlice S8x128 ![0, 3072] x
    slices_S8x4096_o0_3072_S8x128 = piece8 x 0 (by omega) 12 := by
  funext j; idx_vars j; pointwise [piece8]

theorem row_0_13 (x : FVec Ideal S8x4096 .f32) : extractStridedSlice S8x128 ![0, 3328] x
    slices_S8x4096_o0_3328_S8x128 = piece8 x 0 (by omega) 13 := by
  funext j; idx_vars j; pointwise [piece8]

theorem row_0_14 (x : FVec Ideal S8x4096 .f32) : extractStridedSlice S8x128 ![0, 3584] x
    slices_S8x4096_o0_3584_S8x128 = piece8 x 0 (by omega) 14 := by
  funext j; idx_vars j; pointwise [piece8]

theorem row_0_15 (x : FVec Ideal S8x4096 .f32) : extractStridedSlice S8x128 ![0, 3840] x
    slices_S8x4096_o0_3840_S8x128 = piece8 x 0 (by omega) 15 := by
  funext j; idx_vars j; pointwise [piece8]

theorem row_1_0 (x : FVec Ideal S8x4096 .f32) : extractStridedSlice S8x128 ![0, 128] x
    slices_S8x4096_o0_128_S8x128 = piece8 x 128 (by omega) 0 := by
  funext j; idx_vars j; pointwise [piece8]

theorem row_1_1 (x : FVec Ideal S8x4096 .f32) : extractStridedSlice S8x128 ![0, 384] x
    slices_S8x4096_o0_384_S8x128 = piece8 x 128 (by omega) 1 := by
  funext j; idx_vars j; pointwise [piece8]

theorem row_1_2 (x : FVec Ideal S8x4096 .f32) : extractStridedSlice S8x128 ![0, 640] x
    slices_S8x4096_o0_640_S8x128 = piece8 x 128 (by omega) 2 := by
  funext j; idx_vars j; pointwise [piece8]

theorem row_1_3 (x : FVec Ideal S8x4096 .f32) : extractStridedSlice S8x128 ![0, 896] x
    slices_S8x4096_o0_896_S8x128 = piece8 x 128 (by omega) 3 := by
  funext j; idx_vars j; pointwise [piece8]

theorem row_1_4 (x : FVec Ideal S8x4096 .f32) : extractStridedSlice S8x128 ![0, 1152] x
    slices_S8x4096_o0_1152_S8x128 = piece8 x 128 (by omega) 4 := by
  funext j; idx_vars j; pointwise [piece8]

theorem row_1_5 (x : FVec Ideal S8x4096 .f32) : extractStridedSlice S8x128 ![0, 1408] x
    slices_S8x4096_o0_1408_S8x128 = piece8 x 128 (by omega) 5 := by
  funext j; idx_vars j; pointwise [piece8]

theorem row_1_6 (x : FVec Ideal S8x4096 .f32) : extractStridedSlice S8x128 ![0, 1664] x
    slices_S8x4096_o0_1664_S8x128 = piece8 x 128 (by omega) 6 := by
  funext j; idx_vars j; pointwise [piece8]

theorem row_1_7 (x : FVec Ideal S8x4096 .f32) : extractStridedSlice S8x128 ![0, 1920] x
    slices_S8x4096_o0_1920_S8x128 = piece8 x 128 (by omega) 7 := by
  funext j; idx_vars j; pointwise [piece8]

theorem row_1_8 (x : FVec Ideal S8x4096 .f32) : extractStridedSlice S8x128 ![0, 2176] x
    slices_S8x4096_o0_2176_S8x128 = piece8 x 128 (by omega) 8 := by
  funext j; idx_vars j; pointwise [piece8]

theorem row_1_9 (x : FVec Ideal S8x4096 .f32) : extractStridedSlice S8x128 ![0, 2432] x
    slices_S8x4096_o0_2432_S8x128 = piece8 x 128 (by omega) 9 := by
  funext j; idx_vars j; pointwise [piece8]

theorem row_1_10 (x : FVec Ideal S8x4096 .f32) : extractStridedSlice S8x128 ![0, 2688] x
    slices_S8x4096_o0_2688_S8x128 = piece8 x 128 (by omega) 10 := by
  funext j; idx_vars j; pointwise [piece8]

theorem row_1_11 (x : FVec Ideal S8x4096 .f32) : extractStridedSlice S8x128 ![0, 2944] x
    slices_S8x4096_o0_2944_S8x128 = piece8 x 128 (by omega) 11 := by
  funext j; idx_vars j; pointwise [piece8]

theorem row_1_12 (x : FVec Ideal S8x4096 .f32) : extractStridedSlice S8x128 ![0, 3200] x
    slices_S8x4096_o0_3200_S8x128 = piece8 x 128 (by omega) 12 := by
  funext j; idx_vars j; pointwise [piece8]

theorem row_1_13 (x : FVec Ideal S8x4096 .f32) : extractStridedSlice S8x128 ![0, 3456] x
    slices_S8x4096_o0_3456_S8x128 = piece8 x 128 (by omega) 13 := by
  funext j; idx_vars j; pointwise [piece8]

theorem row_1_14 (x : FVec Ideal S8x4096 .f32) : extractStridedSlice S8x128 ![0, 3712] x
    slices_S8x4096_o0_3712_S8x128 = piece8 x 128 (by omega) 14 := by
  funext j; idx_vars j; pointwise [piece8]

theorem row_1_15 (x : FVec Ideal S8x4096 .f32) : extractStridedSlice S8x128 ![0, 3968] x
    slices_S8x4096_o0_3968_S8x128 = piece8 x 128 (by omega) 15 := by
  funext j; idx_vars j; pointwise [piece8]

/-- The product of a block of strides, side by side, with a weight. -/
theorem mm_at (A : FVec Ideal S512x2048 .f32) (w : FVec Ideal S1x2048x512 .bf16) (n : Fin 512) (q : Fin 512) :
    matmul dot_S512x2048_S2048x512_S512x512_1_0_0_1_n_n none (truncf .bf16 A bitsLt_bf16_f32)
      (shapeCast S2048x512 w shapeCasts_S1x2048x512_S2048x512) (constant S512x512 .f32 0x00000000#32) (ix2 n q)
      = ∑ k : Fin 2048, A (ix2 n k) * w (ix3 0 k q) := by
  pointwise

/-- The product of the rows of positions, side by side, with a weight. -/
theorem mm8_at (A : FVec Ideal S8x2048 .f32) (w : FVec Ideal S1x2048x512 .bf16) (n : Fin 8) (q : Fin 512) :
    matmul dot_S8x2048_S2048x512_S8x512_1_0_0_1_n_n none (truncf .bf16 A bitsLt_bf16_f32)
      (shapeCast S2048x512 w shapeCasts_S1x2048x512_S2048x512) (constant S8x512 .f32 0x00000000#32) (ix2 n q)
      = ∑ k : Fin 2048, A (ix2 n k) * w (ix3 0 k q) := by
  pointwise

theorem pay17_at (f : Fin 16 → FVec Ideal S512x128 .f32) (a b c d e : FVec Ideal S1x512x128 .f32)
    (ha : shapeCast S512x128 a shapeCasts_S1x512x128_S512x128 = f 11)
    (hb : shapeCast S512x128 b shapeCasts_S1x512x128_S512x128 = f 12)
    (hc : shapeCast S512x128 c shapeCasts_S1x512x128_S512x128 = f 13)
    (hd : shapeCast S512x128 d shapeCasts_S1x512x128_S512x128 = f 14)
    (he : shapeCast S512x128 e shapeCasts_S1x512x128_S512x128 = f 15)
    (w : FVec Ideal S1x2048x512 .bf16) (n q : Fin 512) :
    k0_pay17 (F := Ideal) (f 0) (f 1) (f 2) (f 3) (f 4) (f 5) (f 6) (f 7) (f 8) (f 9) (f 10) a b c d e w (ix2 n q)
      = ∑ k : Fin 2048, f ⟨k.val / 128, by omega⟩ (ix2 n ⟨k.val % 128, by omega⟩) * w (ix3 0 k q) := by
  unfold k0_pay17
  refine (mm_at _ w n q).trans (Finset.sum_congr rfl fun k _ => congrArg (· * w (ix3 0 k q)) ?_)
  rw [ha, hb, hc, hd, he]
  exact join_at f _ n k

theorem pay18_at (x : FVec Ideal S8x4096 .f32) (w : FVec Ideal S1x2048x512 .bf16) (n : Fin 8) (q : Fin 512) :
    k0_pay18 (F := Ideal) x w (ix2 n q)
      = ∑ k : Fin 2048, piece8 x 0 (by omega) ⟨k.val / 128, by omega⟩ (ix2 n ⟨k.val % 128, by omega⟩) * w (ix3 0 k q) := by
  unfold k0_pay18
  refine (mm8_at _ w n q).trans (Finset.sum_congr rfl fun k _ => congrArg (· * w (ix3 0 k q)) ?_)
  rw [row_0_0, row_0_1, row_0_2, row_0_3, row_0_4, row_0_5, row_0_6, row_0_7, row_0_8, row_0_9, row_0_10, row_0_11, row_0_12, row_0_13, row_0_14, row_0_15]
  exact join8_at (piece8 x 0 (by omega)) _ n k

theorem pay19_at (u : FVec Ideal S512x512 .f32) (p : FVec Ideal S8x512 .f32) (b : FVec Ideal S1x1x256 .f32)
    (v : FVec Ideal S1x256x128 .bf16) (n : Fin 512) (e : Fin 128) :
    k0_pay19 (F := Ideal) u p b v (ix2 n e)
      = ∑ q : Fin 256, gelu ((u (ix2 n ⟨q.val, by omega⟩) + u (ix2 (next n) ⟨256 + q.val, by omega⟩))
          + ((b (ix3 0 0 q) + p (ix2 0 ⟨q.val, by omega⟩)) + p (ix2 1 ⟨256 + q.val, by omega⟩))) * v (ix3 0 q e) := by
  pointwise! [k0_pay19, gelu, next]

theorem pay4_at (u t : FVec Ideal S512x256 .f32) (v : FVec Ideal S1x256x128 .bf16) (n : Fin 512) (e : Fin 128) :
    k0_pay4 (F := Ideal) u t v (ix3 0 n e)
      = ∑ q : Fin 256, (u (ix2 n q) * (Ideal.ofBits .f32 0x3F000000#32 * (Ideal.ofBits .f32 0x3F800000#32 + t (ix2 n q))))
          * v (ix3 0 q e) := by
  pointwise! [k0_pay4]

theorem pay3_at (u : FVec Ideal S512x128 .f32) (n : Fin 512) (e : Fin 128) :
    k0_pay3 (F := Ideal) u (ix3 0 n e) = u (ix2 n e) := by
  pointwise! [k0_pay3]

/-- The hidden row of the second half from its two products. -/
theorem hid1_at (u : FVec Ideal S512x512 .f32) (p : FVec Ideal S8x512 .f32) (b : FVec Ideal S1x1x256 .f32)
    (n : Fin 512) (q : Fin 256) :
    addf (addf (extractStridedSlice S512x256 ![0, 0] u slices_S512x512_o0_0_S512x256)
        (dynamicRotate 0 511#32 none (extractStridedSlice S512x256 ![0, 256] u slices_S512x512_o0_256_S512x256)
          rotates_S512x256_d0))
      (broadcastTo S512x256 (addf (addf (shapeCast S1x256 b shapeCasts_S1x1x256_S1x256)
        (extractStridedSlice S1x256 ![0, 0] p slices_S8x512_o0_0_S1x256))
        (extractStridedSlice S1x256 ![1, 256] p slices_S8x512_o1_256_S1x256)) broadcasts_S1x256_S512x256) (ix2 n q)
      = (u (ix2 n ⟨q.val, by omega⟩) + u (ix2 (next n) ⟨256 + q.val, by omega⟩))
          + ((b (ix3 0 0 q) + p (ix2 0 ⟨q.val, by omega⟩)) + p (ix2 1 ⟨256 + q.val, by omega⟩)) := by
  pointwise! [next]

theorem pay36_at (f : Fin 16 → FVec Ideal S512x128 .f32) (x : FVec Ideal S8x4096 .f32) (w : FVec Ideal S1x2048x512 .bf16)
    (b : FVec Ideal S1x1x256 .f32) (n : Fin 512) (q : Fin 256) :
    k0_pay36 (F := Ideal) x (f 0) (f 1) (f 2) (f 3) (f 4) (f 5) (f 6) (f 7) (f 8) (f 9) (f 10) (f 11) (f 12) (f 13) (f 14) (f 15) w w b (ix2 n q)
      = ((∑ k : Fin 2048, f ⟨k.val / 128, by omega⟩ (ix2 n ⟨k.val % 128, by omega⟩) * w (ix3 0 k ⟨q.val, by omega⟩))
          + ∑ k : Fin 2048, f ⟨k.val / 128, by omega⟩ (ix2 (next n) ⟨k.val % 128, by omega⟩) * w (ix3 0 k ⟨256 + q.val, by omega⟩))
        + ((b (ix3 0 0 q) + ∑ k : Fin 2048, piece8 x 128 (by omega) ⟨k.val / 128, by omega⟩ (ix2 0 ⟨k.val % 128, by omega⟩)
            * w (ix3 0 k ⟨q.val, by omega⟩))
          + ∑ k : Fin 2048, piece8 x 128 (by omega) ⟨k.val / 128, by omega⟩ (ix2 1 ⟨k.val % 128, by omega⟩)
            * w (ix3 0 k ⟨256 + q.val, by omega⟩)) := by
  unfold k0_pay36
  refine (hid1_at _ _ b n q).trans ?_
  rw [mm_at, mm_at, mm8_at, mm8_at]
  rw [row_1_0, row_1_1, row_1_2, row_1_3, row_1_4, row_1_5, row_1_6, row_1_7, row_1_8, row_1_9, row_1_10, row_1_11, row_1_12, row_1_13, row_1_14, row_1_15]
  simp only [join_at f, join8_at (piece8 x 128 (by omega))]

theorem pay37_at (f : Fin 16 → FVec Ideal S512x128 .f32) (x : FVec Ideal S8x4096 .f32) (w : FVec Ideal S1x2048x512 .bf16)
    (b : FVec Ideal S1x1x256 .f32) (n : Fin 512) (q : Fin 256) :
    k0_pay37 (F := Ideal) x (f 0) (f 1) (f 2) (f 3) (f 4) (f 5) (f 6) (f 7) (f 8) (f 9) (f 10) (f 11) (f 12) (f 13) (f 14) (f 15) w w b (ix2 n q)
      = Ideal.tanh (Ideal.ofBits .f32 0x3F4C422A#32 * (k0_pay36 (F := Ideal) x (f 0) (f 1) (f 2) (f 3) (f 4) (f 5) (f 6) (f 7) (f 8) (f 9) (f 10) (f 11) (f 12) (f 13) (f 14) (f 15) w w b (ix2 n q)
        + Ideal.ofBits .f32 0x3D372713#32 * (k0_pay36 (F := Ideal) x (f 0) (f 1) (f 2) (f 3) (f 4) (f 5) (f 6) (f 7) (f 8) (f 9) (f 10) (f 11) (f 12) (f 13) (f 14) (f 15) w w b (ix2 n q)
          * (k0_pay36 (F := Ideal) x (f 0) (f 1) (f 2) (f 3) (f 4) (f 5) (f 6) (f 7) (f 8) (f 9) (f 10) (f 11) (f 12) (f 13) (f 14) (f 15) w w b (ix2 n q) * k0_pay36 (F := Ideal) x (f 0) (f 1) (f 2) (f 3) (f 4) (f 5) (f 6) (f 7) (f 8) (f 9) (f 10) (f 11) (f 12) (f 13) (f 14) (f 15) w w b (ix2 n q))))) := by
  pointwise! [k0_pay37]

theorem pay5_eq (x : FVec Ideal S8x4096 .f32) : k0_pay5 (F := Ideal) x = x := by
  funext j; idx_vars j; pointwise [k0_pay5]

/-- What the body stores in the first half of the lanes. -/
theorem half0_at (f : Fin 16 → FVec Ideal S512x128 .f32) (a b c d e : FVec Ideal S1x512x128 .f32)
    (ha : shapeCast S512x128 a shapeCasts_S1x512x128_S512x128 = f 11)
    (hb : shapeCast S512x128 b shapeCasts_S1x512x128_S512x128 = f 12)
    (hc : shapeCast S512x128 c shapeCasts_S1x512x128_S512x128 = f 13)
    (hd : shapeCast S512x128 d shapeCasts_S1x512x128_S512x128 = f 14)
    (he : shapeCast S512x128 e shapeCasts_S1x512x128_S512x128 = f 15)
    (x : FVec Ideal S8x4096 .f32) (w : FVec Ideal S1x2048x512 .bf16) (β : FVec Ideal S1x1x256 .f32)
    (v : FVec Ideal S1x256x128 .bf16) (n : Fin 512) (i : Fin 128) :
    k0_pay3 (F := Ideal) (k0_pay19 (k0_pay17 (f 0) (f 1) (f 2) (f 3) (f 4) (f 5) (f 6) (f 7) (f 8) (f 9) (f 10) a b c d e w) (k0_pay18 (k0_pay5 x) w) β v) (ix3 0 n i)
      = blk (fun n k => f ⟨k.val / 128, by omega⟩ (ix2 n ⟨k.val % 128, by omega⟩))
          (fun r k => piece8 x 0 (by omega) ⟨k.val / 128, by omega⟩ (ix2 ⟨r.val, by omega⟩ ⟨k.val % 128, by omega⟩))
          (fun k q => w (ix3 0 k q)) (fun q => β (ix3 0 0 q)) (fun q i => v (ix3 0 q i)) n i := by
  rw [pay3_at, pay19_at, pay5_eq]
  simp only [pay17_at f a b c d e ha hb hc hd he, pay18_at]
  rfl

/-- What the body stores in the second half of the lanes. -/
theorem half1_at (f : Fin 16 → FVec Ideal S512x128 .f32)
    (x : FVec Ideal S8x4096 .f32) (w : FVec Ideal S1x2048x512 .bf16) (β : FVec Ideal S1x1x256 .f32)
    (v : FVec Ideal S1x256x128 .bf16) (n : Fin 512) (i : Fin 128) :
    k0_pay4 (F := Ideal) (k0_pay36 (k0_pay5 x) (f 0) (f 1) (f 2) (f 3) (f 4) (f 5) (f 6) (f 7) (f 8) (f 9) (f 10) (f 11) (f 12) (f 13) (f 14) (f 15) w w β)
        (k0_pay37 (k0_pay5 x) (f 0) (f 1) (f 2) (f 3) (f 4) (f 5) (f 6) (f 7) (f 8) (f 9) (f 10) (f 11) (f 12) (f 13) (f 14) (f 15) w w β) v (ix3 0 n i)
      = blk (fun n k => f ⟨k.val / 128, by omega⟩ (ix2 n ⟨k.val % 128, by omega⟩))
          (fun r k => piece8 x 128 (by omega) ⟨k.val / 128, by omega⟩ (ix2 ⟨r.val, by omega⟩ ⟨k.val % 128, by omega⟩))
          (fun k q => w (ix3 0 k q)) (fun q => β (ix3 0 0 q)) (fun q i => v (ix3 0 q i)) n i := by
  rw [pay4_at, pay5_eq]
  simp only [pay37_at f, pay36_at f]
  rfl

end Cert.CompressIdeal.Block

end
-- ==== Proof.CompressRef.lean ====
/- What the block compression's reference computes, one block at a time. -/
module

public import proofs.«01_k».proof.Proof.CompressRow
public import proofs.«01_k».proof.Proof.Gen.CompressRefIdeal.Read

@[expose] public section

set_option maxRecDepth 16384

noncomputable section

open Idealize.ShloMosaic Idealize.ShloMosaic.TcCoe Idealize.SL.Sem
open scoped BigOperators

namespace Cert.CompressRefIdeal.Whole

open Cert.CompressRefIdeal Cert.CompressRefIdeal.Gen Cert.CompressRefIdeal.Read Cert.CompressRow

variable (x0 : FVec Ideal S2x8192x256 .f32) (x1 : FVec Ideal S2x32x64 .f32) (x2 : FVec Ideal S2x32x64x128 .f32)
  (x3 : FVec Ideal S2x128 .f32) (x4 : FVec Ideal S2x128x64 .f32)

/-- The strides of one stream, token half and head, by position and column. -/
def st (s c h : Fin 2) (n : Fin 512) (l : Fin 16) (d : Fin 64) : EReal :=
  x0 (ix3 s ⟨n.val * 16 + l.val, by omega⟩ ⟨c.val * 128 + h.val * 64 + d.val, by omega⟩)

theorem v2_at (s : Fin 2) (n : Fin 513) (l : Fin 16) (c h : Fin 2) (d : Fin 64) :
    val_main_v2 (F := Ideal) x0 (ix6 s n l c h d)
      = x0 (ix3 s ⟨(n.val * 16 + l.val) % 8192, by omega⟩ ⟨c.val * 128 + h.val * 64 + d.val, by omega⟩) := by
  pointwise [val_main_v2, val_main_v1, val_main_v0]
  split
  · next h1 => exact congrArg (fun i => x0 (ix3 s i ⟨c.val * 128 + h.val * 64 + d.val, by omega⟩)) (Fin.ext (by show n.val * 16 + l.val = (n.val * 16 + l.val) % 8192; omega))
  · next h1 => exact congrArg (fun i => x0 (ix3 s i ⟨c.val * 128 + h.val * 64 + d.val, by omega⟩)) (Fin.ext (by show n.val * 16 + l.val - 8192 = (n.val * 16 + l.val) % 8192; omega))

theorem v2_lo (s : Fin 2) (n : Fin 512) (l : Fin 16) (c h : Fin 2) (d : Fin 64) :
    val_main_v2 (F := Ideal) x0 (ix6 s ⟨n.val, by omega⟩ l c h d) = st x0 s c h n l d := by
  rw [v2_at]
  exact congrArg (fun i => x0 (ix3 s i ⟨c.val * 128 + h.val * 64 + d.val, by omega⟩)) (Fin.ext (by show _ % 8192 = _; dsimp only; omega))

theorem v2_hi (s : Fin 2) (n : Fin 512) (l : Fin 16) (c h : Fin 2) (d : Fin 64) :
    val_main_v2 (F := Ideal) x0 (ix6 s ⟨1 + n.val, by omega⟩ l c h d) = st x0 s c h (next n) l d := by
  rw [v2_at]
  exact congrArg (fun i => x0 (ix3 s i ⟨c.val * 128 + h.val * 64 + d.val, by omega⟩))
    (Fin.ext (by show _ % 8192 = (n.val + 1) % 512 * 16 + l.val; dsimp only; omega))

theorem v4_at (c : Fin 2) (f : Fin 128) :
    val_main_v4 (F := Ideal) x1 x2 (ix2 c f)
      = ∑ d : Fin 64, ∑ l : Fin 32, x1 (ix3 c l d) * x2 (ix4 c l d f) := by
  pointwise [val_main_v4]

theorem v9_at (c : Fin 2) (f : Fin 128) (s : Fin 2) (n : Fin 513) (h : Fin 2) :
    val_main_v9 (F := Ideal) x0 x2 (ix5 c f s n h)
      = ∑ d : Fin 64, ∑ l : Fin 16, x2 (ix4 c ⟨l.val, by omega⟩ d f) * val_main_v2 (F := Ideal) x0 (ix6 s n l c h d) := by
  pointwise [val_main_v9, val_main_v8, val_main_v7, val_main_v3]

theorem v16_at (c : Fin 2) (f : Fin 128) (s : Fin 2) (n : Fin 513) (h : Fin 2) :
    val_main_v16 (F := Ideal) x0 x2 (ix5 c f s n h)
      = ∑ d : Fin 64, ∑ l : Fin 16, x2 (ix4 c ⟨16 + l.val, by omega⟩ d f) * val_main_v2 (F := Ideal) x0 (ix6 s n l c h d) := by
  pointwise [val_main_v16, val_main_v15, val_main_v14, val_main_v3]

theorem v19_at (s : Fin 2) (n : Fin 512) (c h : Fin 2) (f : Fin 128) :
    val_main_v19 (F := Ideal) x0 x1 x2 x3 (ix5 s n c h f)
      = ((x3 (ix2 c f) + val_main_v4 (F := Ideal) x1 x2 (ix2 c f))
          + val_main_v9 (F := Ideal) x0 x2 (ix5 c f s ⟨n.val, by omega⟩ h))
        + val_main_v16 (F := Ideal) x0 x2 (ix5 c f s ⟨1 + n.val, by omega⟩ h) := by
  pointwise [val_main_v19, val_main_v18, val_main_v17, val_main_v13, val_main_v12, val_main_v11, val_main_v10, val_main_v6, val_main_v5]

/-- The reference's hidden feature. -/
theorem hid_at (s : Fin 2) (n : Fin 512) (c h : Fin 2) (f : Fin 128) :
    val_main_v19 (F := Ideal) x0 x1 x2 x3 (ix5 s n c h f)
      = hidS (st x0 s c h) (fun l d => x1 (ix3 c l d)) (fun l d => x2 (ix4 c l d f)) (x3 (ix2 c f)) n := by
  rw [v19_at, v4_at, v9_at, v16_at]
  simp only [v2_lo, v2_hi]
  rw [Finset.sum_comm, sum_block, Finset.sum_comm (γ := Fin 64) (α := Fin 16),
    Finset.sum_comm (γ := Fin 64) (α := Fin 16)]
  unfold hidS
  simp only [mul_comm (x2 _) (st _ _ _ _ _ _ _)]
  abel

theorem v32_at (s : Fin 2) (n : Fin 512) (c h : Fin 2) (f : Fin 128) :
    val_main_v32 (F := Ideal) x0 x1 x2 x3 (ix5 s n c h f) = gelu (val_main_v19 (F := Ideal) x0 x1 x2 x3 (ix5 s n c h f)) := by
  pointwise [val_main_v32, val_main_v31, val_main_v30, val_main_v29, val_main_v28, val_main_v27, val_main_v26,
    val_main_v25, val_main_v24, val_main_v23, val_main_v22, val_main_v21, val_main_v20, val_main_cst, val_main_cst_0,
    val_main_cst_1, val_main_cst_2, gelu]
  rw [mul_assoc (val_main_v19 (F := Ideal) x0 x1 x2 x3 (ix5 s n c h f)) (val_main_v19 (F := Ideal) x0 x1 x2 x3 (ix5 s n c h f))]

theorem v35_at (s : Fin 2) (n : Fin 512) (c h : Fin 2) (e : Fin 64) :
    val_main_v35 (F := Ideal) x0 x1 x2 x3 x4 (ix3 s n ⟨c.val * 128 + h.val * 64 + e.val, by omega⟩)
      = ∑ f : Fin 128, x4 (ix3 c f e) * val_main_v32 (F := Ideal) x0 x1 x2 x3 (ix5 s n c h f) := by
  pointwise [val_main_v35, val_main_v34, val_main_v33]

/-- The reference's result on a row that holds a block. -/
theorem out_mid (s : Fin 2) (n : Fin 512) (c h : Fin 2) (e : Fin 64) :
    val_main_v37 (F := Ideal) x0 x1 x2 x3 x4 (ix3 s ⟨128 + n.val, by omega⟩ ⟨c.val * 128 + h.val * 64 + e.val, by omega⟩)
      = ∑ f : Fin 128, gelu (hidS (st x0 s c h) (fun l d => x1 (ix3 c l d)) (fun l d => x2 (ix4 c l d f)) (x3 (ix2 c f)) n)
          * x4 (ix3 c f e) := by
  have e0 : val_main_v37 (F := Ideal) x0 x1 x2 x3 x4 (ix3 s ⟨128 + n.val, by omega⟩ ⟨c.val * 128 + h.val * 64 + e.val, by omega⟩)
      = val_main_v35 (F := Ideal) x0 x1 x2 x3 x4 (ix3 s n ⟨c.val * 128 + h.val * 64 + e.val, by omega⟩) := by
    pointwise [val_main_v37, val_main_v36]
    exact dif_pos (by omega)
  rw [e0, v35_at]
  refine Finset.sum_congr rfl fun f _ => ?_
  rw [v32_at, hid_at, mul_comm]

/-- The reference's result on the rows before the blocks. -/
theorem out_lo (s : Fin 2) (i : Fin 128) (j : Fin 256) :
    val_main_v37 (F := Ideal) x0 x1 x2 x3 x4 (ix3 s ⟨i.val, by omega⟩ j) = 0 := by
  pointwise [val_main_v37, val_main_v36, val_main_call0_v0, val_main_c]
  rw [dif_neg (by simp)]
  show ((((0#32 : BitVec 32).toInt : ℤ) : ℝ) : EReal) = 0
  norm_num

/-- The reference's result on the rows after the blocks. -/
theorem out_hi (s : Fin 2) (i : Fin 128) (j : Fin 256) :
    val_main_v37 (F := Ideal) x0 x1 x2 x3 x4 (ix3 s ⟨640 + i.val, by omega⟩ j) = 0 := by
  pointwise [val_main_v37, val_main_v36, val_main_call0_v0, val_main_c]
  rw [dif_neg (by omega)]
  show ((((0#32 : BitVec 32).toInt : ℤ) : ℝ) : EReal) = 0
  norm_num

end Cert.CompressRefIdeal.Whole

end
-- ==== Proof.CompressValue.lean ====
/- What the block compression's result array holds after the run. -/
module

public import proofs.«01_k».proof.Proof.CompressBlock
public import proofs.«01_k».proof.Proof.CompressRef
public import proofs.«01_k».proof.Proof.Gen.CompressIdeal.Frame
public import Idealize.ShloMosaic.Lib.Pipeline.ValueKit
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.CompressIdeal.Whole

open Cert.CompressIdeal Cert.CompressIdeal.Gen Cert.CompressIdeal.Block Cert.CompressRow
open Cert.CompressRefIdeal.Whole (st)

variable (m : (ℓ : Loc nD τ sig) → Buf (Elt Ideal) ℓ)

/-- Every window's block index at every grid point. -/
theorem idx : ∀ t : Fin cfg0.N, win0_0.index t = ![t.val, 0, 0]
    ∧ win0_1.index t = ![0, 0]
    ∧ win0_2.index t = ![0, 0, 0]
    ∧ win0_3.index t = ![0, 0, 0]
    ∧ win0_4.index t = ![0, 0, 0]
    ∧ win0_5.index t = ![t.val, 0, 0] :=
  (by decide +kernel : ∀ t : Fin grid0.N, _)

/-- The stream a grid point works on. -/
def str (t : Fin cfg0.N) : Fin 2 := ⟨t.val, t.isLt⟩

/-- The layout's mask: one where two numbers below two are equal, zero elsewhere. -/
theorem mask (a b : Nat) (ha : a < 2) (hb : b < 2) :
    (FloatOps.uitofp .f32 (IntOp.cmpi .eq (IntOp.addi (BitVec.ofNat 32 a) 0#32) (BitVec.ofNat 32 b)) : Ideal .f32)
      = if a = b then (1 : EReal) else 0 := by
  have key : ∀ v : BitVec 1, (FloatOps.uitofp .f32 v : Ideal .f32) = (((v.toNat : ℝ)) : EReal) := fun _ => rfl
  rw [key]
  interval_cases a <;> interval_cases b <;> simp [IntOp.cmpi, IntOp.addi] <;> rfl

theorem in0 (c : Dev nD) (t : Fin cfg0.N) (n : Fin 512) (k : Fin 4096) :
    (iblk m c 0 t : FVec Ideal S1x512x4096 .f32) (ix3 0 n k) = m ((c : Thread nD τ).loc main_arg0)
      (ix3 (str t) ⟨n.val * 16 + k.val / 256, by omega⟩ ⟨k.val % 256, by omega⟩) := by
  have e : ((cfg0.win 0).blk t).view.emb (ix3 0 n k) = ix3 (str t) n k := by blk_ext! [str, idx t]
  blk_simp [iblk]; entry_read
  refine (congrArg _ e).trans ?_
  pointwise

theorem in1 (c : Dev nD) (t : Fin cfg0.N) (r : Fin 2) (k : Fin 4096) :
    (iblk m c 1 t : FVec Ideal S8x4096 .f32) (ix2 ⟨r.val, by omega⟩ k) = m ((c : Thread nD τ).loc main_arg1)
      (ix3 ⟨k.val / 128 % 2, by omega⟩ ⟨r.val * 16 + k.val / 256, by omega⟩ ⟨k.val % 64, by omega⟩) := by
  have e : ((cfg0.win 1).blk t).view.emb (ix2 ⟨r.val, by omega⟩ k) = ix2 ⟨r.val, by omega⟩ k := by blk_ext! [idx t]
  blk_simp [iblk]; entry_read
  refine (congrArg _ e).trans ?_
  pointwise

theorem in2 (c : Dev nD) (t : Fin cfg0.N) (h : Fin 2) (k : Fin 2048) (q : Fin 512) :
    (iblk m c 2 t : FVec Ideal S2x2048x512 .bf16) (ix3 h k q)
      = @HMul.hMul EReal EReal EReal _ (m ((c : Thread nD τ).loc main_arg2) (ix4 h ⟨q.val / 256 * 16 + k.val / 128, by omega⟩
          ⟨k.val % 64, by omega⟩ ⟨q.val % 128, by omega⟩)) (if k.val / 64 % 2 = q.val / 128 % 2 then (1 : EReal) else 0) := by
  have e : ((cfg0.win 2).blk t).view.emb (ix3 h k q) = ix3 h k q := by blk_ext! [idx t]
  blk_simp [iblk]; entry_read
  refine (congrArg _ e).trans ?_
  rw [← mask (k.val / 64 % 2) (q.val / 128 % 2) (by omega) (by omega)]
  pointwise

theorem in3 (c : Dev nD) (t : Fin cfg0.N) (h : Fin 2) (k : Fin 256) (q : Fin 128) :
    (iblk m c 3 t : FVec Ideal S2x256x128 .bf16) (ix3 h k q)
      = @HMul.hMul EReal EReal EReal _ (m ((c : Thread nD τ).loc main_arg4) (ix3 h ⟨k.val % 128, by omega⟩
          ⟨q.val % 64, by omega⟩)) (if k.val / 128 = q.val / 64 then (1 : EReal) else 0) := by
  have e : ((cfg0.win 3).blk t).view.emb (ix3 h k q) = ix3 h k q := by blk_ext! [idx t]
  blk_simp [iblk]; entry_read
  refine (congrArg _ e).trans ?_
  rw [← mask (k.val / 128) (q.val / 64) (by omega) (by omega)]
  pointwise

theorem in4 (c : Dev nD) (t : Fin cfg0.N) (h : Fin 2) (q : Fin 256) :
    (iblk m c 4 t : FVec Ideal S2x1x256 .f32) (ix3 h 0 q)
      = m ((c : Thread nD τ).loc main_arg3) (ix2 h ⟨q.val % 128, by omega⟩) := by
  have e : ((cfg0.win 4).blk t).view.emb (ix3 h 0 q) = ix3 h 0 q := by blk_ext! [idx t]
  blk_simp [iblk]; entry_read
  refine (congrArg _ e).trans ?_
  pointwise
  split
  · exact congrArg (fun i => m ((c : Thread nD τ).loc main_arg3) (ix2 h i)) (Fin.ext (by show q.val = q.val % 128; omega))
  · exact congrArg (fun i => m ((c : Thread nD τ).loc main_arg3) (ix2 h i)) (Fin.ext (by show q.val - 128 = q.val % 128; omega))

theorem outPos (t : Fin cfg0.N) (y0 : Fin 1) (y1 : Fin 768) (y2 : Fin 256) :
    ((cfg0.win 5).blk t).view.emb (ix3 y0 y1 y2) = ix3 (str t) y1 y2 := by
  blk_ext! [str, idx t]

/-- A half's block with both heads' weights is the reference's block. -/
theorem blk_val (x0 : FVec Ideal S2x8192x256 .f32) (x1 : FVec Ideal S2x32x64 .f32) (x2 : FVec Ideal S2x32x64x128 .f32)
    (x3 : FVec Ideal S2x128 .f32) (x4 : FVec Ideal S2x128x64 .f32) (s z : Fin 2)
    (A : Fin 512 → Fin 2048 → EReal) (P : Fin 2 → Fin 2048 → EReal) (W : Fin 2048 → Fin 512 → EReal)
    (b : Fin 256 → EReal) (V : Fin 256 → Fin 128 → EReal)
    (hA : ∀ n k, A n k = x0 (ix3 s ⟨n.val * 16 + k.val / 128, by omega⟩ ⟨z.val * 128 + k.val % 128, by omega⟩))
    (hP : ∀ r k, P r k = x1 (ix3 z ⟨r.val * 16 + k.val / 128, by omega⟩ ⟨k.val % 64, by omega⟩))
    (hW : ∀ k q, W k q = x2 (ix4 z ⟨q.val / 256 * 16 + k.val / 128, by omega⟩ ⟨k.val % 64, by omega⟩
      ⟨q.val % 128, by omega⟩) * if k.val / 64 % 2 = q.val / 128 % 2 then (1 : EReal) else 0)
    (hb : ∀ q, b q = x3 (ix2 z ⟨q.val % 128, by omega⟩))
    (hV : ∀ q i, V q i = x4 (ix3 z ⟨q.val % 128, by omega⟩ ⟨i.val % 64, by omega⟩)
      * if q.val / 128 = i.val / 64 then (1 : EReal) else 0)
    (n : Fin 512) (i : Fin 128) :
    blk A P W b V n i = Cert.CompressRefIdeal.Read.val_main_v37 (F := Ideal) x0 x1 x2 x3 x4
      (ix3 s ⟨128 + n.val, by omega⟩ ⟨z.val * 128 + i.val, by omega⟩) := by
  have ei : (⟨z.val * 128 + i.val, by omega⟩ : Fin 256)
      = ⟨z.val * 128 + (⟨i.val / 64, by omega⟩ : Fin 2).val * 64 + (⟨i.val % 64, by omega⟩ : Fin 64).val, by omega⟩ :=
    Fin.ext (by show z.val * 128 + i.val = z.val * 128 + i.val / 64 * 64 + i.val % 64; omega)
  rw [ei, Cert.CompressRefIdeal.Whole.out_mid]
  refine blk_head A P W b V _ _ n i ⟨i.val / 64, by omega⟩ (fun f => ?_) (fun f => ?_) (fun q hq => ?_)
  · refine (hid_head A P W b (st x0 s z ⟨i.val / 64, by omega⟩) (fun l d => x1 (ix3 z l d)) (fun l d => x2 (ix4 z l d f))
      ⟨i.val / 64, by omega⟩ _ (fun n l d => ?_) (fun l d => ?_) (fun l d => ?_) (fun l d => ?_) (fun l d => ?_)
      (fun k hk => ?_) (fun k hk => ?_) n).trans ?_
    · rw [hA]; unfold st
      congr 2 <;> exact Fin.ext (by dsimp only; omega)
    · rw [hP]
      congr 2 <;> exact Fin.ext (by dsimp only; omega)
    · rw [hP]
      congr 2 <;> exact Fin.ext (by dsimp only; omega)
    · rw [hW, if_pos (by dsimp only; omega), mul_one]
      congr 2 <;> exact Fin.ext (by dsimp only; omega)
    · rw [hW, if_pos (by dsimp only; omega), mul_one]
      congr 2 <;> exact Fin.ext (by dsimp only; omega)
    · rw [hW, if_neg (by dsimp only at hk ⊢; omega), mul_zero]
    · rw [hW, if_neg (by dsimp only at hk ⊢; omega), mul_zero]
    · rw [hb]
      congr 3; exact Fin.ext (by dsimp only; omega)
  · rw [hV, if_pos (by dsimp only; omega), mul_one]
    congr 2; exact Fin.ext (by dsimp only; omega)
  · rw [hV, if_neg hq, mul_zero]

/-- The result array after the run is the reference's result. -/
theorem final (c : Dev nD) : (dats m 0 c).arrAt 5 (cfgs 0).N
    = Cert.CompressRefIdeal.Read.val_main_v37 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) := by
  refine (dats m 0 c).arrAt_eq_of_covers 5 _ (by decide +kernel) fun t hf y => ?_
  blk_simp; rw [after0_5]; unfold outsAt0; frame_out
  canon_tiles x h using (View.cover_of_tiledBy _ ![1, 128, 128] (by sl_kernel_rfl) y)
  · idx_vars x
    idx_vars y
    have ep : ((cfg0.win 5).blk t).view.emb (ix3 y0 y1 y2)
        = ix3 (str t) ⟨128 + x1.val, by omega⟩ ⟨(1 : Fin 2).val * 128 + x2.val, by omega⟩ :=
      (outPos t y0 y1 y2).trans (congrArg₂ (fun a b => ix3 (str t) a b) (Fin.ext h1) (Fin.ext h2))
    refine Eq.trans ?_ (congrArg _ ep.symm)
    obtain rfl : x0 = 0 := Fin.ext (by omega)
    simp only [piece_1_0, piece_1_1, piece_1_2, piece_1_3, piece_1_4, piece_1_5, piece_1_6, piece_1_7, piece_1_8,
      piece_1_9, piece_1_10, piece_1_11, piece_1_12, piece_1_13, piece_1_14, piece_1_15]
    refine (half1_at (piece (iblk m c 0 t) 128 (by omega)) _ _ _ _ x1 x2).trans ?_
    refine blk_val _ _ _ _ _ (str t) 1 _ _ _ _ _ (fun n k => ?_) (fun r k => ?_) (fun k q => ?_) (fun q => ?_) (fun q i => ?_) x1 x2
    · refine (in0 m c t n ⟨k.val / 128 * 256 + 128 + k.val % 128, by omega⟩).trans ?_
      congr 2 <;> exact Fin.ext (by dsimp only; omega)
    · refine (in1 m c t r ⟨k.val / 128 * 256 + 128 + k.val % 128, by omega⟩).trans ?_
      congr 2 <;> exact Fin.ext (by dsimp only; omega)
    · refine Eq.trans ?_ (in2 m c t 1 k q)
      pointwise
    · refine Eq.trans ?_ (in4 m c t 1 q)
      pointwise
    · refine Eq.trans ?_ (in3 m c t 1 q i)
      pointwise
  · idx_vars x
    idx_vars y
    have ep : ((cfg0.win 5).blk t).view.emb (ix3 y0 y1 y2)
        = ix3 (str t) ⟨128 + x1.val, by omega⟩ ⟨(0 : Fin 2).val * 128 + x2.val, by omega⟩ :=
      (outPos t y0 y1 y2).trans (congrArg₂ (fun a b => ix3 (str t) a b) (Fin.ext h1)
        (Fin.ext (h2.trans (by show x2.val = 0 * 128 + x2.val; omega))))
    refine Eq.trans ?_ (congrArg _ ep.symm)
    obtain rfl : x0 = 0 := Fin.ext (by omega)
    simp only [piece_0_0, piece_0_1, piece_0_2, piece_0_3, piece_0_4, piece_0_5, piece_0_6, piece_0_7, piece_0_8,
      piece_0_9, piece_0_10]
    refine (half0_at (piece (iblk m c 0 t) 0 (by omega)) _ _ _ _ _ (piece_0_11 _) (piece_0_12 _) (piece_0_13 _)
      (piece_0_14 _) (piece_0_15 _) _ _ _ _ x1 x2).trans ?_
    refine blk_val _ _ _ _ _ (str t) 0 _ _ _ _ _ (fun n k => ?_) (fun r k => ?_) (fun k q => ?_) (fun q => ?_) (fun q i => ?_) x1 x2
    · refine (in0 m c t n ⟨k.val / 128 * 256 + 0 + k.val % 128, by omega⟩).trans ?_
      congr 2 <;> exact Fin.ext (by dsimp only; omega)
    · refine (in1 m c t r ⟨k.val / 128 * 256 + 0 + k.val % 128, by omega⟩).trans ?_
      congr 2 <;> exact Fin.ext (by dsimp only; omega)
    · refine Eq.trans ?_ (in2 m c t 0 k q)
      pointwise
    · refine Eq.trans ?_ (in4 m c t 0 q)
      pointwise
    · refine Eq.trans ?_ (in3 m c t 0 q i)
      pointwise
  · idx_vars x
    idx_vars y
    have ep : ((cfg0.win 5).blk t).view.emb (ix3 y0 y1 y2) = ix3 (str t) ⟨640 + x1.val, by omega⟩ x2 :=
      (outPos t y0 y1 y2).trans (congrArg₂ (fun a b => ix3 (str t) a b) (Fin.ext h1) (Fin.ext h2))
    refine Eq.trans ?_ (congrArg _ ep.symm)
    refine Eq.trans ?_ (Cert.CompressRefIdeal.Whole.out_hi _ _ _ _ _ _ _ _).symm
    pointwise [k0_pay2]
  · idx_vars x
    idx_vars y
    have ep : ((cfg0.win 5).blk t).view.emb (ix3 y0 y1 y2) = ix3 (str t) ⟨x1.val, by omega⟩ x2 :=
      (outPos t y0 y1 y2).trans (congrArg₂ (fun a b => ix3 (str t) a b) (Fin.ext h1) (Fin.ext h2))
    refine Eq.trans ?_ (congrArg _ ep.symm)
    refine Eq.trans ?_ (Cert.CompressRefIdeal.Whole.out_lo _ _ _ _ _ _ _ _).symm
    pointwise [k0_pay1]

end Cert.CompressIdeal.Whole

end
-- ==== Proof.CompressClaim.lean ====
/- The block compression kernel computes its reference. -/
module

public import proofs.«01_k».proof.Defs
public import proofs.«01_k».proof.Proof.CompressValue
public import proofs.«01_k».proof.Proof.Gen.CompressIdeal.Value

@[expose] public section

set_option maxRecDepth 16384

noncomputable section

open Idealize.ShloMosaic Idealize.SL.Sem

namespace Cert.CompressValue

/-- From memories that agree on the arguments the kernel and its reference end with equal results. -/
theorem algebraic : Cert.algebraic_CompressIdeal_CompressRefIdeal (hCompressIdeal := Cert.CompressIdeal.Gen.facts)
    (hCompressRefIdeal := Cert.CompressRefIdeal.Gen.facts) := by
  pair_intro
  · run_from Cert.CompressIdeal.Value.run_blocks m g
  · run_from Cert.CompressRefIdeal.Value.run m' g'
    refine (Cert.CompressRefIdeal.Read.val_main_v37_eq m' c).trans (Eq.trans ?_ (Cert.CompressIdeal.Whole.final m c).symm)
    obtain ⟨h0, h1, h2, h3, h4⟩ := hagree c
    rw [h0, h1, h2, h3, h4]

end Cert.CompressValue

end
-- ==== Proof.TailFfnBlock.lean ====
/- What one grid point of the second call, the feed-forward, stores, a row at a time. -/
module

public import proofs.«01_k».proof.Proof.Rows
public import proofs.«01_k».proof.Proof.Gen.TailIdeal.Skeleton

@[expose] public section

set_option maxRecDepth 16384

noncomputable section

open Idealize.ShloMosaic Idealize.ShloMosaic.TcCoe Idealize.SL.Sem
open scoped BigOperators

namespace Cert.TailIdeal.FfnBlock

open Cert.TailIdeal Cert.TailIdeal.Gen Cert.Rows

theorem pay3_at (x : FVec Ideal S512x1024 .f32) (g : FVec Ideal S1x1024 .f32) (r : Fin 512) (j : Fin 1024) :
    k1_pay3 (F := Ideal) x g (ix2 r j) = rms (fun k => x (ix2 r k)) (fun k => g (ix2 0 k)) j := by
  pointwise! [k1_pay3, k1_pay2, rms]

theorem pay5_at (x : FVec Ideal S512x1024 .f32) (g : FVec Ideal S1x1024 .f32) (w : FVec Ideal S1024x1408 .bf16)
    (r : Fin 512) (f : Fin 1408) :
    k1_pay5 (F := Ideal) x g w (ix2 r f) = ∑ k : Fin 1024, k1_pay3 (F := Ideal) x g (ix2 r k) * w (ix2 k f) := by
  pointwise! [k1_pay5]

theorem pay6_at (x : FVec Ideal S512x1024 .f32) (g : FVec Ideal S1x1024 .f32) (w : FVec Ideal S1024x1408 .bf16)
    (r : Fin 512) (f : Fin 1408) :
    k1_pay6 (F := Ideal) x g w (ix2 r f) = ∑ k : Fin 1024, k1_pay3 (F := Ideal) x g (ix2 r k) * w (ix2 k f) := by
  pointwise! [k1_pay6]

theorem pay4_at (x : FVec Ideal S512x1024 .f32) (g : FVec Ideal S1x1024 .f32) (wg wu : FVec Ideal S1024x1408 .bf16)
    (wd : FVec Ideal S1408x1024 .bf16) (r : Fin 512) (j : Fin 1024) :
    k1_pay4 (F := Ideal) x g wg wu wd (ix2 r j) = x (ix2 r j)
      + ∑ f : Fin 1408, swi (∑ k : Fin 1024, k1_pay3 (F := Ideal) x g (ix2 r k) * wg (ix2 k f))
          (∑ k : Fin 1024, k1_pay3 (F := Ideal) x g (ix2 r k) * wu (ix2 k f)) * wd (ix2 f j) := by
  pointwise! [k1_pay4, k1_pay2, swi]

/-- The block the body stores, from the running row `a`, the second half's products and the second half of the
    down weight. -/
theorem pay1_at (a : FVec Ideal S512x1024 .f32) (p q : FVec Ideal S512x1408 .f32)
    (wd : FVec Ideal S1408x1024 .bf16) (g : FVec Ideal S1x1024 .f32) (r : Fin 512) (j : Fin 1024) :
    k1_pay1 (F := Ideal) a p q wd g (ix2 r j)
      = rms (fun j => a (ix2 r j) + ∑ f : Fin 1408, swi (p (ix2 r f)) (q (ix2 r f)) * wd (ix2 f j))
          (fun k => g (ix2 0 k)) j := by
  pointwise! [k1_pay1, rms, swi]

end Cert.TailIdeal.FfnBlock

end
-- ==== Proof.TailMergeBlock.lean ====
/- What one grid point of the first call of the tail, the merge, stores, a row at a time. -/
module

public import proofs.«01_k».proof.Proof.Rows
public import proofs.«01_k».proof.Proof.Gen.TailIdeal.Skeleton

@[expose] public section

set_option maxRecDepth 16384

noncomputable section

open Idealize.ShloMosaic Idealize.ShloMosaic.TcCoe Idealize.SL.Sem
open scoped BigOperators

namespace Cert.TailIdeal.MergeBlock

open Cert.TailIdeal Cert.TailIdeal.Gen Cert.Rows

theorem pay2_at (x : FVec Ideal S512x1024 .f32) (g : FVec Ideal S1x1024 .f32) (r : Fin 512) (j : Fin 1024) :
    k0_pay2 (F := Ideal) x g (ix2 r j) = rms (fun k => x (ix2 r k)) (fun k => g (ix2 0 k)) j := by
  pointwise! [k0_pay2, rms]

theorem pay3_at (x : FVec Ideal S512x1024 .f32) (g : FVec Ideal S1x1024 .f32) (wg : FVec Ideal S1024x1024 .bf16)
    (o : FVec Ideal S512x1024 .bf16) (w : FVec Ideal S1024x1024 .bf16) (r : Fin 512) (j : Fin 1024) :
    k0_pay3 (F := Ideal) x g wg o w (ix2 r j)
      = Ideal.logistic (∑ k : Fin 1024, k0_pay2 (F := Ideal) x g (ix2 r k) * wg (ix2 k j))
        * ∑ l : Fin 1024, o (ix2 r l) * w (ix2 l j) := by
  pointwise! [k0_pay3]

theorem pay4_at (x : FVec Ideal S512x1024 .f32) (g : FVec Ideal S1x1024 .f32) (wg : FVec Ideal S1024x1024 .bf16)
    (o : FVec Ideal S512x1024 .bf16) (w : FVec Ideal S1024x1024 .bf16) (r : Fin 512) (j : Fin 1024) :
    k0_pay4 (F := Ideal) x g wg o w (ix2 r j)
      = Ideal.logistic (∑ k : Fin 1024, k0_pay2 (F := Ideal) x g (ix2 r k) * wg (ix2 k j))
        * ∑ l : Fin 1024, o (ix2 r l) * w (ix2 l j) := by
  pointwise! [k0_pay4]

theorem pay1_at (x a b : FVec Ideal S512x1024 .f32) (w : FVec Ideal S1024x1024 .bf16) (r : Fin 512) (j : Fin 1024) :
    k0_pay1 (F := Ideal) x a b w (ix2 r j)
      = x (ix2 r j) + ∑ k : Fin 1024, (a (ix2 r k) + b (ix2 r k)) * w (ix2 k j) := by
  pointwise! [k0_pay1]

/-- What the body computes from blocks laid out in lanes, at a row and a column. -/
theorem block_at (x : FVec Ideal S512x1024 .f32) (g : FVec Ideal S1x1024 .f32) (ga gb : FVec Ideal S1024x1024 .bf16)
    (oa ob : FVec Ideal S512x1024 .bf16) (wa wb : FVec Ideal S1024x1024 .bf16) (wo : FVec Ideal S1024x1024 .bf16)
    (pa pb : Fin 512 → Fin 512 → EReal) (qa qb : Fin 512 → Fin 1024 → EReal)
    (hoa : ∀ r l, oa (ix2 r l) = pa r (lane l) * keep l) (hob : ∀ r l, ob (ix2 r l) = pb r (lane l) * keep l)
    (hwa : ∀ l k, wa (ix2 l k) = qa (lane l) k * keep l) (hwb : ∀ l k, wb (ix2 l k) = qb (lane l) k * keep l)
    (r : Fin 512) (j : Fin 1024) :
    k0_pay1 (F := Ideal) x (k0_pay3 x g ga oa wa) (k0_pay4 x g gb ob wb) wo (ix2 r j)
      = mergeRow (fun k => x (ix2 r k)) (fun k => g (ix2 0 k)) (fun k f => ga (ix2 k f)) (fun k f => gb (ix2 k f))
        (pa r) (pb r) qa qb (fun k j => wo (ix2 k j)) j := by
  rw [pay1_at]
  simp only [pay3_at, pay4_at, pay2_at, hoa, hob, hwa, hwb]
  have hA := fun k => sum_lanes (pa r) (fun i => qa i k)
  have hB := fun k => sum_lanes (pb r) (fun i => qb i k)
  simp only [hA, hB]
  rfl

end Cert.TailIdeal.MergeBlock

end
-- ==== Proof.TailMergeValue.lean ====
/- What the first call of the tail, the merge, leaves in its result array. -/
module

public import proofs.«01_k».proof.Proof.TailMergeBlock
public import proofs.«01_k».proof.Proof.MergeRef
public import proofs.«01_k».proof.Proof.Gen.TailIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.TailIdeal.MergeWhole

open Cert.TailIdeal Cert.TailIdeal.Gen Cert.Rows

variable (m : (ℓ : Loc nD τ sig) → Buf (Elt Ideal) ℓ) (ρ : Dev nD → PrngReg)

/-- Every window's block index at every grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val, 0] :=
  (by decide +kernel : ∀ t : Fin grid0.N, _)

/-- The row of the activations that row `y0` of point `t`'s block is. -/
def row (t : Fin cfg0.N) (y0 : Fin 512) : Fin 16384 :=
  ⟨t.val * 512 + y0.val, by have : t.val < 32 := t.isLt; omega⟩

/-- What a buffer holds when the first call begins. -/
theorem entry0 (c : Dev nD) (b : Ref sig .tc) :
    V1 m ρ c b = StableHlo.after hostOps0 (fun b => m (c, b)) (Proc.devRef .tc b) := rfl

theorem in0 (c : Dev nD) (t : Fin cfg0.N) (r : Fin 512) (k : Fin 1024) :
    (iblk0 (V1 m ρ) c 0 t : FVec Ideal S512x1024 .f32) (ix2 r k) = m ((c : Thread nD τ).loc main_arg0) (ix2 (row t r) k) := by
  blk_ext! [iblk0, row, idx t]

theorem lit0_at (a : Fin 8) (b : Fin 2) :
    (FloatOps.ofBits (F := Ideal) .f32 (lit0 (S8x2.rowMajor (ix2 a b))) : EReal) = if b.val = a.val / 4 then 1 else 0 := by
  have h : lit0 (S8x2.rowMajor (ix2 a b)) = if b.val = a.val / 4 then 0x3F800000#32 else 0x00000000#32 := by
    revert a b; decide +kernel
  rw [h]; split <;> pointwise!

theorem lit1_at (a : Fin 8) (b : Fin 2) :
    (FloatOps.ofBits (F := Ideal) .f32 (lit1 (S8x2.rowMajor (ix2 a b))) : EReal) = if b.val = a.val / 4 then 1 else 0 := by
  have h : lit1 (S8x2.rowMajor (ix2 a b)) = if b.val = a.val / 4 then 0x3F800000#32 else 0x00000000#32 := by
    revert a b; decide +kernel
  rw [h]; split <;> pointwise!

theorem lit2_at (a : Fin 8) (b : Fin 2) :
    (FloatOps.ofBits (F := Ideal) .f32 (lit2 (S8x2.rowMajor (ix2 a b))) : EReal) = if b.val = a.val / 4 then 1 else 0 := by
  have h : lit2 (S8x2.rowMajor (ix2 a b)) = if b.val = a.val / 4 then 0x3F800000#32 else 0x00000000#32 := by
    revert a b; decide +kernel
  rw [h]; split <;> pointwise!

theorem lit3_at (a : Fin 8) (b : Fin 2) :
    (FloatOps.ofBits (F := Ideal) .f32 (lit3 (S8x2.rowMajor (ix2 a b))) : EReal) = if b.val = a.val / 4 then 1 else 0 := by
  have h : lit3 (S8x2.rowMajor (ix2 a b)) = if b.val = a.val / 4 then 0x3F800000#32 else 0x00000000#32 := by
    revert a b; decide +kernel
  rw [h]; split <;> pointwise!

/-- The lane layout's selector in terms of the lane. -/
theorem keep_of (l : Fin 1024) (v : Fin 8 → Fin 2 → EReal) (hv : ∀ a b, v a b = if b.val = a.val / 4 then 1 else 0) :
    v ⟨l.val / 128, by omega⟩ ⟨l.val / 64 % 2, by omega⟩ = keep l := by
  rw [hv, keep]
  have h : l.val / 128 / 4 = l.val / 512 := by omega
  simp only [h]

/-- The first branch's output. -/
abbrev A1 (c : Dev nD) : FVec Ideal S16384x512 .f32 := m ((c : Thread nD τ).loc main_arg1)
/-- The second branch's output. -/
abbrev A2 (c : Dev nD) : FVec Ideal S16384x512 .f32 := m ((c : Thread nD τ).loc main_arg2)
/-- The first branch's weight. -/
abbrev A5 (c : Dev nD) : FVec Ideal S512x1024 .f32 := m ((c : Thread nD τ).loc main_arg5)
/-- The second branch's weight. -/
abbrev A6 (c : Dev nD) : FVec Ideal S512x1024 .f32 := m ((c : Thread nD τ).loc main_arg6)

theorem in1 (c : Dev nD) (t : Fin cfg0.N) (r : Fin 512) (l : Fin 1024) :
    (iblk0 (V1 m ρ) c 1 t : FVec Ideal S512x1024 .bf16) (ix2 r l) = A1 m c (ix2 (row t r) (lane l)) * keep l := by
  have e : ((cfg0.win 1).blk t).view.emb (ix2 r l) = ix2 (row t r) l := by blk_ext! [row, idx t]
  blk_simp [iblk0]; rw [entry0]; entry_read
  refine (congrArg _ e).trans ?_
  pointwise
  refine congrArg₂ (fun x y : EReal => x * y) ?_ (keep_of l (fun a b => Ideal.ofBits .f32 (lit2 (S8x2.rowMajor (ix2 a b)))) lit2_at)
  refine congrArg (A1 m c) ?_
  blk_ext! [lane]

theorem in2 (c : Dev nD) (t : Fin cfg0.N) (r : Fin 512) (l : Fin 1024) :
    (iblk0 (V1 m ρ) c 2 t : FVec Ideal S512x1024 .bf16) (ix2 r l) = A2 m c (ix2 (row t r) (lane l)) * keep l := by
  have e : ((cfg0.win 2).blk t).view.emb (ix2 r l) = ix2 (row t r) l := by blk_ext! [row, idx t]
  blk_simp [iblk0]; rw [entry0]; entry_read
  refine (congrArg _ e).trans ?_
  pointwise
  refine congrArg₂ (fun x y : EReal => x * y) ?_ (keep_of l (fun a b => Ideal.ofBits .f32 (lit3 (S8x2.rowMajor (ix2 a b)))) lit3_at)
  refine congrArg (A2 m c) ?_
  blk_ext! [lane]

theorem in3 (c : Dev nD) (t : Fin cfg0.N) (k : Fin 1024) :
    (iblk0 (V1 m ρ) c 3 t : FVec Ideal S1x1024 .f32) (ix2 0 k) = m ((c : Thread nD τ).loc main_arg3) (ix1 k) := by
  blk_simp [iblk0]; rw [entry0]; entry_read; pointwise; blk_ext! [idx t]

theorem in4 (c : Dev nD) (t : Fin cfg0.N) (k : Fin 1024) (f : Fin 2048) :
    (iblk0 (V1 m ρ) c 4 t : FVec Ideal S1024x2048 .bf16) (ix2 k f)
      = m ((c : Thread nD τ).loc main_arg4) (ix2 k ⟨2396 + f.val, by omega⟩) := by
  blk_simp [iblk0]; rw [entry0]; entry_read; pointwise; blk_ext! [idx t]

theorem in5 (c : Dev nD) (t : Fin cfg0.N) (l k : Fin 1024) :
    (iblk0 (V1 m ρ) c 5 t : FVec Ideal S1024x1024 .bf16) (ix2 l k) = A5 m c (ix2 (lane l) k) * keep l := by
  have e : ((cfg0.win 5).blk t).view.emb (ix2 l k) = ix2 l k := by blk_ext! [row, idx t]
  blk_simp [iblk0]; rw [entry0]; entry_read
  refine (congrArg _ e).trans ?_
  pointwise
  refine congrArg₂ (fun x y : EReal => x * y) ?_ (keep_of l (fun a b => Ideal.ofBits .f32 (lit0 (S8x2.rowMajor (ix2 a b)))) lit0_at)
  refine congrArg (A5 m c) ?_
  blk_ext! [lane]

theorem in6 (c : Dev nD) (t : Fin cfg0.N) (l k : Fin 1024) :
    (iblk0 (V1 m ρ) c 6 t : FVec Ideal S1024x1024 .bf16) (ix2 l k) = A6 m c (ix2 (lane l) k) * keep l := by
  have e : ((cfg0.win 6).blk t).view.emb (ix2 l k) = ix2 l k := by blk_ext! [row, idx t]
  blk_simp [iblk0]; rw [entry0]; entry_read
  refine (congrArg _ e).trans ?_
  pointwise
  refine congrArg₂ (fun x y : EReal => x * y) ?_ (keep_of l (fun a b => Ideal.ofBits .f32 (lit1 (S8x2.rowMajor (ix2 a b)))) lit1_at)
  refine congrArg (A6 m c) ?_
  blk_ext! [lane]

theorem in7 (c : Dev nD) (t : Fin cfg0.N) :
    (iblk0 (V1 m ρ) c 7 t : FVec Ideal S1024x1024 .bf16) = m ((c : Thread nD τ).loc main_arg7) := by
  funext y; blk_simp [iblk0]; rw [entry0]; entry_read; blk_ext! [idx t]

theorem outPos (t : Fin cfg0.N) (y0 : Fin 512) (y1 : Fin 1024) :
    ((cfg0.win 8).blk t).view.emb (ix2 y0 y1) = ix2 (row t y0) y1 := by
  blk_ext! [row, idx t]

theorem point (c : Dev nD) (t : Fin cfg0.N) (y : S512x1024.Idx) :
    k0_pay1 (iblk0 (V1 m ρ) c 0 t) (k0_pay3 (iblk0 (V1 m ρ) c 0 t) (iblk0 (V1 m ρ) c 3 t) (View.ld (iblk0 (V1 m ρ) c 4 t) r0_2) (iblk0 (V1 m ρ) c 1 t) (iblk0 (V1 m ρ)
      c 5 t)) (k0_pay4 (iblk0 (V1 m ρ) c 0 t) (iblk0 (V1 m ρ) c 3 t) (View.ld (iblk0 (V1 m ρ) c 4 t) r0_4) (iblk0 (V1 m ρ) c 2 t) (iblk0 (V1 m ρ) c 6 t)) (iblk0 (V1 m ρ)
      c 7 t) y
      = Cert.MergeRefIdeal.Read.out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (((cfg0.win 8).blk t).view.emb y) := by
  idx_vars y
  refine (MergeBlock.block_at _ _ _ _ _ _ _ _ _ (fun r i => A1 m c (ix2 (row t r) i)) (fun r i => A2 m c (ix2 (row t r) i))
    (fun i k => A5 m c (ix2 i k)) (fun i k => A6 m c (ix2 i k)) (in1 m ρ c t) (in2 m ρ c t) (in5 m ρ c t) (in6 m ρ c t)
    y0 y1).trans ?_
  refine Eq.trans ?_ (congrArg _ (outPos t y0 y1).symm)
  refine Eq.trans ?_ (Cert.MergeRefIdeal.Read.out_at _ _ _ _ _ _ _ _ _ _).symm
  have ha : ∀ k f : Fin 1024, View.ld (iblk0 (V1 m ρ) c 4 t) r0_2 (ix2 k f)
      = m ((c : Thread nD τ).loc main_arg4) (ix2 k ⟨2396 + f.val, by omega⟩) := by
    intro k f; pointwise [r0_2]; exact in4 m ρ c t k ⟨f.val, by omega⟩
  have hb : ∀ k f : Fin 1024, View.ld (iblk0 (V1 m ρ) c 4 t) r0_4 (ix2 k f)
      = m ((c : Thread nD τ).loc main_arg4) (ix2 k ⟨2396 + (1024 + f.val), by omega⟩) := by
    intro k f; pointwise [r0_4]; exact in4 m ρ c t k ⟨1024 + f.val, by omega⟩
  simp only [in0, in3, in7, ha, hb]

/-- The result array after the run is the reference's result. -/
theorem final (c : Dev nD) : (dat0 (V1 m ρ) c).arrAt 8 cfg0.N
    = Cert.MergeRefIdeal.Read.out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dat0 (V1 m ρ) c).arrAt_eq_of_covers 8 _ (by decide +kernel) fun t hf y => ?_
  blk_simp; rw [after0_8]; unfold out0_8; frame_out
  exact point m ρ c t y

end Cert.TailIdeal.MergeWhole

end
-- ==== Proof.TailFfnValue.lean ====
/- What the tail, the merge and then the feed-forward kernel's result array holds after the run. -/
module

public import proofs.«01_k».proof.Proof.TailFfnBlock
public import proofs.«01_k».proof.Proof.FfnRef
public import proofs.«01_k».proof.Proof.TailMergeValue
public import proofs.«01_k».proof.Proof.Gen.TailIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.TailIdeal.FfnWhole

open Cert.TailIdeal Cert.TailIdeal.Gen Cert.Rows

variable (m : (ℓ : Loc nD τ sig) → Buf (Elt Ideal) ℓ) (ρ : Dev nD → PrngReg)

/-- Every window's block index at every grid point. -/
theorem idx : ∀ t : Fin cfg1.N, win1_0.index t = ![t.val, 0]
    ∧ win1_1.index t = ![0, 0]
    ∧ win1_2.index t = ![0, 0]
    ∧ win1_3.index t = ![0, 0]
    ∧ win1_4.index t = ![0, 0]
    ∧ win1_5.index t = ![0, 0]
    ∧ win1_6.index t = ![t.val, 0] :=
  (by decide +kernel : ∀ t : Fin grid1.N, _)

/-- What the body computes from its blocks, at a row and a column. -/
theorem block_at (x : FVec Ideal S512x1024 .f32) (g1 g2 : FVec Ideal S1x1024 .f32)
    (wg wu : Fin 1024 → Fin 2816 → EReal) (wd : Fin 2816 → Fin 1024 → EReal)
    (ga ua gb ub : FVec Ideal S1024x1408 .bf16) (da db : FVec Ideal S1408x1024 .bf16)
    (hga : ∀ k (f : Fin 1408), ga (ix2 k f) = wg k ⟨f.val, by omega⟩)
    (hgb : ∀ k (f : Fin 1408), gb (ix2 k f) = wg k ⟨1408 + f.val, by omega⟩)
    (hua : ∀ k (f : Fin 1408), ua (ix2 k f) = wu k ⟨f.val, by omega⟩)
    (hub : ∀ k (f : Fin 1408), ub (ix2 k f) = wu k ⟨1408 + f.val, by omega⟩)
    (hda : ∀ (f : Fin 1408) k, da (ix2 f k) = wd ⟨f.val, by omega⟩ k)
    (hdb : ∀ (f : Fin 1408) k, db (ix2 f k) = wd ⟨1408 + f.val, by omega⟩ k)
    (r : Fin 512) (j : Fin 1024) :
    k1_pay1 (F := Ideal) (k1_pay4 x g1 ga ua da) (k1_pay5 x g1 gb) (k1_pay6 x g1 ub) db g2 (ix2 r j)
      = ffnRow (fun k => x (ix2 r k)) (fun k => g1 (ix2 0 k)) (fun k => g2 (ix2 0 k)) wg wu wd j := by
  rw [FfnBlock.pay1_at]
  simp only [FfnBlock.pay4_at, FfnBlock.pay6_at, FfnBlock.pay5_at, FfnBlock.pay3_at, hga, hgb, hua, hub, hda, hdb]
  unfold ffnRow
  congr 1
  funext j
  unfold ffnSum
  rw [sum_halves, ← add_assoc]
  rfl

/-- The row of the activations that row `y0` of point `t`'s block is. -/
def row (t : Fin cfg1.N) (y0 : Fin 512) : Fin 16384 :=
  ⟨t.val * 512 + y0.val, by have : t.val < 32 := t.isLt; omega⟩

/-- What the first call leaves for the second: the merge's result. -/
abbrev mid (c : Dev nD) : FVec Ideal S16384x1024 .f32 :=
  Cert.MergeRefIdeal.Read.out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- What a buffer holds when the second call begins. -/
theorem entry1 (c : Dev nD) (b : Ref sig .tc) :
    V3 m ρ c b = StableHlo.after hostOps1 (W2 m ρ c) (Proc.devRef .tc b) := rfl

theorem mid_entry (c : Dev nD) : (V3 m ρ c main_v32 : FVec Ideal S16384x1024 .f32) = mid m c :=
  (W3_of m ρ c main_v32 (by decide)).trans ((W2_arr m ρ c 8).trans (MergeWhole.final m ρ c))

theorem arg8 (c : Dev nD) : W2 m ρ c (Proc.devRef .tc main_arg8) = m ((c : Thread nD τ).loc main_arg8) :=
  W2_args m ρ c main_arg8 (by decide)
theorem arg9 (c : Dev nD) : W2 m ρ c (Proc.devRef .tc main_arg9) = m ((c : Thread nD τ).loc main_arg9) :=
  W2_args m ρ c main_arg9 (by decide)
theorem arg10 (c : Dev nD) : W2 m ρ c (Proc.devRef .tc main_arg10) = m ((c : Thread nD τ).loc main_arg10) :=
  W2_args m ρ c main_arg10 (by decide)
theorem arg11 (c : Dev nD) : W2 m ρ c (Proc.devRef .tc main_arg11) = m ((c : Thread nD τ).loc main_arg11) :=
  W2_args m ρ c main_arg11 (by decide)
theorem arg12 (c : Dev nD) : W2 m ρ c (Proc.devRef .tc main_arg12) = m ((c : Thread nD τ).loc main_arg12) :=
  W2_args m ρ c main_arg12 (by decide)

theorem in0 (c : Dev nD) (t : Fin cfg1.N) (r : Fin 512) (k : Fin 1024) :
    (iblk1 (V3 m ρ) c 0 t : FVec Ideal S512x1024 .f32) (ix2 r k) = mid m c (ix2 (row t r) k) := by
  have e : ((cfg1.win 0).blk t).view.emb (ix2 r k) = ix2 (row t r) k := by blk_ext! [row, idx t]
  exact (congrArg (V3 m ρ c main_v32 : FVec Ideal S16384x1024 .f32) e).trans (congrFun (mid_entry m ρ c) _)

theorem in1 (c : Dev nD) (t : Fin cfg1.N) (k : Fin 1024) :
    (iblk1 (V3 m ρ) c 1 t : FVec Ideal S1x1024 .f32) (ix2 0 k) = m ((c : Thread nD τ).loc main_arg8) (ix1 k) := by
  blk_simp [iblk1]; rw [entry1]; entry_read; rw [arg8]; pointwise; blk_ext! [idx t]

theorem in2 (c : Dev nD) (t : Fin cfg1.N) (k : Fin 1024) :
    (iblk1 (V3 m ρ) c 2 t : FVec Ideal S1x1024 .f32) (ix2 0 k) = m ((c : Thread nD τ).loc main_arg9) (ix1 k) := by
  blk_simp [iblk1]; rw [entry1]; entry_read; rw [arg9]; pointwise; blk_ext! [idx t]

theorem in3 (c : Dev nD) (t : Fin cfg1.N) :
    (iblk1 (V3 m ρ) c 3 t : FVec Ideal S1024x2816 .bf16) = m ((c : Thread nD τ).loc main_arg10) := by
  funext y; blk_simp [iblk1]; rw [entry1]; entry_read; rw [arg10]; blk_ext! [idx t]

theorem in4 (c : Dev nD) (t : Fin cfg1.N) :
    (iblk1 (V3 m ρ) c 4 t : FVec Ideal S1024x2816 .bf16) = m ((c : Thread nD τ).loc main_arg11) := by
  funext y; blk_simp [iblk1]; rw [entry1]; entry_read; rw [arg11]; blk_ext! [idx t]

theorem in5 (c : Dev nD) (t : Fin cfg1.N) :
    (iblk1 (V3 m ρ) c 5 t : FVec Ideal S2816x1024 .bf16) = m ((c : Thread nD τ).loc main_arg12) := by
  funext y; blk_simp [iblk1]; rw [entry1]; entry_read; rw [arg12]; blk_ext! [idx t]

theorem outPos (t : Fin cfg1.N) (y0 : Fin 512) (y1 : Fin 1024) :
    ((cfg1.win 6).blk t).view.emb (ix2 y0 y1) = ix2 (row t y0) y1 := by
  blk_ext! [row, idx t]

theorem point (c : Dev nD) (t : Fin cfg1.N) (y : S512x1024.Idx) :
    k1_pay1 (k1_pay4 (iblk1 (V3 m ρ) c 0 t) (iblk1 (V3 m ρ) c 1 t) (View.ld (iblk1 (V3 m ρ) c 3 t) r1_2)
      (View.ld (iblk1 (V3 m ρ) c 4 t) r1_2) (View.ld (iblk1 (V3 m ρ) c 5 t) r1_3))
      (k1_pay5 (iblk1 (V3 m ρ) c 0 t) (iblk1 (V3 m ρ) c 1 t) (View.ld (iblk1 (V3 m ρ) c 3 t) r1_4))
      (k1_pay6 (iblk1 (V3 m ρ) c 0 t) (iblk1 (V3 m ρ) c 1 t) (View.ld (iblk1 (V3 m ρ) c 4 t) r1_4))
      (View.ld (iblk1 (V3 m ρ) c 5 t) r1_5) (iblk1 (V3 m ρ) c 2 t) y
      = Cert.FfnRefIdeal.Read.out (mid m c) (m ((c : Thread nD τ).loc main_arg8))
        (m ((c : Thread nD τ).loc main_arg9)) (m ((c : Thread nD τ).loc main_arg10)) (m ((c : Thread nD τ).loc main_arg11))
        (m ((c : Thread nD τ).loc main_arg12)) (((cfg1.win 6).blk t).view.emb y) := by
  idx_vars y
  refine (block_at _ _ _ (fun k f => m ((c : Thread nD τ).loc main_arg10) (ix2 k f))
    (fun k f => m ((c : Thread nD τ).loc main_arg11) (ix2 k f)) (fun f k => m ((c : Thread nD τ).loc main_arg12) (ix2 f k))
    _ _ _ _ _ _ ?_ ?_ ?_ ?_ ?_ ?_ _ _).trans ?_
  · intro k f; rw [in3]; pointwise [r1_2]
  · intro k f; rw [in3]; pointwise [r1_4]
  · intro k f; rw [in4]; pointwise [r1_2]
  · intro k f; rw [in4]; pointwise [r1_4]
  · intro k f; rw [in5]; pointwise [r1_3]
  · intro k f; rw [in5]; pointwise [r1_5]
  · refine Eq.trans ?_ (congrArg _ (outPos t y0 y1).symm)
    refine Eq.trans ?_ (Cert.FfnRefIdeal.Read.out_at _ _ _ _ _ _ _ _).symm
    simp only [in0, in1, in2]

/-- The result array after the run is the reference's result. -/
theorem final (c : Dev nD) : (dat1 (V3 m ρ) c).arrAt 6 cfg1.N
    = Cert.FfnRefIdeal.Read.out (mid m c) (m ((c : Thread nD τ).loc main_arg8))
        (m ((c : Thread nD τ).loc main_arg9)) (m ((c : Thread nD τ).loc main_arg10)) (m ((c : Thread nD τ).loc main_arg11))
        (m ((c : Thread nD τ).loc main_arg12)) := by
  refine (dat1 (V3 m ρ) c).arrAt_eq_of_covers 6 _ (by decide +kernel) fun t hf y => ?_
  blk_simp; rw [after1_6]; unfold out1_6; frame_out
  exact point m ρ c t y

end Cert.TailIdeal.FfnWhole

end
-- ==== Proof.TailRun.lean ====
/- The merge and the feed-forward in one program: what the result array holds at the end of the run. -/
module

public import proofs.«01_k».proof.Proof.Gen.TailIdeal.Frame

@[expose] public section

set_option maxRecDepth 16384

noncomputable section

namespace Cert.TailIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TailIdeal Cert.TailIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array as the second call's grid leaves it, and the arguments as they were. -/
theorem run : θ_run defs (onTc (τ := τ) (main (F := F))) ⟨m, fun _ => 0, ρ⟩ (fun r => ∀ c : Dev nD,
      r.2.mem ((c.tc : Thread nD τ).loc main_v38) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v38 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.TailIdeal.Whole

end
-- ==== Proof.TailClaim.lean ====
/- The merge and the feed-forward in one program compute their reference. -/
module

public import proofs.«01_k».proof.Defs
public import proofs.«01_k».proof.Proof.TailFfnValue
public import proofs.«01_k».proof.Proof.TailRun
public import proofs.«01_k».proof.Proof.Gen.TailRefIdeal.Run

@[expose] public section

set_option maxRecDepth 16384

noncomputable section

open Idealize.ShloMosaic Idealize.SL.Sem

namespace Cert.TailValue

open Cert.FfnRefIdeal.Read (nrm up gated resid)

/-- The reference's activations before the last norm, from its arguments. -/
abbrev core (x : FVec Ideal Cert.MergeRefIdeal.S16384x1024 .f32) (o1 o2 : FVec Ideal Cert.MergeRefIdeal.S16384x512 .f32)
    (g : FVec Ideal Cert.MergeRefIdeal.S1024 .f32) (w : FVec Ideal Cert.MergeRefIdeal.S1024x4444 .f32)
    (w1 w2 : FVec Ideal Cert.MergeRefIdeal.S512x1024 .f32) (wo : FVec Ideal Cert.MergeRefIdeal.S1024x1024 .f32)
    (g1 : FVec Ideal Cert.FfnRefIdeal.S1024 .f32) (wg wu : FVec Ideal Cert.FfnRefIdeal.S1024x2816 .f32)
    (wd : FVec Ideal Cert.FfnRefIdeal.S2816x1024 .f32) : FVec Ideal Cert.FfnRefIdeal.S16384x1024 .f32 :=
  resid (Cert.MergeRefIdeal.Read.out x o1 o2 g w w1 w2 wo)
    (gated (up (nrm (Cert.MergeRefIdeal.Read.out x o1 o2 g w w1 w2 wo) g1) wg)
      (up (nrm (Cert.MergeRefIdeal.Read.out x o1 o2 g w w1 w2 wo) g1) wu)) wd

open Cert.TailRefIdeal in
theorem core_eq (m : (ℓ : Loc nD τ sig) → Buf (Elt Ideal) ℓ) (c : Dev nD) :
    Cert.TailRefIdeal.Value.res_main_v51 (StableHlo.launchContents m c)
      = core (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7))
          (m (c.tc.loc main_arg8)) (m (c.tc.loc main_arg10)) (m (c.tc.loc main_arg11)) (m (c.tc.loc main_arg12)) := by
  with_unfolding_all rfl

/-- From memories that agree on the arguments the kernel and its reference end with equal results. -/
theorem algebraic : Cert.algebraic_TailIdeal_TailRefIdeal (hTailIdeal := Cert.TailIdeal.Gen.facts)
    (hTailRefIdeal := Cert.TailRefIdeal.Gen.facts) := by
  pair_intro
  · run_from Cert.TailIdeal.Whole.run m g
  · run_from Cert.TailRefIdeal.Value.run m' g'
    refine Eq.trans ?_ (Cert.TailIdeal.FfnWhole.final m g c).symm
    obtain ⟨h0, h1, h2, h3, h4, h5, h6, h7, h8, -, h10, h11, h12⟩ := hagree c
    rw [core_eq, h0, h1, h2, h3, h4, h5, h6, h7, h8, h10, h11, h12]
    with_unfolding_all rfl

end Cert.TailValue

end
-- ==== Proof.TailSFfnBlock.lean ====
/- What one grid point of the second call, the feed-forward, stores, a row at a time, at the sample's rows. -/
module

public import proofs.«01_k».proof.Proof.Rows
public import proofs.«01_k».proof.Proof.Gen.TailSIdeal.Skeleton

@[expose] public section

set_option maxRecDepth 16384

noncomputable section

open Idealize.ShloMosaic Idealize.ShloMosaic.TcCoe Idealize.SL.Sem
open scoped BigOperators

namespace Cert.TailSIdeal.FfnBlock

open Cert.TailSIdeal Cert.TailSIdeal.Gen Cert.Rows

theorem pay3_at (x : FVec Ideal S512x1024 .f32) (g : FVec Ideal S1x1024 .f32) (r : Fin 512) (j : Fin 1024) :
    k1_pay3 (F := Ideal) x g (ix2 r j) = rms (fun k => x (ix2 r k)) (fun k => g (ix2 0 k)) j := by
  pointwise! [k1_pay3, k1_pay2, rms]

theorem pay5_at (x : FVec Ideal S512x1024 .f32) (g : FVec Ideal S1x1024 .f32) (w : FVec Ideal S1024x1408 .bf16)
    (r : Fin 512) (f : Fin 1408) :
    k1_pay5 (F := Ideal) x g w (ix2 r f) = ∑ k : Fin 1024, k1_pay3 (F := Ideal) x g (ix2 r k) * w (ix2 k f) := by
  pointwise! [k1_pay5]

theorem pay6_at (x : FVec Ideal S512x1024 .f32) (g : FVec Ideal S1x1024 .f32) (w : FVec Ideal S1024x1408 .bf16)
    (r : Fin 512) (f : Fin 1408) :
    k1_pay6 (F := Ideal) x g w (ix2 r f) = ∑ k : Fin 1024, k1_pay3 (F := Ideal) x g (ix2 r k) * w (ix2 k f) := by
  pointwise! [k1_pay6]

theorem pay4_at (x : FVec Ideal S512x1024 .f32) (g : FVec Ideal S1x1024 .f32) (wg wu : FVec Ideal S1024x1408 .bf16)
    (wd : FVec Ideal S1408x1024 .bf16) (r : Fin 512) (j : Fin 1024) :
    k1_pay4 (F := Ideal) x g wg wu wd (ix2 r j) = x (ix2 r j)
      + ∑ f : Fin 1408, swi (∑ k : Fin 1024, k1_pay3 (F := Ideal) x g (ix2 r k) * wg (ix2 k f))
          (∑ k : Fin 1024, k1_pay3 (F := Ideal) x g (ix2 r k) * wu (ix2 k f)) * wd (ix2 f j) := by
  pointwise! [k1_pay4, k1_pay2, swi]

/-- The block the body stores, from the running row `a`, the second half's products and the second half of the
    down weight. -/
theorem pay1_at (a : FVec Ideal S512x1024 .f32) (p q : FVec Ideal S512x1408 .f32)
    (wd : FVec Ideal S1408x1024 .bf16) (g : FVec Ideal S1x1024 .f32) (r : Fin 512) (j : Fin 1024) :
    k1_pay1 (F := Ideal) a p q wd g (ix2 r j)
      = rms (fun j => a (ix2 r j) + ∑ f : Fin 1408, swi (p (ix2 r f)) (q (ix2 r f)) * wd (ix2 f j))
          (fun k => g (ix2 0 k)) j := by
  pointwise! [k1_pay1, rms, swi]

end Cert.TailSIdeal.FfnBlock

end
-- ==== Proof.TailSMergeBlock.lean ====
/- What one grid point of the first call of the tail, the merge, stores, a row at a time, at the sample's rows. -/
module

public import proofs.«01_k».proof.Proof.Rows
public import proofs.«01_k».proof.Proof.Gen.TailSIdeal.Skeleton

@[expose] public section

set_option maxRecDepth 16384

noncomputable section

open Idealize.ShloMosaic Idealize.ShloMosaic.TcCoe Idealize.SL.Sem
open scoped BigOperators

namespace Cert.TailSIdeal.MergeBlock

open Cert.TailSIdeal Cert.TailSIdeal.Gen Cert.Rows

theorem pay2_at (x : FVec Ideal S512x1024 .f32) (g : FVec Ideal S1x1024 .f32) (r : Fin 512) (j : Fin 1024) :
    k0_pay2 (F := Ideal) x g (ix2 r j) = rms (fun k => x (ix2 r k)) (fun k => g (ix2 0 k)) j := by
  pointwise! [k0_pay2, rms]

theorem pay3_at (x : FVec Ideal S512x1024 .f32) (g : FVec Ideal S1x1024 .f32) (wg : FVec Ideal S1024x1024 .bf16)
    (o : FVec Ideal S512x1024 .bf16) (w : FVec Ideal S1024x1024 .bf16) (r : Fin 512) (j : Fin 1024) :
    k0_pay3 (F := Ideal) x g wg o w (ix2 r j)
      = Ideal.logistic (∑ k : Fin 1024, k0_pay2 (F := Ideal) x g (ix2 r k) * wg (ix2 k j))
        * ∑ l : Fin 1024, o (ix2 r l) * w (ix2 l j) := by
  pointwise! [k0_pay3]

theorem pay4_at (x : FVec Ideal S512x1024 .f32) (g : FVec Ideal S1x1024 .f32) (wg : FVec Ideal S1024x1024 .bf16)
    (o : FVec Ideal S512x1024 .bf16) (w : FVec Ideal S1024x1024 .bf16) (r : Fin 512) (j : Fin 1024) :
    k0_pay4 (F := Ideal) x g wg o w (ix2 r j)
      = Ideal.logistic (∑ k : Fin 1024, k0_pay2 (F := Ideal) x g (ix2 r k) * wg (ix2 k j))
        * ∑ l : Fin 1024, o (ix2 r l) * w (ix2 l j) := by
  pointwise! [k0_pay4]

theorem pay1_at (x a b : FVec Ideal S512x1024 .f32) (w : FVec Ideal S1024x1024 .bf16) (r : Fin 512) (j : Fin 1024) :
    k0_pay1 (F := Ideal) x a b w (ix2 r j)
      = x (ix2 r j) + ∑ k : Fin 1024, (a (ix2 r k) + b (ix2 r k)) * w (ix2 k j) := by
  pointwise! [k0_pay1]

/-- What the body computes from blocks laid out in lanes, at a row and a column. -/
theorem block_at (x : FVec Ideal S512x1024 .f32) (g : FVec Ideal S1x1024 .f32) (ga gb : FVec Ideal S1024x1024 .bf16)
    (oa ob : FVec Ideal S512x1024 .bf16) (wa wb : FVec Ideal S1024x1024 .bf16) (wo : FVec Ideal S1024x1024 .bf16)
    (pa pb : Fin 512 → Fin 512 → EReal) (qa qb : Fin 512 → Fin 1024 → EReal)
    (hoa : ∀ r l, oa (ix2 r l) = pa r (lane l) * keep l) (hob : ∀ r l, ob (ix2 r l) = pb r (lane l) * keep l)
    (hwa : ∀ l k, wa (ix2 l k) = qa (lane l) k * keep l) (hwb : ∀ l k, wb (ix2 l k) = qb (lane l) k * keep l)
    (r : Fin 512) (j : Fin 1024) :
    k0_pay1 (F := Ideal) x (k0_pay3 x g ga oa wa) (k0_pay4 x g gb ob wb) wo (ix2 r j)
      = mergeRow (fun k => x (ix2 r k)) (fun k => g (ix2 0 k)) (fun k f => ga (ix2 k f)) (fun k f => gb (ix2 k f))
        (pa r) (pb r) qa qb (fun k j => wo (ix2 k j)) j := by
  rw [pay1_at]
  simp only [pay3_at, pay4_at, pay2_at, hoa, hob, hwa, hwb]
  have hA := fun k => sum_lanes (pa r) (fun i => qa i k)
  have hB := fun k => sum_lanes (pb r) (fun i => qb i k)
  simp only [hA, hB]
  rfl

end Cert.TailSIdeal.MergeBlock

end
-- ==== Proof.TailSMergeValue.lean ====
/- What the first call of the tail, the merge, leaves in its result array, at the sample's rows. -/
module

public import proofs.«01_k».proof.Proof.TailSMergeBlock
public import proofs.«01_k».proof.Proof.MergeSRef
public import proofs.«01_k».proof.Proof.Gen.TailSIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.TailSIdeal.MergeWhole

open Cert.TailSIdeal Cert.TailSIdeal.Gen Cert.Rows

variable (m : (ℓ : Loc nD τ sig) → Buf (Elt Ideal) ℓ) (ρ : Dev nD → PrngReg)

/-- Every window's block index at every grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val, 0] :=
  (by decide +kernel : ∀ t : Fin grid0.N, _)

/-- The row of the activations that row `y0` of point `t`'s block is. -/
def row (t : Fin cfg0.N) (y0 : Fin 512) : Fin 512 :=
  ⟨t.val * 512 + y0.val, by have : t.val < 1 := t.isLt; omega⟩

/-- What a buffer holds when the first call begins. -/
theorem entry0 (c : Dev nD) (b : Ref sig .tc) :
    V1 m ρ c b = StableHlo.after hostOps0 (fun b => m (c, b)) (Proc.devRef .tc b) := rfl

theorem in0 (c : Dev nD) (t : Fin cfg0.N) (r : Fin 512) (k : Fin 1024) :
    (iblk0 (V1 m ρ) c 0 t : FVec Ideal S512x1024 .f32) (ix2 r k) = m ((c : Thread nD τ).loc main_arg0) (ix2 (row t r) k) := by
  blk_ext! [iblk0, row, idx t]

theorem lit0_at (a : Fin 8) (b : Fin 2) :
    (FloatOps.ofBits (F := Ideal) .f32 (lit0 (S8x2.rowMajor (ix2 a b))) : EReal) = if b.val = a.val / 4 then 1 else 0 := by
  have h : lit0 (S8x2.rowMajor (ix2 a b)) = if b.val = a.val / 4 then 0x3F800000#32 else 0x00000000#32 := by
    revert a b; decide +kernel
  rw [h]; split <;> pointwise!

theorem lit1_at (a : Fin 8) (b : Fin 2) :
    (FloatOps.ofBits (F := Ideal) .f32 (lit1 (S8x2.rowMajor (ix2 a b))) : EReal) = if b.val = a.val / 4 then 1 else 0 := by
  have h : lit1 (S8x2.rowMajor (ix2 a b)) = if b.val = a.val / 4 then 0x3F800000#32 else 0x00000000#32 := by
    revert a b; decide +kernel
  rw [h]; split <;> pointwise!

theorem lit2_at (a : Fin 8) (b : Fin 2) :
    (FloatOps.ofBits (F := Ideal) .f32 (lit2 (S8x2.rowMajor (ix2 a b))) : EReal) = if b.val = a.val / 4 then 1 else 0 := by
  have h : lit2 (S8x2.rowMajor (ix2 a b)) = if b.val = a.val / 4 then 0x3F800000#32 else 0x00000000#32 := by
    revert a b; decide +kernel
  rw [h]; split <;> pointwise!

theorem lit3_at (a : Fin 8) (b : Fin 2) :
    (FloatOps.ofBits (F := Ideal) .f32 (lit3 (S8x2.rowMajor (ix2 a b))) : EReal) = if b.val = a.val / 4 then 1 else 0 := by
  have h : lit3 (S8x2.rowMajor (ix2 a b)) = if b.val = a.val / 4 then 0x3F800000#32 else 0x00000000#32 := by
    revert a b; decide +kernel
  rw [h]; split <;> pointwise!

/-- The lane layout's selector in terms of the lane. -/
theorem keep_of (l : Fin 1024) (v : Fin 8 → Fin 2 → EReal) (hv : ∀ a b, v a b = if b.val = a.val / 4 then 1 else 0) :
    v ⟨l.val / 128, by omega⟩ ⟨l.val / 64 % 2, by omega⟩ = keep l := by
  rw [hv, keep]
  have h : l.val / 128 / 4 = l.val / 512 := by omega
  simp only [h]

/-- The first branch's output. -/
abbrev A1 (c : Dev nD) : FVec Ideal S512x512 .f32 := m ((c : Thread nD τ).loc main_arg1)
/-- The second branch's output. -/
abbrev A2 (c : Dev nD) : FVec Ideal S512x512 .f32 := m ((c : Thread nD τ).loc main_arg2)
/-- The first branch's weight. -/
abbrev A5 (c : Dev nD) : FVec Ideal S512x1024 .f32 := m ((c : Thread nD τ).loc main_arg5)
/-- The second branch's weight. -/
abbrev A6 (c : Dev nD) : FVec Ideal S512x1024 .f32 := m ((c : Thread nD τ).loc main_arg6)

theorem in1 (c : Dev nD) (t : Fin cfg0.N) (r : Fin 512) (l : Fin 1024) :
    (iblk0 (V1 m ρ) c 1 t : FVec Ideal S512x1024 .bf16) (ix2 r l) = A1 m c (ix2 (row t r) (lane l)) * keep l := by
  have e : ((cfg0.win 1).blk t).view.emb (ix2 r l) = ix2 (row t r) l := by blk_ext! [row, idx t]
  blk_simp [iblk0]; rw [entry0]; entry_read
  refine (congrArg _ e).trans ?_
  pointwise
  refine congrArg₂ (fun x y : EReal => x * y) ?_ (keep_of l (fun a b => Ideal.ofBits .f32 (lit2 (S8x2.rowMajor (ix2 a b)))) lit2_at)
  refine congrArg (A1 m c) ?_
  blk_ext! [lane]

theorem in2 (c : Dev nD) (t : Fin cfg0.N) (r : Fin 512) (l : Fin 1024) :
    (iblk0 (V1 m ρ) c 2 t : FVec Ideal S512x1024 .bf16) (ix2 r l) = A2 m c (ix2 (row t r) (lane l)) * keep l := by
  have e : ((cfg0.win 2).blk t).view.emb (ix2 r l) = ix2 (row t r) l := by blk_ext! [row, idx t]
  blk_simp [iblk0]; rw [entry0]; entry_read
  refine (congrArg _ e).trans ?_
  pointwise
  refine congrArg₂ (fun x y : EReal => x * y) ?_ (keep_of l (fun a b => Ideal.ofBits .f32 (lit3 (S8x2.rowMajor (ix2 a b)))) lit3_at)
  refine congrArg (A2 m c) ?_
  blk_ext! [lane]

theorem in3 (c : Dev nD) (t : Fin cfg0.N) (k : Fin 1024) :
    (iblk0 (V1 m ρ) c 3 t : FVec Ideal S1x1024 .f32) (ix2 0 k) = m ((c : Thread nD τ).loc main_arg3) (ix1 k) := by
  blk_simp [iblk0]; rw [entry0]; entry_read; pointwise; blk_ext! [idx t]

theorem in4 (c : Dev nD) (t : Fin cfg0.N) (k : Fin 1024) (f : Fin 2048) :
    (iblk0 (V1 m ρ) c 4 t : FVec Ideal S1024x2048 .bf16) (ix2 k f)
      = m ((c : Thread nD τ).loc main_arg4) (ix2 k ⟨2396 + f.val, by omega⟩) := by
  blk_simp [iblk0]; rw [entry0]; entry_read; pointwise; blk_ext! [idx t]

theorem in5 (c : Dev nD) (t : Fin cfg0.N) (l k : Fin 1024) :
    (iblk0 (V1 m ρ) c 5 t : FVec Ideal S1024x1024 .bf16) (ix2 l k) = A5 m c (ix2 (lane l) k) * keep l := by
  have e : ((cfg0.win 5).blk t).view.emb (ix2 l k) = ix2 l k := by blk_ext! [row, idx t]
  blk_simp [iblk0]; rw [entry0]; entry_read
  refine (congrArg _ e).trans ?_
  pointwise
  refine congrArg₂ (fun x y : EReal => x * y) ?_ (keep_of l (fun a b => Ideal.ofBits .f32 (lit0 (S8x2.rowMajor (ix2 a b)))) lit0_at)
  refine congrArg (A5 m c) ?_
  blk_ext! [lane]

theorem in6 (c : Dev nD) (t : Fin cfg0.N) (l k : Fin 1024) :
    (iblk0 (V1 m ρ) c 6 t : FVec Ideal S1024x1024 .bf16) (ix2 l k) = A6 m c (ix2 (lane l) k) * keep l := by
  have e : ((cfg0.win 6).blk t).view.emb (ix2 l k) = ix2 l k := by blk_ext! [row, idx t]
  blk_simp [iblk0]; rw [entry0]; entry_read
  refine (congrArg _ e).trans ?_
  pointwise
  refine congrArg₂ (fun x y : EReal => x * y) ?_ (keep_of l (fun a b => Ideal.ofBits .f32 (lit1 (S8x2.rowMajor (ix2 a b)))) lit1_at)
  refine congrArg (A6 m c) ?_
  blk_ext! [lane]

theorem in7 (c : Dev nD) (t : Fin cfg0.N) :
    (iblk0 (V1 m ρ) c 7 t : FVec Ideal S1024x1024 .bf16) = m ((c : Thread nD τ).loc main_arg7) := by
  funext y; blk_simp [iblk0]; rw [entry0]; entry_read; blk_ext! [idx t]

theorem outPos (t : Fin cfg0.N) (y0 : Fin 512) (y1 : Fin 1024) :
    ((cfg0.win 8).blk t).view.emb (ix2 y0 y1) = ix2 (row t y0) y1 := by
  blk_ext! [row, idx t]

theorem point (c : Dev nD) (t : Fin cfg0.N) (y : S512x1024.Idx) :
    k0_pay1 (iblk0 (V1 m ρ) c 0 t) (k0_pay3 (iblk0 (V1 m ρ) c 0 t) (iblk0 (V1 m ρ) c 3 t) (View.ld (iblk0 (V1 m ρ) c 4 t) r0_2) (iblk0 (V1 m ρ) c 1 t) (iblk0 (V1 m ρ)
      c 5 t)) (k0_pay4 (iblk0 (V1 m ρ) c 0 t) (iblk0 (V1 m ρ) c 3 t) (View.ld (iblk0 (V1 m ρ) c 4 t) r0_4) (iblk0 (V1 m ρ) c 2 t) (iblk0 (V1 m ρ) c 6 t)) (iblk0 (V1 m ρ)
      c 7 t) y
      = Cert.MergeSRefIdeal.Read.out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (((cfg0.win 8).blk t).view.emb y) := by
  idx_vars y
  refine (MergeBlock.block_at _ _ _ _ _ _ _ _ _ (fun r i => A1 m c (ix2 (row t r) i)) (fun r i => A2 m c (ix2 (row t r) i))
    (fun i k => A5 m c (ix2 i k)) (fun i k => A6 m c (ix2 i k)) (in1 m ρ c t) (in2 m ρ c t) (in5 m ρ c t) (in6 m ρ c t)
    y0 y1).trans ?_
  refine Eq.trans ?_ (congrArg _ (outPos t y0 y1).symm)
  refine Eq.trans ?_ (Cert.MergeSRefIdeal.Read.out_at _ _ _ _ _ _ _ _ _ _).symm
  have ha : ∀ k f : Fin 1024, View.ld (iblk0 (V1 m ρ) c 4 t) r0_2 (ix2 k f)
      = m ((c : Thread nD τ).loc main_arg4) (ix2 k ⟨2396 + f.val, by omega⟩) := by
    intro k f; pointwise [r0_2]; exact in4 m ρ c t k ⟨f.val, by omega⟩
  have hb : ∀ k f : Fin 1024, View.ld (iblk0 (V1 m ρ) c 4 t) r0_4 (ix2 k f)
      = m ((c : Thread nD τ).loc main_arg4) (ix2 k ⟨2396 + (1024 + f.val), by omega⟩) := by
    intro k f; pointwise [r0_4]; exact in4 m ρ c t k ⟨1024 + f.val, by omega⟩
  simp only [in0, in3, in7, ha, hb]

/-- The result array after the run is the reference's result. -/
theorem final (c : Dev nD) : (dat0 (V1 m ρ) c).arrAt 8 cfg0.N
    = Cert.MergeSRefIdeal.Read.out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dat0 (V1 m ρ) c).arrAt_eq_of_covers 8 _ (by decide +kernel) fun t hf y => ?_
  blk_simp; rw [after0_8]; unfold out0_8; frame_out
  exact point m ρ c t y

end Cert.TailSIdeal.MergeWhole

end
-- ==== Proof.TailSFfnValue.lean ====
/- What the tail, the merge and then the feed-forward kernel's result array holds after the run, at the sample's rows. -/
module

public import proofs.«01_k».proof.Proof.TailSFfnBlock
public import proofs.«01_k».proof.Proof.FfnSRef
public import proofs.«01_k».proof.Proof.TailSMergeValue
public import proofs.«01_k».proof.Proof.Gen.TailSIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.TailSIdeal.FfnWhole

open Cert.TailSIdeal Cert.TailSIdeal.Gen Cert.Rows

variable (m : (ℓ : Loc nD τ sig) → Buf (Elt Ideal) ℓ) (ρ : Dev nD → PrngReg)

/-- Every window's block index at every grid point. -/
theorem idx : ∀ t : Fin cfg1.N, win1_0.index t = ![t.val, 0]
    ∧ win1_1.index t = ![0, 0]
    ∧ win1_2.index t = ![0, 0]
    ∧ win1_3.index t = ![0, 0]
    ∧ win1_4.index t = ![0, 0]
    ∧ win1_5.index t = ![0, 0]
    ∧ win1_6.index t = ![t.val, 0] :=
  (by decide +kernel : ∀ t : Fin grid1.N, _)

/-- What the body computes from its blocks, at a row and a column. -/
theorem block_at (x : FVec Ideal S512x1024 .f32) (g1 g2 : FVec Ideal S1x1024 .f32)
    (wg wu : Fin 1024 → Fin 2816 → EReal) (wd : Fin 2816 → Fin 1024 → EReal)
    (ga ua gb ub : FVec Ideal S1024x1408 .bf16) (da db : FVec Ideal S1408x1024 .bf16)
    (hga : ∀ k (f : Fin 1408), ga (ix2 k f) = wg k ⟨f.val, by omega⟩)
    (hgb : ∀ k (f : Fin 1408), gb (ix2 k f) = wg k ⟨1408 + f.val, by omega⟩)
    (hua : ∀ k (f : Fin 1408), ua (ix2 k f) = wu k ⟨f.val, by omega⟩)
    (hub : ∀ k (f : Fin 1408), ub (ix2 k f) = wu k ⟨1408 + f.val, by omega⟩)
    (hda : ∀ (f : Fin 1408) k, da (ix2 f k) = wd ⟨f.val, by omega⟩ k)
    (hdb : ∀ (f : Fin 1408) k, db (ix2 f k) = wd ⟨1408 + f.val, by omega⟩ k)
    (r : Fin 512) (j : Fin 1024) :
    k1_pay1 (F := Ideal) (k1_pay4 x g1 ga ua da) (k1_pay5 x g1 gb) (k1_pay6 x g1 ub) db g2 (ix2 r j)
      = ffnRow (fun k => x (ix2 r k)) (fun k => g1 (ix2 0 k)) (fun k => g2 (ix2 0 k)) wg wu wd j := by
  rw [FfnBlock.pay1_at]
  simp only [FfnBlock.pay4_at, FfnBlock.pay6_at, FfnBlock.pay5_at, FfnBlock.pay3_at, hga, hgb, hua, hub, hda, hdb]
  unfold ffnRow
  congr 1
  funext j
  unfold ffnSum
  rw [sum_halves, ← add_assoc]
  rfl

/-- The row of the activations that row `y0` of point `t`'s block is. -/
def row (t : Fin cfg1.N) (y0 : Fin 512) : Fin 512 :=
  ⟨t.val * 512 + y0.val, by have : t.val < 1 := t.isLt; omega⟩

/-- What the first call leaves for the second: the merge's result. -/
abbrev mid (c : Dev nD) : FVec Ideal S512x1024 .f32 :=
  Cert.MergeSRefIdeal.Read.out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- What a buffer holds when the second call begins. -/
theorem entry1 (c : Dev nD) (b : Ref sig .tc) :
    V3 m ρ c b = StableHlo.after hostOps1 (W2 m ρ c) (Proc.devRef .tc b) := rfl

theorem mid_entry (c : Dev nD) : (V3 m ρ c main_v32 : FVec Ideal S512x1024 .f32) = mid m c :=
  (W3_of m ρ c main_v32 (by decide)).trans ((W2_arr m ρ c 8).trans (MergeWhole.final m ρ c))

theorem arg8 (c : Dev nD) : W2 m ρ c (Proc.devRef .tc main_arg8) = m ((c : Thread nD τ).loc main_arg8) :=
  W2_args m ρ c main_arg8 (by decide)
theorem arg9 (c : Dev nD) : W2 m ρ c (Proc.devRef .tc main_arg9) = m ((c : Thread nD τ).loc main_arg9) :=
  W2_args m ρ c main_arg9 (by decide)
theorem arg10 (c : Dev nD) : W2 m ρ c (Proc.devRef .tc main_arg10) = m ((c : Thread nD τ).loc main_arg10) :=
  W2_args m ρ c main_arg10 (by decide)
theorem arg11 (c : Dev nD) : W2 m ρ c (Proc.devRef .tc main_arg11) = m ((c : Thread nD τ).loc main_arg11) :=
  W2_args m ρ c main_arg11 (by decide)
theorem arg12 (c : Dev nD) : W2 m ρ c (Proc.devRef .tc main_arg12) = m ((c : Thread nD τ).loc main_arg12) :=
  W2_args m ρ c main_arg12 (by decide)

theorem in0 (c : Dev nD) (t : Fin cfg1.N) (r : Fin 512) (k : Fin 1024) :
    (iblk1 (V3 m ρ) c 0 t : FVec Ideal S512x1024 .f32) (ix2 r k) = mid m c (ix2 (row t r) k) := by
  have e : ((cfg1.win 0).blk t).view.emb (ix2 r k) = ix2 (row t r) k := by blk_ext! [row, idx t]
  exact (congrArg (V3 m ρ c main_v32 : FVec Ideal S512x1024 .f32) e).trans (congrFun (mid_entry m ρ c) _)

theorem in1 (c : Dev nD) (t : Fin cfg1.N) (k : Fin 1024) :
    (iblk1 (V3 m ρ) c 1 t : FVec Ideal S1x1024 .f32) (ix2 0 k) = m ((c : Thread nD τ).loc main_arg8) (ix1 k) := by
  blk_simp [iblk1]; rw [entry1]; entry_read; rw [arg8]; pointwise; blk_ext! [idx t]

theorem in2 (c : Dev nD) (t : Fin cfg1.N) (k : Fin 1024) :
    (iblk1 (V3 m ρ) c 2 t : FVec Ideal S1x1024 .f32) (ix2 0 k) = m ((c : Thread nD τ).loc main_arg9) (ix1 k) := by
  blk_simp [iblk1]; rw [entry1]; entry_read; rw [arg9]; pointwise; blk_ext! [idx t]

theorem in3 (c : Dev nD) (t : Fin cfg1.N) :
    (iblk1 (V3 m ρ) c 3 t : FVec Ideal S1024x2816 .bf16) = m ((c : Thread nD τ).loc main_arg10) := by
  funext y; blk_simp [iblk1]; rw [entry1]; entry_read; rw [arg10]; blk_ext! [idx t]

theorem in4 (c : Dev nD) (t : Fin cfg1.N) :
    (iblk1 (V3 m ρ) c 4 t : FVec Ideal S1024x2816 .bf16) = m ((c : Thread nD τ).loc main_arg11) := by
  funext y; blk_simp [iblk1]; rw [entry1]; entry_read; rw [arg11]; blk_ext! [idx t]

theorem in5 (c : Dev nD) (t : Fin cfg1.N) :
    (iblk1 (V3 m ρ) c 5 t : FVec Ideal S2816x1024 .bf16) = m ((c : Thread nD τ).loc main_arg12) := by
  funext y; blk_simp [iblk1]; rw [entry1]; entry_read; rw [arg12]; blk_ext! [idx t]

theorem outPos (t : Fin cfg1.N) (y0 : Fin 512) (y1 : Fin 1024) :
    ((cfg1.win 6).blk t).view.emb (ix2 y0 y1) = ix2 (row t y0) y1 := by
  blk_ext! [row, idx t]

theorem point (c : Dev nD) (t : Fin cfg1.N) (y : S512x1024.Idx) :
    k1_pay1 (k1_pay4 (iblk1 (V3 m ρ) c 0 t) (iblk1 (V3 m ρ) c 1 t) (View.ld (iblk1 (V3 m ρ) c 3 t) r1_2)
      (View.ld (iblk1 (V3 m ρ) c 4 t) r1_2) (View.ld (iblk1 (V3 m ρ) c 5 t) r1_3))
      (k1_pay5 (iblk1 (V3 m ρ) c 0 t) (iblk1 (V3 m ρ) c 1 t) (View.ld (iblk1 (V3 m ρ) c 3 t) r1_4))
      (k1_pay6 (iblk1 (V3 m ρ) c 0 t) (iblk1 (V3 m ρ) c 1 t) (View.ld (iblk1 (V3 m ρ) c 4 t) r1_4))
      (View.ld (iblk1 (V3 m ρ) c 5 t) r1_5) (iblk1 (V3 m ρ) c 2 t) y
      = Cert.FfnSRefIdeal.Read.out (mid m c) (m ((c : Thread nD τ).loc main_arg8))
        (m ((c : Thread nD τ).loc main_arg9)) (m ((c : Thread nD τ).loc main_arg10)) (m ((c : Thread nD τ).loc main_arg11))
        (m ((c : Thread nD τ).loc main_arg12)) (((cfg1.win 6).blk t).view.emb y) := by
  idx_vars y
  refine (block_at _ _ _ (fun k f => m ((c : Thread nD τ).loc main_arg10) (ix2 k f))
    (fun k f => m ((c : Thread nD τ).loc main_arg11) (ix2 k f)) (fun f k => m ((c : Thread nD τ).loc main_arg12) (ix2 f k))
    _ _ _ _ _ _ ?_ ?_ ?_ ?_ ?_ ?_ _ _).trans ?_
  · intro k f; rw [in3]; pointwise [r1_2]
  · intro k f; rw [in3]; pointwise [r1_4]
  · intro k f; rw [in4]; pointwise [r1_2]
  · intro k f; rw [in4]; pointwise [r1_4]
  · intro k f; rw [in5]; pointwise [r1_3]
  · intro k f; rw [in5]; pointwise [r1_5]
  · refine Eq.trans ?_ (congrArg _ (outPos t y0 y1).symm)
    refine Eq.trans ?_ (Cert.FfnSRefIdeal.Read.out_at _ _ _ _ _ _ _ _).symm
    simp only [in0, in1, in2]

/-- The result array after the run is the reference's result. -/
theorem final (c : Dev nD) : (dat1 (V3 m ρ) c).arrAt 6 cfg1.N
    = Cert.FfnSRefIdeal.Read.out (mid m c) (m ((c : Thread nD τ).loc main_arg8))
        (m ((c : Thread nD τ).loc main_arg9)) (m ((c : Thread nD τ).loc main_arg10)) (m ((c : Thread nD τ).loc main_arg11))
        (m ((c : Thread nD τ).loc main_arg12)) := by
  refine (dat1 (V3 m ρ) c).arrAt_eq_of_covers 6 _ (by decide +kernel) fun t hf y => ?_
  blk_simp; rw [after1_6]; unfold out1_6; frame_out
  exact point m ρ c t y

end Cert.TailSIdeal.FfnWhole

end
-- ==== Proof.TailSRun.lean ====
/- The merge and the feed-forward in one program: what the result array holds at the end of the run, at the sample's rows. -/
module

public import proofs.«01_k».proof.Proof.Gen.TailSIdeal.Frame

@[expose] public section

set_option maxRecDepth 16384

noncomputable section

namespace Cert.TailSIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TailSIdeal Cert.TailSIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array as the second call's grid leaves it, and the arguments as they were. -/
theorem run : θ_run defs (onTc (τ := τ) (main (F := F))) ⟨m, fun _ => 0, ρ⟩ (fun r => ∀ c : Dev nD,
      r.2.mem ((c.tc : Thread nD τ).loc main_v38) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v38 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.TailSIdeal.Whole

end
-- ==== Proof.TailSClaim.lean ====
/- The merge and the feed-forward in one program compute their reference, at the sample's rows. -/
module

public import proofs.«01_k».proof.Defs
public import proofs.«01_k».proof.Proof.TailSFfnValue
public import proofs.«01_k».proof.Proof.TailSRun
public import proofs.«01_k».proof.Proof.Gen.TailSRefIdeal.Run

@[expose] public section

set_option maxRecDepth 16384

noncomputable section

open Idealize.ShloMosaic Idealize.SL.Sem

namespace Cert.TailSValue

open Cert.TailSRefIdeal in
/-- The reference is the feed-forward's reference of the merge's. -/
theorem res_eq (m : (ℓ : Loc nD τ sig) → Buf (Elt Ideal) ℓ) (c : Dev nD) :
    Cert.TailSRefIdeal.Value.res_main_v64 m c
      = Cert.FfnSRefIdeal.Read.out
          (Cert.MergeSRefIdeal.Read.out (m (c.tc.loc main_arg0)) (m (c.tc.loc main_arg1)) (m (c.tc.loc main_arg2))
            (m (c.tc.loc main_arg3)) (m (c.tc.loc main_arg4)) (m (c.tc.loc main_arg5)) (m (c.tc.loc main_arg6))
            (m (c.tc.loc main_arg7)))
          (m (c.tc.loc main_arg8)) (m (c.tc.loc main_arg9)) (m (c.tc.loc main_arg10)) (m (c.tc.loc main_arg11))
          (m (c.tc.loc main_arg12)) := by
  with_unfolding_all rfl

/-- From memories that agree on the arguments the kernel and its reference end with equal results. -/
theorem algebraic : Cert.algebraic_TailSIdeal_TailSRefIdeal (hTailSIdeal := Cert.TailSIdeal.Gen.facts)
    (hTailSRefIdeal := Cert.TailSRefIdeal.Gen.facts) := by
  pair_intro
  · run_from Cert.TailSIdeal.Whole.run m g
  · run_from Cert.TailSRefIdeal.Value.run m' g'
    refine (res_eq m' c).trans (Eq.trans ?_ (Cert.TailSIdeal.FfnWhole.final m g c).symm)
    obtain ⟨h0, h1, h2, h3, h4, h5, h6, h7, h8, h9, h10, h11, h12⟩ := hagree c
    rw [h0, h1, h2, h3, h4, h5, h6, h7, h8, h9, h10, h11, h12]

end Cert.TailSValue

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Ffn.Frame
public import proofs.«01_k».proof.Proof.Gen.FfnIdeal.Value
public import proofs.«01_k».proof.Proof.Gen.FfnRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.Proj.Frame
public import proofs.«01_k».proof.Proof.Gen.ProjIdeal.Frame
public import proofs.«01_k».proof.Proof.Gen.ProjRefIdeal.Run
public import proofs.«01_k».proof.Proof.FfnClaim
public import proofs.«01_k».proof.Proof.MergeClaim
public import proofs.«01_k».proof.Proof.ProjClaim
public import proofs.«01_k».proof.Proof.Gen.FfnS.Frame
public import proofs.«01_k».proof.Proof.Gen.FfnSIdeal.Value
public import proofs.«01_k».proof.Proof.Gen.FfnSRefIdeal.Run
public import proofs.«01_k».proof.Proof.FfnSClaim
public import proofs.«01_k».proof.Proof.Gen.MergeS.Frame
public import proofs.«01_k».proof.Proof.Gen.MergeSIdeal.Value
public import proofs.«01_k».proof.Proof.Gen.MergeSRefIdeal.Run
public import proofs.«01_k».proof.Proof.MergeSClaim
public import proofs.«01_k».proof.Proof.Gen.ProjS.Frame
public import proofs.«01_k».proof.Proof.Gen.ProjSIdeal.Frame
public import proofs.«01_k».proof.Proof.Gen.ProjSRefIdeal.Run
public import proofs.«01_k».proof.Proof.ProjSClaim
public import proofs.«01_k».proof.Proof.Gen.Compress.Frame
public import proofs.«01_k».proof.Proof.Gen.CompressIdeal.Value
public import proofs.«01_k».proof.Proof.Gen.CompressRefIdeal.Read
public import proofs.«01_k».proof.Proof.Gen.CompressRefIdeal.Run
public import proofs.«01_k».proof.Proof.CompressClaim
public import proofs.«01_k».proof.Proof.Gen.Tail.Frame
public import proofs.«01_k».proof.Proof.Gen.TailIdeal.Frame
public import proofs.«01_k».proof.Proof.Gen.TailRefIdeal.Run
public import proofs.«01_k».proof.Proof.TailClaim
public import proofs.«01_k».proof.Proof.Gen.TailS.Frame
public import proofs.«01_k».proof.Proof.Gen.TailSIdeal.Frame
public import proofs.«01_k».proof.Proof.Gen.TailSRefIdeal.Run
public import proofs.«01_k».proof.Proof.TailSClaim
public import Idealize.ShloMosaic.Lib.Quiescent

@[expose] public section

noncomputable section

namespace Cert.Proof

open Idealize.ShloMosaic Idealize.SL.Sem

/-- The reference terminates, leaves its arguments as they were and has no semaphore to leave. -/
theorem frame_FfnRef : Cert.quiescent_FfnRefIdeal (hFfnRefIdeal := Cert.FfnRefIdeal.Gen.facts) := by
  intro m g _
  refine (θ_run Cert.FfnRefIdeal.defs _ _).mono (fun r hr => ⟨fun c => ?_, sem_eq_zero_of_no_sems (by decide) _⟩)
    (Cert.FfnRefIdeal.Value.run (F := Ideal) m g)
  obtain ⟨-, h⟩ := hr c
  exact h

/-- The reference terminates, leaves its arguments as they were and has no semaphore to leave. -/
theorem frame_MergeRef : Cert.quiescent_MergeRefIdeal (hMergeRefIdeal := Cert.MergeRefIdeal.Gen.facts) := by
  intro m g _
  refine (θ_run Cert.MergeRefIdeal.defs _ _).mono (fun r hr => ⟨fun c => ?_, sem_eq_zero_of_no_sems (by decide) _⟩)
    (Cert.MergeRefIdeal.Value.run (F := Ideal) m g)
  obtain ⟨-, h⟩ := hr c
  exact h

/-- The reference terminates, leaves its arguments as they were and has no semaphore to leave. -/
theorem frame_ProjRef : Cert.quiescent_ProjRefIdeal (hProjRefIdeal := Cert.ProjRefIdeal.Gen.facts) := by
  intro m g _
  refine (θ_run Cert.ProjRefIdeal.defs _ _).mono (fun r hr => ⟨fun c => ?_, sem_eq_zero_of_no_sems (by decide) _⟩)
    (Cert.ProjRefIdeal.Value.run (F := Ideal) m g)
  obtain ⟨-, -, -, -, -, -, -, -, -, -, -, -, -, -, h⟩ := hr c
  exact h

/-- The reference terminates, leaves its arguments as they were and has no semaphore to leave. -/
theorem frame_FfnSRef : Cert.quiescent_FfnSRefIdeal (hFfnSRefIdeal := Cert.FfnSRefIdeal.Gen.facts) := by
  intro m g _
  refine (θ_run Cert.FfnSRefIdeal.defs _ _).mono (fun r hr => ⟨fun c => ?_, sem_eq_zero_of_no_sems (by decide) _⟩)
    (Cert.FfnSRefIdeal.Value.run (F := Ideal) m g)
  obtain ⟨-, h⟩ := hr c
  exact h

/-- The reference terminates, leaves its arguments as they were and has no semaphore to leave. -/
theorem frame_MergeSRef : Cert.quiescent_MergeSRefIdeal (hMergeSRefIdeal := Cert.MergeSRefIdeal.Gen.facts) := by
  intro m g _
  refine (θ_run Cert.MergeSRefIdeal.defs _ _).mono (fun r hr => ⟨fun c => ?_, sem_eq_zero_of_no_sems (by decide) _⟩)
    (Cert.MergeSRefIdeal.Value.run (F := Ideal) m g)
  obtain ⟨-, h⟩ := hr c
  exact h

/-- The reference terminates, leaves its arguments as they were and has no semaphore to leave. -/
theorem frame_ProjSRef : Cert.quiescent_ProjSRefIdeal (hProjSRefIdeal := Cert.ProjSRefIdeal.Gen.facts) := by
  intro m g _
  refine (θ_run Cert.ProjSRefIdeal.defs _ _).mono (fun r hr => ⟨fun c => ?_, sem_eq_zero_of_no_sems (by decide) _⟩)
    (Cert.ProjSRefIdeal.Value.run (F := Ideal) m g)
  obtain ⟨-, -, -, -, -, -, -, -, -, -, -, -, -, -, h⟩ := hr c
  exact h

/-- The reference terminates, leaves its arguments as they were and has no semaphore to leave. -/
theorem frame_CompressRef : Cert.quiescent_CompressRefIdeal (hCompressRefIdeal := Cert.CompressRefIdeal.Gen.facts) := by
  intro m g _
  refine (θ_run Cert.CompressRefIdeal.defs _ _).mono (fun r hr => ⟨fun c => ?_, sem_eq_zero_of_no_sems (by decide) _⟩)
    (Cert.CompressRefIdeal.Value.run (F := Ideal) m g)
  obtain ⟨-, h⟩ := hr c
  exact h

/-- The reference terminates, leaves its arguments as they were and has no semaphore to leave. -/
theorem frame_TailRef : Cert.quiescent_TailRefIdeal (hTailRefIdeal := Cert.TailRefIdeal.Gen.facts) := by
  intro m g _
  refine (θ_run Cert.TailRefIdeal.defs _ _).mono (fun r hr => ⟨fun c => ?_, sem_eq_zero_of_no_sems (by decide) _⟩)
    (Cert.TailRefIdeal.Value.run (F := Ideal) m g)
  obtain ⟨-, h⟩ := hr c
  exact h

/-- The reference terminates, leaves its arguments as they were and has no semaphore to leave. -/
theorem frame_TailSRef : Cert.quiescent_TailSRefIdeal (hTailSRefIdeal := Cert.TailSRefIdeal.Gen.facts) := by
  intro m g _
  refine (θ_run Cert.TailSRefIdeal.defs _ _).mono (fun r hr => ⟨fun c => ?_, sem_eq_zero_of_no_sems (by decide) _⟩)
    (Cert.TailSRefIdeal.Value.run (F := Ideal) m g)
  obtain ⟨-, h⟩ := hr c
  exact h

/-- Every claim of the certificate. -/
theorem claim : Cert.Claim :=
  ⟨Cert.Kernel.Gen.facts, Cert.KernelIdeal.Gen.facts, Cert.Ffn.Gen.facts, Cert.FfnIdeal.Gen.facts,
   Cert.FfnRefIdeal.Gen.facts, Cert.Merge.Gen.facts, Cert.MergeIdeal.Gen.facts, Cert.MergeRefIdeal.Gen.facts,
   Cert.Proj.Gen.facts, Cert.ProjIdeal.Gen.facts, Cert.ProjRefIdeal.Gen.facts,
   Cert.FfnS.Gen.facts, Cert.FfnSIdeal.Gen.facts, Cert.FfnSRefIdeal.Gen.facts,
   Cert.MergeS.Gen.facts, Cert.MergeSIdeal.Gen.facts, Cert.MergeSRefIdeal.Gen.facts,
   Cert.ProjS.Gen.facts, Cert.ProjSIdeal.Gen.facts, Cert.ProjSRefIdeal.Gen.facts,
   Cert.Compress.Gen.facts, Cert.CompressIdeal.Gen.facts, Cert.CompressRefIdeal.Gen.facts,
   Cert.Tail.Gen.facts, Cert.TailIdeal.Gen.facts, Cert.TailRefIdeal.Gen.facts,
   Cert.TailS.Gen.facts, Cert.TailSIdeal.Gen.facts, Cert.TailSRefIdeal.Gen.facts,
   fun m g _ => Cert.Kernel.Gen.frame m g, fun m g _ => Cert.KernelIdeal.Gen.frame m g,
   fun m g _ => Cert.Ffn.Gen.frame m g, fun m g _ => Cert.FfnIdeal.Gen.frame m g, frame_FfnRef,
   fun m g _ => Cert.Merge.Gen.frame m g, fun m g _ => Cert.MergeIdeal.Gen.frame m g, frame_MergeRef,
   fun m g _ => Cert.Proj.Gen.frame m g, fun m g _ => Cert.ProjIdeal.Gen.frame m g, frame_ProjRef,
   fun m g _ => Cert.FfnS.Gen.frame m g, fun m g _ => Cert.FfnSIdeal.Gen.frame m g, frame_FfnSRef,
   fun m g _ => Cert.MergeS.Gen.frame m g, fun m g _ => Cert.MergeSIdeal.Gen.frame m g, frame_MergeSRef,
   fun m g _ => Cert.ProjS.Gen.frame m g, fun m g _ => Cert.ProjSIdeal.Gen.frame m g, frame_ProjSRef,
   fun m g _ => Cert.Compress.Gen.frame m g, fun m g _ => Cert.CompressIdeal.Gen.frame m g, frame_CompressRef,
   fun m g _ => Cert.Tail.Gen.frame m g, fun m g _ => Cert.TailIdeal.Gen.frame m g, frame_TailRef,
   fun m g _ => Cert.TailS.Gen.frame m g, fun m g _ => Cert.TailSIdeal.Gen.frame m g, frame_TailSRef,
   trivial, trivial, Cert.FfnValue.algebraic, trivial, Cert.MergeValue.algebraic, trivial, Cert.ProjValue.algebraic,
   trivial, Cert.FfnSValue.algebraic, trivial, Cert.MergeSValue.algebraic, trivial, Cert.ProjSValue.algebraic,
   trivial, Cert.CompressValue.algebraic, trivial, Cert.TailValue.algebraic,
   trivial, Cert.TailSValue.algebraic⟩

end Cert.Proof

end
